-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Kernel24Ideal_finite24 [hPre_finite24 : Cert.Pre_finite24.Facts] (m : (ℓ : Loc Cert.Kernel24Ideal.nD Cert.Kernel24Ideal.τ Cert.Kernel24Ideal.sig) → Buf (Elt Ideal) ℓ) : Prop :=
  ∀ c : Dev Cert.Kernel24Ideal.nD,
    (Cert.Pre_finite24.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2))) = (fun _ => 1#1)

def Pre_Reference24Ideal (m : (ℓ : Loc Cert.Reference24Ideal.nD Cert.Reference24Ideal.τ Cert.Reference24Ideal.sig) → Buf (Elt Ideal) ℓ) : Prop :=
  True

def Pre_Reference24Ideal_finite24 [hPre_finite24 : Cert.Pre_finite24.Facts] (m : (ℓ : Loc Cert.Reference24Ideal.nD Cert.Reference24Ideal.τ Cert.Reference24Ideal.sig) → Buf (Elt Ideal) ℓ) : Prop :=
  ∀ c : Dev Cert.Reference24Ideal.nD,
    (Cert.Pre_finite24.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2))) = (fun _ => 1#1)

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Kernel24Ideal_pre_finite24 [hKernel24Ideal : Cert.Kernel24Ideal.Facts] [hPre_finite24 : Cert.Pre_finite24.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal_finite24 m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Reference24Ideal_pre_finite24 [hReference24Ideal : Cert.Reference24Ideal.Facts] [hPre_finite24 : Cert.Pre_finite24.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal_finite24 m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)) (v2 : (c : Dev Cert.KernelIdeal.nD) → Buf (Elt Ideal) ((c.tc : Thread Cert.KernelIdeal.nD Cert.KernelIdeal.τ).loc Cert.KernelIdeal.main_v42_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_v42_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)) (v2 : (c : Dev Cert.Kernel8Ideal.nD) → Buf (Elt Ideal) ((c.tc : Thread Cert.Kernel8Ideal.nD Cert.Kernel8Ideal.τ).loc Cert.Kernel8Ideal.main_v2_2)) (v3 : (c : Dev Cert.Kernel8Ideal.nD) → Buf (Elt Ideal) ((c.tc : Thread Cert.Kernel8Ideal.nD Cert.Kernel8Ideal.τ).loc Cert.Kernel8Ideal.main_v2_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_v2_2) = v2 c
          ∧ r.2.mem ((c.tc : Thread Cert.Kernel8Ideal.nD Cert.Kernel8Ideal.τ).loc Cert.Kernel8Ideal.main_v2_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v31) = v0 c
          ∧ r.2.mem ((c.tc : Thread Cert.Reference8Ideal.nD Cert.Reference8Ideal.τ).loc Cert.Reference8Ideal.main_v32) = v1 c
          ∧ r.2.mem ((c.tc : Thread Cert.Reference8Ideal.nD Cert.Reference8Ideal.τ).loc Cert.Reference8Ideal.main_v33) = v2 c
          ∧ r.2.mem ((c.tc : Thread Cert.Reference8Ideal.nD Cert.Reference8Ideal.τ).loc Cert.Reference8Ideal.main_v34) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_v3) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v4_0)) (v1 : (c : Dev Cert.Kernel12Ideal.nD) → Buf (Elt Ideal) ((c.tc : Thread Cert.Kernel12Ideal.nD Cert.Kernel12Ideal.τ).loc Cert.Kernel12Ideal.main_v4_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4_0) = v0 c
          ∧ r.2.mem ((c.tc : Thread Cert.Kernel12Ideal.nD Cert.Kernel12Ideal.τ).loc Cert.Kernel12Ideal.main_v4_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_v10) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v3_0)) (v1 : (c : Dev Cert.Kernel13Ideal.nD) → Buf (Elt Ideal) ((c.tc : Thread Cert.Kernel13Ideal.nD Cert.Kernel13Ideal.τ).loc Cert.Kernel13Ideal.main_v3_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3_0) = v0 c
          ∧ r.2.mem ((c.tc : Thread Cert.Kernel13Ideal.nD Cert.Kernel13Ideal.τ).loc Cert.Kernel13Ideal.main_v3_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_v18) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v3) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v6) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v4)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v4)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v4) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v6) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v3) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  IdealRules.named_const.Statement Cert.Kernel24Ideal.κ "log2e" .f32 0x3FB8AA3B#32 (((Real.log 2)⁻¹ : ℝ) : EReal)

def algebraic_Kernel24Ideal_Reference24Ideal_pre_finite24 [hKernel24Ideal : Cert.Kernel24Ideal.Facts] [hReference24Ideal : Cert.Reference24Ideal.Facts] [hPre_finite24 : Cert.Pre_finite24.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal_finite24 m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v13_0)) (v1 : (c : Dev Cert.Kernel24Ideal.nD) → Buf (Elt Ideal) ((c.tc : Thread Cert.Kernel24Ideal.nD Cert.Kernel24Ideal.τ).loc Cert.Kernel24Ideal.main_v13_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v13_0) = v0 c
          ∧ r.2.mem ((c.tc : Thread Cert.Kernel24Ideal.nD Cert.Kernel24Ideal.τ).loc Cert.Kernel24Ideal.main_v13_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v38) = v0 c
          ∧ r.2.mem ((c.tc : Thread Cert.Reference24Ideal.nD Cert.Reference24Ideal.τ).loc Cert.Reference24Ideal.main_v40) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v31) = v0 c
          ∧ r.2.mem ((c.tc : Thread Cert.Reference25Ideal.nD Cert.Reference25Ideal.τ).loc Cert.Reference25Ideal.main_v33) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v1_0)) (v1 : (c : Dev Cert.Kernel26Ideal.nD) → Buf (Elt Ideal) ((c.tc : Thread Cert.Kernel26Ideal.nD Cert.Kernel26Ideal.τ).loc Cert.Kernel26Ideal.main_v1_1)) (v2 : (c : Dev Cert.Kernel26Ideal.nD) → Buf (Elt Ideal) ((c.tc : Thread Cert.Kernel26Ideal.nD Cert.Kernel26Ideal.τ).loc Cert.Kernel26Ideal.main_v1_2)) (v3 : (c : Dev Cert.Kernel26Ideal.nD) → Buf (Elt Ideal) ((c.tc : Thread Cert.Kernel26Ideal.nD Cert.Kernel26Ideal.τ).loc Cert.Kernel26Ideal.main_v1_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v1_0) = v0 c
          ∧ r.2.mem ((c.tc : Thread Cert.Kernel26Ideal.nD Cert.Kernel26Ideal.τ).loc Cert.Kernel26Ideal.main_v1_1) = v1 c
          ∧ r.2.mem ((c.tc : Thread Cert.Kernel26Ideal.nD Cert.Kernel26Ideal.τ).loc Cert.Kernel26Ideal.main_v1_2) = v2 c
          ∧ r.2.mem ((c.tc : Thread Cert.Kernel26Ideal.nD Cert.Kernel26Ideal.τ).loc Cert.Kernel26Ideal.main_v1_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v1) = v0 c
          ∧ r.2.mem ((c.tc : Thread Cert.Reference26Ideal.nD Cert.Reference26Ideal.τ).loc Cert.Reference26Ideal.main_v25) = v1 c
          ∧ r.2.mem ((c.tc : Thread Cert.Reference26Ideal.nD Cert.Reference26Ideal.τ).loc Cert.Reference26Ideal.main_v6) = v2 c
          ∧ r.2.mem ((c.tc : Thread Cert.Reference26Ideal.nD Cert.Reference26Ideal.τ).loc Cert.Reference26Ideal.main_v12) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v1_0)) (v1 : (c : Dev Cert.Kernel27Ideal.nD) → Buf (Elt Ideal) ((c.tc : Thread Cert.Kernel27Ideal.nD Cert.Kernel27Ideal.τ).loc Cert.Kernel27Ideal.main_v1_1)) (v2 : (c : Dev Cert.Kernel27Ideal.nD) → Buf (Elt Ideal) ((c.tc : Thread Cert.Kernel27Ideal.nD Cert.Kernel27Ideal.τ).loc Cert.Kernel27Ideal.main_v1_2)) (v3 : (c : Dev Cert.Kernel27Ideal.nD) → Buf (Elt Ideal) ((c.tc : Thread Cert.Kernel27Ideal.nD Cert.Kernel27Ideal.τ).loc Cert.Kernel27Ideal.main_v1_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v1_0) = v0 c
          ∧ r.2.mem ((c.tc : Thread Cert.Kernel27Ideal.nD Cert.Kernel27Ideal.τ).loc Cert.Kernel27Ideal.main_v1_1) = v1 c
          ∧ r.2.mem ((c.tc : Thread Cert.Kernel27Ideal.nD Cert.Kernel27Ideal.τ).loc Cert.Kernel27Ideal.main_v1_2) = v2 c
          ∧ r.2.mem ((c.tc : Thread Cert.Kernel27Ideal.nD Cert.Kernel27Ideal.τ).loc Cert.Kernel27Ideal.main_v1_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v1) = v0 c
          ∧ r.2.mem ((c.tc : Thread Cert.Reference27Ideal.nD Cert.Reference27Ideal.τ).loc Cert.Reference27Ideal.main_v25) = v1 c
          ∧ r.2.mem ((c.tc : Thread Cert.Reference27Ideal.nD Cert.Reference27Ideal.τ).loc Cert.Reference27Ideal.main_v6) = v2 c
          ∧ r.2.mem ((c.tc : Thread Cert.Reference27Ideal.nD Cert.Reference27Ideal.τ).loc Cert.Reference27Ideal.main_v12) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v1_0)) (v1 : (c : Dev Cert.Kernel28Ideal.nD) → Buf (Elt Ideal) ((c.tc : Thread Cert.Kernel28Ideal.nD Cert.Kernel28Ideal.τ).loc Cert.Kernel28Ideal.main_v1_1)) (v2 : (c : Dev Cert.Kernel28Ideal.nD) → Buf (Elt Ideal) ((c.tc : Thread Cert.Kernel28Ideal.nD Cert.Kernel28Ideal.τ).loc Cert.Kernel28Ideal.main_v1_2)) (v3 : (c : Dev Cert.Kernel28Ideal.nD) → Buf (Elt Ideal) ((c.tc : Thread Cert.Kernel28Ideal.nD Cert.Kernel28Ideal.τ).loc Cert.Kernel28Ideal.main_v1_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v1_0) = v0 c
          ∧ r.2.mem ((c.tc : Thread Cert.Kernel28Ideal.nD Cert.Kernel28Ideal.τ).loc Cert.Kernel28Ideal.main_v1_1) = v1 c
          ∧ r.2.mem ((c.tc : Thread Cert.Kernel28Ideal.nD Cert.Kernel28Ideal.τ).loc Cert.Kernel28Ideal.main_v1_2) = v2 c
          ∧ r.2.mem ((c.tc : Thread Cert.Kernel28Ideal.nD Cert.Kernel28Ideal.τ).loc Cert.Kernel28Ideal.main_v1_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v1) = v0 c
          ∧ r.2.mem ((c.tc : Thread Cert.Reference28Ideal.nD Cert.Reference28Ideal.τ).loc Cert.Reference28Ideal.main_v25) = v1 c
          ∧ r.2.mem ((c.tc : Thread Cert.Reference28Ideal.nD Cert.Reference28Ideal.τ).loc Cert.Reference28Ideal.main_v6) = v2 c
          ∧ r.2.mem ((c.tc : Thread Cert.Reference28Ideal.nD Cert.Reference28Ideal.τ).loc Cert.Reference28Ideal.main_v12) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v1_0)) (v1 : (c : Dev Cert.Kernel29Ideal.nD) → Buf (Elt Ideal) ((c.tc : Thread Cert.Kernel29Ideal.nD Cert.Kernel29Ideal.τ).loc Cert.Kernel29Ideal.main_v1_1)) (v2 : (c : Dev Cert.Kernel29Ideal.nD) → Buf (Elt Ideal) ((c.tc : Thread Cert.Kernel29Ideal.nD Cert.Kernel29Ideal.τ).loc Cert.Kernel29Ideal.main_v1_2)) (v3 : (c : Dev Cert.Kernel29Ideal.nD) → Buf (Elt Ideal) ((c.tc : Thread Cert.Kernel29Ideal.nD Cert.Kernel29Ideal.τ).loc Cert.Kernel29Ideal.main_v1_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v1_0) = v0 c
          ∧ r.2.mem ((c.tc : Thread Cert.Kernel29Ideal.nD Cert.Kernel29Ideal.τ).loc Cert.Kernel29Ideal.main_v1_1) = v1 c
          ∧ r.2.mem ((c.tc : Thread Cert.Kernel29Ideal.nD Cert.Kernel29Ideal.τ).loc Cert.Kernel29Ideal.main_v1_2) = v2 c
          ∧ r.2.mem ((c.tc : Thread Cert.Kernel29Ideal.nD Cert.Kernel29Ideal.τ).loc Cert.Kernel29Ideal.main_v1_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v1) = v0 c
          ∧ r.2.mem ((c.tc : Thread Cert.Reference29Ideal.nD Cert.Reference29Ideal.τ).loc Cert.Reference29Ideal.main_v25) = v1 c
          ∧ r.2.mem ((c.tc : Thread Cert.Reference29Ideal.nD Cert.Reference29Ideal.τ).loc Cert.Reference29Ideal.main_v6) = v2 c
          ∧ r.2.mem ((c.tc : Thread Cert.Reference29Ideal.nD Cert.Reference29Ideal.τ).loc Cert.Reference29Ideal.main_v12) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v1_0)) (v1 : (c : Dev Cert.Kernel30Ideal.nD) → Buf (Elt Ideal) ((c.tc : Thread Cert.Kernel30Ideal.nD Cert.Kernel30Ideal.τ).loc Cert.Kernel30Ideal.main_v1_1)) (v2 : (c : Dev Cert.Kernel30Ideal.nD) → Buf (Elt Ideal) ((c.tc : Thread Cert.Kernel30Ideal.nD Cert.Kernel30Ideal.τ).loc Cert.Kernel30Ideal.main_v1_2)) (v3 : (c : Dev Cert.Kernel30Ideal.nD) → Buf (Elt Ideal) ((c.tc : Thread Cert.Kernel30Ideal.nD Cert.Kernel30Ideal.τ).loc Cert.Kernel30Ideal.main_v1_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v1_0) = v0 c
          ∧ r.2.mem ((c.tc : Thread Cert.Kernel30Ideal.nD Cert.Kernel30Ideal.τ).loc Cert.Kernel30Ideal.main_v1_1) = v1 c
          ∧ r.2.mem ((c.tc : Thread Cert.Kernel30Ideal.nD Cert.Kernel30Ideal.τ).loc Cert.Kernel30Ideal.main_v1_2) = v2 c
          ∧ r.2.mem ((c.tc : Thread Cert.Kernel30Ideal.nD Cert.Kernel30Ideal.τ).loc Cert.Kernel30Ideal.main_v1_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v1) = v0 c
          ∧ r.2.mem ((c.tc : Thread Cert.Reference30Ideal.nD Cert.Reference30Ideal.τ).loc Cert.Reference30Ideal.main_v25) = v1 c
          ∧ r.2.mem ((c.tc : Thread Cert.Reference30Ideal.nD Cert.Reference30Ideal.τ).loc Cert.Reference30Ideal.main_v6) = v2 c
          ∧ r.2.mem ((c.tc : Thread Cert.Reference30Ideal.nD Cert.Reference30Ideal.τ).loc Cert.Reference30Ideal.main_v12) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v1_0)) (v1 : (c : Dev Cert.Kernel31Ideal.nD) → Buf (Elt Ideal) ((c.tc : Thread Cert.Kernel31Ideal.nD Cert.Kernel31Ideal.τ).loc Cert.Kernel31Ideal.main_v1_1)) (v2 : (c : Dev Cert.Kernel31Ideal.nD) → Buf (Elt Ideal) ((c.tc : Thread Cert.Kernel31Ideal.nD Cert.Kernel31Ideal.τ).loc Cert.Kernel31Ideal.main_v1_2)) (v3 : (c : Dev Cert.Kernel31Ideal.nD) → Buf (Elt Ideal) ((c.tc : Thread Cert.Kernel31Ideal.nD Cert.Kernel31Ideal.τ).loc Cert.Kernel31Ideal.main_v1_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v1_0) = v0 c
          ∧ r.2.mem ((c.tc : Thread Cert.Kernel31Ideal.nD Cert.Kernel31Ideal.τ).loc Cert.Kernel31Ideal.main_v1_1) = v1 c
          ∧ r.2.mem ((c.tc : Thread Cert.Kernel31Ideal.nD Cert.Kernel31Ideal.τ).loc Cert.Kernel31Ideal.main_v1_2) = v2 c
          ∧ r.2.mem ((c.tc : Thread Cert.Kernel31Ideal.nD Cert.Kernel31Ideal.τ).loc Cert.Kernel31Ideal.main_v1_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v1) = v0 c
          ∧ r.2.mem ((c.tc : Thread Cert.Reference31Ideal.nD Cert.Reference31Ideal.τ).loc Cert.Reference31Ideal.main_v25) = v1 c
          ∧ r.2.mem ((c.tc : Thread Cert.Reference31Ideal.nD Cert.Reference31Ideal.τ).loc Cert.Reference31Ideal.main_v6) = v2 c
          ∧ r.2.mem ((c.tc : Thread Cert.Reference31Ideal.nD Cert.Reference31Ideal.τ).loc Cert.Reference31Ideal.main_v12) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)) (v3 : (c : Dev Cert.Kernel32Ideal.nD) → Buf (Elt Ideal) ((c.tc : Thread Cert.Kernel32Ideal.nD Cert.Kernel32Ideal.τ).loc Cert.Kernel32Ideal.main_v0_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_v0_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v2) = v0 c
          ∧ r.2.mem ((c.tc : Thread Cert.Reference32Ideal.nD Cert.Reference32Ideal.τ).loc Cert.Reference32Ideal.main_v26) = v1 c
          ∧ r.2.mem ((c.tc : Thread Cert.Reference32Ideal.nD Cert.Reference32Ideal.τ).loc Cert.Reference32Ideal.main_v7) = v2 c
          ∧ r.2.mem ((c.tc : Thread Cert.Reference32Ideal.nD Cert.Reference32Ideal.τ).loc Cert.Reference32Ideal.main_v13) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)) (v3 : (c : Dev Cert.Kernel33Ideal.nD) → Buf (Elt Ideal) ((c.tc : Thread Cert.Kernel33Ideal.nD Cert.Kernel33Ideal.τ).loc Cert.Kernel33Ideal.main_v0_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_v0_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v2) = v0 c
          ∧ r.2.mem ((c.tc : Thread Cert.Reference33Ideal.nD Cert.Reference33Ideal.τ).loc Cert.Reference33Ideal.main_v26) = v1 c
          ∧ r.2.mem ((c.tc : Thread Cert.Reference33Ideal.nD Cert.Reference33Ideal.τ).loc Cert.Reference33Ideal.main_v7) = v2 c
          ∧ r.2.mem ((c.tc : Thread Cert.Reference33Ideal.nD Cert.Reference33Ideal.τ).loc Cert.Reference33Ideal.main_v13) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)) (v3 : (c : Dev Cert.Kernel34Ideal.nD) → Buf (Elt Ideal) ((c.tc : Thread Cert.Kernel34Ideal.nD Cert.Kernel34Ideal.τ).loc Cert.Kernel34Ideal.main_v0_3)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_v0_3) = v3 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v2) = v0 c
          ∧ r.2.mem ((c.tc : Thread Cert.Reference34Ideal.nD Cert.Reference34Ideal.τ).loc Cert.Reference34Ideal.main_v26) = v1 c
          ∧ r.2.mem ((c.tc : Thread Cert.Reference34Ideal.nD Cert.Reference34Ideal.τ).loc Cert.Reference34Ideal.main_v7) = v2 c
          ∧ r.2.mem ((c.tc : Thread Cert.Reference34Ideal.nD Cert.Reference34Ideal.τ).loc Cert.Reference34Ideal.main_v13) = v3 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)) (v3 : (c : Dev Cert.Kernel35Ideal.nD) → Buf (Elt Ideal) ((c.tc : Thread Cert.Kernel35Ideal.nD Cert.Kernel35Ideal.τ).loc Cert.Kernel35Ideal.main_v0_3)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_v0_3) = v3 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v0) = v0 c
          ∧ r.2.mem ((c.tc : Thread Cert.Reference35Ideal.nD Cert.Reference35Ideal.τ).loc Cert.Reference35Ideal.main_v24) = v1 c
          ∧ r.2.mem ((c.tc : Thread Cert.Reference35Ideal.nD Cert.Reference35Ideal.τ).loc Cert.Reference35Ideal.main_v5) = v2 c
          ∧ r.2.mem ((c.tc : Thread Cert.Reference35Ideal.nD Cert.Reference35Ideal.τ).loc Cert.Reference35Ideal.main_v11) = v3 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hPre_finite : Cert.Pre_finite.Facts) (hPre_finite24 : Cert.Pre_finite24.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Kernel24Ideal_pre_finite24 (hKernel24Ideal := hKernel24Ideal) (hPre_finite24 := hPre_finite24)
    ∧ quiescent_Reference24Ideal (hReference24Ideal := hReference24Ideal)
    ∧ quiescent_Reference24Ideal_pre_finite24 (hReference24Ideal := hReference24Ideal) (hPre_finite24 := hPre_finite24)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal_pre_finite24 (hKernel24Ideal := hKernel24Ideal) (hReference24Ideal := hReference24Ideal) (hPre_finite24 := hPre_finite24)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
-- ==== Pre_finite.lean ====
abbrev S8192x2048 : Shape := ⟨2, ![8192, 2048]⟩
abbrev S8192x512 : Shape := ⟨2, ![8192, 512]⟩
abbrev S8192x9216 : Shape := ⟨2, ![8192, 9216]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  slices_S8192x9216_S8192x512_0_4608 : S8192x9216.Slices ![0, 4608] S8192x512

variable [Facts]

def fn_part1 {F : FTy → Type} [FloatOps F] (main_v14 : IVec S_ 1) (main_v15 : FVec F S8192x2048 .f32) (main_v16 : FVec F S8192x2048 .f32) : IVec S_ 1 :=
  let main_v17 : IVec S8192x2048 1 := cmpf .olt main_v15 main_v16
  let main_c_5 : IVec S_ 1 := constantI S_ 1 1#1
  let main_v18 : IVec S_ 1 := (fun x v => Host.reduce IntOp.andi x v reducesTo_S8192x2048_S_d0_1 h_S_) main_v17 main_c_5
  let main_v19 : IVec S_ 1 := andi main_v14 main_v18
  main_v19

def fn {F : FTy → Type} [FloatOps F] (main_arg0 : FVec F S8192x2048 .f32) (main_arg1 : FVec F S8192x512 .f32) (main_arg2 : FVec F S8192x9216 .f32) (main_arg3 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := (extractStridedSlice S8192x512 ![0, 4608] · slices_S8192x9216_S8192x512_0_4608) main_arg2
  let main_v10 : FVec F S8192x512 .f32 := Host.absf main_v9
  let main_cst_2 : FVec F S_ .f32 := constant S_ .f32 0x7F800000#32
  let main_v11 : FVec F S8192x512 .f32 := broadcastInDim S8192x512 ![] bcast_S_S8192x512 main_cst_2
  let main_v12 : IVec S8192x512 1 := cmpf .olt main_v10 main_v11
  let main_c_3 : IVec S_ 1 := constantI S_ 1 1#1
  let main_v13 : IVec S_ 1 := (fun x v => Host.reduce IntOp.andi x v reducesTo_S8192x512_S_d0_1 h_S_) main_v12 main_c_3
  let main_v14 : IVec S_ 1 := andi main_v8 main_v13
  let main_v15 : FVec F S8192x2048 .f32 := Host.absf main_arg3
  let main_cst_4 : FVec F S_ .f32 := constant S_ .f32 0x7F800000#32
  let main_v16 : FVec F S8192x2048 .f32 := broadcastInDim S8192x2048 ![] bcast_S_S8192x2048 main_cst_4
  fn_part1 (F := F) main_v14 main_v15 main_v16
-- ==== Pre_finite24.lean ====
abbrev S8192x2048 : Shape := ⟨2, ![8192, 2048]⟩
abbrev S8192x512 : Shape := ⟨2, ![8192, 512]⟩
abbrev S8192x9216 : Shape := ⟨2, ![8192, 9216]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  slices_S8192x9216_S8192x512_0_4608 : S8192x9216.Slices ![0, 4608] S8192x512

variable [Facts]

def fn {F : FTy → Type} [FloatOps F] (main_arg0 : FVec F S8192x2048 .f32) (main_arg1 : FVec F S8192x512 .f32) (main_arg2 : FVec F S8192x9216 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := (extractStridedSlice S8192x512 ![0, 4608] · slices_S8192x9216_S8192x512_0_4608) main_arg2
  let main_v10 : FVec F S8192x512 .f32 := Host.absf main_v9
  let main_cst_2 : FVec F S_ .f32 := constant S_ .f32 0x7F800000#32
  let main_v11 : FVec F S8192x512 .f32 := broadcastInDim S8192x512 ![] bcast_S_S8192x512 main_cst_2
  let main_v12 : IVec S8192x512 1 := cmpf .olt main_v10 main_v11
  let main_c_3 : IVec S_ 1 := constantI S_ 1 1#1
  let main_v13 : IVec S_ 1 := (fun x v => Host.reduce IntOp.andi x v reducesTo_S8192x512_S_d0_1 h_S_) main_v12 main_c_3
  let main_v14 : IVec S_ 1 := andi main_v8 main_v13
  main_v14
-- ==== Kernel.lean ====
abbrev S8192x2048 : Shape := ⟨2, ![8192, 2048]⟩
abbrev S8192x512 : Shape := ⟨2, ![8192, 512]⟩
abbrev S8192x9216 : Shape := ⟨2, ![8192, 9216]⟩
abbrev S_ : Shape := ⟨0, ![]⟩
abbrev S8192x16x128 : Shape := ⟨3, ![8192, 16, 128]⟩
abbrev S8192x4x128 : Shape := ⟨3, ![8192, 4, 128]⟩
abbrev S8192x4x4x128 : Shape := ⟨4, ![8192, 4, 4, 128]⟩
abbrev S16x8192x8192 : Shape := ⟨3, ![16, 8192, 8192]⟩
abbrev S16x8192 : Shape := ⟨2, ![16, 8192]⟩
abbrev S16x8192x1 : Shape := ⟨3, ![16, 8192, 1]⟩
abbrev S16x8192x128 : Shape := ⟨3, ![16, 8192, 128]⟩
abbrev S16x1x8192 : Shape := ⟨3, ![16, 1, 8192]⟩
abbrev S16x8x8192 : Shape := ⟨3, ![16, 8, 8192]⟩
abbrev S512x8192 : Shape := ⟨2, ![512, 8192]⟩
abbrev S2048x8192 : Shape := ⟨2, ![2048, 8192]⟩
abbrev S2048x128 : Shape := ⟨2, ![2048, 128]⟩
abbrev S1024x128 : Shape := ⟨2, ![1024, 128]⟩
abbrev S128x1024 : Shape := ⟨2, ![128, 1024]⟩
abbrev S1x8x2048 : Shape := ⟨3, ![1, 8, 2048]⟩
abbrev S128x8192 : Shape := ⟨2, ![128, 8192]⟩
abbrev S1024x2048 : Shape := ⟨2, ![1024, 2048]⟩
abbrev S1x1x2048 : Shape := ⟨3, ![1, 1, 2048]⟩
abbrev S1x2048 : Shape := ⟨2, ![1, 2048]⟩
abbrev S128x2048 : Shape := ⟨2, ![128, 2048]⟩

abbrev nBuf : Space → Nat
  | .hbm => 56
  | .vmem => 22
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S8192x9216, .f32⟩
  | .hbm, ⟨3, _⟩ => ⟨S8192x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x2048, .bf16⟩
  | .hbm, ⟨11, _⟩ => ⟨S8192x512, .bf16⟩
  | .hbm, ⟨12, _⟩ => ⟨S8192x16x128, .f32⟩
  | .hbm, ⟨13, _⟩ => ⟨S8192x16x128, .f32⟩
  | .hbm, ⟨14, _⟩ => ⟨S8192x4x128, .f32⟩
  | .hbm, ⟨15, _⟩ => ⟨S8192x4x4x128, .f32⟩
  | .hbm, ⟨16, _⟩ => ⟨S8192x16x128, .f32⟩
  | .hbm, ⟨17, _⟩ => ⟨S8192x512, .f32⟩
  | .hbm, ⟨18, _⟩ => ⟨S8192x4x128, .f32⟩
  | .hbm, ⟨19, _⟩ => ⟨S8192x4x4x128, .f32⟩
  | .hbm, ⟨20, _⟩ => ⟨S8192x16x128, .f32⟩
  | .hbm, ⟨21, _⟩ => ⟨S16x8192x8192, .f32⟩
  | .hbm, ⟨22, _⟩ => ⟨S_, .f32⟩
  | .hbm, ⟨23, _⟩ => ⟨S16x8192x8192, .f32⟩
  | .hbm, ⟨24, _⟩ => ⟨S16x8192x8192, .f32⟩
  | .hbm, ⟨25, _⟩ => ⟨S_, .f32⟩
  | .hbm, ⟨26, _⟩ => ⟨S16x8192, .f32⟩
  | .hbm, ⟨27, _⟩ => ⟨S16x8192x1, .f32⟩
  | .hbm, ⟨28, _⟩ => ⟨S16x8192x8192, .f32⟩
  | .hbm, ⟨29, _⟩ => ⟨S16x8192x8192, .f32⟩
  | .hbm, ⟨30, _⟩ => ⟨S16x8192x8192, .f32⟩
  | .hbm, ⟨31, _⟩ => ⟨S_, .f32⟩
  | .hbm, ⟨32, _⟩ => ⟨S16x8192, .f32⟩
  | .hbm, ⟨33, _⟩ => ⟨S16x8192, .f32⟩
  | .hbm, ⟨34, _⟩ => ⟨S16x8192, .f32⟩
  | .hbm, ⟨35, _⟩ => ⟨S_, .f32⟩
  | .hbm, ⟨36, _⟩ => ⟨S_, .f32⟩
  | .hbm, ⟨37, _⟩ => ⟨S16x8192, .f32⟩
  | .hbm, ⟨38, _⟩ => ⟨S16x8192, .f32⟩
  | .hbm, ⟨39, _⟩ => ⟨S16x8192x1, .f32⟩
  | .hbm, ⟨40, _⟩ => ⟨S16x8192x8192, .f32⟩
  | .hbm, ⟨41, _⟩ => ⟨S16x8192x8192, .f32⟩
  | .hbm, ⟨42, _⟩ => ⟨S16x8192x128, .f32⟩
  | .hbm, ⟨43, _⟩ => ⟨S16x8192x128, .f32⟩
  | .hbm, ⟨44, _⟩ => ⟨S16x8192x128, .f32⟩
  | .hbm, ⟨45, _⟩ => ⟨S_, .f32⟩
  | .hbm, ⟨46, _⟩ => ⟨S16x8192, .f32⟩
  | .hbm, ⟨47, _⟩ => ⟨S16x1x8192, .f32⟩
  | .hbm, ⟨48, _⟩ => ⟨S16x8x8192, .f32⟩
  | .hbm, ⟨49, _⟩ => ⟨S16x1x8192, .f32⟩
  | .hbm, ⟨50, _⟩ => ⟨S16x8x8192, .f32⟩
  | .hbm, ⟨51, _⟩ => ⟨S512x8192, .bf16⟩
  | .hbm, ⟨52, _⟩ => ⟨S8192x2048, .bf16⟩
  | .hbm, ⟨53, _⟩ => ⟨S2048x8192, .f32⟩
  | .hbm, ⟨54, _⟩ => ⟨S8192x2048, .f32⟩
  | .hbm, ⟨55, _⟩ => ⟨S8192x2048, .f32⟩
  | .local _ .vmem, ⟨0, _⟩ => ⟨S2048x128, .bf16⟩
  | .local _ .vmem, ⟨1, _⟩ => ⟨S2048x128, .bf16⟩
  | .local _ .vmem, ⟨2, _⟩ => ⟨S1024x128, .bf16⟩
  | .local _ .vmem, ⟨3, _⟩ => ⟨S1024x128, .bf16⟩
  | .local _ .vmem, ⟨4, _⟩ => ⟨S128x1024, .bf16⟩
  | .local _ .vmem, ⟨5, _⟩ => ⟨S128x1024, .bf16⟩
  | .local _ .vmem, ⟨6, _⟩ => ⟨S1024x128, .f32⟩
  | .local _ .vmem, ⟨7, _⟩ => ⟨S1024x128, .f32⟩
  | .local _ .vmem, ⟨8, _⟩ => ⟨S2048x128, .bf16⟩
  | .local _ .vmem, ⟨9, _⟩ => ⟨S2048x128, .bf16⟩
  | .local _ .vmem, ⟨10, _⟩ => ⟨S1x8x2048, .f32⟩
  | .local _ .vmem, ⟨11, _⟩ => ⟨S1x8x2048, .f32⟩
  | .local _ .vmem, ⟨12, _⟩ => ⟨S1x8x2048, .f32⟩
  | .local _ .vmem, ⟨13, _⟩ => ⟨S1x8x2048, .f32⟩
  | .local _ .vmem, ⟨14, _⟩ => ⟨S128x8192, .f32⟩
  | .local _ .vmem, ⟨15, _⟩ => ⟨S128x8192, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42_0 : Ref sig .tc := ⟨.hbm, 53, rfl⟩
abbrev main_v42_1 : Ref sig .tc := ⟨.hbm, 54, rfl⟩
abbrev main_v42_2 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![16, 8, 4], ![false, false, false]⟩

def k0_mult1 (i : grid0.Coords) : BitVec 32 :=
  let arg2 : BitVec 32 := BitVec.ofNat 32 (i 2).val
  let c2048_i32 : BitVec 32 := 2048#32
  let v40 : BitVec 32 := Scalar.muli arg2 c2048_i32
  v40
def k0_cond4 (i : grid0.Coords) : BitVec 1 :=
  let arg1 : BitVec 32 := BitVec.ofNat 32 (i 1).val
  let c0_i32_25 : BitVec 32 := 0#32
  let v42 : BitVec 1 := Scalar.cmpi .eq arg1 c0_i32_25
  let v43 : BitVec 32 := Scalar.extui v42
  let c0_i32_26 : BitVec 32 := 0#32
  let v44 : BitVec 1 := Scalar.cmpi .ne v43 c0_i32_26
  v44

def k0_off1 (i : grid0.Coords) : Fin 2 → Nat :=
  let c0_29 : Index := 0#32
  let arg2 : BitVec 32 := BitVec.ofNat 32 (i 2).val
  let c2048_i32 : BitVec 32 := 2048#32
  let v40 : BitVec 32 := Scalar.muli arg2 c2048_i32
  let v41 : BitVec 32 := v40
  let v48 : Index := Scalar.indexCast v41
  ![0, v48.toNat]
def k0_cond5 (i : grid0.Coords) : BitVec 1 :=
  let arg1 : BitVec 32 := BitVec.ofNat 32 (i 1).val
  let c0_i32_27 : BitVec 32 := 0#32
  let v45 : BitVec 1 := Scalar.cmpi .sgt arg1 c0_i32_27
  let v46 : BitVec 32 := Scalar.extui v45
  let c0_i32_28 : BitVec 32 := 0#32
  let v47 : BitVec 1 := Scalar.cmpi .ne v46 c0_i32_28
  v47

def k0_off2 (i : grid0.Coords) : Fin 2 → Nat :=
  let c0_29 : Index := 0#32
  let arg2 : BitVec 32 := BitVec.ofNat 32 (i 2).val
  let c2048_i32 : BitVec 32 := 2048#32
  let v40 : BitVec 32 := Scalar.muli arg2 c2048_i32
  let v41 : BitVec 32 := v40
  let v48 : Index := Scalar.indexCast v41
  ![0, v48.toNat]
def k0_cond3 (i : grid0.Coords) : BitVec 1 :=
  let arg2 : BitVec 32 := BitVec.ofNat 32 (i 2).val
  let c3_i32 : BitVec 32 := 3#32
  let v37 : BitVec 1 := Scalar.cmpi .eq arg2 c3_i32
  let v38 : BitVec 32 := Scalar.extui v37
  let c0_i32_24 : BitVec 32 := 0#32
  let v39 : BitVec 1 := Scalar.cmpi .ne v38 c0_i32_24
  v39

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg1.toNat, v16.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![v16.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c36_i32 : BitVec 32 := 36#32
  let v17 : BitVec 32 := Scalar.addi c36_i32 v16
  let c0_i32_4 : BitVec 32 := 0#32
  ![arg1.toNat, v17.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S128x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== KernelIdeal.lean ====
variable {F : FTy → Type} [FloatOps F] [Named F]
def κ : String → Option EReal := fun
  | "ln2" => some ((Real.log 2 : ℝ) : EReal)
  | _ => none
-- ==== ReferenceIdeal.lean ====
abbrev S8192x2048 : Shape := ⟨2, ![8192, 2048]⟩
abbrev S8192x512 : Shape := ⟨2, ![8192, 512]⟩
abbrev S8192x9216 : Shape := ⟨2, ![8192, 9216]⟩
abbrev S8192x16x128 : Shape := ⟨3, ![8192, 16, 128]⟩
abbrev S8192x4x128 : Shape := ⟨3, ![8192, 4, 128]⟩
abbrev S8192x4x4x128 : Shape := ⟨4, ![8192, 4, 4, 128]⟩
abbrev S16x8192x8192 : Shape := ⟨3, ![16, 8192, 8192]⟩
abbrev S_ : Shape := ⟨0, ![]⟩
abbrev S16x8192 : Shape := ⟨2, ![16, 8192]⟩
abbrev S16x8192x1 : Shape := ⟨3, ![16, 8192, 1]⟩
abbrev S16x128x8192 : Shape := ⟨3, ![16, 128, 8192]⟩
abbrev S16x8192x128 : Shape := ⟨3, ![16, 8192, 128]⟩
abbrev S2048x8192 : Shape := ⟨2, ![2048, 8192]⟩

abbrev nBuf : Space → Nat
  | .hbm => 86
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S8192x9216, .f32⟩
  | .hbm, ⟨3, _⟩ => ⟨S8192x2048, .f32⟩
  | .hbm, ⟨4, _⟩ => ⟨S8192x16x128, .f32⟩
  | .hbm, ⟨5, _⟩ => ⟨S8192x4x128, .f32⟩
  | .hbm, ⟨6, _⟩ => ⟨S8192x4x4x128, .f32⟩
  | .hbm, ⟨7, _⟩ => ⟨S8192x16x128, .f32⟩
  | .hbm, ⟨8, _⟩ => ⟨S8192x512, .f32⟩
  | .hbm, ⟨9, _⟩ => ⟨S8192x4x128, .f32⟩
  | .hbm, ⟨10, _⟩ => ⟨S8192x4x4x128, .f32⟩
  | .hbm, ⟨11, _⟩ => ⟨S8192x16x128, .f32⟩
  | .hbm, ⟨12, _⟩ => ⟨S16x8192x8192, .f32⟩
  | .hbm, ⟨13, _⟩ => ⟨S_, .f32⟩
  | .hbm, ⟨14, _⟩ => ⟨S16x8192x8192, .f32⟩
  | .hbm, ⟨15, _⟩ => ⟨S16x8192x8192, .f32⟩
  | .hbm, ⟨16, _⟩ => ⟨S_, .f32⟩
  | .hbm, ⟨17, _⟩ => ⟨S16x8192, .f32⟩
  | .hbm, ⟨18, _⟩ => ⟨S16x8192x1, .f32⟩
  | .hbm, ⟨19, _⟩ => ⟨S16x8192x8192, .f32⟩
  | .hbm, ⟨20, _⟩ => ⟨S16x8192x8192, .i1⟩
  | .hbm, ⟨21, _⟩ => ⟨S16x8192x8192, .f32⟩
  | .hbm, ⟨22, _⟩ => ⟨S_, .f32⟩
  | .hbm, ⟨23, _⟩ => ⟨S16x8192, .f32⟩
  | .hbm, ⟨24, _⟩ => ⟨S_, .f32⟩
  | .hbm, ⟨25, _⟩ => ⟨S16x8192, .f32⟩
  | .hbm, ⟨26, _⟩ => ⟨S16x8192, .f32⟩
  | .hbm, ⟨27, _⟩ => ⟨S_, .f32⟩
  | .hbm, ⟨28, _⟩ => ⟨S16x8192, .f32⟩
  | .hbm, ⟨29, _⟩ => ⟨S16x8192, .i1⟩
  | .hbm, ⟨30, _⟩ => ⟨S_, .f32⟩
  | .hbm, ⟨31, _⟩ => ⟨S16x8192, .f32⟩
  | .hbm, ⟨32, _⟩ => ⟨S16x8192, .i1⟩
  | .hbm, ⟨33, _⟩ => ⟨S_, .f32⟩
  | .hbm, ⟨34, _⟩ => ⟨S16x8192, .f32⟩
  | .hbm, ⟨35, _⟩ => ⟨S_, .f32⟩
  | .hbm, ⟨36, _⟩ => ⟨S16x8192, .f32⟩
  | .hbm, ⟨37, _⟩ => ⟨S_, .f32⟩
  | .hbm, ⟨38, _⟩ => ⟨S16x8192, .f32⟩
  | .hbm, ⟨39, _⟩ => ⟨S16x8192, .f32⟩
  | .hbm, ⟨40, _⟩ => ⟨S16x8192, .f32⟩
  | .hbm, ⟨41, _⟩ => ⟨S16x8192x1, .f32⟩
  | .hbm, ⟨42, _⟩ => ⟨S16x8192x8192, .f32⟩
  | .hbm, ⟨43, _⟩ => ⟨S16x8192x8192, .f32⟩
  | .hbm, ⟨44, _⟩ => ⟨S16x8192x8192, .f32⟩
  | .hbm, ⟨45, _⟩ => ⟨S_, .f32⟩
  | .hbm, ⟨46, _⟩ => ⟨S16x8192, .f32⟩
  | .hbm, ⟨47, _⟩ => ⟨S16x8192x1, .f32⟩
  | .hbm, ⟨48, _⟩ => ⟨S16x8192x8192, .f32⟩
  | .hbm, ⟨49, _⟩ => ⟨S16x8192x8192, .f32⟩
  | .hbm, ⟨50, _⟩ => ⟨S16x8192x1, .f32⟩
  | .hbm, ⟨51, _⟩ => ⟨S_, .f32⟩
  | .hbm, ⟨52, _⟩ => ⟨S16x8192x1, .f32⟩
  | .hbm, ⟨53, _⟩ => ⟨S16x8192x1, .f32⟩
  | .hbm, ⟨54, _⟩ => ⟨S16x128x8192, .f32⟩
  | .hbm, ⟨55, _⟩ => ⟨S8192x16x128, .f32⟩
  | .hbm, ⟨56, _⟩ => ⟨S8192x16x128, .f32⟩
  | .hbm, ⟨57, _⟩ => ⟨S16x128x8192, .f32⟩
  | .hbm, ⟨58, _⟩ => ⟨S16x8192x8192, .f32⟩
  | .hbm, ⟨59, _⟩ => ⟨S16x128x8192, .f32⟩
  | .hbm, ⟨60, _⟩ => ⟨S8192x16x128, .f32⟩
  | .hbm, ⟨61, _⟩ => ⟨S16x8192x8192, .f32⟩
  | .hbm, ⟨62, _⟩ => ⟨S16x8192x8192, .f32⟩
  | .hbm, ⟨63, _⟩ => ⟨S16x8192x8192, .f32⟩
  | .hbm, ⟨64, _⟩ => ⟨S_, .f32⟩
  | .hbm, ⟨65, _⟩ => ⟨S16x8192, .f32⟩
  | .hbm, ⟨66, _⟩ => ⟨S16x8192x1, .f32⟩
  | .hbm, ⟨67, _⟩ => ⟨S16x8192x1, .f32⟩
  | .hbm, ⟨68, _⟩ => ⟨S16x8192x8192, .f32⟩
  | .hbm, ⟨69, _⟩ => ⟨S16x8192x8192, .f32⟩
  | .hbm, ⟨70, _⟩ => ⟨S_, .f32⟩
  | .hbm, ⟨71, _⟩ => ⟨S16x8192, .f32⟩
  | .hbm, ⟨72, _⟩ => ⟨S16x8192x8192, .f32⟩
  | .hbm, ⟨73, _⟩ => ⟨S16x8192x8192, .f32⟩
  | .hbm, ⟨74, _⟩ => ⟨S16x8192x8192, .f32⟩
  | .hbm, ⟨75, _⟩ => ⟨S_, .f32⟩
  | .hbm, ⟨76, _⟩ => ⟨S16x8192x8192, .f32⟩
  | .hbm, ⟨77, _⟩ => ⟨S16x8192x8192, .f32⟩
  | .hbm, ⟨78, _⟩ => ⟨S16x8192x128, .f32⟩
  | .hbm, ⟨79, _⟩ => ⟨S8192x16x128, .f32⟩
  | .hbm, ⟨80, _⟩ => ⟨S16x8192x128, .f32⟩
  | .hbm, ⟨81, _⟩ => ⟨S8192x16x128, .f32⟩
  | .hbm, ⟨82, _⟩ => ⟨S8192x2048, .f32⟩
  | .hbm, ⟨83, _⟩ => ⟨S2048x8192, .f32⟩
  | .hbm, ⟨84, _⟩ => ⟨S8192x2048, .f32⟩
  | .hbm, ⟨85, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== Kernel2.lean ====
abbrev S8192x2048 : Shape := ⟨2, ![8192, 2048]⟩
abbrev S8192x8192 : Shape := ⟨2, ![8192, 8192]⟩
abbrev S1x8192x2048 : Shape := ⟨3, ![1, 8192, 2048]⟩
abbrev S1024x2048 : Shape := ⟨2, ![1024, 2048]⟩
abbrev S1x1024x2048 : Shape := ⟨3, ![1, 1024, 2048]⟩
abbrev S1024x1024 : Shape := ⟨2, ![1024, 1024]⟩
abbrev S8x128 : Shape := ⟨2, ![8, 128]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x8192, .f32⟩
  | .hbm, ⟨3, _⟩ => ⟨S8192x2048, .bf16⟩
  | .hbm, ⟨4, _⟩ => ⟨S1x8192x2048, .bf16⟩
  | .hbm, ⟨5, _⟩ => ⟨S8192x8192, .bf16⟩
  | .local _ .vmem, ⟨0, _⟩ => ⟨S1024x2048, .f32⟩
  | .local _ .vmem, ⟨1, _⟩ => ⟨S1024x2048, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S8192x2048 : Shape := ⟨2, ![8192, 2048]⟩
abbrev S8192x8192 : Shape := ⟨2, ![8192, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x8192, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x2048, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Kernel3.lean ====
abbrev S8192x8192 : Shape := ⟨2, ![8192, 8192]⟩
abbrev S8192x2048 : Shape := ⟨2, ![8192, 2048]⟩
abbrev S1x8192x2048 : Shape := ⟨3, ![1, 8192, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x8192, .bf16⟩
  | .hbm, ⟨3, _⟩ => ⟨S1x8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x8192 : Shape := ⟨2, ![8192, 8192]⟩
abbrev S8192x2048 : Shape := ⟨2, ![8192, 2048]⟩
abbrev S_ : Shape := ⟨0, ![]⟩
abbrev S2048x8192 : Shape := ⟨2, ![2048, 8192]⟩
abbrev S1x8192x2048 : Shape := ⟨3, ![1, 8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S2048x8192, .f32⟩
  | .hbm, ⟨6, _⟩ => ⟨S8192x2048, .f32⟩
  | .hbm, ⟨7, _⟩ => ⟨S8192x2048, .bf16⟩
  | .hbm, ⟨8, _⟩ => ⟨S1x8192x2048, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x2048 : Shape := ⟨2, ![8192, 2048]⟩
abbrev S8192x8192 : Shape := ⟨2, ![8192, 8192]⟩
abbrev S8x2048x1024 : Shape := ⟨3, ![8, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x8192, .f32⟩
  | .hbm, ⟨2, _⟩ => ⟨S8192x2048, .bf16⟩
  | .hbm, ⟨3, _⟩ => ⟨S8192x8192, .bf16⟩
  | .hbm, ⟨4, _⟩ => ⟨S8x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S8192x8192 : Shape := ⟨2, ![8192, 8192]⟩
abbrev S_ : Shape := ⟨0, ![]⟩
abbrev S2048x8192 : Shape := ⟨2, ![2048, 8192]⟩
abbrev S2048x8x1024 : Shape := ⟨3, ![2048, 8, 1024]⟩
abbrev S8x2048x1024 : Shape := ⟨3, ![8, 2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x8192, .f32⟩
  | .hbm, ⟨2, _⟩ => ⟨S_, .f32⟩
  | .hbm, ⟨3, _⟩ => ⟨S2048x8192, .f32⟩
  | .hbm, ⟨4, _⟩ => ⟨S8192x8192, .f32⟩
  | .hbm, ⟨5, _⟩ => ⟨S8192x2048, .f32⟩
  | .hbm, ⟨6, _⟩ => ⟨S2048x8192, .f32⟩
  | .hbm, ⟨7, _⟩ => ⟨S2048x8x1024, .f32⟩
  | .hbm, ⟨8, _⟩ => ⟨S8x2048x1024, .f32⟩
  | .hbm, ⟨9, _⟩ => ⟨S8x2048x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x8192 : Shape := ⟨2, ![8192, 8192]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S8192x2048 : Shape := ⟨2, ![8192, 2048]⟩
abbrev S1024x2048 : Shape := ⟨2, ![1024, 2048]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S2048x8192, .f32⟩
  | .hbm, ⟨2, _⟩ => ⟨S8192x8192, .bf16⟩
  | .hbm, ⟨3, _⟩ => ⟨S2048x8x1024, .f32⟩
  | .hbm, ⟨4, _⟩ => ⟨S8x2048x1024, .f32⟩
  | .hbm, ⟨5, _⟩ => ⟨S8x2048x1024, .bf16⟩
  | .hbm, ⟨6, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2x1024x1024, .bf16⟩
  | .local _ .vmem, ⟨3, _⟩ => ⟨S2x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_9 : BitVec 32 := 3#32
  let v16 : BitVec 1 := Scalar.cmpi .eq arg2 c3_i32_9
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x8192 : Shape := ⟨2, ![8192, 8192]⟩
abbrev S2048x8192 : Shape := ⟨2, ![2048, 8192]⟩
abbrev S_ : Shape := ⟨0, ![]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S2048x8192, .f32⟩
  | .hbm, ⟨2, _⟩ => ⟨S_, .f32⟩
  | .hbm, ⟨3, _⟩ => ⟨S8192x2048, .f32⟩
  | .hbm, ⟨4, _⟩ => ⟨S8192x8192, .f32⟩
  | .hbm, ⟨5, _⟩ => ⟨S8192x2048, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S8192x2048 : Shape := ⟨2, ![8192, 2048]⟩
abbrev S8192x9216 : Shape := ⟨2, ![8192, 9216]⟩
abbrev S8x2048x1152 : Shape := ⟨3, ![8, 2048, 1152]⟩
abbrev S2048x512 : Shape := ⟨2, ![2048, 512]⟩
abbrev S2048x2304 : Shape := ⟨2, ![2048, 2304]⟩
abbrev S2x512x1152 : Shape := ⟨3, ![2, 512, 1152]⟩
abbrev S512x2304 : Shape := ⟨2, ![512, 2304]⟩
abbrev S512x1152 : Shape := ⟨2, ![512, 1152]⟩
abbrev S1x512x1152 : Shape := ⟨3, ![1, 512, 1152]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x9216, .f32⟩
  | .hbm, ⟨2, _⟩ => ⟨S8192x2048, .bf16⟩
  | .hbm, ⟨3, _⟩ => ⟨S8192x9216, .bf16⟩
  | .hbm, ⟨4, _⟩ => ⟨S8x2048x1152, .bf16⟩
  | .local _ .vmem, ⟨0, _⟩ => ⟨S2048x512, .bf16⟩
  | .local _ .vmem, ⟨1, _⟩ => ⟨S2048x512, .bf16⟩
  | .local _ .vmem, ⟨2, _⟩ => ⟨S2048x2304, .bf16⟩
  | .local _ .vmem, ⟨3, _⟩ => ⟨S2048x2304, .bf16⟩
  | .local _ .vmem, ⟨4, _⟩ => ⟨S2x512x1152, .bf16⟩
  | .local _ .vmem, ⟨5, _⟩ => ⟨S2x512x1152, .bf16⟩
  | .local _ .vmem, ⟨6, _⟩ => ⟨S512x2304, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x512x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S8192x9216 : Shape := ⟨2, ![8192, 9216]⟩
abbrev S_ : Shape := ⟨0, ![]⟩
abbrev S2048x9216 : Shape := ⟨2, ![2048, 9216]⟩
abbrev S9216x2048 : Shape := ⟨2, ![9216, 2048]⟩
abbrev S2048x8x1152 : Shape := ⟨3, ![2048, 8, 1152]⟩
abbrev S8x2048x1152 : Shape := ⟨3, ![8, 2048, 1152]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x9216, .f32⟩
  | .hbm, ⟨2, _⟩ => ⟨S_, .f32⟩
  | .hbm, ⟨3, _⟩ => ⟨S2048x9216, .f32⟩
  | .hbm, ⟨4, _⟩ => ⟨S8192x9216, .f32⟩
  | .hbm, ⟨5, _⟩ => ⟨S9216x2048, .f32⟩
  | .hbm, ⟨6, _⟩ => ⟨S2048x9216, .f32⟩
  | .hbm, ⟨7, _⟩ => ⟨S2048x8x1152, .f32⟩
  | .hbm, ⟨8, _⟩ => ⟨S8x2048x1152, .f32⟩
  | .hbm, ⟨9, _⟩ => ⟨S8x2048x1152, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x9216 : Shape := ⟨2, ![8192, 9216]⟩
abbrev S2048x9216 : Shape := ⟨2, ![2048, 9216]⟩
abbrev S2048x8x1152 : Shape := ⟨3, ![2048, 8, 1152]⟩
abbrev S8x2048x1152 : Shape := ⟨3, ![8, 2048, 1152]⟩
abbrev S8192x2048 : Shape := ⟨2, ![8192, 2048]⟩
abbrev S1024x2304 : Shape := ⟨2, ![1024, 2304]⟩
abbrev S2x1024x1152 : Shape := ⟨3, ![2, 1024, 1152]⟩
abbrev S1024x1024 : Shape := ⟨2, ![1024, 1024]⟩
abbrev S1x1024x1152 : Shape := ⟨3, ![1, 1024, 1152]⟩
abbrev S1024x1152 : Shape := ⟨2, ![1024, 1152]⟩

abbrev nBuf : Space → Nat
  | .hbm => 7
  | .vmem => 7
  | .smem => 0
  | _ => 0

abbrev bufTy : (tb : Table) → Fin (tcTables nBuf tb) → BufTy
  | .hbm, ⟨0, _⟩ => ⟨S8192x9216, .f32⟩
  | .hbm, ⟨1, _⟩ => ⟨S2048x9216, .f32⟩
  | .hbm, ⟨2, _⟩ => ⟨S8192x9216, .bf16⟩
  | .hbm, ⟨3, _⟩ => ⟨S2048x8x1152, .f32⟩
  | .hbm, ⟨4, _⟩ => ⟨S8x2048x1152, .f32⟩
  | .hbm, ⟨5, _⟩ => ⟨S8x2048x1152, .bf16⟩
  | .hbm, ⟨6, _⟩ => ⟨S8192x2048, .f32⟩
  | .local _ .vmem, ⟨0, _⟩ => ⟨S1024x2304, .bf16⟩
  | .local _ .vmem, ⟨1, _⟩ => ⟨S1024x2304, .bf16⟩
  | .local _ .vmem, ⟨2, _⟩ => ⟨S2x1024x1152, .bf16⟩
  | .local _ .vmem, ⟨3, _⟩ => ⟨S2x1024x1152, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_9 : BitVec 32 := 3#32
  let v16 : BitVec 1 := Scalar.cmpi .eq arg2 c3_i32_9
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x9216 : Shape := ⟨2, ![8192, 9216]⟩
abbrev S2048x9216 : Shape := ⟨2, ![2048, 9216]⟩
abbrev S_ : Shape := ⟨0, ![]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x9216, .f32⟩
  | .hbm, ⟨1, _⟩ => ⟨S2048x9216, .f32⟩
  | .hbm, ⟨2, _⟩ => ⟨S_, .f32⟩
  | .hbm, ⟨3, _⟩ => ⟨S8192x2048, .f32⟩
  | .hbm, ⟨4, _⟩ => ⟨S8192x9216, .f32⟩
  | .hbm, ⟨5, _⟩ => ⟨S8192x2048, .f32⟩
  | _, _ => ⟨S8192x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S8192x2048 : Shape := ⟨2, ![8192, 2048]⟩
abbrev S2048x2048 : Shape := ⟨2, ![2048, 2048]⟩
abbrev S8192x9216 : Shape := ⟨2, ![8192, 9216]⟩
abbrev S1x2048x2048 : Shape := ⟨3, ![1, 2048, 2048]⟩
abbrev S512x2048 : Shape := ⟨2, ![512, 2048]⟩
abbrev S1x1024x2048 : Shape := ⟨3, ![1, 1024, 2048]⟩
abbrev S512x1024 : Shape := ⟨2, ![512, 1024]⟩
abbrev S8x128 : Shape := ⟨2, ![8, 128]⟩
abbrev S1024x2048 : Shape := ⟨2, ![1024, 2048]⟩

abbrev nBuf : Space → Nat
  | .hbm => 11
  | .vmem => 21
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x9216, .f32⟩
  | .hbm, ⟨3, _⟩ => ⟨S8192x2048, .f32⟩
  | .hbm, ⟨4, _⟩ => ⟨S8192x2048, .f32⟩
  | .hbm, ⟨5, _⟩ => ⟨S2048x2048, .bf16⟩
  | .hbm, ⟨6, _⟩ => ⟨S1x2048x2048, .bf16⟩
  | .hbm, ⟨7, _⟩ => ⟨S8192x2048, .bf16⟩
  | .hbm, ⟨8, _⟩ => ⟨S8192x2048, .bf16⟩
  | .hbm, ⟨9, _⟩ => ⟨S8192x2048, .bf16⟩
  | .hbm, ⟨10, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x1024x2048, .bf16⟩
  | .local _ .vmem, ⟨3, _⟩ => ⟨S1x1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi c5_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi c7_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference8Ideal.lean ====
abbrev S8192x2048 : Shape := ⟨2, ![8192, 2048]⟩
abbrev S2048x2048 : Shape := ⟨2, ![2048, 2048]⟩
abbrev S8192x9216 : Shape := ⟨2, ![8192, 9216]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x9216, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .bf16⟩
  | .hbm, ⟨43, _⟩ => ⟨S8192x2048, .bf16⟩
  | .hbm, ⟨44, _⟩ => ⟨S8192x2048, .bf16⟩
  | .hbm, ⟨45, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel9.lean ====
abbrev S8192x2048 : Shape := ⟨2, ![8192, 2048]⟩
abbrev S2048x9216 : Shape := ⟨2, ![2048, 9216]⟩
abbrev S2048x8x1152 : Shape := ⟨3, ![2048, 8, 1152]⟩
abbrev S8x2048x1152 : Shape := ⟨3, ![8, 2048, 1152]⟩
abbrev S8192x9216 : Shape := ⟨2, ![8192, 9216]⟩
abbrev S512x2048 : Shape := ⟨2, ![512, 2048]⟩
abbrev S2x2048x1152 : Shape := ⟨3, ![2, 2048, 1152]⟩
abbrev S512x2304 : Shape := ⟨2, ![512, 2304]⟩
abbrev S8x128 : Shape := ⟨2, ![8, 128]⟩
abbrev S1x2048x1152 : Shape := ⟨3, ![1, 2048, 1152]⟩
abbrev S2048x1152 : Shape := ⟨2, ![2048, 1152]⟩
abbrev S2048x2304 : Shape := ⟨2, ![2048, 2304]⟩

abbrev nBuf : Space → Nat
  | .hbm => 7
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x9216, .f32⟩
  | .hbm, ⟨2, _⟩ => ⟨S8192x2048, .bf16⟩
  | .hbm, ⟨3, _⟩ => ⟨S2048x8x1152, .f32⟩
  | .hbm, ⟨4, _⟩ => ⟨S8x2048x1152, .f32⟩
  | .hbm, ⟨5, _⟩ => ⟨S8x2048x1152, .bf16⟩
  | .hbm, ⟨6, _⟩ => ⟨S8192x9216, .f32⟩
  | .local _ .vmem, ⟨0, _⟩ => ⟨S512x2048, .bf16⟩
  | .local _ .vmem, ⟨1, _⟩ => ⟨S512x2048, .bf16⟩
  | .local _ .vmem, ⟨2, _⟩ => ⟨S2x2048x1152, .bf16⟩
  | .local _ .vmem, ⟨3, _⟩ => ⟨S2x2048x1152, .bf16⟩
  | .local _ .vmem, ⟨4, _⟩ => ⟨S512x2304, .f32⟩
  | .local _ .vmem, ⟨5, _⟩ => ⟨S512x2304, .f32⟩
  | .local _ .vmem, ⟨6, _⟩ => ⟨S8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2x2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S2048x9216 : Shape := ⟨2, ![2048, 9216]⟩
abbrev S8192x9216 : Shape := ⟨2, ![8192, 9216]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x9216, .f32⟩
  | .hbm, ⟨2, _⟩ => ⟨S8192x9216, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel10.lean ====
abbrev S8192x2048 : Shape := ⟨2, ![8192, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S8192x8192 : Shape := ⟨2, ![8192, 8192]⟩
abbrev S1024x2048 : Shape := ⟨2, ![1024, 2048]⟩
abbrev S1x2048x1024 : Shape := ⟨3, ![1, 2048, 1024]⟩
abbrev S1024x1024 : Shape := ⟨2, ![1024, 1024]⟩
abbrev S8x128 : Shape := ⟨2, ![8, 128]⟩
abbrev S2048x1024 : Shape := ⟨2, ![2048, 1024]⟩

abbrev nBuf : Space → Nat
  | .hbm => 8
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .bf16⟩
  | .hbm, ⟨3, _⟩ => ⟨S2048x8x1024, .f32⟩
  | .hbm, ⟨4, _⟩ => ⟨S8x2048x1024, .f32⟩
  | .hbm, ⟨5, _⟩ => ⟨S8x2048x1024, .bf16⟩
  | .hbm, ⟨6, _⟩ => ⟨S8192x8192, .f32⟩
  | .hbm, ⟨7, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel11.lean ====
abbrev S8192x8192 : Shape := ⟨2, ![8192, 8192]⟩
abbrev S8192x2048 : Shape := ⟨2, ![8192, 2048]⟩
abbrev S1x8192x2048 : Shape := ⟨3, ![1, 8192, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S8192x8192, .bf16⟩
  | .hbm, ⟨4, _⟩ => ⟨S8192x2048, .bf16⟩
  | .hbm, ⟨5, _⟩ => ⟨S1x8192x2048, .bf16⟩
  | .hbm, ⟨6, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S8192x8192 : Shape := ⟨2, ![8192, 8192]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel12.lean ====
abbrev S8192x2048 : Shape := ⟨2, ![8192, 2048]⟩
abbrev S2048x2048 : Shape := ⟨2, ![2048, 2048]⟩
abbrev S1x2048x2048 : Shape := ⟨3, ![1, 2048, 2048]⟩
abbrev S16x8x8192 : Shape := ⟨3, ![16, 8, 8192]⟩
abbrev S1024x2048 : Shape := ⟨2, ![1024, 2048]⟩
abbrev S1x1024x2048 : Shape := ⟨3, ![1, 1024, 2048]⟩
abbrev S1024x1024 : Shape := ⟨2, ![1024, 1024]⟩
abbrev S8x8x1024 : Shape := ⟨3, ![8, 8, 1024]⟩
abbrev S8x128 : Shape := ⟨2, ![8, 128]⟩
abbrev S1024x128 : Shape := ⟨2, ![1024, 128]⟩
abbrev S128x1024 : Shape := ⟨2, ![128, 1024]⟩
abbrev S1024 : Shape := ⟨1, ![1024]⟩
abbrev S1x1024 : Shape := ⟨2, ![1, 1024]⟩
abbrev S8x1024 : Shape := ⟨2, ![8, 1024]⟩
abbrev S1x8x1024 : Shape := ⟨3, ![1, 8, 1024]⟩

abbrev nBuf : Space → Nat
  | .hbm => 9
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .hbm, ⟨5, _⟩ => ⟨S1x2048x2048, .bf16⟩
  | .hbm, ⟨6, _⟩ => ⟨S8192x2048, .bf16⟩
  | .hbm, ⟨7, _⟩ => ⟨S8192x2048, .bf16⟩
  | .hbm, ⟨8, _⟩ => ⟨S16x8x8192, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S8x8x1024, .f32⟩
  | .local _ .vmem, ⟨9, _⟩ => ⟨S8x8x1024, .f32⟩
  | .local _ .vmem, ⟨10, _⟩ => ⟨S8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S8x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference12Ideal.lean ====
abbrev S8192x2048 : Shape := ⟨2, ![8192, 2048]⟩
abbrev S2048x2048 : Shape := ⟨2, ![2048, 2048]⟩
abbrev S_ : Shape := ⟨0, ![]⟩
abbrev S8192x16x128 : Shape := ⟨3, ![8192, 16, 128]⟩
abbrev S8192x16 : Shape := ⟨2, ![8192, 16]⟩
abbrev S16x8192 : Shape := ⟨2, ![16, 8192]⟩
abbrev S16x1x8192 : Shape := ⟨3, ![16, 1, 8192]⟩
abbrev S16x8x8192 : Shape := ⟨3, ![16, 8, 8192]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x16x128, .f32⟩
  | .hbm, ⟨8, _⟩ => ⟨S8192x16x128, .f32⟩
  | .hbm, ⟨9, _⟩ => ⟨S8192x16x128, .f32⟩
  | .hbm, ⟨10, _⟩ => ⟨S_, .f32⟩
  | .hbm, ⟨11, _⟩ => ⟨S8192x16, .f32⟩
  | .hbm, ⟨12, _⟩ => ⟨S8192x2048, .bf16⟩
  | .hbm, ⟨13, _⟩ => ⟨S16x8192, .f32⟩
  | .hbm, ⟨14, _⟩ => ⟨S16x1x8192, .f32⟩
  | .hbm, ⟨15, _⟩ => ⟨S16x8x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel13.lean ====
abbrev S8192x2048 : Shape := ⟨2, ![8192, 2048]⟩
abbrev S2048x2048 : Shape := ⟨2, ![2048, 2048]⟩
abbrev S8192x9216 : Shape := ⟨2, ![8192, 9216]⟩
abbrev S1x2048x2048 : Shape := ⟨3, ![1, 2048, 2048]⟩
abbrev S512x2048 : Shape := ⟨2, ![512, 2048]⟩
abbrev S1x2048x1024 : Shape := ⟨3, ![1, 2048, 1024]⟩
abbrev S512x1024 : Shape := ⟨2, ![512, 1024]⟩
abbrev S8x128 : Shape := ⟨2, ![8, 128]⟩
abbrev S2048x1024 : Shape := ⟨2, ![2048, 1024]⟩

abbrev nBuf : Space → Nat
  | .hbm => 9
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x9216, .f32⟩
  | .hbm, ⟨3, _⟩ => ⟨S8192x2048, .f32⟩
  | .hbm, ⟨4, _⟩ => ⟨S8192x2048, .bf16⟩
  | .hbm, ⟨5, _⟩ => ⟨S2048x2048, .bf16⟩
  | .hbm, ⟨6, _⟩ => ⟨S1x2048x2048, .bf16⟩
  | .hbm, ⟨7, _⟩ => ⟨S8192x2048, .f32⟩
  | .hbm, ⟨8, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi c5_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi c7_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference13Ideal.lean ====
abbrev S8192x2048 : Shape := ⟨2, ![8192, 2048]⟩
abbrev S2048x2048 : Shape := ⟨2, ![2048, 2048]⟩
abbrev S8192x9216 : Shape := ⟨2, ![8192, 9216]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x9216, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel14.lean ====
abbrev S8192x2048 : Shape := ⟨2, ![8192, 2048]⟩
abbrev S2048x2048 : Shape := ⟨2, ![2048, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S8x128 : Shape := ⟨2, ![8, 128]⟩
abbrev S2048x1024 : Shape := ⟨2, ![2048, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .hbm, ⟨5, _⟩ => ⟨S1x2048x2048, .bf16⟩
  | .hbm, ⟨6, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel15.lean ====
abbrev S8192x2048 : Shape := ⟨2, ![8192, 2048]⟩
abbrev S1x2048x2048 : Shape := ⟨3, ![1, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S1x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x2048 : Shape := ⟨2, ![8192, 2048]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | .hbm, ⟨8, _⟩ => ⟨S1x2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S8192x2048 : Shape := ⟨2, ![8192, 2048]⟩
abbrev S1x2048x2048 : Shape := ⟨3, ![1, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S8192x2048, .bf16⟩
  | .hbm, ⟨4, _⟩ => ⟨S1x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x2048 : Shape := ⟨2, ![8192, 2048]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | .hbm, ⟨8, _⟩ => ⟨S1x2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S8192x2048 : Shape := ⟨2, ![8192, 2048]⟩
abbrev S2048x2048 : Shape := ⟨2, ![2048, 2048]⟩
abbrev S1x2048x2048 : Shape := ⟨3, ![1, 2048, 2048]⟩
abbrev S1024x2048 : Shape := ⟨2, ![1024, 2048]⟩
abbrev S1x1024x2048 : Shape := ⟨3, ![1, 1024, 2048]⟩
abbrev S1024x1024 : Shape := ⟨2, ![1024, 1024]⟩
abbrev S8x128 : Shape := ⟨2, ![8, 128]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S1x2048x2048, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel18.lean ====
abbrev S8192x2048 : Shape := ⟨2, ![8192, 2048]⟩
abbrev S2048x2048 : Shape := ⟨2, ![2048, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S8x128 : Shape := ⟨2, ![8, 128]⟩
abbrev S2048x1024 : Shape := ⟨2, ![2048, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S1x2048x2048, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel19.lean ====
abbrev S8192x1024 : Shape := ⟨2, ![8192, 1024]⟩
abbrev S8192x2048 : Shape := ⟨2, ![8192, 2048]⟩
abbrev S8x1024x256 : Shape := ⟨3, ![8, 1024, 256]⟩
abbrev S2048x1024 : Shape := ⟨2, ![2048, 1024]⟩
abbrev S2048x256 : Shape := ⟨2, ![2048, 256]⟩
abbrev S1x1024x256 : Shape := ⟨3, ![1, 1024, 256]⟩
abbrev S1024x256 : Shape := ⟨2, ![1024, 256]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .bf16⟩
  | .hbm, ⟨3, _⟩ => ⟨S8192x2048, .bf16⟩
  | .hbm, ⟨4, _⟩ => ⟨S8x1024x256, .bf16⟩
  | .local _ .vmem, ⟨0, _⟩ => ⟨S2048x1024, .bf16⟩
  | .local _ .vmem, ⟨1, _⟩ => ⟨S2048x1024, .bf16⟩
  | .local _ .vmem, ⟨2, _⟩ => ⟨S2048x256, .bf16⟩
  | .local _ .vmem, ⟨3, _⟩ => ⟨S2048x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | .hbm, ⟨7, _⟩ => ⟨S1024x8x256, .f32⟩
  | .hbm, ⟨8, _⟩ => ⟨S8x1024x256, .f32⟩
  | .hbm, ⟨9, _⟩ => ⟨S8x1024x256, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel20.lean ====
abbrev S8192x2048 : Shape := ⟨2, ![8192, 2048]⟩
abbrev S1024x2048 : Shape := ⟨2, ![1024, 2048]⟩
abbrev S1024x8x256 : Shape := ⟨3, ![1024, 8, 256]⟩
abbrev S8x1024x256 : Shape := ⟨3, ![8, 1024, 256]⟩
abbrev S8192x1024 : Shape := ⟨2, ![8192, 1024]⟩
abbrev S1024x1024 : Shape := ⟨2, ![1024, 1024]⟩
abbrev S8x128 : Shape := ⟨2, ![8, 128]⟩
abbrev S1x1024x256 : Shape := ⟨3, ![1, 1024, 256]⟩
abbrev S1024x256 : Shape := ⟨2, ![1024, 256]⟩

abbrev nBuf : Space → Nat
  | .hbm => 7
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S1024x2048, .f32⟩
  | .hbm, ⟨2, _⟩ => ⟨S8192x2048, .bf16⟩
  | .hbm, ⟨3, _⟩ => ⟨S1024x8x256, .f32⟩
  | .hbm, ⟨4, _⟩ => ⟨S8x1024x256, .f32⟩
  | .hbm, ⟨5, _⟩ => ⟨S8x1024x256, .bf16⟩
  | .hbm, ⟨6, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S8x1024x256, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1024x2048, .f32⟩
  | .hbm, ⟨2, _⟩ => ⟨S_, .f32⟩
  | .hbm, ⟨3, _⟩ => ⟨S8192x1024, .f32⟩
  | .hbm, ⟨4, _⟩ => ⟨S8192x2048, .f32⟩
  | .hbm, ⟨5, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel21.lean ====
abbrev S8192x1024 : Shape := ⟨2, ![8192, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S8192x2048 : Shape := ⟨2, ![8192, 2048]⟩
abbrev S1024x1024 : Shape := ⟨2, ![1024, 1024]⟩
abbrev S1x1024x256 : Shape := ⟨3, ![1, 1024, 256]⟩
abbrev S1024x256 : Shape := ⟨2, ![1024, 256]⟩
abbrev S8x128 : Shape := ⟨2, ![8, 128]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x1024, .bf16⟩
  | .hbm, ⟨3, _⟩ => ⟨S1024x8x256, .f32⟩
  | .hbm, ⟨4, _⟩ => ⟨S8x1024x256, .f32⟩
  | .hbm, ⟨5, _⟩ => ⟨S8x1024x256, .bf16⟩
  | .hbm, ⟨6, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1024x256, .f32⟩
  | .local _ .vmem, ⟨5, _⟩ => ⟨S1024x256, .f32⟩
  | .local _ .vmem, ⟨6, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel22.lean ====
abbrev S8192x256 : Shape := ⟨2, ![8192, 256]⟩
abbrev S8192x2048 : Shape := ⟨2, ![8192, 2048]⟩
abbrev S8x256x256 : Shape := ⟨3, ![8, 256, 256]⟩
abbrev S2048x256 : Shape := ⟨2, ![2048, 256]⟩
abbrev S1x256x256 : Shape := ⟨3, ![1, 256, 256]⟩
abbrev S256x256 : Shape := ⟨2, ![256, 256]⟩

abbrev nBuf : Space → Nat
  | .hbm => 4
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S8192x2048, .f32⟩
  | .hbm, ⟨2, _⟩ => ⟨S8192x2048, .bf16⟩
  | .hbm, ⟨3, _⟩ => ⟨S8x256x256, .bf16⟩
  | .local _ .vmem, ⟨0, _⟩ => ⟨S2048x256, .f32⟩
  | .local _ .vmem, ⟨1, _⟩ => ⟨S2048x256, .f32⟩
  | .local _ .vmem, ⟨2, _⟩ => ⟨S2048x256, .bf16⟩
  | .local _ .vmem, ⟨3, _⟩ => ⟨S2048x256, .bf16⟩
  | .local _ .vmem, ⟨4, _⟩ => ⟨S1x256x256, .bf16⟩
  | .local _ .vmem, ⟨5, _⟩ => ⟨S1x256x256, .bf16⟩
  | .local _ .vmem, ⟨6, _⟩ => ⟨S256x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S8192x256 : Shape := ⟨2, ![8192, 256]⟩
abbrev S8192x2048 : Shape := ⟨2, ![8192, 2048]⟩
abbrev S_ : Shape := ⟨0, ![]⟩
abbrev S256x2048 : Shape := ⟨2, ![256, 2048]⟩
abbrev S2048x256 : Shape := ⟨2, ![2048, 256]⟩
abbrev S256x8x256 : Shape := ⟨3, ![256, 8, 256]⟩
abbrev S8x256x256 : Shape := ⟨3, ![8, 256, 256]⟩

abbrev nBuf : Space → Nat
  | .hbm => 10
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x2048, .f32⟩
  | .hbm, ⟨2, _⟩ => ⟨S_, .f32⟩
  | .hbm, ⟨3, _⟩ => ⟨S256x2048, .f32⟩
  | .hbm, ⟨4, _⟩ => ⟨S8192x2048, .f32⟩
  | .hbm, ⟨5, _⟩ => ⟨S2048x256, .f32⟩
  | .hbm, ⟨6, _⟩ => ⟨S256x2048, .f32⟩
  | .hbm, ⟨7, _⟩ => ⟨S256x8x256, .f32⟩
  | .hbm, ⟨8, _⟩ => ⟨S8x256x256, .f32⟩
  | .hbm, ⟨9, _⟩ => ⟨S8x256x256, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel23.lean ====
abbrev S8192x256 : Shape := ⟨2, ![8192, 256]⟩
abbrev S256x2048 : Shape := ⟨2, ![256, 2048]⟩
abbrev S256x8x256 : Shape := ⟨3, ![256, 8, 256]⟩
abbrev S8x256x256 : Shape := ⟨3, ![8, 256, 256]⟩
abbrev S8192x2048 : Shape := ⟨2, ![8192, 2048]⟩
abbrev S1024x256 : Shape := ⟨2, ![1024, 256]⟩
abbrev S1x256x256 : Shape := ⟨3, ![1, 256, 256]⟩
abbrev S8x128 : Shape := ⟨2, ![8, 128]⟩
abbrev S256x256 : Shape := ⟨2, ![256, 256]⟩

abbrev nBuf : Space → Nat
  | .hbm => 6
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S256x8x256, .f32⟩
  | .hbm, ⟨3, _⟩ => ⟨S8x256x256, .f32⟩
  | .hbm, ⟨4, _⟩ => ⟨S8x256x256, .bf16⟩
  | .hbm, ⟨5, _⟩ => ⟨S8192x2048, .f32⟩
  | .local _ .vmem, ⟨0, _⟩ => ⟨S1024x256, .f32⟩
  | .local _ .vmem, ⟨1, _⟩ => ⟨S1024x256, .f32⟩
  | .local _ .vmem, ⟨2, _⟩ => ⟨S1x256x256, .bf16⟩
  | .local _ .vmem, ⟨3, _⟩ => ⟨S1x256x256, .bf16⟩
  | .local _ .vmem, ⟨4, _⟩ => ⟨S1024x256, .f32⟩
  | .local _ .vmem, ⟨5, _⟩ => ⟨S1024x256, .f32⟩
  | .local _ .vmem, ⟨6, _⟩ => ⟨S8x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S8192x256 : Shape := ⟨2, ![8192, 256]⟩
abbrev S256x2048 : Shape := ⟨2, ![256, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S8192x2048, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel24.lean ====
abbrev S8192x2048 : Shape := ⟨2, ![8192, 2048]⟩
abbrev S8192x512 : Shape := ⟨2, ![8192, 512]⟩
abbrev S8192x9216 : Shape := ⟨2, ![8192, 9216]⟩
abbrev S_ : Shape := ⟨0, ![]⟩
abbrev S512x8192 : Shape := ⟨2, ![512, 8192]⟩
abbrev S4x128x8192 : Shape := ⟨3, ![4, 128, 8192]⟩
abbrev S4x16x8192 : Shape := ⟨3, ![4, 16, 8192]⟩
abbrev S4x144x8192 : Shape := ⟨3, ![4, 144, 8192]⟩
abbrev S576x8192 : Shape := ⟨2, ![576, 8192]⟩
abbrev S16x8x8192 : Shape := ⟨3, ![16, 8, 8192]⟩
abbrev S2048x128 : Shape := ⟨2, ![2048, 128]⟩
abbrev S1024x128 : Shape := ⟨2, ![1024, 128]⟩
abbrev S144x1024 : Shape := ⟨2, ![144, 1024]⟩
abbrev S1x8x2048 : Shape := ⟨3, ![1, 8, 2048]⟩
abbrev S1x2048 : Shape := ⟨2, ![1, 2048]⟩
abbrev S144x2048 : Shape := ⟨2, ![144, 2048]⟩
abbrev S1024x2048 : Shape := ⟨2, ![1024, 2048]⟩
abbrev S2048 : Shape := ⟨1, ![2048]⟩
abbrev S128x2048 : Shape := ⟨2, ![128, 2048]⟩
abbrev S8x2048 : Shape := ⟨2, ![8, 2048]⟩

abbrev nBuf : Space → Nat
  | .hbm => 21
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S8192x9216, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S8192x2048, .bf16⟩
  | .hbm, ⟨10, _⟩ => ⟨S8192x512, .f32⟩
  | .hbm, ⟨11, _⟩ => ⟨S512x8192, .f32⟩
  | .hbm, ⟨12, _⟩ => ⟨S512x8192, .bf16⟩
  | .hbm, ⟨13, _⟩ => ⟨S4x128x8192, .bf16⟩
  | .hbm, ⟨14, _⟩ => ⟨S_, .bf16⟩
  | .hbm, ⟨15, _⟩ => ⟨S4x16x8192, .bf16⟩
  | .hbm, ⟨16, _⟩ => ⟨S4x144x8192, .bf16⟩
  | .hbm, ⟨17, _⟩ => ⟨S576x8192, .bf16⟩
  | .hbm, ⟨18, _⟩ => ⟨S8192x512, .bf16⟩
  | .hbm, ⟨19, _⟩ => ⟨S8192x2048, .f32⟩
  | .hbm, ⟨20, _⟩ => ⟨S16x8x8192, .f32⟩
  | .local _ .vmem, ⟨0, _⟩ => ⟨S2048x128, .bf16⟩
  | .local _ .vmem, ⟨1, _⟩ => ⟨S2048x128, .bf16⟩
  | .local _ .vmem, ⟨2, _⟩ => ⟨S1024x128, .bf16⟩
  | .local _ .vmem, ⟨3, _⟩ => ⟨S1024x128, .bf16⟩
  | .local _ .vmem, ⟨4, _⟩ => ⟨S144x1024, .bf16⟩
  | .local _ .vmem, ⟨5, _⟩ => ⟨S144x1024, .bf16⟩
  | .local _ .vmem, ⟨6, _⟩ => ⟨S2048x128, .f32⟩
  | .local _ .vmem, ⟨7, _⟩ => ⟨S2048x128, .f32⟩
  | .local _ .vmem, ⟨8, _⟩ => ⟨S1x8x2048, .f32⟩
  | .local _ .vmem, ⟨9, _⟩ => ⟨S1x8x2048, .f32⟩
  | .local _ .vmem, ⟨10, _⟩ => ⟨S1x2048, .f32⟩
  | .local _ .vmem, ⟨11, _⟩ => ⟨S144x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 8], ![false, false, false]⟩

def k0_cond2 (i : grid0.Coords) : BitVec 1 :=
  let arg2 : BitVec 32 := BitVec.ofNat 32 (i 2).val
  let c7_i32 : BitVec 32 := 7#32
  let v31 : BitVec 1 := Scalar.cmpi .eq arg2 c7_i32
  let v32 : BitVec 32 := Scalar.extui v31
  let c0_i32_16 : BitVec 32 := 0#32
  let v33 : BitVec 1 := Scalar.cmpi .ne v32 c0_i32_16
  v33

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg2.toNat, v16.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![v16.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S144x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Kernel24Ideal.lean ====
variable {F : FTy → Type} [FloatOps F] [Named F]
def κ : String → Option EReal := fun
  | "log2e" => some (((Real.log 2)⁻¹ : ℝ) : EReal)
  | _ => none
-- ==== Reference24Ideal.lean ====
abbrev S8192x2048 : Shape := ⟨2, ![8192, 2048]⟩
abbrev S8192x512 : Shape := ⟨2, ![8192, 512]⟩
abbrev S8192x9216 : Shape := ⟨2, ![8192, 9216]⟩
abbrev S8192x16x128 : Shape := ⟨3, ![8192, 16, 128]⟩
abbrev S8192x4x128 : Shape := ⟨3, ![8192, 4, 128]⟩
abbrev S8192x4x4x128 : Shape := ⟨4, ![8192, 4, 4, 128]⟩
abbrev S16x8192x8192 : Shape := ⟨3, ![16, 8192, 8192]⟩
abbrev S_ : Shape := ⟨0, ![]⟩
abbrev S16x8192 : Shape := ⟨2, ![16, 8192]⟩
abbrev S16x8192x1 : Shape := ⟨3, ![16, 8192, 1]⟩
abbrev S16x128x8192 : Shape := ⟨3, ![16, 128, 8192]⟩
abbrev S16x1x8192 : Shape := ⟨3, ![16, 1, 8192]⟩
abbrev S16x8x8192 : Shape := ⟨3, ![16, 8, 8192]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S8192x9216, .f32⟩
  | .hbm, ⟨3, _⟩ => ⟨S8192x16x128, .f32⟩
  | .hbm, ⟨4, _⟩ => ⟨S8192x4x128, .f32⟩
  | .hbm, ⟨5, _⟩ => ⟨S8192x4x4x128, .f32⟩
  | .hbm, ⟨6, _⟩ => ⟨S8192x16x128, .f32⟩
  | .hbm, ⟨7, _⟩ => ⟨S8192x512, .f32⟩
  | .hbm, ⟨8, _⟩ => ⟨S8192x4x128, .f32⟩
  | .hbm, ⟨9, _⟩ => ⟨S8192x4x4x128, .f32⟩
  | .hbm, ⟨10, _⟩ => ⟨S8192x16x128, .f32⟩
  | .hbm, ⟨11, _⟩ => ⟨S16x8192x8192, .f32⟩
  | .hbm, ⟨12, _⟩ => ⟨S_, .f32⟩
  | .hbm, ⟨13, _⟩ => ⟨S16x8192x8192, .f32⟩
  | .hbm, ⟨14, _⟩ => ⟨S16x8192x8192, .f32⟩
  | .hbm, ⟨15, _⟩ => ⟨S_, .f32⟩
  | .hbm, ⟨16, _⟩ => ⟨S16x8192, .f32⟩
  | .hbm, ⟨17, _⟩ => ⟨S16x8192x1, .f32⟩
  | .hbm, ⟨18, _⟩ => ⟨S16x8192x8192, .f32⟩
  | .hbm, ⟨19, _⟩ => ⟨S16x8192x8192, .f32⟩
  | .hbm, ⟨20, _⟩ => ⟨S16x8192x8192, .f32⟩
  | .hbm, ⟨21, _⟩ => ⟨S_, .f32⟩
  | .hbm, ⟨22, _⟩ => ⟨S16x8192, .f32⟩
  | .hbm, ⟨23, _⟩ => ⟨S16x8192, .f32⟩
  | .hbm, ⟨24, _⟩ => ⟨S16x8192, .f32⟩
  | .hbm, ⟨25, _⟩ => ⟨S_, .f32⟩
  | .hbm, ⟨26, _⟩ => ⟨S_, .f32⟩
  | .hbm, ⟨27, _⟩ => ⟨S16x8192, .f32⟩
  | .hbm, ⟨28, _⟩ => ⟨S16x8192, .f32⟩
  | .hbm, ⟨29, _⟩ => ⟨S16x8192x8192, .f32⟩
  | .hbm, ⟨30, _⟩ => ⟨S_, .f32⟩
  | .hbm, ⟨31, _⟩ => ⟨S16x8192x8192, .f32⟩
  | .hbm, ⟨32, _⟩ => ⟨S16x8192x8192, .f32⟩
  | .hbm, ⟨33, _⟩ => ⟨S_, .f32⟩
  | .hbm, ⟨34, _⟩ => ⟨S16x8192, .f32⟩
  | .hbm, ⟨35, _⟩ => ⟨S_, .f32⟩
  | .hbm, ⟨36, _⟩ => ⟨S16x8192, .f32⟩
  | .hbm, ⟨37, _⟩ => ⟨S16x8192, .f32⟩
  | .hbm, ⟨38, _⟩ => ⟨S16x8192x1, .f32⟩
  | .hbm, ⟨39, _⟩ => ⟨S16x8192x8192, .f32⟩
  | .hbm, ⟨40, _⟩ => ⟨S16x8192x8192, .f32⟩
  | .hbm, ⟨41, _⟩ => ⟨S16x8192x8192, .f32⟩
  | .hbm, ⟨42, _⟩ => ⟨S_, .f32⟩
  | .hbm, ⟨43, _⟩ => ⟨S16x8192, .f32⟩
  | .hbm, ⟨44, _⟩ => ⟨S16x8192x1, .f32⟩
  | .hbm, ⟨45, _⟩ => ⟨S16x8192x8192, .f32⟩
  | .hbm, ⟨46, _⟩ => ⟨S16x8192x8192, .f32⟩
  | .hbm, ⟨47, _⟩ => ⟨S16x128x8192, .f32⟩
  | .hbm, ⟨48, _⟩ => ⟨S8192x16x128, .f32⟩
  | .hbm, ⟨49, _⟩ => ⟨S8192x2048, .f32⟩
  | .hbm, ⟨50, _⟩ => ⟨S16x1x8192, .f32⟩
  | .hbm, ⟨51, _⟩ => ⟨S16x8x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== Kernel25.lean ====
abbrev S8192x2048 : Shape := ⟨2, ![8192, 2048]⟩
abbrev S1x2048 : Shape := ⟨2, ![1, 2048]⟩
abbrev S8x2048 : Shape := ⟨2, ![8, 2048]⟩
abbrev S512x2048 : Shape := ⟨2, ![512, 2048]⟩
abbrev S512 : Shape := ⟨1, ![512]⟩
abbrev S512x1 : Shape := ⟨2, ![512, 1]⟩
abbrev S64x8x2048 : Shape := ⟨3, ![64, 8, 2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c0_i32 : BitVec 32 := 0#32
  let v35 : BitVec 1 := Scalar.cmpi .eq arg1 c0_i32
  let v36 : BitVec 32 := Scalar.extui v35
  let c0_i32_14 : BitVec 32 := 0#32
  let v37 : BitVec 1 := Scalar.cmpi .ne v36 c0_i32_14
  v37

def k0_cond2 (i : grid0.Coords) : BitVec 1 :=
  let arg1 : BitVec 32 := BitVec.ofNat 32 (i 1).val
  let c0_i32 : BitVec 32 := 0#32
  let v35 : BitVec 1 := Scalar.cmpi .eq arg1 c0_i32
  let v_true : BitVec 1 := 1#1
  let v38 : BitVec 1 := Scalar.xori v35 v_true
  let v39 : BitVec 32 := Scalar.extui v38
  let c0_i32_15 : BitVec 32 := 0#32
  let v40 : BitVec 1 := Scalar.cmpi .ne v39 c0_i32_15
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== Reference25Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S1024x8x2048 : Shape := ⟨3, ![1024, 8, 2048]⟩
abbrev S8x2048 : Shape := ⟨2, ![8, 2048]⟩

abbrev nBuf : Space → Nat
  | .hbm => 46
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S1024x8x2048, .f32⟩
  | .hbm, ⟨44, _⟩ => ⟨S_, .f32⟩
  | .hbm, ⟨45, _⟩ => ⟨S8x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Kernel26.lean ====
abbrev S8x2048x1152 : Shape := ⟨3, ![8, 2048, 1152]⟩
abbrev S2048x1152 : Shape := ⟨2, ![2048, 1152]⟩
abbrev S16384x1152 : Shape := ⟨2, ![16384, 1152]⟩
abbrev S128x1152 : Shape := ⟨2, ![128, 1152]⟩

abbrev nBuf : Space → Nat
  | .hbm => 9
  | .vmem => 30
  | .smem => 0
  | _ => 0

abbrev bufTy : (tb : Table) → Fin (tcTables nBuf tb) → BufTy
  | .hbm, ⟨0, _⟩ => ⟨S8x2048x1152, .bf16⟩
  | .hbm, ⟨1, _⟩ => ⟨S2048x1152, .f32⟩
  | .hbm, ⟨2, _⟩ => ⟨S2048x1152, .f32⟩
  | .hbm, ⟨3, _⟩ => ⟨S2048x1152, .f32⟩
  | .hbm, ⟨4, _⟩ => ⟨S16384x1152, .bf16⟩
  | .hbm, ⟨5, _⟩ => ⟨S2048x1152, .f32⟩
  | .hbm, ⟨6, _⟩ => ⟨S2048x1152, .f32⟩
  | .hbm, ⟨7, _⟩ => ⟨S2048x1152, .f32⟩
  | .hbm, ⟨8, _⟩ => ⟨S2048x1152, .f32⟩
  | .local _ .vmem, ⟨0, _⟩ => ⟨S128x1152, .bf16⟩
  | .local _ .vmem, ⟨1, _⟩ => ⟨S128x1152, .bf16⟩
  | .local _ .vmem, ⟨2, _⟩ => ⟨S128x1152, .bf16⟩
  | .local _ .vmem, ⟨3, _⟩ => ⟨S128x1152, .bf16⟩
  | .local _ .vmem, ⟨4, _⟩ => ⟨S128x1152, .bf16⟩
  | .local _ .vmem, ⟨5, _⟩ => ⟨S128x1152, .bf16⟩
  | .local _ .vmem, ⟨6, _⟩ => ⟨S128x1152, .bf16⟩
  | .local _ .vmem, ⟨7, _⟩ => ⟨S128x1152, .bf16⟩
  | .local _ .vmem, ⟨8, _⟩ => ⟨S128x1152, .bf16⟩
  | .local _ .vmem, ⟨9, _⟩ => ⟨S128x1152, .bf16⟩
  | .local _ .vmem, ⟨10, _⟩ => ⟨S128x1152, .bf16⟩
  | .local _ .vmem, ⟨11, _⟩ => ⟨S128x1152, .bf16⟩
  | .local _ .vmem, ⟨12, _⟩ => ⟨S128x1152, .bf16⟩
  | .local _ .vmem, ⟨13, _⟩ => ⟨S128x1152, .bf16⟩
  | .local _ .vmem, ⟨14, _⟩ => ⟨S128x1152, .bf16⟩
  | .local _ .vmem, ⟨15, _⟩ => ⟨S128x1152, .bf16⟩
  | .local _ .vmem, ⟨16, _⟩ => ⟨S128x1152, .f32⟩
  | .local _ .vmem, ⟨17, _⟩ => ⟨S128x1152, .f32⟩
  | .local _ .vmem, ⟨18, _⟩ => ⟨S128x1152, .f32⟩
  | .local _ .vmem, ⟨19, _⟩ => ⟨S128x1152, .f32⟩
  | .local _ .vmem, ⟨20, _⟩ => ⟨S128x1152, .f32⟩
  | .local _ .vmem, ⟨21, _⟩ => ⟨S128x1152, .f32⟩
  | .local _ .vmem, ⟨22, _⟩ => ⟨S128x1152, .f32⟩
  | .local _ .vmem, ⟨23, _⟩ => ⟨S128x1152, .f32⟩
  | .local _ .vmem, ⟨24, _⟩ => ⟨S128x1152, .f32⟩
  | .local _ .vmem, ⟨25, _⟩ => ⟨S128x1152, .f32⟩
  | .local _ .vmem, ⟨26, _⟩ => ⟨S128x1152, .f32⟩
  | .local _ .vmem, ⟨27, _⟩ => ⟨S128x1152, .f32⟩
  | .local _ .vmem, ⟨28, _⟩ => ⟨S128x1152, .f32⟩
  | .local _ .vmem, ⟨29, _⟩ => ⟨S128x1152, .f32⟩
  | _, _ => ⟨S8x2048x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_3 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_5 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.addi c80_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_6 (i : grid0.Coords) : Fin 2 → Nat :=
  let arg0 : BitVec 32 := BitVec.ofNat 32 (i 0).val
  let arg1 : BitVec 32 := BitVec.ofNat 32 (i 1).val
  let c96_i32 : BitVec 32 := 96#32
  let v0 : BitVec 32 := Scalar.addi c96_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_7 (i : grid0.Coords) : Fin 2 → Nat :=
  let arg0 : BitVec 32 := BitVec.ofNat 32 (i 0).val
  let arg1 : BitVec 32 := BitVec.ofNat 32 (i 1).val
  let c112_i32 : BitVec 32 := 112#32
  let v0 : BitVec 32 := Scalar.addi c112_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1152 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1152 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1152 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1152 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x1152 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1152 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x1152 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x1152 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x1152 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x1152 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference26Ideal.lean ====
abbrev S8x2048x1152 : Shape := ⟨3, ![8, 2048, 1152]⟩
abbrev S2048x1152 : Shape := ⟨2, ![2048, 1152]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x1152, .bf16⟩
  | .hbm, ⟨1, _⟩ => ⟨S2048x1152, .f32⟩
  | .hbm, ⟨2, _⟩ => ⟨S2048x1152, .f32⟩
  | .hbm, ⟨3, _⟩ => ⟨S2048x1152, .f32⟩
  | .hbm, ⟨4, _⟩ => ⟨S8x2048x1152, .f32⟩
  | .hbm, ⟨5, _⟩ => ⟨S_, .f32⟩
  | .hbm, ⟨6, _⟩ => ⟨S2048x1152, .f32⟩
  | .hbm, ⟨7, _⟩ => ⟨S_, .f32⟩
  | .hbm, ⟨8, _⟩ => ⟨S2048x1152, .f32⟩
  | .hbm, ⟨9, _⟩ => ⟨S2048x1152, .f32⟩
  | .hbm, ⟨10, _⟩ => ⟨S_, .f32⟩
  | .hbm, ⟨11, _⟩ => ⟨S2048x1152, .f32⟩
  | .hbm, ⟨12, _⟩ => ⟨S2048x1152, .f32⟩
  | .hbm, ⟨13, _⟩ => ⟨S2048x1152, .f32⟩
  | .hbm, ⟨14, _⟩ => ⟨S_, .f32⟩
  | .hbm, ⟨15, _⟩ => ⟨S2048x1152, .f32⟩
  | .hbm, ⟨16, _⟩ => ⟨S2048x1152, .f32⟩
  | .hbm, ⟨17, _⟩ => ⟨S2048x1152, .f32⟩
  | .hbm, ⟨18, _⟩ => ⟨S_, .f32⟩
  | .hbm, ⟨19, _⟩ => ⟨S2048x1152, .f32⟩
  | .hbm, ⟨20, _⟩ => ⟨S2048x1152, .f32⟩
  | .hbm, ⟨21, _⟩ => ⟨S2048x1152, .f32⟩
  | .hbm, ⟨22, _⟩ => ⟨S_, .f32⟩
  | .hbm, ⟨23, _⟩ => ⟨S2048x1152, .f32⟩
  | .hbm, ⟨24, _⟩ => ⟨S2048x1152, .f32⟩
  | .hbm, ⟨25, _⟩ => ⟨S_, .f32⟩
  | .hbm, ⟨26, _⟩ => ⟨S2048x1152, .f32⟩
  | .hbm, ⟨27, _⟩ => ⟨S2048x1152, .f32⟩
  | .hbm, ⟨28, _⟩ => ⟨S2048x1152, .f32⟩
  | .hbm, ⟨29, _⟩ => ⟨S_, .f32⟩
  | .hbm, ⟨30, _⟩ => ⟨S2048x1152, .f32⟩
  | .hbm, ⟨31, _⟩ => ⟨S2048x1152, .f32⟩
  | .hbm, ⟨32, _⟩ => ⟨S2048x1152, .f32⟩
  | .hbm, ⟨33, _⟩ => ⟨S_, .f32⟩
  | .hbm, ⟨34, _⟩ => ⟨S2048x1152, .f32⟩
  | .hbm, ⟨35, _⟩ => ⟨S2048x1152, .f32⟩
  | .hbm, ⟨36, _⟩ => ⟨S2048x1152, .f32⟩
  | .hbm, ⟨37, _⟩ => ⟨S_, .f32⟩
  | .hbm, ⟨38, _⟩ => ⟨S2048x1152, .f32⟩
  | .hbm, ⟨39, _⟩ => ⟨S2048x1152, .f32⟩
  | _, _ => ⟨S8x2048x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel27.lean ====
abbrev S8x256x2048 : Shape := ⟨3, ![8, 256, 2048]⟩
abbrev S256x2048 : Shape := ⟨2, ![256, 2048]⟩
abbrev S2048x2048 : Shape := ⟨2, ![2048, 2048]⟩
abbrev S128x2048 : Shape := ⟨2, ![128, 2048]⟩

abbrev nBuf : Space → Nat
  | .hbm => 9
  | .vmem => 30
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S2048x2048, .bf16⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S128x2048, .bf16⟩
  | .local _ .vmem, ⟨5, _⟩ => ⟨S128x2048, .bf16⟩
  | .local _ .vmem, ⟨6, _⟩ => ⟨S128x2048, .bf16⟩
  | .local _ .vmem, ⟨7, _⟩ => ⟨S128x2048, .bf16⟩
  | .local _ .vmem, ⟨8, _⟩ => ⟨S128x2048, .bf16⟩
  | .local _ .vmem, ⟨9, _⟩ => ⟨S128x2048, .bf16⟩
  | .local _ .vmem, ⟨10, _⟩ => ⟨S128x2048, .bf16⟩
  | .local _ .vmem, ⟨11, _⟩ => ⟨S128x2048, .bf16⟩
  | .local _ .vmem, ⟨12, _⟩ => ⟨S128x2048, .bf16⟩
  | .local _ .vmem, ⟨13, _⟩ => ⟨S128x2048, .bf16⟩
  | .local _ .vmem, ⟨14, _⟩ => ⟨S128x2048, .bf16⟩
  | .local _ .vmem, ⟨15, _⟩ => ⟨S128x2048, .bf16⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | .local _ .vmem, ⟨21, _⟩ => ⟨S128x2048, .f32⟩
  | .local _ .vmem, ⟨22, _⟩ => ⟨S128x2048, .f32⟩
  | .local _ .vmem, ⟨23, _⟩ => ⟨S128x2048, .f32⟩
  | .local _ .vmem, ⟨24, _⟩ => ⟨S128x2048, .f32⟩
  | .local _ .vmem, ⟨25, _⟩ => ⟨S128x2048, .f32⟩
  | .local _ .vmem, ⟨26, _⟩ => ⟨S128x2048, .f32⟩
  | .local _ .vmem, ⟨27, _⟩ => ⟨S128x2048, .f32⟩
  | .local _ .vmem, ⟨28, _⟩ => ⟨S128x2048, .f32⟩
  | .local _ .vmem, ⟨29, _⟩ => ⟨S128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_5 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_6 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_7 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference27Ideal.lean ====
abbrev S8x256x2048 : Shape := ⟨3, ![8, 256, 2048]⟩
abbrev S256x2048 : Shape := ⟨2, ![256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel28.lean ====
abbrev S8x2048x1024 : Shape := ⟨3, ![8, 2048, 1024]⟩
abbrev S2048x1024 : Shape := ⟨2, ![2048, 1024]⟩
abbrev S16384x1024 : Shape := ⟨2, ![16384, 1024]⟩
abbrev S256x1024 : Shape := ⟨2, ![256, 1024]⟩

abbrev nBuf : Space → Nat
  | .hbm => 9
  | .vmem => 30
  | .smem => 0
  | _ => 0

abbrev bufTy : (tb : Table) → Fin (tcTables nBuf tb) → BufTy
  | .hbm, ⟨0, _⟩ => ⟨S8x2048x1024, .bf16⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S16384x1024, .bf16⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_5 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_6 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_7 (i : grid0.Coords) : Fin 2 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference28Ideal.lean ====
abbrev S8x2048x1024 : Shape := ⟨3, ![8, 2048, 1024]⟩
abbrev S2048x1024 : Shape := ⟨2, ![2048, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S8x2048x1024, .f32⟩
  | .hbm, ⟨5, _⟩ => ⟨S_, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel29.lean ====
abbrev S8x1024x2048 : Shape := ⟨3, ![8, 1024, 2048]⟩
abbrev S1024x2048 : Shape := ⟨2, ![1024, 2048]⟩
abbrev S8192x2048 : Shape := ⟨2, ![8192, 2048]⟩
abbrev S128x2048 : Shape := ⟨2, ![128, 2048]⟩

abbrev nBuf : Space → Nat
  | .hbm => 9
  | .vmem => 30
  | .smem => 0
  | _ => 0

abbrev bufTy : (tb : Table) → Fin (tcTables nBuf tb) → BufTy
  | .hbm, ⟨0, _⟩ => ⟨S8x1024x2048, .bf16⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S8192x2048, .bf16⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S128x2048, .bf16⟩
  | .local _ .vmem, ⟨5, _⟩ => ⟨S128x2048, .bf16⟩
  | .local _ .vmem, ⟨6, _⟩ => ⟨S128x2048, .bf16⟩
  | .local _ .vmem, ⟨7, _⟩ => ⟨S128x2048, .bf16⟩
  | .local _ .vmem, ⟨8, _⟩ => ⟨S128x2048, .bf16⟩
  | .local _ .vmem, ⟨9, _⟩ => ⟨S128x2048, .bf16⟩
  | .local _ .vmem, ⟨10, _⟩ => ⟨S128x2048, .bf16⟩
  | .local _ .vmem, ⟨11, _⟩ => ⟨S128x2048, .bf16⟩
  | .local _ .vmem, ⟨12, _⟩ => ⟨S128x2048, .bf16⟩
  | .local _ .vmem, ⟨13, _⟩ => ⟨S128x2048, .bf16⟩
  | .local _ .vmem, ⟨14, _⟩ => ⟨S128x2048, .bf16⟩
  | .local _ .vmem, ⟨15, _⟩ => ⟨S128x2048, .bf16⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | .local _ .vmem, ⟨21, _⟩ => ⟨S128x2048, .f32⟩
  | .local _ .vmem, ⟨22, _⟩ => ⟨S128x2048, .f32⟩
  | .local _ .vmem, ⟨23, _⟩ => ⟨S128x2048, .f32⟩
  | .local _ .vmem, ⟨24, _⟩ => ⟨S128x2048, .f32⟩
  | .local _ .vmem, ⟨25, _⟩ => ⟨S128x2048, .f32⟩
  | .local _ .vmem, ⟨26, _⟩ => ⟨S128x2048, .f32⟩
  | .local _ .vmem, ⟨27, _⟩ => ⟨S128x2048, .f32⟩
  | .local _ .vmem, ⟨28, _⟩ => ⟨S128x2048, .f32⟩
  | .local _ .vmem, ⟨29, _⟩ => ⟨S128x2048, .f32⟩
  | _, _ => ⟨S8x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_5 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_6 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_7 (i : grid0.Coords) : Fin 2 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference29Ideal.lean ====
abbrev S8x1024x2048 : Shape := ⟨3, ![8, 1024, 2048]⟩
abbrev S1024x2048 : Shape := ⟨2, ![1024, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x2048, .bf16⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S8x1024x2048, .f32⟩
  | .hbm, ⟨5, _⟩ => ⟨S_, .f32⟩
  | .hbm, ⟨6, _⟩ => ⟨S1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S_, .f32⟩
  | .hbm, ⟨11, _⟩ => ⟨S1024x2048, .f32⟩
  | .hbm, ⟨12, _⟩ => ⟨S1024x2048, .f32⟩
  | .hbm, ⟨13, _⟩ => ⟨S1024x2048, .f32⟩
  | .hbm, ⟨14, _⟩ => ⟨S_, .f32⟩
  | .hbm, ⟨15, _⟩ => ⟨S1024x2048, .f32⟩
  | .hbm, ⟨16, _⟩ => ⟨S1024x2048, .f32⟩
  | .hbm, ⟨17, _⟩ => ⟨S1024x2048, .f32⟩
  | .hbm, ⟨18, _⟩ => ⟨S_, .f32⟩
  | .hbm, ⟨19, _⟩ => ⟨S1024x2048, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S_, .f32⟩
  | .hbm, ⟨26, _⟩ => ⟨S1024x2048, .f32⟩
  | .hbm, ⟨27, _⟩ => ⟨S1024x2048, .f32⟩
  | .hbm, ⟨28, _⟩ => ⟨S1024x2048, .f32⟩
  | .hbm, ⟨29, _⟩ => ⟨S_, .f32⟩
  | .hbm, ⟨30, _⟩ => ⟨S1024x2048, .f32⟩
  | .hbm, ⟨31, _⟩ => ⟨S1024x2048, .f32⟩
  | .hbm, ⟨32, _⟩ => ⟨S1024x2048, .f32⟩
  | .hbm, ⟨33, _⟩ => ⟨S_, .f32⟩
  | .hbm, ⟨34, _⟩ => ⟨S1024x2048, .f32⟩
  | .hbm, ⟨35, _⟩ => ⟨S1024x2048, .f32⟩
  | .hbm, ⟨36, _⟩ => ⟨S1024x2048, .f32⟩
  | .hbm, ⟨37, _⟩ => ⟨S_, .f32⟩
  | .hbm, ⟨38, _⟩ => ⟨S1024x2048, .f32⟩
  | .hbm, ⟨39, _⟩ => ⟨S1024x2048, .f32⟩
  | _, _ => ⟨S8x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel30.lean ====
abbrev S8x1024x256 : Shape := ⟨3, ![8, 1024, 256]⟩
abbrev S1024x256 : Shape := ⟨2, ![1024, 256]⟩
abbrev S8192x256 : Shape := ⟨2, ![8192, 256]⟩

abbrev nBuf : Space → Nat
  | .hbm => 9
  | .vmem => 15
  | .smem => 0
  | _ => 0

abbrev bufTy : (tb : Table) → Fin (tcTables nBuf tb) → BufTy
  | .hbm, ⟨0, _⟩ => ⟨S8x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S8192x256, .bf16⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c1_i32_0 : BitVec 32 := 1#32
  let v1 : BitVec 32 := Scalar.muli c1_i32_0 arg0
  let c0_i32 : BitVec 32 := 0#32
  let v2 : BitVec 32 := Scalar.addi c0_i32 v1
  let c0_i32_1 : BitVec 32 := 0#32
  ![v0.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_5 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_6 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_7 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1024x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S1024x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S1024x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S1024x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S1024x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S1024x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S1024x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]
-- ==== Reference30Ideal.lean ====
abbrev S8x1024x256 : Shape := ⟨3, ![8, 1024, 256]⟩
abbrev S1024x256 : Shape := ⟨2, ![1024, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S8x1024x256, .f32⟩
  | .hbm, ⟨5, _⟩ => ⟨S_, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S_, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S_, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S_, .f32⟩
  | .hbm, ⟨38, _⟩ => ⟨S1024x256, .f32⟩
  | .hbm, ⟨39, _⟩ => ⟨S1024x256, .f32⟩
  | _, _ => ⟨S8x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel31.lean ====
abbrev S8x256x256 : Shape := ⟨3, ![8, 256, 256]⟩
abbrev S256x256 : Shape := ⟨2, ![256, 256]⟩
abbrev S2048x256 : Shape := ⟨2, ![2048, 256]⟩

abbrev nBuf : Space → Nat
  | .hbm => 9
  | .vmem => 15
  | .smem => 0
  | _ => 0

abbrev bufTy : (tb : Table) → Fin (tcTables nBuf tb) → BufTy
  | .hbm, ⟨0, _⟩ => ⟨S8x256x256, .bf16⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S2048x256, .bf16⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .f32⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | _, _ => ⟨S8x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c1_i32_0 : BitVec 32 := 1#32
  let v1 : BitVec 32 := Scalar.muli c1_i32_0 arg0
  let c0_i32 : BitVec 32 := 0#32
  let v2 : BitVec 32 := Scalar.addi c0_i32 v1
  let c0_i32_1 : BitVec 32 := 0#32
  ![v0.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_5 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_6 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_7 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c1_i32 : BitVec 32 := 1#32
  let v1 : BitVec 32 := Scalar.muli c1_i32 arg0
  let c0_i32 : BitVec 32 := 0#32
  let v2 : BitVec 32 := Scalar.addi c0_i32 v1
  let c0_i32_0 : BitVec 32 := 0#32
  ![v0.toNat, v2.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 32 := Scalar.muli c1_i32 arg0
  let c0_i32_0 : BitVec 32 := 0#32
  let v2 : BitVec 32 := Scalar.addi c0_i32_0 v1
  let c0_i32_1 : BitVec 32 := 0#32
  ![v0.toNat, v2.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S256x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]
-- ==== Reference31Ideal.lean ====
abbrev S8x256x256 : Shape := ⟨3, ![8, 256, 256]⟩
abbrev S256x256 : Shape := ⟨2, ![256, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x256, .bf16⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S8x256x256, .f32⟩
  | .hbm, ⟨5, _⟩ => ⟨S_, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S_, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S_, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S_, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S_, .f32⟩
  | .hbm, ⟨26, _⟩ => ⟨S256x256, .f32⟩
  | .hbm, ⟨27, _⟩ => ⟨S256x256, .f32⟩
  | .hbm, ⟨28, _⟩ => ⟨S256x256, .f32⟩
  | .hbm, ⟨29, _⟩ => ⟨S_, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S_, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S_, .f32⟩
  | .hbm, ⟨38, _⟩ => ⟨S256x256, .f32⟩
  | .hbm, ⟨39, _⟩ => ⟨S256x256, .f32⟩
  | _, _ => ⟨S8x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel32.lean ====
abbrev S8x8x2048 : Shape := ⟨3, ![8, 8, 2048]⟩
abbrev S1x2048 : Shape := ⟨2, ![1, 2048]⟩
abbrev S1x8x2048 : Shape := ⟨3, ![1, 8, 2048]⟩
abbrev S8x2048 : Shape := ⟨2, ![8, 2048]⟩
abbrev S2048 : Shape := ⟨1, ![2048]⟩

abbrev nBuf : Space → Nat
  | .hbm => 8
  | .vmem => 8
  | .smem => 0
  | _ => 0

abbrev bufTy : (tb : Table) → Fin (tcTables nBuf tb) → BufTy
  | .hbm, ⟨0, _⟩ => ⟨S8x8x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .local _ .vmem, ⟨0, _⟩ => ⟨S8x8x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | _, _ => ⟨S8x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference32Ideal.lean ====
abbrev S8x8x2048 : Shape := ⟨3, ![8, 8, 2048]⟩
abbrev S1x2048 : Shape := ⟨2, ![1, 2048]⟩
abbrev S_ : Shape := ⟨0, ![]⟩
abbrev S8x2048 : Shape := ⟨2, ![8, 2048]⟩
abbrev S2048 : Shape := ⟨1, ![2048]⟩

abbrev nBuf : Space → Nat
  | .hbm => 42
  | .vmem => 0
  | .smem => 0
  | _ => 0

abbrev bufTy : (tb : Table) → Fin (tcTables nBuf tb) → BufTy
  | .hbm, ⟨0, _⟩ => ⟨S8x8x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S8x2048, .f32⟩
  | .hbm, ⟨6, _⟩ => ⟨S_, .f32⟩
  | .hbm, ⟨7, _⟩ => ⟨S2048, .f32⟩
  | .hbm, ⟨8, _⟩ => ⟨S1x2048, .f32⟩
  | .hbm, ⟨9, _⟩ => ⟨S_, .f32⟩
  | .hbm, ⟨10, _⟩ => ⟨S1x2048, .f32⟩
  | .hbm, ⟨11, _⟩ => ⟨S1x2048, .f32⟩
  | .hbm, ⟨12, _⟩ => ⟨S_, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S_, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S_, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S_, .f32⟩
  | .hbm, ⟨28, _⟩ => ⟨S1x2048, .f32⟩
  | .hbm, ⟨29, _⟩ => ⟨S1x2048, .f32⟩
  | .hbm, ⟨30, _⟩ => ⟨S1x2048, .f32⟩
  | .hbm, ⟨31, _⟩ => ⟨S_, .f32⟩
  | .hbm, ⟨32, _⟩ => ⟨S1x2048, .f32⟩
  | .hbm, ⟨33, _⟩ => ⟨S1x2048, .f32⟩
  | .hbm, ⟨34, _⟩ => ⟨S1x2048, .f32⟩
  | .hbm, ⟨35, _⟩ => ⟨S_, .f32⟩
  | .hbm, ⟨36, _⟩ => ⟨S1x2048, .f32⟩
  | .hbm, ⟨37, _⟩ => ⟨S1x2048, .f32⟩
  | .hbm, ⟨38, _⟩ => ⟨S1x2048, .f32⟩
  | .hbm, ⟨39, _⟩ => ⟨S_, .f32⟩
  | .hbm, ⟨40, _⟩ => ⟨S1x2048, .f32⟩
  | .hbm, ⟨41, _⟩ => ⟨S1x2048, .f32⟩
  | _, _ => ⟨S8x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel33.lean ====
abbrev S8x8x1024 : Shape := ⟨3, ![8, 8, 1024]⟩
abbrev S1x1024 : Shape := ⟨2, ![1, 1024]⟩
abbrev S1x8x1024 : Shape := ⟨3, ![1, 8, 1024]⟩
abbrev S8x1024 : Shape := ⟨2, ![8, 1024]⟩
abbrev S1024 : Shape := ⟨1, ![1024]⟩

abbrev nBuf : Space → Nat
  | .hbm => 8
  | .vmem => 8
  | .smem => 0
  | _ => 0

abbrev bufTy : (tb : Table) → Fin (tcTables nBuf tb) → BufTy
  | .hbm, ⟨0, _⟩ => ⟨S8x8x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S8x8x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S8x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference33Ideal.lean ====
abbrev S8x8x1024 : Shape := ⟨3, ![8, 8, 1024]⟩
abbrev S1x1024 : Shape := ⟨2, ![1, 1024]⟩
abbrev S_ : Shape := ⟨0, ![]⟩
abbrev S8x1024 : Shape := ⟨2, ![8, 1024]⟩
abbrev S1024 : Shape := ⟨1, ![1024]⟩

abbrev nBuf : Space → Nat
  | .hbm => 42
  | .vmem => 0
  | .smem => 0
  | _ => 0

abbrev bufTy : (tb : Table) → Fin (tcTables nBuf tb) → BufTy
  | .hbm, ⟨0, _⟩ => ⟨S8x8x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S8x1024, .f32⟩
  | .hbm, ⟨6, _⟩ => ⟨S_, .f32⟩
  | .hbm, ⟨7, _⟩ => ⟨S1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S_, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S_, .f32⟩
  | .hbm, ⟨40, _⟩ => ⟨S1x1024, .f32⟩
  | .hbm, ⟨41, _⟩ => ⟨S1x1024, .f32⟩
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel34.lean ====
abbrev S8x8x128 : Shape := ⟨3, ![8, 8, 128]⟩
abbrev S1x128 : Shape := ⟨2, ![1, 128]⟩
abbrev S1x8x128 : Shape := ⟨3, ![1, 8, 128]⟩
abbrev S8x128 : Shape := ⟨2, ![8, 128]⟩
abbrev S128 : Shape := ⟨1, ![128]⟩

abbrev nBuf : Space → Nat
  | .hbm => 8
  | .vmem => 8
  | .smem => 0
  | _ => 0

abbrev bufTy : (tb : Table) → Fin (tcTables nBuf tb) → BufTy
  | .hbm, ⟨0, _⟩ => ⟨S8x8x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x128, .f32⟩
  | .local _ .vmem, ⟨0, _⟩ => ⟨S8x8x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | _, _ => ⟨S8x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference34Ideal.lean ====
abbrev S8x8x128 : Shape := ⟨3, ![8, 8, 128]⟩
abbrev S1x128 : Shape := ⟨2, ![1, 128]⟩
abbrev S_ : Shape := ⟨0, ![]⟩
abbrev S8x128 : Shape := ⟨2, ![8, 128]⟩
abbrev S128 : Shape := ⟨1, ![128]⟩

abbrev nBuf : Space → Nat
  | .hbm => 42
  | .vmem => 0
  | .smem => 0
  | _ => 0

abbrev bufTy : (tb : Table) → Fin (tcTables nBuf tb) → BufTy
  | .hbm, ⟨0, _⟩ => ⟨S8x8x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S8x128, .f32⟩
  | .hbm, ⟨6, _⟩ => ⟨S_, .f32⟩
  | .hbm, ⟨7, _⟩ => ⟨S128, .f32⟩
  | .hbm, ⟨8, _⟩ => ⟨S1x128, .f32⟩
  | .hbm, ⟨9, _⟩ => ⟨S_, .f32⟩
  | .hbm, ⟨10, _⟩ => ⟨S1x128, .f32⟩
  | .hbm, ⟨11, _⟩ => ⟨S1x128, .f32⟩
  | .hbm, ⟨12, _⟩ => ⟨S_, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S_, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S_, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S_, .f32⟩
  | .hbm, ⟨25, _⟩ => ⟨S1x128, .f32⟩
  | .hbm, ⟨26, _⟩ => ⟨S1x128, .f32⟩
  | .hbm, ⟨27, _⟩ => ⟨S_, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S_, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S_, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S_, .f32⟩
  | .hbm, ⟨40, _⟩ => ⟨S1x128, .f32⟩
  | .hbm, ⟨41, _⟩ => ⟨S1x128, .f32⟩
  | _, _ => ⟨S8x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel35.lean ====
abbrev S8x32x128 : Shape := ⟨3, ![8, 32, 128]⟩
abbrev S32x128 : Shape := ⟨2, ![32, 128]⟩
abbrev S1x32x128 : Shape := ⟨3, ![1, 32, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x32x128, .f32⟩
  | .hbm, ⟨1, _⟩ => ⟨S32x128, .f32⟩
  | .hbm, ⟨2, _⟩ => ⟨S32x128, .f32⟩
  | .hbm, ⟨3, _⟩ => ⟨S32x128, .f32⟩
  | .hbm, ⟨4, _⟩ => ⟨S32x128, .f32⟩
  | .hbm, ⟨5, _⟩ => ⟨S32x128, .f32⟩
  | .hbm, ⟨6, _⟩ => ⟨S32x128, .f32⟩
  | .hbm, ⟨7, _⟩ => ⟨S32x128, .f32⟩
  | .local _ .vmem, ⟨0, _⟩ => ⟨S8x32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | _, _ => ⟨S8x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference35Ideal.lean ====
abbrev S8x32x128 : Shape := ⟨3, ![8, 32, 128]⟩
abbrev S32x128 : Shape := ⟨2, ![32, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x32x128, .f32⟩
  | .hbm, ⟨1, _⟩ => ⟨S32x128, .f32⟩
  | .hbm, ⟨2, _⟩ => ⟨S32x128, .f32⟩
  | .hbm, ⟨3, _⟩ => ⟨S32x128, .f32⟩
  | .hbm, ⟨4, _⟩ => ⟨S_, .f32⟩
  | .hbm, ⟨5, _⟩ => ⟨S32x128, .f32⟩
  | .hbm, ⟨6, _⟩ => ⟨S_, .f32⟩
  | .hbm, ⟨7, _⟩ => ⟨S32x128, .f32⟩
  | .hbm, ⟨8, _⟩ => ⟨S32x128, .f32⟩
  | .hbm, ⟨9, _⟩ => ⟨S_, .f32⟩
  | .hbm, ⟨10, _⟩ => ⟨S32x128, .f32⟩
  | .hbm, ⟨11, _⟩ => ⟨S32x128, .f32⟩
  | .hbm, ⟨12, _⟩ => ⟨S32x128, .f32⟩
  | .hbm, ⟨13, _⟩ => ⟨S_, .f32⟩
  | .hbm, ⟨14, _⟩ => ⟨S32x128, .f32⟩
  | .hbm, ⟨15, _⟩ => ⟨S32x128, .f32⟩
  | .hbm, ⟨16, _⟩ => ⟨S32x128, .f32⟩
  | .hbm, ⟨17, _⟩ => ⟨S_, .f32⟩
  | .hbm, ⟨18, _⟩ => ⟨S32x128, .f32⟩
  | .hbm, ⟨19, _⟩ => ⟨S32x128, .f32⟩
  | .hbm, ⟨20, _⟩ => ⟨S32x128, .f32⟩
  | .hbm, ⟨21, _⟩ => ⟨S_, .f32⟩
  | .hbm, ⟨22, _⟩ => ⟨S32x128, .f32⟩
  | .hbm, ⟨23, _⟩ => ⟨S32x128, .f32⟩
  | .hbm, ⟨24, _⟩ => ⟨S_, .f32⟩
  | .hbm, ⟨25, _⟩ => ⟨S32x128, .f32⟩
  | .hbm, ⟨26, _⟩ => ⟨S32x128, .f32⟩
  | .hbm, ⟨27, _⟩ => ⟨S32x128, .f32⟩
  | .hbm, ⟨28, _⟩ => ⟨S_, .f32⟩
  | .hbm, ⟨29, _⟩ => ⟨S32x128, .f32⟩
  | .hbm, ⟨30, _⟩ => ⟨S32x128, .f32⟩
  | .hbm, ⟨31, _⟩ => ⟨S32x128, .f32⟩
  | .hbm, ⟨32, _⟩ => ⟨S_, .f32⟩
  | .hbm, ⟨33, _⟩ => ⟨S32x128, .f32⟩
  | .hbm, ⟨34, _⟩ => ⟨S32x128, .f32⟩
  | .hbm, ⟨35, _⟩ => ⟨S32x128, .f32⟩
  | .hbm, ⟨36, _⟩ => ⟨S_, .f32⟩
  | .hbm, ⟨37, _⟩ => ⟨S32x128, .f32⟩
  | .hbm, ⟨38, _⟩ => ⟨S32x128, .f32⟩
  | _, _ => ⟨S8x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Body.lean ====
/- What one grid point of the kernel does to the buffers it is handed, by value: the two scratch accumulators are set or added
   to, the two blocks that leave at a key block's last query block receive the accumulators, and one stripe of columns of the
   block that stays for a whole head is set or added to. -/
module

public import proofs.«01_k».proof.Proof.Gen.KernelIdeal.Frame
public import proofs.«01_k».proof.Proof.Gen.KernelIdeal.Skeleton
public import Idealize.ShloMosaic.Lib.WritesUnit
public import Idealize.ShloMosaic.Lib.WholeRead
public import Idealize.ShloMosaic.Lib.VecWindow
public import Idealize.ShloMosaic.Lib.ValueIdxCore

@[expose] public section

set_option maxRecDepth 16384

noncomputable section

namespace Cert.KernelIdeal.Own

open Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The values -/

/-- The first of the eight equal rows a block of the saved row quantities holds. -/
def row (x : Vec F S1x8x2048 .f32) : Vec F S1x1x2048 .f32 := fun y => x (ix3 (n0 := 1) (n1 := 8) (n2 := 2048) 0 0 (y 2))

/-- A point's contribution to the gradient of v. -/
def dvC (x0 : Vec F S2048x128 .bf16) (x1 : Vec F S1024x128 .bf16) (x4 : Vec F S2048x128 .bf16) (x5 : Vec F S1x8x2048 .f32) :
    FVec F S1024x128 .f32 := k0_pay10 x0 x1 x4 (row x5)
/-- A point's contribution to the gradient of k. -/
def dkC (x0 : Vec F S2048x128 .bf16) (x1 : Vec F S1024x128 .bf16) (x3 : Vec F S1024x128 .f32) (x4 : Vec F S2048x128 .bf16)
    (x5 x6 : Vec F S1x8x2048 .f32) : FVec F S1024x128 .f32 := k0_pay11 x0 x1 x4 x3 (row x5) (row x6)
/-- A point's contribution to the gradient of q, transposed. -/
def dqC (x0 : Vec F S2048x128 .bf16) (x1 : Vec F S1024x128 .bf16) (x2 : Vec F S128x1024 .bf16) (x3 : Vec F S1024x128 .f32)
    (x4 : Vec F S2048x128 .bf16) (x5 x6 : Vec F S1x8x2048 .f32) : FVec F S128x2048 .f32 :=
  k0_pay12 x0 x1 x4 x3 (row x5) (row x6) x2

/-- An accumulator after a point: set at the first query block, added to afterwards. -/
def accNext (i : grid0.Coords) (s v : Vec F S1024x128 .f32) : Vec F S1024x128 .f32 :=
  if (i 2).val = 0 then v else addf s v
/-- A block that leaves at the last query block: the accumulator there, untouched before. -/
def outNext (i : grid0.Coords) (y s : Vec F S1024x128 .f32) : Vec F S1024x128 .f32 :=
  if (i 2).val = 3 then s else y
/-- The stripe of columns of query block `q`. -/
def stripe (q : Fin 4) (y : Vec F S128x8192 .f32) : Vec F S128x2048 .f32 :=
  fun x => y (ix2 (n0 := 128) (n1 := 8192) (x 0) ⟨q.val * 2048 + (x 1).val, by have : (x 1).val < 2048 := (x 1).isLt; have := q.isLt; omega⟩)
/-- The block with the stripe of query block `q` replaced. -/
def putStripe (q : Fin 4) (y : Vec F S128x8192 .f32) (v : Vec F S128x2048 .f32) : Vec F S128x8192 .f32 :=
  fun x => if h : q.val * 2048 ≤ (x 1).val ∧ (x 1).val < q.val * 2048 + 2048 then
    v (ix2 (n0 := 128) (n1 := 2048) (x 0) ⟨(x 1).val - q.val * 2048, by omega⟩) else y x
/-- The block of a head after a point: the stripe set at the first key block, added to afterwards. -/
def dqNext (i : grid0.Coords) (y : Vec F S128x8192 .f32) (v : Vec F S128x2048 .f32) : Vec F S128x8192 .f32 :=
  putStripe (i 2) y (if (i 1).val = 0 then v else addf (stripe (i 2) y) v)

/-! ## Loads and stores of the buffers, read back -/

/-- A load of a whole buffer of rank two reads its contents. -/
theorem load_whole {d : Fin 2 → ℕ} {sp : Space} {e : EltTy} {M : Memref sig .tc sp ⟨2, d⟩ e} (h : M.IsWhole) (x : Vec F ⟨2, d⟩ e)
    (inb : ∀ a : Fin 2, (![0, 0] : Fin 2 → ℕ) a + d a ≤ d a) :
    M.view.readAt (Elt F) (Rect.unit (s := ⟨2, d⟩) ![0, 0] d inb).toLoadRect (h.unread x) = x := by
  funext y
  rw [h.readAt_unread]
  congr 1
  funext a
  apply Fin.ext
  show (![0, 0] : Fin 2 → ℕ) a + 1 * (y a).val = (y a).val
  match a with
  | ⟨0, _⟩ => simp
  | ⟨1, _⟩ => simp

/-- A load of the first row of a block of eight rows reads that row. -/
theorem load_row {sp : Space} {M : Memref sig .tc sp S1x8x2048 .f32} (h : M.IsWhole) (x : Vec F S1x8x2048 .f32)
    (inb : ∀ a, (![0, 0, 0] : Fin 3 → ℕ) a + S1x1x2048.size a ≤ S1x8x2048.size a) :
    M.view.readAt (Elt F) (Rect.unit (s := S1x8x2048) ![0, 0, 0] S1x1x2048.size inb).toLoadRect (h.unread x) = row x := by
  funext y
  rw [h.readAt_unread]
  unfold row
  congr 1
  funext a
  apply Fin.ext
  show (![0, 0, 0] : Fin 3 → ℕ) a + 1 * (y a).val = _
  match a with
  | ⟨0, _⟩ => have : (y 0).val < 1 := (y 0).isLt; show 0 + 1 * (y 0).val = 0; omega
  | ⟨1, _⟩ => have : (y 1).val < 1 := (y 1).isLt; show 0 + 1 * (y 1).val = 0; omega
  | ⟨2, _⟩ => show 0 + 1 * (y 2).val = (y 2).val; omega

/-- A load of the stripe of query block `q` reads that stripe. -/
theorem load_stripe {sp : Space} {M : Memref sig .tc sp S128x8192 .f32} (h : M.IsWhole) (y : Vec F S128x8192 .f32) (q : Fin 4)
    {off : Fin 2 → ℕ} (ho : off = ![0, q.val * 2048]) (inb : ∀ a, off a + S128x2048.size a ≤ S128x8192.size a) :
    M.view.readAt (Elt F) (Rect.unit (s := S128x8192) off S128x2048.size inb).toLoadRect (h.unread y) = stripe q y := by
  subst ho
  funext x
  rw [h.readAt_unread]
  unfold stripe
  congr 1
  funext a
  apply Fin.ext
  show (![0, q.val * 2048] : Fin 2 → ℕ) a + 1 * (x a).val = _
  match a with
  | ⟨0, _⟩ => show 0 + 1 * (x 0).val = (x 0).val; omega
  | ⟨1, _⟩ => show q.val * 2048 + 1 * (x 1).val = q.val * 2048 + (x 1).val; omega

/-- A cast of a vector to its own shape is the vector. -/
theorem cast_self {s : Shape} {α : Type} (x : s.Idx → α) (h : s.numel = s.numel) : shapeCast s x h = x := by
  funext j
  simp [shapeCast]

/-- A store of a stripe replaces that stripe. -/
theorem store_stripe {sp : Space} {M : Memref sig .tc sp S128x8192 .f32} (h : M.IsWhole) (y : Vec F S128x8192 .f32) (q : Fin 4)
    {off : Fin 2 → ℕ} (ho : off = ![0, q.val * 2048]) (inb : ∀ a, off a + S128x2048.size a ≤ S128x8192.size a) (v : Vec F S128x2048 .f32) :
    M.view.read (Elt F) (M.view.writes (Elt F) (h.unread y) [⟨Rect.unit (s := S128x8192) off S128x2048.size inb, v⟩]) = putStripe q y v := by
  funext x
  rw [View.read_writes_cons_unit M.view (h.unread y) inb v [] x ho, View.writes_nil, h.read_unread]
  unfold putStripe
  have h0 : (x 0).val < 128 := (x 0).isLt
  by_cases hx : q.val * 2048 ≤ (x 1).val ∧ (x 1).val < q.val * 2048 + 2048
  · rw [dif_pos hx, dif_pos (by
      intro a
      match a with
      | ⟨0, _⟩ => exact ⟨Nat.zero_le _, by show (x 0).val < 0 + 128; omega⟩
      | ⟨1, _⟩ => exact hx)]
    congr 1
    funext a
    apply Fin.ext
    match a with
    | ⟨0, _⟩ => rfl
    | ⟨1, _⟩ => rfl
  · rw [dif_neg hx, dif_neg (fun h => hx (h 1))]

/-- An accumulator's buffer after its store of a first contribution. -/
theorem store_set {sp : Space} {M : Memref sig .tc sp S1024x128 .f32} (f : M.view.ty.Contents (Elt F)) (w : FVec F S1024x128 .f32)
    (inb : ∀ a, (![0, 0] : Fin 2 → ℕ) a + S1024x128.size a ≤ S1024x128.size a) :
    M.view.read (Elt F) (M.view.writes (Elt F) f [⟨Rect.unit (s := S1024x128) ![0, 0] S1024x128.size inb, k0_pay1 w⟩]) = w := by
  rw [View.read_writes_full]
  exact cast_self w _

/-- An accumulator's buffer after its store of what it held plus a contribution. -/
theorem store_add {sp : Space} {M : Memref sig .tc sp S1024x128 .f32} (h : M.IsWhole) (f : M.view.ty.Contents (Elt F)) (s : Vec F S1024x128 .f32)
    (w : FVec F S1024x128 .f32) (inb inb' : ∀ a, (![0, 0] : Fin 2 → ℕ) a + S1024x128.size a ≤ S1024x128.size a) :
    M.view.read (Elt F) (M.view.writes (Elt F) f [⟨Rect.unit (s := S1024x128) ![0, 0] S1024x128.size inb,
      k0_pay3 w (M.view.readAt (Elt F) (Rect.unit (s := S1024x128) ![0, 0] S1024x128.size inb').toLoadRect (h.unread s))⟩]) = addf s w := by
  rw [View.read_writes_full]
  refine (cast_self _ _).trans ?_
  exact congrArg (fun z => addf z w) (load_whole (d := ![1024, 128]) h s inb')

/-- The payload of that store, read back from the buffer by a later load of the same point. -/
theorem load_add {sp : Space} {M : Memref sig .tc sp S1024x128 .f32} (h : M.IsWhole) (s : Vec F S1024x128 .f32)
    (w : FVec F S1024x128 .f32) (inb inb' inb'' : ∀ a, (![0, 0] : Fin 2 → ℕ) a + S1024x128.size a ≤ S1024x128.size a) :
    M.view.readCov [(⟨Rect.unit (s := S1024x128) ![0, 0] S1024x128.size inb,
      k0_pay3 w (M.view.readAt (Elt F) (Rect.unit (s := S1024x128) ![0, 0] S1024x128.size inb').toLoadRect (h.unread s))⟩ : View.Piece (Elt F) S1024x128 .f32)]
      (Rect.unit (s := S1024x128) ![0, 0] S1024x128.size inb'').toLoadRect = addf s w := by
  rw [View.readCov_full]
  refine (cast_self _ _).trans ?_
  exact congrArg (fun z => addf z w) (load_whole (d := ![1024, 128]) h s inb')

/-- A store of a whole block leaves what it stored. -/
theorem store_out {sp : Space} {M : Memref sig .tc sp S1024x128 .f32} (f : M.view.ty.Contents (Elt F)) (w : Vec F S1024x128 .f32)
    (inb : ∀ a, (![0, 0] : Fin 2 → ℕ) a + S1024x128.size a ≤ S1024x128.size a) :
    M.view.read (Elt F) (M.view.writes (Elt F) f [⟨Rect.unit (s := S1024x128) ![0, 0] S1024x128.size inb, w⟩]) = w :=
  View.read_writes_full _ _ _ _ _

set_option maxHeartbeats 4000000 in
/-- The body, on whole staging buffers holding the named contents: it returns holding the inputs unchanged and every other
    buffer at the contents above. -/
theorem body_run (c : Dev nD) (i : grid0.Coords)
    (arg3 : Memref sig .tc .vmem S2048x128 .bf16) (harg3 : arg3.IsWhole)
    (arg4 : Memref sig .tc .vmem S1024x128 .bf16) (harg4 : arg4.IsWhole)
    (arg5 : Memref sig .tc .vmem S128x1024 .bf16) (harg5 : arg5.IsWhole)
    (arg6 : Memref sig .tc .vmem S1024x128 .f32) (harg6 : arg6.IsWhole)
    (arg7 : Memref sig .tc .vmem S2048x128 .bf16) (harg7 : arg7.IsWhole)
    (arg8 : Memref sig .tc .vmem S1x8x2048 .f32) (harg8 : arg8.IsWhole)
    (arg9 : Memref sig .tc .vmem S1x8x2048 .f32) (harg9 : arg9.IsWhole)
    (arg10 : Memref sig .tc .vmem S128x8192 .f32) (harg10 : arg10.IsWhole)
    (arg11 : Memref sig .tc .vmem S1024x128 .f32) (harg11 : arg11.IsWhole)
    (arg12 : Memref sig .tc .vmem S1024x128 .f32) (harg12 : arg12.IsWhole)
    (arg13 : Memref sig .tc .vmem S1024x128 .f32) (harg13 : arg13.IsWhole)
    (arg14 : Memref sig .tc .vmem S1024x128 .f32) (harg14 : arg14.IsWhole)
    (x0 : Vec F S2048x128 .bf16) (x1 : Vec F S1024x128 .bf16) (x2 : Vec F S128x1024 .bf16) (x3 : Vec F S1024x128 .f32)
    (x4 : Vec F S2048x128 .bf16) (x5 x6 : Vec F S1x8x2048 .f32) (y7 : Vec F S128x8192 .f32) (y8 y9 s0 s1 : Vec F S1024x128 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ owns (c : Thread nD τ) arg10 fullShare y7 ∗ owns (c : Thread nD τ) arg11 fullShare y8
        ∗ owns (c : Thread nD τ) arg12 fullShare y9 ∗ owns (c : Thread nD τ) arg13 fullShare s0 ∗ owns (c : Thread nD τ) arg14 fullShare s1
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare x6
            ∗ owns (c : Thread nD τ) arg10 fullShare (dqNext i y7 (dqC x0 x1 x2 x3 x4 x5 x6))
            ∗ owns (c : Thread nD τ) arg11 fullShare (outNext i y8 (accNext i s0 (dkC x0 x1 x3 x4 x5 x6)))
            ∗ owns (c : Thread nD τ) arg12 fullShare (outNext i y9 (accNext i s1 (dvC x0 x1 x4 x5)))
            ∗ owns (c : Thread nD τ) arg13 fullShare (accNext i s0 (dkC x0 x1 x3 x4 x5 x6))
            ∗ owns (c : Thread nD τ) arg14 fullShare (accNext i s1 (dvC x0 x1 x4 x5))) -∗ K ⟨⟩))
      ⊢ wp frame (wpE (defs₀ (F := F)) Variants.none c none) Set.univ (cc0_flash_bwd i arg3 harg3 arg4 harg4 arg5 harg5 arg6 harg6 arg7 harg7 arg8 harg8 arg9 harg9 arg10 harg10 arg11 harg11 arg12 harg12 arg13 harg13 arg14 harg14) K := by
  have e0 : (Scalar.cmpi .ne (Scalar.extui (Scalar.cmpi .eq (BitVec.ofNat 32 (i 2).val) 0#32)) 0#32) = 1#1 ↔ (i 2).val = 0 := by
    have : ∀ q : Fin 4, (Scalar.cmpi .ne (Scalar.extui (Scalar.cmpi .eq (BitVec.ofNat 32 q.val) 0#32)) 0#32) = 1#1 ↔ q.val = 0 := by decide
    exact this (i 2)
  have e1 : (Scalar.cmpi .ne (Scalar.extui (Scalar.cmpi .sgt (BitVec.ofNat 32 (i 2).val) 0#32)) 0#32) = 1#1 ↔ (i 2).val ≠ 0 := by
    have : ∀ q : Fin 4, (Scalar.cmpi .ne (Scalar.extui (Scalar.cmpi .sgt (BitVec.ofNat 32 q.val) 0#32)) 0#32) = 1#1 ↔ q.val ≠ 0 := by decide
    exact this (i 2)
  have e2 : k0_cond3 i = 1#1 ↔ (i 2).val = 3 := by
    have : ∀ q : Fin 4, (Scalar.cmpi .ne (Scalar.extui (Scalar.cmpi .eq (BitVec.ofNat 32 q.val) 3#32)) 0#32) = 1#1 ↔ q.val = 3 := by decide
    exact this (i 2)
  have e3 : k0_cond4 i = 1#1 ↔ (i 1).val = 0 := by
    have : ∀ q : Fin 8, (Scalar.cmpi .ne (Scalar.extui (Scalar.cmpi .eq (BitVec.ofNat 32 q.val) 0#32)) 0#32) = 1#1 ↔ q.val = 0 := by decide
    exact this (i 1)
  have e4 : k0_cond5 i = 1#1 ↔ (i 1).val ≠ 0 := by
    have : ∀ q : Fin 8, (Scalar.cmpi .ne (Scalar.extui (Scalar.cmpi .sgt (BitVec.ofNat 32 q.val) 0#32)) 0#32) = 1#1 ↔ q.val ≠ 0 := by decide
    exact this (i 1)
  have o1 : k0_off1 i = ![0, (i 2).val * 2048] := by
    have : ∀ q : Fin 4, (![(0#32 : Index).toNat, (Scalar.indexCast (Scalar.muli (BitVec.ofNat 32 q.val) 2048#32) : Index).toNat] : Fin 2 → Nat) = ![0, q.val * 2048] := by decide
    exact this (i 2)
  have o2 : k0_off2 i = ![0, (i 2).val * 2048] := o1
  simp only [cc0_flash_bwd_eq_skeleton]; unfold cc0_flash_bwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hfs0; obtain rfl := harg14.eq_unread hfs1
  have hdv : k0_pay10 (arg3.view.readAt (Elt F) (Rect.unit (s := S2048x128) ![0, 0] S2048x128.size inb_S2048x128_S2048x128_0_0).toLoadRect (harg3.unread x0))
      (arg4.view.readAt (Elt F) (Rect.unit (s := S1024x128) ![0, 0] S1024x128.size inb_S1024x128_S1024x128_0_0).toLoadRect (harg4.unread x1))
      (arg7.view.readAt (Elt F) (Rect.unit (s := S2048x128) ![0, 0] S2048x128.size inb_S2048x128_S2048x128_0_0).toLoadRect (harg7.unread x4))
      (arg8.view.readAt (Elt F) (Rect.unit (s := S1x8x2048) ![0, 0, 0] S1x1x2048.size inb_S1x8x2048_S1x1x2048_0_0_0).toLoadRect (harg8.unread x5))
      = dvC x0 x1 x4 x5 := by
    rw [load_whole harg3, load_whole harg4, load_whole harg7, load_row harg8]; rfl
  have hdk : k0_pay11 (arg3.view.readAt (Elt F) (Rect.unit (s := S2048x128) ![0, 0] S2048x128.size inb_S2048x128_S2048x128_0_0).toLoadRect (harg3.unread x0))
      (arg4.view.readAt (Elt F) (Rect.unit (s := S1024x128) ![0, 0] S1024x128.size inb_S1024x128_S1024x128_0_0).toLoadRect (harg4.unread x1))
      (arg7.view.readAt (Elt F) (Rect.unit (s := S2048x128) ![0, 0] S2048x128.size inb_S2048x128_S2048x128_0_0).toLoadRect (harg7.unread x4))
      (arg6.view.readAt (Elt F) (Rect.unit (s := S1024x128) ![0, 0] S1024x128.size inb_S1024x128_S1024x128_0_0).toLoadRect (harg6.unread x3))
      (arg8.view.readAt (Elt F) (Rect.unit (s := S1x8x2048) ![0, 0, 0] S1x1x2048.size inb_S1x8x2048_S1x1x2048_0_0_0).toLoadRect (harg8.unread x5))
      (arg9.view.readAt (Elt F) (Rect.unit (s := S1x8x2048) ![0, 0, 0] S1x1x2048.size inb_S1x8x2048_S1x1x2048_0_0_0).toLoadRect (harg9.unread x6))
      = dkC x0 x1 x3 x4 x5 x6 := by
    rw [load_whole harg3, load_whole harg4, load_whole harg6, load_whole harg7, load_row harg8, load_row harg9]; rfl
  have hdq : k0_pay12 (arg3.view.readAt (Elt F) (Rect.unit (s := S2048x128) ![0, 0] S2048x128.size inb_S2048x128_S2048x128_0_0).toLoadRect (harg3.unread x0))
      (arg4.view.readAt (Elt F) (Rect.unit (s := S1024x128) ![0, 0] S1024x128.size inb_S1024x128_S1024x128_0_0).toLoadRect (harg4.unread x1))
      (arg7.view.readAt (Elt F) (Rect.unit (s := S2048x128) ![0, 0] S2048x128.size inb_S2048x128_S2048x128_0_0).toLoadRect (harg7.unread x4))
      (arg6.view.readAt (Elt F) (Rect.unit (s := S1024x128) ![0, 0] S1024x128.size inb_S1024x128_S1024x128_0_0).toLoadRect (harg6.unread x3))
      (arg8.view.readAt (Elt F) (Rect.unit (s := S1x8x2048) ![0, 0, 0] S1x1x2048.size inb_S1x8x2048_S1x1x2048_0_0_0).toLoadRect (harg8.unread x5))
      (arg9.view.readAt (Elt F) (Rect.unit (s := S1x8x2048) ![0, 0, 0] S1x1x2048.size inb_S1x8x2048_S1x1x2048_0_0_0).toLoadRect (harg9.unread x6))
      (arg5.view.readAt (Elt F) (Rect.unit (s := S128x1024) ![0, 0] S128x1024.size inb_S128x1024_S128x1024_0_0).toLoadRect (harg5.unread x2))
      = dqC x0 x1 x2 x3 x4 x5 x6 := by
    rw [load_whole harg3, load_whole harg4, load_whole harg5, load_whole harg6, load_whole harg7, load_row harg8, load_row harg9]; rfl
  have hcases : ((Scalar.cmpi .ne (Scalar.extui (Scalar.cmpi .eq (BitVec.ofNat 32 (i 2).val) 0#32)) 0#32) = 1#1 ∧ (¬(Scalar.cmpi .ne (Scalar.extui (Scalar.cmpi .sgt (BitVec.ofNat 32 (i 2).val) 0#32)) 0#32) = 1#1) ∧ (¬k0_cond3 i = 1#1) ∧ k0_cond4 i = 1#1 ∧ (¬k0_cond5 i = 1#1) ∧ (i 2).val = 0 ∧ (i 1).val = 0)
      ∨ ((¬(Scalar.cmpi .ne (Scalar.extui (Scalar.cmpi .eq (BitVec.ofNat 32 (i 2).val) 0#32)) 0#32) = 1#1) ∧ (Scalar.cmpi .ne (Scalar.extui (Scalar.cmpi .sgt (BitVec.ofNat 32 (i 2).val) 0#32)) 0#32) = 1#1 ∧ (¬k0_cond3 i = 1#1) ∧ k0_cond4 i = 1#1 ∧ (¬k0_cond5 i = 1#1) ∧ ((i 2).val ≠ 0 ∧ (i 2).val ≠ 3) ∧ (i 1).val = 0)
      ∨ ((¬(Scalar.cmpi .ne (Scalar.extui (Scalar.cmpi .eq (BitVec.ofNat 32 (i 2).val) 0#32)) 0#32) = 1#1) ∧ (Scalar.cmpi .ne (Scalar.extui (Scalar.cmpi .sgt (BitVec.ofNat 32 (i 2).val) 0#32)) 0#32) = 1#1 ∧ k0_cond3 i = 1#1 ∧ k0_cond4 i = 1#1 ∧ (¬k0_cond5 i = 1#1) ∧ (i 2).val = 3 ∧ (i 1).val = 0)
      ∨ ((Scalar.cmpi .ne (Scalar.extui (Scalar.cmpi .eq (BitVec.ofNat 32 (i 2).val) 0#32)) 0#32) = 1#1 ∧ (¬(Scalar.cmpi .ne (Scalar.extui (Scalar.cmpi .sgt (BitVec.ofNat 32 (i 2).val) 0#32)) 0#32) = 1#1) ∧ (¬k0_cond3 i = 1#1) ∧ (¬k0_cond4 i = 1#1) ∧ k0_cond5 i = 1#1 ∧ (i 2).val = 0 ∧ (i 1).val ≠ 0)
      ∨ ((¬(Scalar.cmpi .ne (Scalar.extui (Scalar.cmpi .eq (BitVec.ofNat 32 (i 2).val) 0#32)) 0#32) = 1#1) ∧ (Scalar.cmpi .ne (Scalar.extui (Scalar.cmpi .sgt (BitVec.ofNat 32 (i 2).val) 0#32)) 0#32) = 1#1 ∧ (¬k0_cond3 i = 1#1) ∧ (¬k0_cond4 i = 1#1) ∧ k0_cond5 i = 1#1 ∧ ((i 2).val ≠ 0 ∧ (i 2).val ≠ 3) ∧ (i 1).val ≠ 0)
      ∨ ((¬(Scalar.cmpi .ne (Scalar.extui (Scalar.cmpi .eq (BitVec.ofNat 32 (i 2).val) 0#32)) 0#32) = 1#1) ∧ (Scalar.cmpi .ne (Scalar.extui (Scalar.cmpi .sgt (BitVec.ofNat 32 (i 2).val) 0#32)) 0#32) = 1#1 ∧ k0_cond3 i = 1#1 ∧ (¬k0_cond4 i = 1#1) ∧ k0_cond5 i = 1#1 ∧ (i 2).val = 3 ∧ (i 1).val ≠ 0) := by
    rw [e0, e1, e2, e3, e4]; omega
  obtain ⟨hc0, hc1, hc2, hc3, hc4, hq, hb⟩ | ⟨hc0, hc1, hc2, hc3, hc4, hq, hb⟩ | ⟨hc0, hc1, hc2, hc3, hc4, hq, hb⟩ | ⟨hc0, hc1, hc2, hc3, hc4, hq, hb⟩ | ⟨hc0, hc1, hc2, hc3, hc4, hq, hb⟩ | ⟨hc0, hc1, hc2, hc3, hc4, hq, hb⟩ := hcases
  all_goals
    sl_exec (disch := first | sl_exact hc0 | sl_exact hc1 | sl_exact hc2 | sl_exact hc3 | sl_exact hc4)
    sl_step
    iapply Hk
  all_goals
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; swap; · iexact H7
      ipureintro
      first
      | have h0 : (i 1).val = 0 := hb
        exact (store_stripe harg10 y7 (i 2) o1 _ _).trans (congrArg _ (hdq.trans (if_pos hb).symm))
      | refine (store_stripe harg10 y7 (i 2) o2 _ _).trans (congrArg _ (Eq.trans ?_ (if_neg hb).symm))
        exact (congrArg₂ (fun a b => addf a b) ((cast_self _ _).trans (load_stripe harg10 y7 (i 2) o2 _)) hdq)
    isplitl [H8]
    · iexists _; isplitr; swap; · iexact H8
      ipureintro
      first
      | have h0 : (i 2).val ≠ 3 := by omega
        exact (harg11.read_unread _).trans (if_neg h0).symm
      | exact ((store_out _ _ _).trans (load_add harg13 s0 _ _ _ _)).trans ((congrArg _ hdk).trans ((if_pos hq).trans (if_neg (by omega))).symm)
    isplitl [H9]
    · iexists _; isplitr; swap; · iexact H9
      ipureintro
      first
      | have h0 : (i 2).val ≠ 3 := by omega
        exact (harg12.read_unread _).trans (if_neg h0).symm
      | exact ((store_out _ _ _).trans (load_add harg14 s1 _ _ _ _)).trans ((congrArg _ hdv).trans ((if_pos hq).trans (if_neg (by omega))).symm)
    isplitl [HS0]
    · iexists _; isplitr; swap; · iexact HS0
      ipureintro
      first
      | have h0 : (i 2).val = 0 := hq
        exact (store_set _ _ _).trans (hdk.trans (if_pos hq).symm)
      | exact (store_add harg13 _ s0 _ _ _).trans ((congrArg _ hdk).trans (if_neg (by omega)).symm)
    iexists _; isplitr; swap; · iexact HS1
    ipureintro
    first
    | have h0 : (i 2).val = 0 := hq
      exact (store_set _ _ _).trans (hdv.trans (if_pos hq).symm)
    | exact (store_add harg14 _ s1 _ _ _).trans ((congrArg _ hdv).trans (if_neg (by omega)).symm)

end Cert.KernelIdeal.Own

end
-- ==== Proof.Run.lean ====
/- The kernel's run: what the scratch accumulators and the staged block of a head hold point by point, the body's obligation,
   and what every final state holds. -/
module

public import proofs.«01_k».proof.Proof.Body
public import Idealize.ShloMosaic.Lib.Pipeline.DatRel
public import Idealize.ShloMosaic.Lib.Pipeline.ArrRel
public import Idealize.ShloMosaic.Lib.Pipeline.Frame
public import Idealize.ShloMosaic.Lib.Claim

@[expose] public section

set_option maxRecDepth 16384

noncomputable section

namespace Cert.KernelIdeal.Own

open Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel)

variable {F : FTy → Type} [FloatOps F] [Named F]

local notation "𝕄" => MT nD τ sig Unit (Elt F) ℕ (UR sig nD τ) ℕ

/-! ## A sum taken in order, and the stripes of a block -/

/-- `f 0 + f 1 + … + f n`, added from the left. -/
def accSum {s : Shape} (f : ℕ → Vec F s .f32) : ℕ → Vec F s .f32
  | 0 => f 0
  | n + 1 => addf (accSum f n) (f (n + 1))

/-- The replaced stripe is what replaced it. -/
theorem stripe_put_same (q : Fin 4) (y : Vec F S128x8192 .f32) (v : Vec F S128x2048 .f32) : stripe q (putStripe q y v) = v := by
  funext x
  have h1 : (x 1).val < 2048 := (x 1).isLt
  unfold stripe putStripe
  have hx : q.val * 2048 ≤ q.val * 2048 + (x 1).val ∧ q.val * 2048 + (x 1).val < q.val * 2048 + 2048 := by omega
  refine (dif_pos hx).trans ?_
  congr 1
  funext a
  apply Fin.ext
  match a with
  | ⟨0, _⟩ => rfl
  | ⟨1, _⟩ => show q.val * 2048 + (x 1).val - q.val * 2048 = (x 1).val; omega

/-- The other stripes stay. -/
theorem stripe_put_other {q q' : Fin 4} (h : q'.val ≠ q.val) (y : Vec F S128x8192 .f32) (v : Vec F S128x2048 .f32) :
    stripe q' (putStripe q y v) = stripe q' y := by
  funext x
  have h1 : (x 1).val < 2048 := (x 1).isLt
  unfold stripe putStripe
  have hx : ¬ (q.val * 2048 ≤ q'.val * 2048 + (x 1).val ∧ q'.val * 2048 + (x 1).val < q.val * 2048 + 2048) := by omega
  exact dif_neg hx

/-! ## The grid -/

/-- The grid point numbered `n`. -/
def pt (n : ℕ) : Fin cfg0.N := ⟨n % 512, lt_of_lt_of_eq (Nat.mod_lt _ (by omega)) N_0.symm⟩

/-- The points are numbered below 512. -/
theorem lt512 (t : Fin cfg0.N) : t.val < 512 := lt_of_lt_of_eq t.isLt N_0

/-- A point is the one with its number. -/
theorem pt_of {n : ℕ} (t : Fin cfg0.N) (h : n = t.val) : pt n = t :=
  Fin.ext (by have := lt512 t; show n % 512 = t.val; omega)

/-- A point's key block and query block. -/
theorem co1 (t : Fin cfg0.N) : (grid0.coords t 1).val = t.val / 4 % 8 := Pipeline.Grid.coords_val t 1 (by decide) rfl
theorem co2 (t : Fin cfg0.N) : (grid0.coords t 2).val = t.val % 4 := by
  have h : (grid0.coords t 2).val = t.val / 1 % 4 := Pipeline.Grid.coords_val t 2 (by decide) rfl
  rw [h, Nat.div_one]

variable (m : (ℓ : Loc nD τ sig) → Buf (Elt F) ℓ) (ρ : Dev nD → PrngReg)

/-! ## What the buffers hold point by point -/

/-- Point `t`'s contribution to the gradient of v. -/
def dvAt (c : Dev nD) (t : Fin cfg0.N) : FVec F S1024x128 .f32 := dvC (iblk m c 0 t) (iblk m c 1 t) (iblk m c 4 t) (iblk m c 5 t)
/-- Point `t`'s contribution to the gradient of k. -/
def dkAt (c : Dev nD) (t : Fin cfg0.N) : FVec F S1024x128 .f32 :=
  dkC (iblk m c 0 t) (iblk m c 1 t) (iblk m c 3 t) (iblk m c 4 t) (iblk m c 5 t) (iblk m c 6 t)
/-- Point `t`'s contribution to the gradient of q, transposed. -/
def dqAt (c : Dev nD) (t : Fin cfg0.N) : FVec F S128x2048 .f32 :=
  dqC (iblk m c 0 t) (iblk m c 1 t) (iblk m c 2 t) (iblk m c 3 t) (iblk m c 4 t) (iblk m c 5 t) (iblk m c 6 t)

/-- The contributions of key block `b` (of all heads' key blocks in a row), query block by query block. -/
def dvRun (c : Dev nD) (b q : ℕ) : Vec F S1024x128 .f32 := dvAt m c (pt (4 * b + q))
def dkRun (c : Dev nD) (b q : ℕ) : Vec F S1024x128 .f32 := dkAt m c (pt (4 * b + q))
/-- The contributions to query block `q` of head `h`, key block by key block. -/
def dqRun (c : Dev nD) (h q k : ℕ) : Vec F S128x2048 .f32 := dqAt m c (pt (32 * h + 4 * k + q))

/-- One point's step of an accumulator. -/
theorem acc_step (g : Fin cfg0.N → Vec F S1024x128 .f32) (t : Fin cfg0.N) (s : Vec F S1024x128 .f32)
    (hs : t.val % 4 ≠ 0 → s = accSum (fun q => g (pt (4 * ((t.val - 1) / 4) + q))) ((t.val - 1) % 4)) :
    accNext (grid0.coords t) s (g t) = accSum (fun q => g (pt (4 * (t.val / 4) + q))) (t.val % 4) := by
  unfold accNext
  rw [co2]
  by_cases h : t.val % 4 = 0
  · rw [if_pos h, h]
    show g t = g (pt (4 * (t.val / 4) + 0))
    rw [pt_of t (by omega)]
  · rw [if_neg h, hs h]
    have e1 : (t.val - 1) / 4 = t.val / 4 := by omega
    obtain ⟨n, hn⟩ : ∃ n, t.val % 4 = n + 1 := ⟨t.val % 4 - 1, by omega⟩
    have e2 : (t.val - 1) % 4 = n := by omega
    rw [e1, e2, hn]
    show _ = addf _ (g (pt (4 * (t.val / 4) + (n + 1))))
    rw [pt_of t (by omega)]

/-- The staged block of a head after point `t`: the stripes already visited in this key block hold the sums up to it, the others
    the sums up to the key block before. -/
def DqHolds (c : Dev nD) (t : Fin cfg0.N) (X : Vec F S128x8192 .f32) : Prop :=
  ∀ q : Fin 4, (q.val ≤ t.val % 4 → stripe q X = accSum (dqRun m c (t.val / 32) q.val) (t.val / 4 % 8))
    ∧ (t.val % 4 < q.val → t.val / 4 % 8 ≠ 0 → stripe q X = accSum (dqRun m c (t.val / 32) q.val) (t.val / 4 % 8 - 1))

/-- One point's step of the staged block of a head. -/
theorem dq_step (c : Dev nD) (t : Fin cfg0.N) (Y : Vec F S128x8192 .f32)
    (hY : t.val % 32 ≠ 0 → DqHolds m c ⟨t.val - 1, Nat.lt_of_le_of_lt (Nat.sub_le _ _) t.isLt⟩ Y) :
    DqHolds m c t (dqNext (grid0.coords t) Y (dqAt m c t)) := by
  intro q
  have hq4 := q.isLt
  unfold dqNext
  have e1 := co1 t
  have e2 := co2 t
  by_cases hq : q.val = t.val % 4
  · have hqi : q = (grid0.coords t 2 : Fin 4) := Fin.ext (hq.trans e2.symm)
    refine ⟨fun _ => ?_, fun h => absurd h (by omega)⟩
    rw [hqi]
    refine (stripe_put_same _ _ _).trans ?_
    rw [e1]
    by_cases hk : t.val / 4 % 8 = 0
    · rw [if_pos hk, hk]
      show dqAt m c t = dqAt m c (pt (32 * (t.val / 32) + 4 * 0 + (grid0.coords t 2).val))
      rw [pt_of t (by omega)]
    · rw [if_neg hk]
      obtain ⟨n, hn⟩ : ∃ n, t.val / 4 % 8 = n + 1 := ⟨t.val / 4 % 8 - 1, by omega⟩
      have hs : stripe (grid0.coords t 2 : Fin 4) Y = accSum (dqRun m c (t.val / 32) (grid0.coords t 2).val) n := by
        have hh := hY (by omega) (grid0.coords t 2)
        have e3 : (t.val - 1) / 32 = t.val / 32 := by omega
        by_cases h0 : t.val % 4 = 0
        · have := hh.1 (by show _ ≤ (t.val - 1) % 4; omega)
          rw [this]
          show accSum (dqRun m c ((t.val - 1) / 32) _) ((t.val - 1) / 4 % 8) = _
          rw [e3, show (t.val - 1) / 4 % 8 = n by omega]
        · have := hh.2 (by show (t.val - 1) % 4 < _; omega) (by show (t.val - 1) / 4 % 8 ≠ 0; omega)
          rw [this]
          show accSum (dqRun m c ((t.val - 1) / 32) _) ((t.val - 1) / 4 % 8 - 1) = _
          rw [e3, show (t.val - 1) / 4 % 8 - 1 = n by omega]
      rw [hs, hn]
      show _ = addf _ (dqAt m c (pt (32 * (t.val / 32) + 4 * (n + 1) + (grid0.coords t 2).val)))
      rw [pt_of t (by omega)]
  · have hne : q.val ≠ (grid0.coords t 2 : Fin 4).val := fun h => hq (h.trans e2)
    have hso := stripe_put_other (F := F) hne Y (if (grid0.coords t 1).val = 0 then dqAt m c t else addf (stripe (grid0.coords t 2 : Fin 4) Y) (dqAt m c t))
    refine ⟨fun hle => hso.trans ?_, fun hlt hk => hso.trans ?_⟩
    · have hh := (hY (by omega) q).1 (by show _ ≤ (t.val - 1) % 4; omega)
      rw [hh]
      show accSum (dqRun m c ((t.val - 1) / 32) _) ((t.val - 1) / 4 % 8) = _
      rw [show (t.val - 1) / 32 = t.val / 32 by omega, show (t.val - 1) / 4 % 8 = t.val / 4 % 8 by omega]
    · have hh := hY (by omega) q
      by_cases h0 : t.val % 4 = 0
      · rw [hh.1 (by show _ ≤ (t.val - 1) % 4; omega)]
        show accSum (dqRun m c ((t.val - 1) / 32) _) ((t.val - 1) / 4 % 8) = _
        rw [show (t.val - 1) / 32 = t.val / 32 by omega, show (t.val - 1) / 4 % 8 = t.val / 4 % 8 - 1 by omega]
      · rw [hh.2 (by show (t.val - 1) % 4 < _; omega) (by show (t.val - 1) / 4 % 8 ≠ 0; omega)]
        show accSum (dqRun m c ((t.val - 1) / 32) _) ((t.val - 1) / 4 % 8 - 1) = _
        rw [show (t.val - 1) / 32 = t.val / 32 by omega, show (t.val - 1) / 4 % 8 = t.val / 4 % 8 by omega]

/-! ## The proof data -/

abbrev sc0 : Memref sig .tc .vmem S1024x128 .f32 := Memref.whole cc0_scratch0
abbrev sc1 : Memref sig .tc .vmem S1024x128 .f32 := Memref.whole cc0_scratch1

/-- What the region is handed besides the arrays and the staging buffers: the scratch at anything, the generator register. -/
theorem phi_eq (c : Dev nD) :
    (Pipeline.ΦA spec0 c : sProp 𝕄)
      = iprop(((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The invariant before point `n`: before the first the scratch holds anything, afterwards the sums so far. -/
def PhiN (c : Dev nD) : ℕ → sProp 𝕄
  | 0 => Pipeline.ΦA spec0 c
  | n + 1 => iprop((owns (c : Thread nD τ) sc0 fullShare (accSum (dkRun m c (n / 4)) (n % 4))
      ∗ owns (c : Thread nD τ) sc1 fullShare (accSum (dvRun m c (n / 4)) (n % 4))) ∗ (∃ r, prngReg c r))

/-- The invariant before a point hands out the scratch at contents that continue the sums. -/
theorem PhiN_open (c : Dev nD) (n : ℕ) : PhiN m c n ⊢ iprop(∃ s0 s1, ⌜n % 4 ≠ 0 → s0 = accSum (dkRun m c ((n - 1) / 4)) ((n - 1) % 4)
      ∧ s1 = accSum (dvRun m c ((n - 1) / 4)) ((n - 1) % 4)⌝ ∗ (owns (c : Thread nD τ) sc0 fullShare s0 ∗ owns (c : Thread nD τ) sc1 fullShare s1)
      ∗ (∃ r, prngReg c r)) := by
  match n with
  | 0 =>
    show Pipeline.ΦA spec0 c ⊢ _
    rw [phi_eq]
    iintro ⟨⟨⟨%d0, H0⟩, ⟨%d1, H1⟩⟩, Hg⟩
    iexists d0; iexists d1
    isplitr
    · ipureintro; intro h; exact absurd rfl h
    isplitl [H0 H1]
    · isplitl [H0]
      · iexact H0
      iexact H1
    iexact Hg
  | n + 1 =>
    unfold PhiN
    iintro ⟨⟨H0, H1⟩, Hg⟩
    iexists _; iexists _
    isplitr
    · ipureintro; intro _; exact ⟨rfl, rfl⟩
    isplitl [H0 H1]
    · isplitl [H0]
      · iexact H0
      iexact H1
    iexact Hg

/-- The windows whose contents are only described: the three results. -/
def fgt : Fin 10 → Bool := fun w => w.val == 7 || w.val == 8 || w.val == 9

/-- What the body leaves in the results' staging buffers. -/
def Rl (c : Dev nD) : (w : Fin cfg0.W) → Fin cfg0.N → ((cfg0.win w).block.Idx → Elt F (cfg0.win w).elt) → Prop := fun w =>
  match w with
  | ⟨7, _⟩ => fun t X => DqHolds m c t X
  | ⟨8, _⟩ => fun t X => t.val % 4 = 3 → X = accSum (dkRun m c (t.val / 4)) 3
  | ⟨9, _⟩ => fun t X => t.val % 4 = 3 → X = accSum (dvRun m c (t.val / 4)) 3
  | _ => fun _ _ => True

/-- The proof data: the arrays as the region finds them, each input's buffer at its block, the invariant above, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ t := PhiN m c t.val
  q _ := fullShare
  owed _ := 0

/-- The data's fields, read off. -/
theorem A_eq (c : Dev nD) (w : Fin cfg0.W) : (dats m 0 c).A w = V m c (Pipeline.arrRef spec0 w) := by dsimp only [dats]
theorem Phi_eq (c : Dev nD) (t : Fin (cfg0.N + 1)) : (dats m 0 c).Φ t = PhiN m c t.val := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]

/-- The proof data with the results' windows held to what is said of them. -/
abbrev rdat (c : Dev nD) : RDat τ (Elt F) Unit ℕ (UR sig nD τ) ℕ cfg0 c := (dats m 0 c).toRRel fgt (Rl m c)

/-- What the staged block of a head may hold when the body finds it, at a point that is not a head's first. -/
theorem found (c : Dev nD) (t : Fin cfg0.N) (Y : Vec F S128x8192 .f32) (hY : (rdat m c).Finds 7 t Y) (h : t.val % 32 ≠ 0) :
    DqHolds m c ⟨t.val - 1, Nat.lt_of_le_of_lt (Nat.sub_le _ _) t.isLt⟩ Y := by
  rw [(rdat m c).finds_of_pos (Pipeline.Window.fetch_out (cfg0.win 7) rfl t) (by omega)] at hY
  rcases hY with hf | hl
  · have := (flush0_7 _).mp hf
    exfalso
    have : (t.val - 1) % 32 = 31 := this
    omega
  · exact (dats m 0 c).toRRel_leaves (fgt := fgt) (Rl := Rl m c) (w := 7) rfl hl

/-! ## The body's obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ Y, ⌜(rdat m c).Finds 7 t Y⌝ ∗ owns (c : Thread nD τ) (st0_7 t) fullShare Y)
    ∗ (∃ Y, ⌜(rdat m c).Finds 8 t Y⌝ ∗ owns (c : Thread nD τ) (st0_8 t) fullShare Y)
    ∗ (∃ Y, ⌜(rdat m c).Finds 9 t Y⌝ ∗ owns (c : Thread nD τ) (st0_9 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, ⌜Rl m c 7 t X⌝ ∗ owns (c : Thread nD τ) (st0_7 t) fullShare X)
    ∗ (∃ X, ⌜Rl m c 8 t X⌝ ∗ owns (c : Thread nD τ) (st0_8 t) fullShare X)
    ∗ (∃ X, ⌜Rl m c 9 t X⌝ ∗ owns (c : Thread nD τ) (st0_9 t) fullShare X))

set_option maxHeartbeats 4000000 in
/-- The body at any point, from what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl, Phi_eq, Phi_eq,
    after0, after1, after2, after3, after4, after5, after6]
  simp only [before0_0_of m (dats m 0 c) (A_eq m c 0) (after0 m c), before0_1_of m (dats m 0 c) (A_eq m c 1) (after1 m c),
    before0_2_of m (dats m 0 c) (A_eq m c 2) (after2 m c), before0_3_of m (dats m 0 c) (A_eq m c 3) (after3 m c),
    before0_4_of m (dats m 0 c) (A_eq m c 4) (after4 m c), before0_5_of m (dats m 0 c) (A_eq m c 5) (after5 m c),
    before0_6_of m (dats m 0 c) (A_eq m c 6) (after6 m c)]
  rw [show (t.castSucc : Fin (cfg0.N + 1)).val = t.val from rfl, show (t.succ : Fin (cfg0.N + 1)).val = t.val + 1 from rfl]
  refine (sep_mono (PhiN_open m c t.val) .rfl).trans ?_
  iintro ⟨⟨%s0, %s1, %hs, ⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%y7, %h7, H7⟩, ⟨%y8, %h8, H8⟩, ⟨%y9, %h9, H9⟩⟩
  iapply (body_run c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) y7 y8 y9 s0 s1 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  have hk : accNext (grid0.coords t) s0 (dkAt m c t) = accSum (dkRun m c (t.val / 4)) (t.val % 4) := acc_step (dkAt m c) t s0 fun h => (hs h).1
  have hv : accNext (grid0.coords t) s1 (dvAt m c t) = accSum (dvRun m c (t.val / 4)) (t.val % 4) := acc_step (dvAt m c) t s1 fun h => (hs h).2
  have hq := dq_step m c t y7 (found m c t y7 h7)
  have e2 := co2 t
  iintro ⟨H0, H1, H2, H3, H4, H5, H6, H7, H8, H9, HS0, HS1⟩
  isplitl [HS0 HS1 Hg]
  · unfold PhiN
    isplitl [HS0 HS1]
    · isplitl [HS0]
      · rw [← hk]; iexact HS0
      rw [← hv]; iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; exact hq
  isplitl [H8]
  · iexists _; isplitr; swap; · iexact H8
    ipureintro
    intro h3
    exact (if_pos (e2.trans h3)).trans (hk.trans (by rw [h3]))
  iexists _; isplitr; swap; · iexact H9
  ipureintro
  intro h3
  exact (if_pos (e2.trans h3)).trans (hv.trans (by rw [h3]))

/-- The body table's row is the body at the point's slots. -/
theorem defs₀_row (t : Fin cfg0.N) : defs₀ (F := F) .tc cfg0.body (cfg0.bodyArgs t (cfg0.slots t)) = bodyAt0 t := by
  unfold defs₀; rw [Defs.onTc_tc]

/-- The obligation at every point. -/
theorem obligation (c : Dev nD) : BodyObligationRel (dats (F := F) m 0 c) (defs₀ (F := F)) Variants.none () Set.univ fgt (Rl m c) := fun t => by
  rw [bigSep_W0, bigSep_W0, defs₀_row]
  exact triple_restated (sound_body m c t) rfl .rfl fun _ => .rfl

/-- The scratch is forgotten after the last point. -/
theorem Phi_out (c : Dev nD) (n : ℕ) : PhiN m c n ⊢ Pipeline.ΦA spec0 c := by
  match n with
  | 0 => exact .rfl
  | n + 1 =>
    rw [phi_eq]
    unfold PhiN
    iintro ⟨⟨H0, H1⟩, Hg⟩
    isplitl [H0 H1]
    · isplitl [H0]
      · iexists _; iexact H0
      iexists _; iexact H1
    iexact Hg

/-! ## The launch -/

/-- The launch of relational proof data, the data a variable. -/
theorem launch (dats : (p : Fin 1) → (c : Dev nD) → Dat τ (Elt F) Unit ℕ (UR sig nD τ) ℕ (cfgs p) c)
    (Rl : (c : Dev nD) → (w : Fin (cfgs 0).W) → Fin (cfgs 0).N → (((cfgs 0).win w).block.Idx → Elt F ((cfgs 0).win w).elt) → Prop)
    (hbody : ∀ c, BodyObligationRel (dats 0 c) (defs₀ (F := F)) Variants.none () Set.univ fgt (Rl c))
    (hshare : ∀ c w, (dats 0 c).share w = fullShare) (howed : ∀ c t, (dats 0 c).owed t = 0)
    (hA : ∀ c w, (dats 0 c).A w = V m c (Pipeline.arrRef (cfgs 0).spec w))
    (hin : ∀ c, Pipeline.ΦA (cfgs 0).spec c ⊢ (dats 0 c).Φ 0) (hout : ∀ c, (dats 0 c).Φ (Fin.last (cfgs 0).N) ⊢ Pipeline.ΦA (cfgs 0).spec c)
    (Q' : PUnit × MemSt nD τ sig (Elt F) → Prop)
    (hQ' : ∀ r, RDat.FramePost (cfgs 0) (fun c => (dats 0 c).toRRel fgt (Rl c)) (V m) r ∧ r.2.sem = (fun _ => 0) → Q' r) :
    θ_run defs (onTc (τ := τ) (main (F := F))) (s₀ m ρ) Q' :=
  RDat.θ_run_frame_track cfgs 0 launch0 defs₀ Variants.none (fun c => (dats 0 c).toRRel fgt (Rl c)) m ρ main
    (fun c => (hbody c).toRRel) hshare howed (V m) (hmain m Variants.none) hA hin hout Q' hQ'

set_option backward.isDefEq.respectTransparency.types false in
/-- Every execution ends, with every array at contents the data admit and every semaphore at zero. -/
theorem run_main : θ_run defs (onTc (τ := τ) (main (F := F))) (s₀ m ρ)
    (fun r => RDat.FramePost (cfgs 0) (rdat m) (V m) r ∧ r.2.sem = fun _ => 0) :=
  launch m ρ (dats m) (Rl m) (obligation m) (fun c => (dats m 0 c).share_full fun _ => rfl) (fun _ _ => rfl) (A_eq m)
    (fun c => by rw [Phi_eq]; exact .rfl) (fun c => by rw [Phi_eq]; exact Phi_out m c _) _ fun _ h => h

/-- THE FRAME: every execution ends with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (RDat.FramePost.arr_in h.1 c 3 rfl).trans ((A_eq m c 3).trans (V_main_arg2 m c)),
      ((h.1 c).2 main_arg3 (Pipeline.mem_restRefs_of main_arg3 (by decide) (by decide))).trans (V_main_arg3 m c)⟩, h.2⟩) (run_main m ρ)

end Cert.KernelIdeal.Own

end
-- ==== Proof.Spec.lean ====
/-
  The derivative of softmax attention for one head, over the real numbers, and the few facts about it that the two
  programs' ways of computing it rest on: a softmax does not change when every score of its row is shifted, base-two
  exponentials give the same softmax, and the sum over a row of output times cotangent is that of probability times its
  derivative.
-/
module

public import Idealize.ShloMosaic.PureOps.Ideal

@[expose] public section

noncomputable section

namespace Cert.Attention

open scoped BigOperators

/-- A finite sum of real numbers, taken in the extended reals. -/
theorem coe_sum {ι : Type*} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

variable {T D : ℕ} (σ : ℝ) (q k v g : Fin T → Fin D → ℝ)

/-- The scaled score of query row `t` against key row `s`. -/
def score (t s : Fin T) : ℝ := (∑ d, q t d * k s d) * σ

/-- The softmax denominator of query row `t`. -/
def total (t : Fin T) : ℝ := ∑ s, Real.exp (score σ q k t s)

/-- The softmax of the scores. -/
def prob (t s : Fin T) : ℝ := Real.exp (score σ q k t s) / total σ q k t

/-- The derivative of a probability: cotangent row times value row. -/
def dprob (t s : Fin T) : ℝ := ∑ d, g t d * v s d

/-- The mean of a row's `dprob` under its probabilities. -/
def delta (t : Fin T) : ℝ := ∑ s, prob σ q k t s * dprob v g t s

/-- The derivative of a score before its scale. -/
def dscore (t s : Fin T) : ℝ := prob σ q k t s * (dprob v g t s - delta σ q k v g t)

/-- The gradient of the query rows. -/
def gradQ (t : Fin T) (d : Fin D) : ℝ := ∑ s, dscore σ q k v g t s * σ * k s d

/-- The gradient of the key rows. -/
def gradK (s : Fin T) (d : Fin D) : ℝ := ∑ t, dscore σ q k v g t s * σ * q t d

/-- The gradient of the value rows. -/
def gradV (s : Fin T) (d : Fin D) : ℝ := ∑ t, g t d * prob σ q k t s

theorem total_pos (t : Fin T) : 0 < total σ q k t :=
  Finset.sum_pos (fun _ _ => Real.exp_pos _) ⟨t, Finset.mem_univ t⟩

/-- The denominator of a row whose scores are shifted by `m`. -/
theorem sum_shift (t : Fin T) (m : ℝ) : ∑ s, Real.exp (score σ q k t s - m) = total σ q k t / Real.exp m := by
  rw [total, Finset.sum_div]
  exact Finset.sum_congr rfl fun s _ => Real.exp_sub _ _

theorem sum_shift_pos (t : Fin T) (m : ℝ) : 0 < ∑ s, Real.exp (score σ q k t s - m) := by
  rw [sum_shift]
  exact div_pos (total_pos σ q k t) (Real.exp_pos m)

/-- Shifting a row's scores leaves its softmax as it was. -/
theorem exp_shift_div (t s : Fin T) (m : ℝ) :
    Real.exp (score σ q k t s - m) / ∑ s', Real.exp (score σ q k t s' - m) = prob σ q k t s := by
  rw [sum_shift, Real.exp_sub, prob]
  have := (total_pos σ q k t).ne'
  have := (Real.exp_pos m).ne'
  field_simp

/-- The softmax by base-two exponentials: queries carry `σ / log 2`, and the row's log-sum is in base two too. -/
theorem two_rpow (t s : Fin T) (m : ℝ) :
    (2 : ℝ) ^ ((∑ d, k s d * (q t d * (σ / Real.log 2)))
        - (m + Real.log (∑ s', Real.exp (score σ q k t s' - m))) / Real.log 2) = prob σ q k t s := by
  have h2 : Real.log 2 ≠ 0 := (Real.log_pos (by norm_num)).ne'
  have hs : ∑ d, k s d * (q t d * (σ / Real.log 2)) = score σ q k t s / Real.log 2 := by
    rw [score, Finset.sum_mul, Finset.sum_div]
    exact Finset.sum_congr rfl fun d _ => by ring
  rw [hs, Real.rpow_def_of_pos (by norm_num : (0 : ℝ) < 2),
    show Real.log 2 * (score σ q k t s / Real.log 2
        - (m + Real.log (∑ s', Real.exp (score σ q k t s' - m))) / Real.log 2)
      = score σ q k t s - m - Real.log (∑ s', Real.exp (score σ q k t s' - m)) by field_simp; ring,
    Real.exp_sub, Real.exp_log (sum_shift_pos σ q k t m), exp_shift_div]

/-- The row sum of output times cotangent. -/
theorem sum_out_mul (t : Fin T) :
    ∑ d, (∑ s, prob σ q k t s * v s d) * g t d = delta σ q k v g t := by
  simp only [delta, dprob, Finset.sum_mul, Finset.mul_sum]
  rw [Finset.sum_comm]
  exact Finset.sum_congr rfl fun s _ => Finset.sum_congr rfl fun d _ => by ring

/-- The derivative of the quotient `e / l`, with `e` the shifted exponentials and `l` their sum, times that of `e`. -/
theorem quotient_rule (t s : Fin T) (m : ℝ) :
    (dprob v g t s / ∑ s', Real.exp (score σ q k t s' - m)
        + -∑ s'', dprob v g t s''
            * (1 / ((∑ s', Real.exp (score σ q k t s' - m)) * ∑ s', Real.exp (score σ q k t s' - m)))
            * Real.exp (score σ q k t s'' - m))
      * Real.exp (score σ q k t s - m) = dscore σ q k v g t s := by
  have hd : delta σ q k v g t = ∑ s'', Real.exp (score σ q k t s'' - m)
      / (∑ s', Real.exp (score σ q k t s' - m)) * dprob v g t s'' :=
    Finset.sum_congr rfl fun s'' _ => by rw [exp_shift_div]
  rw [dscore, ← exp_shift_div σ q k t s m, hd]
  have hl := (sum_shift_pos σ q k t m).ne'
  generalize ∑ s', Real.exp (score σ q k t s' - m) = l at hl ⊢
  rw [mul_sub, add_mul, sub_eq_add_neg, neg_mul, Finset.mul_sum, Finset.sum_mul]
  refine congrArg₂ (· + ·) (by field_simp) (congrArg _ (Finset.sum_congr rfl fun s'' _ => by field_simp))

end Cert.Attention

end
-- ==== Proof.RefValue.lean ====
/-
  What the reference computes, element by element, when the elements of its arguments that it reads are real numbers:
  the derivative of attention as `Spec` states it, head by head.
-/
module

public import proofs.«01_k».proof.Proof.Gen.ReferenceIdeal.Read
public import proofs.«01_k».proof.Proof.Spec

@[expose] public section

set_option maxRecDepth 16384

noncomputable section

namespace Cert.Attention

open Idealize.ShloMosaic Idealize.SL.Sem Cert.ReferenceIdeal Cert.ReferenceIdeal.Gen Cert.ReferenceIdeal.Read

/-- The scale of the scores, the literal both programs print. -/
def scale : ℝ := (Ideal.ofBits .f32 0x3DB504F3#32).toReal

theorem ofBits_scale : Ideal.ofBits .f32 0x3DB504F3#32 = (scale : EReal) := by
  rw [scale, EReal.coe_toReal] <;> simp only [Ideal.ofBits, Ideal.ieee] <;> simp <;> rw [← EReal.coe_mul]
  exacts [EReal.coe_ne_top _, EReal.coe_ne_bot _]

/-- Rows of one query head in an array of sixteen heads' columns. -/
def heads (x : Fin 8192 → Fin 2048 → ℝ) (h : Fin 16) (t : Fin 8192) (d : Fin 128) : ℝ := x t ⟨128 * h + d, by omega⟩

/-- Rows of the kv head that a query head reads in an array of four heads' columns. -/
def kvHeads (x : Fin 8192 → Fin 512 → ℝ) (h : Fin 16) (t : Fin 8192) (d : Fin 128) : ℝ :=
  x t ⟨128 * (h / 4) + d, by omega⟩

/-- The reference's four arguments, as arrays of real numbers where it reads them. -/
structure RealArgs (X0 : S8192x2048.Idx → EReal) (X1 : S8192x512.Idx → EReal) (X2 : S8192x9216.Idx → EReal)
    (X3 : S8192x2048.Idx → EReal) (x0 : Fin 8192 → Fin 2048 → ℝ) (x1 x2 : Fin 8192 → Fin 512 → ℝ)
    (x3 : Fin 8192 → Fin 2048 → ℝ) : Prop where
  q : ∀ i, X0 i = (x0 (i 0) (i 1) : EReal)
  k : ∀ i, X1 i = (x1 (i 0) (i 1) : EReal)
  v : ∀ (i : S8192x9216.Idx) (j : Fin 512), (i 1).val = 4608 + j.val → X2 i = (x2 (i 0) j : EReal)
  g : ∀ i, X3 i = (x3 (i 0) (i 1) : EReal)

/-- The greatest of real numbers, from minus infinity, over a nonempty set is a real number. -/
theorem foldl_max_real {ι : Type*} (f : ι → EReal) (hf : ∀ i, ∃ r : ℝ, f i = r) (l : List ι) (z : EReal) :
    (∃ r : ℝ, z = r) ∨ (z = ⊥ ∧ l ≠ []) → ∃ r : ℝ, l.foldl (fun a n => max a (f n)) z = r := by
  induction l generalizing z with
  | nil => rintro (h | ⟨_, h⟩); exacts [h, absurd rfl h]
  | cons a l ih =>
    intro h
    refine ih _ (Or.inl ?_)
    obtain ⟨r, hr⟩ := hf a
    rcases h with ⟨s, hs⟩ | ⟨hz, _⟩
    · exact ⟨max s r, by show max z (f a) = _; rw [hs, hr]; exact (EReal.coe_strictMono.monotone.map_max).symm⟩
    · exact ⟨r, by show max z (f a) = _; rw [hz, hr]; exact max_bot_left _⟩

/-- The host's row maximum of real numbers is a real number. -/
theorem reduce_max_real (x : S16x8192x8192.Idx → EReal) (hx : ∀ i, ∃ r : ℝ, x i = r) (init : S_.Idx → EReal)
    (hinit : ∀ i, init i = ⊥) (h : S16x8192x8192.ReducesTo [2] S16x8192) (hu : 0 < S_.numel) (j : S16x8192.Idx) :
    ∃ r : ℝ, Host.reduce (FloatOps.maximumf (F := Ideal) (φ := .f32)) x init h hu j = r := by
  refine foldl_max_real _ (fun n => hx _) _ _ (Or.inr ⟨hinit _, ?_⟩)
  refine List.ne_nil_of_mem (a := S16x8192x8192.rowMajor (ValueIdx.ix3 (n0 := 16) (n1 := 8192) (n2 := 8192) (j 0) (j 1) 0)) ?_
  refine List.mem_filter.2 ⟨List.mem_finRange _, decide_eq_true ?_⟩
  rw [Equiv.symm_apply_apply]
  refine funext fun b => Fin.ext ?_
  match b with
  | ⟨0, _⟩ => exact h.drop_apply_val_of_eq _ 0 0
  | ⟨1, _⟩ => exact h.drop_apply_val_of_eq _ 1 1

theorem ofBits_neg_inf : Ideal.ofBits .f32 0xFF800000#32 = (⊥ : EReal) := by simp [Ideal.ofBits, Ideal.ieee]
theorem ofBits_one : Ideal.ofBits .f32 0x3F800000#32 = ((1 : ℝ) : EReal) := by
  simp [Ideal.ofBits, Ideal.ieee]
  rw [← EReal.coe_mul]
  norm_num

/-- A quotient of real numbers by one that is not zero. -/
theorem div_real (a b : ℝ) (hb : b ≠ 0) : Ideal.div (a : EReal) (b : EReal) = ((a / b : ℝ) : EReal) := by
  rw [Ideal.div_coe hb, ← EReal.coe_mul, mul_one_div]

section
variable {X0 : S8192x2048.Idx → EReal} {X1 : S8192x512.Idx → EReal} {X2 : S8192x9216.Idx → EReal}
  {X3 : S8192x2048.Idx → EReal} {x0 : Fin 8192 → Fin 2048 → ℝ} {x1 x2 : Fin 8192 → Fin 512 → ℝ}
  {x3 : Fin 8192 → Fin 2048 → ℝ} (R : RealArgs X0 X1 X2 X3 x0 x1 x2 x3)
include R

theorem v0_at (i : S8192x16x128.Idx) : val_main_v0 (F := Ideal) X0 i = (heads x0 (i 1) (i 0) (i 2) : EReal) := by
  have h1 : (i 1).val < 16 := (i 1).isLt
  have h2 : (i 2).val < 128 := (i 2).isLt
  rw [val_main_v0_apply, R.q]
  refine congrArg _ (congrArg₂ x0 (Fin.ext ?_) (Fin.ext ?_))
  · show (((i 0).val * 16 + (i 1).val) * 128 + (i 2).val) / 2048 = (i 0).val
    omega
  · show (((i 0).val * 16 + (i 1).val) * 128 + (i 2).val) % 2048 = 128 * (i 1).val + (i 2).val
    omega

theorem v41_at (i : S8192x16x128.Idx) : val_main_v41 (F := Ideal) X3 i = (heads x3 (i 1) (i 0) (i 2) : EReal) := by
  have h1 : (i 1).val < 16 := (i 1).isLt
  have h2 : (i 2).val < 128 := (i 2).isLt
  rw [val_main_v41_apply, R.g]
  refine congrArg _ (congrArg₂ x3 (Fin.ext ?_) (Fin.ext ?_))
  · show (((i 0).val * 16 + (i 1).val) * 128 + (i 2).val) / 2048 = (i 0).val
    omega
  · show (((i 0).val * 16 + (i 1).val) * 128 + (i 2).val) % 2048 = 128 * (i 1).val + (i 2).val
    omega

theorem v3_at (i : S8192x16x128.Idx) : val_main_v3 (F := Ideal) X1 i = (kvHeads x1 (i 1) (i 0) (i 2) : EReal) := by
  have h1 : (i 1).val < 16 := (i 1).isLt
  have h2 : (i 2).val < 128 := (i 2).isLt
  rw [val_main_v3_apply, val_main_v2_apply, val_main_v1_apply, R.k]
  refine congrArg _ (congrArg₂ x1 (Fin.ext ?_) (Fin.ext ?_))
  · dsimp only [idx_main_v1, idx_main_v2, idx_main_v3]
    omega
  · dsimp only [idx_main_v1, idx_main_v2, idx_main_v3]
    omega

theorem v7_at (i : S8192x16x128.Idx) : val_main_v7 (F := Ideal) X2 i = (kvHeads x2 (i 1) (i 0) (i 2) : EReal) := by
  have h1 : (i 1).val < 16 := (i 1).isLt
  have h2 : (i 2).val < 128 := (i 2).isLt
  rw [val_main_v7_apply, val_main_v6_apply, val_main_v5_apply, val_main_v4_apply,
    R.v _ ⟨128 * ((i 1).val / 4) + (i 2).val, by omega⟩ ?_]
  · refine congrArg _ (congrArg₂ x2 (Fin.ext ?_) rfl)
    dsimp only [idx_main_v4, idx_main_v5, idx_main_v6, idx_main_v7]
    omega
  · dsimp only [idx_main_v4, idx_main_v5, idx_main_v6, idx_main_v7]
    omega

/-- The scores. -/
theorem v10_at (i : S16x8192x8192.Idx) :
    val_main_v10 (F := Ideal) X0 X1 i = (score scale (heads x0 (i 0)) (kvHeads x1 (i 0)) (i 1) (i 2) : EReal) := by
  rw [val_main_v10_apply, val_main_v8_apply, val_main_v9_apply]
  show (∑ d : Fin 128, _ : EReal) * Ideal.ofBits .f32 0x3DB504F3#32 = _
  simp only [v0_at R, v3_at R, ← EReal.coe_mul]
  rw [coe_sum, ofBits_scale, ← EReal.coe_mul]
  rfl

/-- A row's greatest score is some real number. -/
theorem v18_at (j : S16x8192.Idx) : ∃ r : ℝ, val_main_v18 (F := Ideal) X0 X1 j = r := by
  obtain ⟨r, hr⟩ := reduce_max_real (val_main_v10 (F := Ideal) X0 X1) (fun i => ⟨_, v10_at R i⟩)
    (val_main_cst_0 (F := Ideal)) (fun _ => ofBits_neg_inf) reducesTo_S16x8192x8192_S16x8192_d2 h_S_ j
  refine ⟨r, ?_⟩
  rw [val_main_v18_apply, val_main_v17_apply]
  show max (Ideal.ofBits .f32 0xFF800000#32) (val_main_v11 (F := Ideal) X0 X1 j) = _
  rw [ofBits_neg_inf, max_bot_left]
  exact hr

/-- The shift that the reference's softmax takes in a row. -/
def shift (_R : RealArgs X0 X1 X2 X3 x0 x1 x2 x3) (h : Fin 16) (t : Fin 8192) : ℝ :=
  (val_main_v18 (F := Ideal) X0 X1 (ValueIdx.ix2 (n0 := 16) (n1 := 8192) h t)).toReal

theorem v29_at (i : S16x8192x8192.Idx) : val_main_v29 (F := Ideal) X0 X1 i = (shift R (i 0) (i 1) : EReal) := by
  rw [val_main_v29_apply, val_main_v28_apply]
  have e : idx_main_v28 (idx_main_v29 i) = ValueIdx.ix2 (n0 := 16) (n1 := 8192) (i 0) (i 1) :=
    funext fun a => match a with | ⟨0, _⟩ => rfl | ⟨1, _⟩ => rfl
  rw [e]
  obtain ⟨r, hr⟩ := v18_at R (ValueIdx.ix2 (n0 := 16) (n1 := 8192) (i 0) (i 1))
  have hs : shift R (i 0) (i 1) = r := (congrArg EReal.toReal hr).trans (EReal.toReal_coe r)
  rw [hr, hs]

/-- The shifted exponentials. -/
theorem v31_at (i : S16x8192x8192.Idx) : val_main_v31 (F := Ideal) X0 X1 i
    = (Real.exp (score scale (heads x0 (i 0)) (kvHeads x1 (i 0)) (i 1) (i 2) - shift R (i 0) (i 1)) : EReal) := by
  rw [val_main_v31_apply, val_main_v30_apply, v10_at R, v29_at R]
  rfl

/-- Their row sums. -/
theorem v32_at (i : S16x8192.Idx) : val_main_v32 (F := Ideal) X0 X1 i
    = ((∑ s, Real.exp (score scale (heads x0 (i 0)) (kvHeads x1 (i 0)) (i 1) s - shift R (i 0) (i 1)) : ℝ) : EReal) := by
  rw [val_main_v32_apply]
  show Ideal.ofBits .f32 0x00000000#32 + _ = _
  rw [Ideal.ofBits_zero_f32, zero_add, ← coe_sum]
  exact Finset.sum_congr rfl fun s _ => v31_at R _

/-- The probabilities. -/
theorem v35_at (i : S16x8192x8192.Idx) :
    val_main_v35 (F := Ideal) X0 X1 i = (prob scale (heads x0 (i 0)) (kvHeads x1 (i 0)) (i 1) (i 2) : EReal) := by
  rw [val_main_v35_apply, val_main_v34_apply, val_main_v33_apply, v31_at R, v32_at R]
  exact (div_real _ _ (sum_shift_pos _ _ _ _ _).ne').trans (congrArg _ (exp_shift_div _ _ _ _ _ _))

theorem v42_at (i : S16x128x8192.Idx) : val_main_v42 (F := Ideal) X3 i = (heads x3 (i 0) (i 2) (i 1) : EReal) := by
  rw [val_main_v42_apply, v41_at R]
  rfl

/-- The derivative of the probabilities. -/
theorem v43_at (i : S16x8192x8192.Idx) :
    val_main_v43 (F := Ideal) X2 X3 i = (dprob (kvHeads x2 (i 0)) (heads x3 (i 0)) (i 1) (i 2) : EReal) := by
  rw [val_main_v43_apply]
  simp only [v42_at R, v7_at R, ← EReal.coe_mul]
  exact coe_sum _ _

/-- The derivative of the scaled scores, times the scale. -/
theorem v59_at (i : S16x8192x8192.Idx) : val_main_v59 (F := Ideal) X0 X1 X2 X3 i
    = (dscore scale (heads x0 (i 0)) (kvHeads x1 (i 0)) (kvHeads x2 (i 0)) (heads x3 (i 0)) (i 1) (i 2) * scale : ℝ) := by
  have hl := (sum_shift_pos scale (heads x0 (i 0)) (kvHeads x1 (i 0)) (i 1) (shift R (i 0) (i 1))).ne'
  have h38 : ∀ s : Fin 8192, val_main_v48 (F := Ideal) X0 X1 X2 X3 (ValueIdx.ix3 (n0 := 16) (n1 := 8192) (n2 := 8192) (i 0) (i 1) s)
      = ((dprob (kvHeads x2 (i 0)) (heads x3 (i 0)) (i 1) s
          * (1 / ((∑ s', Real.exp (score scale (heads x0 (i 0)) (kvHeads x1 (i 0)) (i 1) s' - shift R (i 0) (i 1)))
              * ∑ s', Real.exp (score scale (heads x0 (i 0)) (kvHeads x1 (i 0)) (i 1) s' - shift R (i 0) (i 1))))
          * Real.exp (score scale (heads x0 (i 0)) (kvHeads x1 (i 0)) (i 1) s - shift R (i 0) (i 1)) : ℝ) : EReal) := by
    intro s
    rw [val_main_v48_apply, val_main_v47_apply, v43_at R, v31_at R, val_main_v46_apply, val_main_v38_apply,
      val_main_v37_apply, val_main_v36_apply, val_main_v33_apply, v32_at R]
    show _ * Ideal.div (Ideal.ofBits .f32 0x3F800000#32) (_ * _) * _ = _
    rw [ofBits_one, ← EReal.coe_mul]
    erw [div_real _ _ (mul_ne_zero hl hl)]
    rfl
  have h54 : val_main_v55 (F := Ideal) X0 X1 X2 X3 i = ((-∑ s : Fin 8192, dprob (kvHeads x2 (i 0)) (heads x3 (i 0)) (i 1) s
          * (1 / ((∑ s', Real.exp (score scale (heads x0 (i 0)) (kvHeads x1 (i 0)) (i 1) s' - shift R (i 0) (i 1)))
              * ∑ s', Real.exp (score scale (heads x0 (i 0)) (kvHeads x1 (i 0)) (i 1) s' - shift R (i 0) (i 1))))
          * Real.exp (score scale (heads x0 (i 0)) (kvHeads x1 (i 0)) (i 1) s - shift R (i 0) (i 1)) : ℝ) : EReal) := by
    rw [val_main_v55_apply, val_main_v54_apply, Fin.sum_univ_one, val_main_v51_apply, val_main_v50_apply, val_main_v49_apply]
    show Ideal.ofBits .f32 0x00000000#32 + -(Ideal.ofBits .f32 0x00000000#32 + _) = _
    rw [Ideal.ofBits_zero_f32, zero_add, zero_add, EReal.coe_neg, ← coe_sum]
    refine congrArg _ (Finset.sum_congr rfl fun s _ => (congrArg _ ?_).trans (h38 s))
    have h1 : (i 1).val < 8192 := (i 1).isLt
    refine funext fun a => Fin.ext ?_
    match a with
    | ⟨0, _⟩ =>
      show (((i 0).val * 8192 + (i 1).val) * 1 + 0) / 8192 = (i 0).val
      omega
    | ⟨1, _⟩ =>
      show (((i 0).val * 8192 + (i 1).val) * 1 + 0) % 8192 = (i 1).val
      omega
    | ⟨2, _⟩ => rfl
  rw [val_main_v59_apply, val_main_v58_apply, val_main_v57_apply, val_main_v56_apply, h54, v31_at R, val_main_v53_apply,
    v43_at R, val_main_v52_apply, val_main_v33_apply, v32_at R]
  show (Ideal.div _ _ + _) * _ * Ideal.ofBits .f32 0x3DB504F3#32 = _
  erw [div_real _ _ hl]
  rw [ofBits_scale, ← EReal.coe_add, ← EReal.coe_mul, ← EReal.coe_mul]
  exact congrArg _ (congrArg (· * scale) (quotient_rule _ _ _ _ _ _ _ _))

/-- Where the reference's last reshape of a gradient reads: row, head and column of the head. -/
theorem split_col (i : S8192x2048.Idx) (h : Fin 16) (d : Fin 128) (hi : (i 1).val = 128 * h.val + d.val) :
    idx_main_v67 i = ValueIdx.ix3 (n0 := 8192) (n1 := 16) (n2 := 128) (i 0) h d := by
  refine funext fun a => Fin.ext ?_
  match a with
  | ⟨0, _⟩ =>
    show ((i 0).val * 2048 + (i 1).val) / 2048 = (i 0).val
    omega
  | ⟨1, _⟩ =>
    show ((i 0).val * 2048 + (i 1).val) / 128 % 16 = h.val
    omega
  | ⟨2, _⟩ =>
    show ((i 0).val * 2048 + (i 1).val) % 128 = d.val
    omega

/-- The gradient of the values, as the reference returns it. -/
theorem v67_at (i : S8192x2048.Idx) (h : Fin 16) (d : Fin 128) (hi : (i 1).val = 128 * h.val + d.val) :
    val_main_v67 (F := Ideal) X0 X1 X3 i = (gradV scale (heads x0 h) (kvHeads x1 h) (heads x3 h) (i 0) d : EReal) := by
  rw [val_main_v67_apply, split_col R i h d hi, val_main_v45_apply, val_main_v44_apply]
  simp only [v42_at R, v35_at R, ← EReal.coe_mul]
  exact coe_sum _ _

/-- The gradient of the keys. -/
theorem v66_at (i : S8192x2048.Idx) (h : Fin 16) (d : Fin 128) (hi : (i 1).val = 128 * h.val + d.val) :
    val_main_v66 (F := Ideal) X0 X1 X2 X3 i
      = (gradK scale (heads x0 h) (kvHeads x1 h) (kvHeads x2 h) (heads x3 h) (i 0) d : EReal) := by
  rw [val_main_v66_apply, show idx_main_v66 i = _ from split_col R i h d hi, val_main_v61_apply, val_main_v60_apply]
  simp only [v59_at R, v0_at R, ← EReal.coe_mul]
  exact coe_sum _ _

/-- The gradient of the queries, transposed. -/
theorem v65_at (i : S2048x8192.Idx) (h : Fin 16) (d : Fin 128) (hi : (i 0).val = 128 * h.val + d.val) :
    val_main_v65 (F := Ideal) X0 X1 X2 X3 i
      = (gradQ scale (heads x0 h) (kvHeads x1 h) (kvHeads x2 h) (heads x3 h) (i 1) d : EReal) := by
  rw [val_main_v65_apply, val_main_v64_apply,
    show idx_main_v64 (idx_main_v65 i) = _ from split_col R (idx_main_v65 i) h d hi, val_main_v63_apply,
    val_main_v62_apply]
  simp only [v59_at R, v3_at R, ← EReal.coe_mul]
  exact coe_sum _ _

end

end Cert.Attention

end
-- ==== Proof.Prefix.lean ====
/-
  The arrays that the kernel's region is entered with, element by element: the queries times scale over log 2, the keys
  and their transpose, the values' columns, the cotangent, and of every row its log-sum in base two and its sum of output
  times cotangent, all as real numbers.
-/
module

public import proofs.«01_k».proof.Proof.RefValue
public import proofs.«01_k».proof.Proof.Run

@[expose] public section

set_option maxRecDepth 16384

noncomputable section

namespace Cert.Attention

open Idealize.ShloMosaic Idealize.ShloMosaic.TcCoe Idealize.SL.Sem Cert.KernelIdeal Cert.KernelIdeal.Gen
open Cert.ReferenceIdeal.Read (val_main_v10 val_main_v11 val_main_v17 val_main_v18 val_main_v31 val_main_v32 val_main_v35 val_main_v7 val_main_v41
  val_main_v17_apply val_main_v18_apply lidx_main_v62 ridx_main_v62)

/-! ## The kernel's own stages, over the reference's -/

section Stages
variable (X0 : S8192x2048.Idx → EReal) (X1 : S8192x512.Idx → EReal) (X2 : S8192x9216.Idx → EReal)
  (X3 : S8192x2048.Idx → EReal)

/-- The reference's maximum over a row once more against minus infinity is that maximum. -/
theorem v11_eq : val_main_v11 (F := Ideal) X0 X1 = val_main_v18 (F := Ideal) X0 X1 := by
  funext j
  rw [val_main_v18_apply, val_main_v17_apply]
  show _ = max (Ideal.ofBits .f32 0xFF800000#32) (val_main_v11 (F := Ideal) X0 X1 j)
  rw [ofBits_neg_inf, max_bot_left]

/-- The exponentials of the scores less their row's maximum. -/
def expo : S16x8192x8192.Idx → EReal :=
  Host.exp (F := Ideal) (φ := .f32) (subf (φ := .f32) (val_main_v10 (F := Ideal) X0 X1)
    (broadcastInDim S16x8192x8192 ![0, 1, 2] bcast_S16x8192x1_S16x8192x8192_0_1_2
      (broadcastInDim S16x8192x1 ![0, 1] bcast_S16x8192_S16x8192x1_0_1 (val_main_v11 (F := Ideal) X0 X1))))

theorem expo_eq : expo X0 X1 = val_main_v31 (F := Ideal) X0 X1 := by
  unfold expo
  rw [v11_eq]
  rfl

/-- Their row sums. -/
def rowSum : S16x8192.Idx → EReal :=
  Host.reduceAdd (F := Ideal) (φ := .f32) (expo X0 X1) (constant S_ .f32 0x00000000#32)
    reducesTo_S16x8192x8192_S16x8192_d2 h_S_

theorem rowSum_eq : rowSum X0 X1 = val_main_v32 (F := Ideal) X0 X1 := by
  unfold rowSum
  rw [expo_eq]
  rfl

/-- A row's log-sum in base two. -/
def lse : S16x8192.Idx → EReal :=
  Host.divf (F := Ideal) (φ := .f32) (addf (φ := .f32) (val_main_v11 (F := Ideal) X0 X1) (Host.log (F := Ideal) (φ := .f32) (rowSum X0 X1)))
    (broadcastInDim S16x8192 ![] bcast_S_S16x8192 (Host.log (F := Ideal) (constant S_ .f32 0x40000000#32)))

/-- The probabilities. -/
def probs : S16x8192x8192.Idx → EReal :=
  Host.divf (F := Ideal) (φ := .f32) (expo X0 X1)
    (broadcastInDim S16x8192x8192 ![0, 1, 2] bcast_S16x8192x1_S16x8192x8192_0_1_2
      (broadcastInDim S16x8192x1 ![0, 1] bcast_S16x8192_S16x8192x1_0_1 (rowSum X0 X1)))

theorem probs_eq : probs X0 X1 = val_main_v35 (F := Ideal) X0 X1 := by
  unfold probs
  rw [expo_eq, rowSum_eq]
  rfl

/-- The attention's output. -/
def out : S16x8192x128.Idx → EReal :=
  Host.dotGeneral (F := Ideal) (φ₁ := .f32) (φ₂ := .f32) dot_S16x8192x8192_S8192x16x128_S16x8192x128_2_0_1_2_0_1 none
    (probs X0 X1) (val_main_v7 (F := Ideal) X2)

/-- A row's sum of output times cotangent. -/
def outSum : S16x8192.Idx → EReal :=
  Host.reduceAdd (F := Ideal) (φ := .f32) (mulf (φ := .f32) (out X0 X1 X2)
    (transpose S16x8192x128 [1, 0, 2] (val_main_v41 (F := Ideal) X3) transposes_S8192x16x128_S16x8192x128_1_0_2))
    (constant S_ .f32 0x00000000#32) reducesTo_S16x8192x128_S16x8192_d2 h_S_

end Stages

section Entry
variable (m : (ℓ : Loc nD τ sig) → Buf (Elt Ideal) ℓ) (c : Dev nD)

abbrev argQ : S8192x2048.Idx → EReal := m ((c.tc : Thread nD τ).loc main_arg0)
abbrev argK : S8192x512.Idx → EReal := m ((c.tc : Thread nD τ).loc main_arg1)
abbrev argZ : S8192x9216.Idx → EReal := m ((c.tc : Thread nD τ).loc main_arg2)
abbrev argG : S8192x2048.Idx → EReal := m ((c.tc : Thread nD τ).loc main_arg3)

theorem V_v4 : V m c main_v4 = fun i => argQ m c i
    * Ideal.div (Ideal.ofBits .f32 0x3DB504F3#32) (Ideal.log (Ideal.ofBits .f32 0x40000000#32)) := by
  entry_read
  rfl

theorem V_v5 : V m c main_v5 = argK m c := by
  entry_read
  rfl

theorem V_v40 : V m c main_v40 = transpose S512x8192 [1, 0] (argK m c) transposes_S8192x512_S512x8192_1_0 := by
  entry_read
  rfl

theorem V_v41 : V m c main_v41 = argG m c := by
  entry_read
  rfl

theorem V_arg2 : V m c main_arg2 = argZ m c := by
  entry_read
  rfl

theorem V_v37 : V m c main_v37 = broadcastInDim S16x8x8192 ![0, 1, 2] bcast_S16x1x8192_S16x8x8192_0_1_2
    (broadcastInDim S16x1x8192 ![0, 2] bcast_S16x8192_S16x1x8192_0_2 (lse (argQ m c) (argK m c))) := by
  entry_read
  rfl

theorem V_v39 : V m c main_v39 = broadcastInDim S16x8x8192 ![0, 1, 2] bcast_S16x1x8192_S16x8x8192_0_1_2
    (broadcastInDim S16x1x8192 ![0, 2] bcast_S16x8192_S16x1x8192_0_2
      (outSum (argQ m c) (argK m c) (argZ m c) (argG m c))) := by
  entry_read
  rfl

end Entry

/-! ## Read at an index -/

theorem ofBits_two : Ideal.ofBits .f32 0x40000000#32 = ((2 : ℝ) : EReal) := by
  simp [Ideal.ofBits, Ideal.ieee]
  rw [← EReal.coe_mul]
  norm_num

theorem log_real (a : ℝ) (ha : 0 < a) : Ideal.log (a : EReal) = (Real.log a : EReal) := by
  rw [Ideal.log_coe, if_neg ha.not_ge]

theorem divf_at {s : Shape} (x y : s.Idx → EReal) (j : s.Idx) :
    Host.divf (F := Ideal) (φ := .f32) x y j = Ideal.div (x j) (y j) := rfl
theorem addf_at {s : Shape} (x y : s.Idx → EReal) (j : s.Idx) : addf (F := Ideal) (φ := .f32) x y j = x j + y j := rfl
theorem hostLog_at {s : Shape} (x : s.Idx → EReal) (j : s.Idx) :
    Host.log (F := Ideal) (φ := .f32) x j = Ideal.log (x j) := rfl
theorem const_at (b : BitVec 32) (j : S16x8192.Idx) :
    broadcastInDim S16x8192 ![] bcast_S_S16x8192 (Host.log (F := Ideal) (constant (F := Ideal) S_ .f32 b)) j
      = Ideal.log (Ideal.ofBits .f32 b) := by
  refine (broadcastInDim_apply _ bcast_S_S16x8192 _ j (fun a => a.elim0) (fun a => a.elim0)).trans ?_
  rfl

theorem log_two_ne : Real.log 2 ≠ 0 := (Real.log_pos (by norm_num)).ne'

/-- A batched product of probabilities and values at an index. -/
theorem out_dot (y0 : S16x8192x8192.Idx → EReal) (y1 : S8192x16x128.Idx → EReal) (i : S16x8192x128.Idx) :
    Host.dotGeneral (F := Ideal) (φ₁ := .f32) (φ₂ := .f32) dot_S16x8192x8192_S8192x16x128_S16x8192x128_2_0_1_2_0_1 none y0 y1 i
      = ∑ k : Fin 8192, y0 (lidx_main_v62 i k) * y1 (ridx_main_v62 i k) := by
  simp only [Host.dotGeneral]
  let e := ValueIdx.contrEquiv1 dot_S16x8192x8192_S8192x16x128_S16x8192x128_2_0_1_2_0_1 8192 rfl rfl
  rw [Ideal.dotGeneral_apply, ← Equiv.sum_comp e.symm]
  refine Finset.sum_congr rfl fun k _ => ?_
  have hk := ValueIdx.contrEquiv1_symm_val dot_S16x8192x8192_S8192x16x128_S16x8192x128_2_0_1_2_0_1 8192 rfl rfl k
  refine congrArg₂ (fun a b => y0 a * y1 b) (funext fun a => Fin.ext ?_) (funext fun a => Fin.ext ?_)
  · match a with
    | ⟨0, _⟩ => exact Cert.ReferenceIdeal.Read.lhs_main_v62_0 _ _
    | ⟨1, _⟩ => exact Cert.ReferenceIdeal.Read.lhs_main_v62_1 _ _
    | ⟨2, _⟩ => exact (Cert.ReferenceIdeal.Read.lhs_main_v62_2 _ _).trans hk
  · match a with
    | ⟨0, _⟩ => exact (Cert.ReferenceIdeal.Read.rhs_main_v62_0 _ _).trans hk
    | ⟨1, _⟩ => exact Cert.ReferenceIdeal.Read.rhs_main_v62_1 _ _
    | ⟨2, _⟩ => exact Cert.ReferenceIdeal.Read.rhs_main_v62_2 _ _

section
variable {X0 : S8192x2048.Idx → EReal} {X1 : S8192x512.Idx → EReal} {X2 : S8192x9216.Idx → EReal}
  {X3 : S8192x2048.Idx → EReal} {x0 : Fin 8192 → Fin 2048 → ℝ} {x1 x2 : Fin 8192 → Fin 512 → ℝ}
  {x3 : Fin 8192 → Fin 2048 → ℝ} (R : RealArgs X0 X1 X2 X3 x0 x1 x2 x3)
include R

/-- The base-two log-sum of a row. -/
def lseR (h : Fin 16) (t : Fin 8192) : ℝ :=
  (shift R h t + Real.log (∑ s, Real.exp (score scale (heads x0 h) (kvHeads x1 h) t s - shift R h t))) / Real.log 2

theorem lse_at (h : Fin 16) (t : Fin 8192) :
    lse X0 X1 (ValueIdx.ix2 (n0 := 16) (n1 := 8192) h t) = (lseR R h t : EReal) := by
  have hs : val_main_v18 (F := Ideal) X0 X1 (ValueIdx.ix2 (n0 := 16) (n1 := 8192) h t) = (shift R h t : EReal) := by
    obtain ⟨r, hr⟩ := v18_at R (ValueIdx.ix2 (n0 := 16) (n1 := 8192) h t)
    have : shift R h t = r := (congrArg EReal.toReal hr).trans (EReal.toReal_coe r)
    rw [hr, this]
  have hl : val_main_v32 (F := Ideal) X0 X1 (ValueIdx.ix2 (n0 := 16) (n1 := 8192) h t)
      = ((∑ s, Real.exp (score scale (heads x0 h) (kvHeads x1 h) t s - shift R h t) : ℝ) : EReal) := v32_at R _
  rw [lse, rowSum_eq, v11_eq, divf_at, addf_at, hostLog_at, const_at, hs, hl, ofBits_two, log_real 2 (by norm_num),
    log_real _ (sum_shift_pos _ _ _ _ _), ← EReal.coe_add, div_real _ _ log_two_ne, lseR]

theorem outSum_at (h : Fin 16) (t : Fin 8192) : outSum X0 X1 X2 X3 (ValueIdx.ix2 (n0 := 16) (n1 := 8192) h t)
    = (delta scale (heads x0 h) (kvHeads x1 h) (kvHeads x2 h) (heads x3 h) t : EReal) := by
  have ho : ∀ d : Fin 128, out X0 X1 X2 (ValueIdx.ix3 (n0 := 16) (n1 := 8192) (n2 := 128) h t d)
      = ((∑ s, prob scale (heads x0 h) (kvHeads x1 h) t s * kvHeads x2 h s d : ℝ) : EReal) := by
    intro d
    rw [out, out_dot, probs_eq, ← coe_sum]
    refine Finset.sum_congr rfl fun s _ => ?_
    rw [v35_at R, v7_at R, ← EReal.coe_mul]
    rfl
  unfold outSum
  simp only [Host.reduceAdd, Ideal.hostReduceAdd_def]
  refine (Ideal.hostReduceAdd_single reducesTo_S16x8192x128_S16x8192_d2 (by decide) _ _ _).trans ?_
  rw [← sum_out_mul, ← coe_sum]
  refine (congrArg₂ (· + ·) Ideal.ofBits_zero_f32 (Finset.sum_congr rfl fun d _ => ?_)).trans (zero_add _)
  rw [EReal.coe_mul, ← ho d]
  refine congrArg₂ (· * ·) (congrArg _ ?_) (v41_at R _)
  exact funext fun a => match a with | ⟨0, _⟩ => rfl | ⟨1, _⟩ => rfl | ⟨2, _⟩ => rfl

end
end Cert.Attention

end
-- ==== Proof.Payload.lean ====
/-
  A grid point's three contributions, element by element, when the blocks it reads hold real numbers.
-/
module

public import proofs.«01_k».proof.Proof.Prefix
public import Idealize.ShloMosaic.Lib.MatmulPlain
public import Idealize.ShloMosaic.Lib.ValueLayout

@[expose] public section

set_option maxRecDepth 16384

noncomputable section

namespace Cert.Attention

open Idealize.ShloMosaic Idealize.ShloMosaic.ValueIdx Idealize.SL.Sem Cert.KernelIdeal Cert.KernelIdeal.Gen Cert.KernelIdeal.Own

/-- The blocks of a grid point hold these real numbers. -/
structure RealBlocks (y0 : S2048x128.Idx → EReal) (y1 : S1024x128.Idx → EReal) (y2 : S128x1024.Idx → EReal)
    (y3 : S1024x128.Idx → EReal) (y4 : S2048x128.Idx → EReal) (y5 y6 : S1x8x2048.Idx → EReal)
    (a : Fin 2048 → Fin 128 → ℝ) (b v : Fin 1024 → Fin 128 → ℝ) (g : Fin 2048 → Fin 128 → ℝ) (l e : Fin 2048 → ℝ) : Prop where
  q : ∀ r d, y0 (ix2 (n0 := 2048) (n1 := 128) r d) = (a r d : EReal)
  k : ∀ i d, y1 (ix2 (n0 := 1024) (n1 := 128) i d) = (b i d : EReal)
  kt : ∀ d i, y2 (ix2 (n0 := 128) (n1 := 1024) d i) = (b i d : EReal)
  v : ∀ i d, y3 (ix2 (n0 := 1024) (n1 := 128) i d) = (v i d : EReal)
  g : ∀ r d, y4 (ix2 (n0 := 2048) (n1 := 128) r d) = (g r d : EReal)
  l : ∀ s r, y5 (ix3 (n0 := 1) (n1 := 8) (n2 := 2048) 0 s r) = (l r : EReal)
  e : ∀ s r, y6 (ix3 (n0 := 1) (n1 := 8) (n2 := 2048) 0 s r) = (e r : EReal)

section
variable {y0 : S2048x128.Idx → EReal} {y1 : S1024x128.Idx → EReal} {y2 : S128x1024.Idx → EReal}
    {y3 : S1024x128.Idx → EReal} {y4 : S2048x128.Idx → EReal} {y5 y6 : S1x8x2048.Idx → EReal}
    {a : Fin 2048 → Fin 128 → ℝ} {b v : Fin 1024 → Fin 128 → ℝ} {g : Fin 2048 → Fin 128 → ℝ} {l e : Fin 2048 → ℝ}
    (B : RealBlocks y0 y1 y2 y3 y4 y5 y6 a b v g l e)

/-- A block's probability, transposed. -/
def bp (a : Fin 2048 → Fin 128 → ℝ) (b : Fin 1024 → Fin 128 → ℝ) (l : Fin 2048 → ℝ) (i : Fin 1024) (r : Fin 2048) : ℝ :=
  (2 : ℝ) ^ (∑ d, b i d * a r d - l r)

/-- A block's derivative of the scores, transposed. -/
def bds (a : Fin 2048 → Fin 128 → ℝ) (b v : Fin 1024 → Fin 128 → ℝ) (g : Fin 2048 → Fin 128 → ℝ) (l e : Fin 2048 → ℝ)
    (i : Fin 1024) (r : Fin 2048) : ℝ := bp a b l i r * (∑ d, v i d * g r d - e r)

/-- The saved row, spread over the block's rows. -/
theorem row_at (y : S1x8x2048.Idx → EReal) (i : Fin 1024) (r : Fin 2048) :
    broadcastTo S1024x2048 (shapeCast S1x2048 (row (F := Ideal) y) shapeCasts_S1x1x2048_S1x2048) broadcasts_S1x2048_S1024x2048
      (ix2 (n0 := 1024) (n1 := 2048) i r) = y (ix3 (n0 := 1) (n1 := 8) (n2 := 2048) 0 0 r) := by
  refine (broadcastTo_1b_ab_apply (a := 1024) (b := 2048) _ _ i r).trans ?_
  refine (shapeCast_dropUnit_apply ![1, 2048] _ shapeCasts_S1x1x2048_S1x2048 _).trans ?_
  rfl

/-- A product with the right operand transposed. -/
theorem mm_t (x : S1024x128.Idx → EReal) (y : S2048x128.Idx → EReal) (i : Fin 1024) (r : Fin 2048) :
    matmul (F := Ideal) (φ₁ := .bf16) (φ₂ := .bf16) dot_S1024x128_S2048x128_S1024x2048_1_1_0_0_n_n none x y
      (constant (F := Ideal) S1024x2048 .f32 0x00000000#32) (ix2 (n0 := 1024) (n1 := 2048) i r)
      = ∑ d : Fin 128, x (ix2 (n0 := 1024) (n1 := 128) i d) * y (ix2 (n0 := 2048) (n1 := 128) r d) :=
  (Ideal.matmul_transposedRhs_apply (M := 1024) (K := 128) (N := 2048) (φ₁ := .bf16) (φ₂ := .bf16) none x y _ i r).trans
    ((congrArg (· + _) Ideal.ofBits_zero_f32).trans (zero_add _))

/-- A product over a block's query rows. -/
theorem mm_q (x : S1024x2048.Idx → EReal) (y : S2048x128.Idx → EReal) (i : Fin 1024) (d : Fin 128) :
    matmul (F := Ideal) (φ₁ := .bf16) (φ₂ := .bf16) dot_S1024x2048_S2048x128_S1024x128_1_0_0_1_n_n none x y
      (constant (F := Ideal) S1024x128 .f32 0x00000000#32) (ix2 (n0 := 1024) (n1 := 128) i d)
      = ∑ r : Fin 2048, x (ix2 (n0 := 1024) (n1 := 2048) i r) * y (ix2 (n0 := 2048) (n1 := 128) r d) :=
  (Ideal.matmul_plain_apply (M := 1024) (K := 2048) (N := 128) (φ₁ := .bf16) (φ₂ := .bf16) none x y _ i d).trans
    ((congrArg (· + _) Ideal.ofBits_zero_f32).trans (zero_add _))

/-- A product over a block's key rows. -/
theorem mm_k (x : S128x1024.Idx → EReal) (y : S1024x2048.Idx → EReal) (d : Fin 128) (r : Fin 2048) :
    matmul (F := Ideal) (φ₁ := .bf16) (φ₂ := .bf16) dot_S128x1024_S1024x2048_S128x2048_1_0_0_1_n_n none x y
      (constant (F := Ideal) S128x2048 .f32 0x00000000#32) (ix2 (n0 := 128) (n1 := 2048) d r)
      = ∑ i : Fin 1024, x (ix2 (n0 := 128) (n1 := 1024) d i) * y (ix2 (n0 := 1024) (n1 := 2048) i r) :=
  (Ideal.matmul_plain_apply (M := 128) (K := 1024) (N := 2048) (φ₁ := .bf16) (φ₂ := .bf16) none x y _ d r).trans
    ((congrArg (· + _) Ideal.ofBits_zero_f32).trans (zero_add _))

include B

theorem pay8_at (i : Fin 1024) (r : Fin 2048) :
    k0_pay8 (F := Ideal) y0 y1 (row (F := Ideal) y5) (ix2 (n0 := 1024) (n1 := 2048) i r) = (bp a b l i r : EReal) := by
  rw [k0_pay8, k0_pay6, shapeCast_self, shapeCast_self]
  refine (congrArg Ideal.exp2 (congrArg₂ (· - ·) (mm_t _ _ i r) (row_at _ i r))).trans ?_
  simp only [B.k, B.q, B.l, ← EReal.coe_mul]
  rw [coe_sum, ← EReal.coe_sub]
  rfl

theorem pay9_at (i : Fin 1024) (r : Fin 2048) :
    k0_pay9 (F := Ideal) y0 y1 y4 y3 (row (F := Ideal) y5) (row (F := Ideal) y6) (ix2 (n0 := 1024) (n1 := 2048) i r)
      = (bds a b v g l e i r : EReal) := by
  rw [k0_pay9, k0_pay7, shapeCast_self]
  refine (congrArg₂ (· * ·) (pay8_at B i r) (congrArg₂ (· - ·) (mm_t _ _ i r) (row_at _ i r))).trans ?_
  have ht : ∀ j, truncf (F := Ideal) (φ := .f32) .bf16 y3 bitsLt_bf16_f32 j = y3 j := fun _ => rfl
  simp only [ht, B.v, B.g, B.e, ← EReal.coe_mul]
  rw [coe_sum, ← EReal.coe_sub, ← EReal.coe_mul]
  rfl

/-- The contribution to the gradient of the values. -/
theorem dvC_at (i : Fin 1024) (d : Fin 128) :
    dvC (F := Ideal) y0 y1 y4 y5 (ix2 (n0 := 1024) (n1 := 128) i d) = ((∑ r, bp a b l i r * g r d : ℝ) : EReal) := by
  rw [dvC, k0_pay10, k0_pay7, shapeCast_self]
  refine (mm_q _ _ i d).trans ?_
  rw [← coe_sum]
  exact Finset.sum_congr rfl fun r _ => (congrArg₂ (· * ·) (pay8_at B i r) (B.g r d)).trans (EReal.coe_mul _ _).symm

/-- The contribution to the gradient of the keys. -/
theorem dkC_at (i : Fin 1024) (d : Fin 128) :
    dkC (F := Ideal) y0 y1 y3 y4 y5 y6 (ix2 (n0 := 1024) (n1 := 128) i d)
      = (((∑ r, bds a b v g l e i r * a r d) * Real.log 2 : ℝ) : EReal) := by
  rw [dkC, k0_pay11, k0_pay6, shapeCast_self]
  refine (congrArg₂ (· * ·) (mm_q _ _ i d) (IdealRules.named_const.ideal_named_scalar _ _ _ _ rfl)).trans ?_
  rw [EReal.coe_mul, ← coe_sum]
  exact congrArg (· * _) (Finset.sum_congr rfl fun r _ =>
    (congrArg₂ (· * ·) (pay9_at B i r) (B.q r d)).trans (EReal.coe_mul _ _).symm)

/-- The contribution to the gradient of the queries, transposed. -/
theorem dqC_at (d : Fin 128) (r : Fin 2048) :
    dqC (F := Ideal) y0 y1 y2 y3 y4 y5 y6 (ix2 (n0 := 128) (n1 := 2048) d r)
      = (((∑ i, b i d * bds a b v g l e i r) * scale : ℝ) : EReal) := by
  rw [dqC, k0_pay12, shapeCast_self]
  refine (congrArg₂ (· * ·) (mm_k _ _ d r) ofBits_scale).trans ?_
  rw [EReal.coe_mul, ← coe_sum]
  exact congrArg (· * _) (Finset.sum_congr rfl fun i _ =>
    (congrArg₂ (· * ·) (B.kt d i) (pay9_at B i r)).trans (EReal.coe_mul _ _).symm)

end
end Cert.Attention

end
-- ==== Proof.Blocks.lean ====
/-
  A grid point's blocks in terms of the arguments, and its three contributions as sums of the derivative of attention
  over the block's query rows or key rows.
-/
module

public import proofs.«01_k».proof.Proof.Payload
public import Idealize.ShloMosaic.Lib.Pipeline.ValueKit

@[expose] public section

set_option maxRecDepth 16384

noncomputable section

namespace Cert.Attention

open Idealize.ShloMosaic Idealize.SL.Sem Cert.KernelIdeal Cert.KernelIdeal.Gen Cert.KernelIdeal.Own

/-- Each input window's block index at a point: query block `t % 4`, key block `t / 4 % 8`, head `t / 32`. -/
theorem idx : ∀ t : Fin cfg0.N, win0_0.index t = ![t.val % 4, t.val / 32] ∧ win0_1.index t = ![t.val / 4 % 8, t.val / 128]
    ∧ win0_2.index t = ![t.val / 128, t.val / 4 % 8] ∧ win0_3.index t = ![t.val / 4 % 8, 36 + t.val / 128]
    ∧ win0_4.index t = ![t.val % 4, t.val / 32] ∧ win0_5.index t = ![t.val / 32, 0, t.val % 4]
    ∧ win0_6.index t = ![t.val / 32, 0, t.val % 4] := by decide +kernel

/-- A point's head. -/
def hd (t : Fin cfg0.N) : Fin 16 := ⟨t.val / 32, by have := lt512 t; omega⟩
/-- A row of a point's query block. -/
def qrow (t : Fin cfg0.N) (r : Fin 2048) : Fin 8192 := ⟨2048 * (t.val % 4) + r.val, by omega⟩
/-- A row of a point's key block. -/
def krow (t : Fin cfg0.N) (i : Fin 1024) : Fin 8192 := ⟨1024 * (t.val / 4 % 8) + i.val, by omega⟩

section Reads
variable (m : (ℓ : Loc nD τ sig) → Buf (Elt Ideal) ℓ) (c : Dev nD) (t : Fin cfg0.N)

theorem b0 (y : S2048x128.Idx) (i : S8192x2048.Idx) (h0 : (i 0).val = 2048 * (t.val % 4) + (y 0).val) (h1 : (i 1).val = 128 * (t.val / 32) + (y 1).val) :
    iblk m c 0 t y = V m c main_v4 i := by blk_ext [iblk, idx t]

theorem b1 (y : S1024x128.Idx) (i : S8192x512.Idx) (h0 : (i 0).val = 1024 * (t.val / 4 % 8) + (y 0).val) (h1 : (i 1).val = 128 * (t.val / 128) + (y 1).val) :
    iblk m c 1 t y = V m c main_v5 i := by blk_ext [iblk, idx t]

theorem b2 (y : S128x1024.Idx) (i : S512x8192.Idx) (h0 : (i 0).val = 128 * (t.val / 128) + (y 0).val) (h1 : (i 1).val = 1024 * (t.val / 4 % 8) + (y 1).val) :
    iblk m c 2 t y = V m c main_v40 i := by blk_ext [iblk, idx t]

theorem b3 (y : S1024x128.Idx) (i : S8192x9216.Idx) (h0 : (i 0).val = 1024 * (t.val / 4 % 8) + (y 0).val) (h1 : (i 1).val = 4608 + 128 * (t.val / 128) + (y 1).val) :
    iblk m c 3 t y = V m c main_arg2 i := by blk_ext [iblk, idx t]

theorem b4 (y : S2048x128.Idx) (i : S8192x2048.Idx) (h0 : (i 0).val = 2048 * (t.val % 4) + (y 0).val) (h1 : (i 1).val = 128 * (t.val / 32) + (y 1).val) :
    iblk m c 4 t y = V m c main_v41 i := by blk_ext [iblk, idx t]

theorem b5 (y : S1x8x2048.Idx) (i : S16x8x8192.Idx) (h0 : (i 0).val = t.val / 32) (h1 : (i 1).val = (y 1).val) (h2 : (i 2).val = 2048 * (t.val % 4) + (y 2).val) :
    iblk m c 5 t y = V m c main_v37 i := by blk_ext [iblk, idx t]

theorem b6 (y : S1x8x2048.Idx) (i : S16x8x8192.Idx) (h0 : (i 0).val = t.val / 32) (h1 : (i 1).val = (y 1).val) (h2 : (i 2).val = 2048 * (t.val % 4) + (y 2).val) :
    iblk m c 6 t y = V m c main_v39 i := by blk_ext [iblk, idx t]

end Reads

/-- A row quantity spread over eight sublanes, read at an index. -/
theorem spread_at (x : S16x8192.Idx → EReal) (h : Fin 16) (s : Fin 8) (t : Fin 8192) :
    broadcastInDim S16x8x8192 ![0, 1, 2] bcast_S16x1x8192_S16x8x8192_0_1_2
      (broadcastInDim S16x1x8192 ![0, 2] bcast_S16x8192_S16x1x8192_0_2 x) (ValueIdx.ix3 (n0 := 16) (n1 := 8) (n2 := 8192) h s t)
      = x (ValueIdx.ix2 (n0 := 16) (n1 := 8192) h t) := by
  refine (broadcastInDim_apply _ bcast_S16x1x8192_S16x8x8192_0_1_2 _ _
    (ValueIdx.ix3 (n0 := 16) (n1 := 1) (n2 := 8192) h 0 t) (fun a => ?_)).trans
    (broadcastInDim_apply _ bcast_S16x8192_S16x1x8192_0_2 x _ (ValueIdx.ix2 (n0 := 16) (n1 := 8192) h t) (fun a => ?_))
  · match a with
    | ⟨0, _⟩ => rfl
    | ⟨1, _⟩ => rfl
    | ⟨2, _⟩ => rfl
  · match a with
    | ⟨0, _⟩ => rfl
    | ⟨1, _⟩ => rfl

section
variable {m : (ℓ : Loc nD τ sig) → Buf (Elt Ideal) ℓ} {c : Dev nD} {x0 : Fin 8192 → Fin 2048 → ℝ}
  {x1 x2 : Fin 8192 → Fin 512 → ℝ} {x3 : Fin 8192 → Fin 2048 → ℝ}
  (R : RealArgs (argQ m c) (argK m c) (argZ m c) (argG m c) x0 x1 x2 x3) (t : Fin cfg0.N)
include R

/-- What a point's blocks hold. -/
theorem blocks : RealBlocks (iblk m c 0 t) (iblk m c 1 t) (iblk m c 2 t) (iblk m c 3 t) (iblk m c 4 t) (iblk m c 5 t) (iblk m c 6 t)
    (fun r d => heads x0 (hd t) (qrow t r) d * (scale / Real.log 2)) (fun i d => kvHeads x1 (hd t) (krow t i) d)
    (fun i d => kvHeads x2 (hd t) (krow t i) d) (fun r d => heads x3 (hd t) (qrow t r) d)
    (fun r => lseR R (hd t) (qrow t r))
    (fun r => delta scale (heads x0 (hd t)) (kvHeads x1 (hd t)) (kvHeads x2 (hd t)) (heads x3 (hd t)) (qrow t r)) := by
  have ht := lt512 t
  refine ⟨fun r d => ?_, fun i d => ?_, fun d i => ?_, fun i d => ?_, fun r d => ?_, fun s r => ?_, fun s r => ?_⟩
  · rw [b0 m c t _ (ValueIdx.ix2 (n0 := 8192) (n1 := 2048) (qrow t r) ⟨128 * (t.val / 32) + d.val, by omega⟩) rfl rfl, V_v4]
    beta_reduce
    rw [R.q, ofBits_scale, ofBits_two, log_real 2 (by norm_num), div_real _ _ log_two_ne, ← EReal.coe_mul]
    rfl
  · rw [b1 m c t _ (ValueIdx.ix2 (n0 := 8192) (n1 := 512) (krow t i) ⟨128 * (t.val / 128) + d.val, by omega⟩) rfl rfl, V_v5,
      R.k]
    refine congrArg _ (congrArg (x1 _) (Fin.ext ?_))
    show 128 * (t.val / 128) + d.val = 128 * (t.val / 32 / 4) + d.val
    omega
  · rw [b2 m c t _ (ValueIdx.ix2 (n0 := 512) (n1 := 8192) ⟨128 * (t.val / 128) + d.val, by omega⟩ (krow t i)) rfl rfl, V_v40]
    refine (transpose_apply _ _ _ _ (ValueIdx.ix2 (n0 := 8192) (n1 := 512) (krow t i) ⟨128 * (t.val / 128) + d.val, by omega⟩)
      (fun a => match a with | ⟨0, _⟩ => rfl | ⟨1, _⟩ => rfl)).trans ?_
    rw [R.k]
    refine congrArg _ (congrArg (x1 _) (Fin.ext ?_))
    show 128 * (t.val / 128) + d.val = 128 * (t.val / 32 / 4) + d.val
    omega
  · rw [b3 m c t _ (ValueIdx.ix2 (n0 := 8192) (n1 := 9216) (krow t i) ⟨4608 + 128 * (t.val / 128) + d.val, by omega⟩) rfl rfl,
      V_arg2, R.v _ ⟨128 * (t.val / 32 / 4) + d.val, by omega⟩ ?_]
    · rfl
    · show 4608 + 128 * (t.val / 128) + d.val = 4608 + (128 * (t.val / 32 / 4) + d.val)
      omega
  · rw [b4 m c t _ (ValueIdx.ix2 (n0 := 8192) (n1 := 2048) (qrow t r) ⟨128 * (t.val / 32) + d.val, by omega⟩) rfl rfl, V_v41,
      R.g]
    rfl
  · rw [b5 m c t _ (ValueIdx.ix3 (n0 := 16) (n1 := 8) (n2 := 8192) (hd t) s (qrow t r)) rfl rfl rfl, V_v37]
    exact (spread_at _ _ _ _).trans (lse_at R _ _)
  · rw [b6 m c t _ (ValueIdx.ix3 (n0 := 16) (n1 := 8) (n2 := 8192) (hd t) s (qrow t r)) rfl rfl rfl, V_v39]
    exact (spread_at _ _ _ _).trans (outSum_at R _ _)

/-- A block's probability is the softmax's. -/
theorem bp_eq (i : Fin 1024) (r : Fin 2048) :
    bp (fun r d => heads x0 (hd t) (qrow t r) d * (scale / Real.log 2)) (fun i d => kvHeads x1 (hd t) (krow t i) d)
      (fun r => lseR R (hd t) (qrow t r)) i r = prob scale (heads x0 (hd t)) (kvHeads x1 (hd t)) (qrow t r) (krow t i) :=
  two_rpow scale (heads x0 (hd t)) (kvHeads x1 (hd t)) (qrow t r) (krow t i) (shift R (hd t) (qrow t r))

/-- A point's contribution to the gradient of the values. -/
theorem dvAt_at (i : Fin 1024) (d : Fin 128) : dvAt m c t (ValueIdx.ix2 (n0 := 1024) (n1 := 128) i d)
    = ((∑ r, heads x3 (hd t) (qrow t r) d * prob scale (heads x0 (hd t)) (kvHeads x1 (hd t)) (qrow t r) (krow t i) : ℝ) : EReal) := by
  refine (dvC_at (blocks R t) i d).trans (congrArg _ (Finset.sum_congr rfl fun r _ => ?_))
  rw [bp_eq R, mul_comm]

theorem bds_eq (i : Fin 1024) (r : Fin 2048) :
    bds (fun r d => heads x0 (hd t) (qrow t r) d * (scale / Real.log 2)) (fun i d => kvHeads x1 (hd t) (krow t i) d)
      (fun i d => kvHeads x2 (hd t) (krow t i) d) (fun r d => heads x3 (hd t) (qrow t r) d) (fun r => lseR R (hd t) (qrow t r))
      (fun r => delta scale (heads x0 (hd t)) (kvHeads x1 (hd t)) (kvHeads x2 (hd t)) (heads x3 (hd t)) (qrow t r)) i r
      = dscore scale (heads x0 (hd t)) (kvHeads x1 (hd t)) (kvHeads x2 (hd t)) (heads x3 (hd t)) (qrow t r) (krow t i) := by
  rw [bds, bp_eq R, dscore, dprob]
  refine congrArg (_ * ·) (congrArg (· - _) (Finset.sum_congr rfl fun d _ => mul_comm _ _))

/-- A point's contribution to the gradient of the keys. -/
theorem dkAt_at (i : Fin 1024) (d : Fin 128) : dkAt m c t (ValueIdx.ix2 (n0 := 1024) (n1 := 128) i d)
    = ((∑ r, dscore scale (heads x0 (hd t)) (kvHeads x1 (hd t)) (kvHeads x2 (hd t)) (heads x3 (hd t)) (qrow t r) (krow t i)
        * scale * heads x0 (hd t) (qrow t r) d : ℝ) : EReal) := by
  refine (dkC_at (blocks R t) i d).trans (congrArg _ ?_)
  rw [Finset.sum_mul]
  refine Finset.sum_congr rfl fun r _ => ?_
  rw [bds_eq R]
  have := log_two_ne
  field_simp

/-- A point's contribution to the gradient of the queries. -/
theorem dqAt_at (d : Fin 128) (r : Fin 2048) : dqAt m c t (ValueIdx.ix2 (n0 := 128) (n1 := 2048) d r)
    = ((∑ i, dscore scale (heads x0 (hd t)) (kvHeads x1 (hd t)) (kvHeads x2 (hd t)) (heads x3 (hd t)) (qrow t r) (krow t i)
        * scale * kvHeads x1 (hd t) (krow t i) d : ℝ) : EReal) := by
  refine (dqC_at (blocks R t) d r).trans (congrArg _ ?_)
  rw [Finset.sum_mul]
  refine Finset.sum_congr rfl fun i _ => ?_
  rw [bds_eq R]
  ring

end
end Cert.Attention

end
-- ==== Proof.Value.lean ====
/-
  The three arrays that the kernel leaves: the gradients of the attention's queries (transposed), keys and values.
-/
module

public import proofs.«01_k».proof.Proof.Blocks
public import proofs.«01_k».proof.Proof.Run
public import Idealize.ShloMosaic.Lib.Pipeline.Covers

@[expose] public section

set_option maxRecDepth 16384

noncomputable section

namespace Cert.Attention

open Idealize.ShloMosaic Idealize.SL.Sem Idealize.ShloMosaic.TcCoe Cert.KernelIdeal Cert.KernelIdeal.Gen Cert.KernelIdeal.Own
open Idealize.ShloMosaic.Pipeline (Dat RDat)

/-! ## Sums taken block by block -/

/-- A sum taken in order, read at an index. -/
theorem accSum_at {s : Shape} (f : ℕ → Vec Ideal s .f32) (g : ℕ → ℝ) (y : s.Idx) (N : ℕ) (h : ∀ n ≤ N, f n y = (g n : EReal)) :
    accSum f N y = ((∑ n ∈ Finset.range (N + 1), g n : ℝ) : EReal) := by
  induction N with
  | zero => rw [Finset.sum_range_one]; exact h 0 le_rfl
  | succ N ih =>
    show accSum f N y + f (N + 1) y = _
    rw [ih fun n hn => h n (by omega), h (N + 1) le_rfl, Finset.sum_range_succ _ (N + 1), EReal.coe_add]

/-- A sum over rows is the sum over blocks of rows of each block's sum. -/
theorem sum_blocks {A B N : ℕ} (hN : A * B = N) (f : Fin N → ℝ) (g : ℕ → ℝ) (e : Fin A → Fin B → Fin N)
    (he : ∀ q r, (e q r).val = B * q.val + r.val) (hg : ∀ q : Fin A, g q.val = ∑ r, f (e q r)) :
    ∑ q ∈ Finset.range A, g q = ∑ t, f t := by
  subst hN
  rw [Finset.sum_range, ← finProdFinEquiv.sum_comp, Fintype.sum_prod_type]
  refine Finset.sum_congr rfl fun q _ => (hg q).trans (Finset.sum_congr rfl fun r _ => congrArg f (Fin.ext ?_))
  rw [he, finProdFinEquiv_apply_val]
  exact Nat.add_comm _ _

/-! ## The grid points of a key block, and those of a query block -/

variable (t : Fin cfg0.N)

/-- The points of a key block have its head and its key rows, each with query rows of its own. -/
theorem hd_pt (q : ℕ) (hq : q < 4) : hd (pt (4 * (t.val / 4) + q)) = hd t :=
  Fin.ext (by have := lt512 t; show (4 * (t.val / 4) + q) % 512 / 32 = t.val / 32; omega)
theorem krow_pt (q : ℕ) (hq : q < 4) (i : Fin 1024) : krow (pt (4 * (t.val / 4) + q)) i = krow t i :=
  Fin.ext (by have := lt512 t; show 1024 * ((4 * (t.val / 4) + q) % 512 / 4 % 8) + i.val = 1024 * (t.val / 4 % 8) + i.val; omega)
theorem qrow_pt (q : ℕ) (hq : q < 4) (r : Fin 2048) : (qrow (pt (4 * (t.val / 4) + q)) r).val = 2048 * q + r.val := by
  have := lt512 t; show 2048 * ((4 * (t.val / 4) + q) % 512 % 4) + r.val = _; omega

/-- The points of a query block have its head and its query rows, each with key rows of its own. -/
theorem hd_pt' (q k : ℕ) (hq : q < 4) (hk : k < 8) : hd (pt (32 * (t.val / 32) + 4 * k + q)) = hd t :=
  Fin.ext (by have := lt512 t; show (32 * (t.val / 32) + 4 * k + q) % 512 / 32 = t.val / 32; omega)
theorem krow_pt' (q k : ℕ) (hq : q < 4) (hk : k < 8) (i : Fin 1024) :
    (krow (pt (32 * (t.val / 32) + 4 * k + q)) i).val = 1024 * k + i.val := by
  have := lt512 t; show 1024 * ((32 * (t.val / 32) + 4 * k + q) % 512 / 4 % 8) + i.val = _; omega
theorem qrow_pt' (q k : ℕ) (hq : q < 4) (hk : k < 8) (r : Fin 2048) :
    (qrow (pt (32 * (t.val / 32) + 4 * k + q)) r).val = 2048 * q + r.val := by
  have := lt512 t; show 2048 * ((32 * (t.val / 32) + 4 * k + q) % 512 % 4) + r.val = _; omega

section
variable {m : (ℓ : Loc nD τ sig) → Buf (Elt Ideal) ℓ} {c : Dev nD}
variable {x0 : Fin 8192 → Fin 2048 → ℝ} {x1 : Fin 8192 → Fin 512 → ℝ} {x2 : Fin 8192 → Fin 512 → ℝ} {x3 : Fin 8192 → Fin 2048 → ℝ}
variable (R : RealArgs (argQ m c) (argK m c) (argZ m c) (argG m c) x0 x1 x2 x3)
include R

/-! ## What the accumulators hold in the end -/

/-- A key block's gradient of the values, after its four query blocks. -/
theorem dv_total (i : Fin 1024) (d : Fin 128) : accSum (dvRun m c (t.val / 4)) 3 (ValueIdx.ix2 (n0 := 1024) (n1 := 128) i d)
    = (gradV scale (heads x0 (hd t)) (kvHeads x1 (hd t)) (heads x3 (hd t)) (krow t i) d : EReal) := by
  refine (accSum_at _ (fun q => ∑ r, heads x3 (hd (pt (4 * (t.val / 4) + q))) (qrow (pt (4 * (t.val / 4) + q)) r) d
    * prob scale (heads x0 (hd (pt (4 * (t.val / 4) + q)))) (kvHeads x1 (hd (pt (4 * (t.val / 4) + q))))
      (qrow (pt (4 * (t.val / 4) + q)) r) (krow (pt (4 * (t.val / 4) + q)) i)) _ 3 fun q _ => dvAt_at R _ i d).trans (congrArg _ ?_)
  refine sum_blocks (A := 4) (B := 2048) rfl
    (fun s => heads x3 (hd t) s d * prob scale (heads x0 (hd t)) (kvHeads x1 (hd t)) s (krow t i)) _
    (fun q r => qrow (pt (4 * (t.val / 4) + q.val)) r) (fun q r => qrow_pt t q.val q.isLt r) fun q => ?_
  simp only [hd_pt t q.val q.isLt, krow_pt t q.val q.isLt]

/-- A key block's gradient of the keys, after its four query blocks. -/
theorem dk_total (i : Fin 1024) (d : Fin 128) : accSum (dkRun m c (t.val / 4)) 3 (ValueIdx.ix2 (n0 := 1024) (n1 := 128) i d)
    = (gradK scale (heads x0 (hd t)) (kvHeads x1 (hd t)) (kvHeads x2 (hd t)) (heads x3 (hd t)) (krow t i) d : EReal) := by
  refine (accSum_at _ (fun q => ∑ r, dscore scale (heads x0 (hd (pt (4 * (t.val / 4) + q)))) (kvHeads x1 (hd (pt (4 * (t.val / 4) + q))))
      (kvHeads x2 (hd (pt (4 * (t.val / 4) + q)))) (heads x3 (hd (pt (4 * (t.val / 4) + q))))
      (qrow (pt (4 * (t.val / 4) + q)) r) (krow (pt (4 * (t.val / 4) + q)) i) * scale
      * heads x0 (hd (pt (4 * (t.val / 4) + q))) (qrow (pt (4 * (t.val / 4) + q)) r) d) _ 3 fun q _ => dkAt_at R _ i d).trans (congrArg _ ?_)
  refine sum_blocks (A := 4) (B := 2048) rfl
    (fun s => dscore scale (heads x0 (hd t)) (kvHeads x1 (hd t)) (kvHeads x2 (hd t)) (heads x3 (hd t)) s (krow t i) * scale
      * heads x0 (hd t) s d) _
    (fun q r => qrow (pt (4 * (t.val / 4) + q.val)) r) (fun q r => qrow_pt t q.val q.isLt r) fun q => ?_
  simp only [hd_pt t q.val q.isLt, krow_pt t q.val q.isLt]

/-- A query block's gradient of the queries, transposed, after its head's eight key blocks. -/
theorem dq_total (q : Fin 4) (d : Fin 128) (r : Fin 2048) (s : Fin 8192) (hs : s.val = 2048 * q.val + r.val) :
    accSum (dqRun m c (t.val / 32) q.val) 7 (ValueIdx.ix2 (n0 := 128) (n1 := 2048) d r)
    = (gradQ scale (heads x0 (hd t)) (kvHeads x1 (hd t)) (kvHeads x2 (hd t)) (heads x3 (hd t)) s d : EReal) := by
  refine (accSum_at _ (fun k => ∑ i, dscore scale (heads x0 (hd (pt (32 * (t.val / 32) + 4 * k + q.val))))
      (kvHeads x1 (hd (pt (32 * (t.val / 32) + 4 * k + q.val)))) (kvHeads x2 (hd (pt (32 * (t.val / 32) + 4 * k + q.val))))
      (heads x3 (hd (pt (32 * (t.val / 32) + 4 * k + q.val))))
      (qrow (pt (32 * (t.val / 32) + 4 * k + q.val)) r) (krow (pt (32 * (t.val / 32) + 4 * k + q.val)) i) * scale
      * kvHeads x1 (hd (pt (32 * (t.val / 32) + 4 * k + q.val))) (krow (pt (32 * (t.val / 32) + 4 * k + q.val)) i) d) _ 7
      fun k _ => dqAt_at R _ d r).trans (congrArg _ ?_)
  refine sum_blocks (A := 8) (B := 1024) rfl
    (fun u => dscore scale (heads x0 (hd t)) (kvHeads x1 (hd t)) (kvHeads x2 (hd t)) (heads x3 (hd t)) s u * scale
      * kvHeads x1 (hd t) u d) _
    (fun k i => krow (pt (32 * (t.val / 32) + 4 * k.val + q.val)) i) (fun k i => krow_pt' t q.val k.val q.isLt k.isLt i) fun k => ?_
  have hq : qrow (pt (32 * (t.val / 32) + 4 * k.val + q.val)) r = s := Fin.ext ((qrow_pt' t q.val k.val q.isLt k.isLt r).trans hs.symm)
  simp only [hd_pt' t q.val k.val q.isLt k.isLt, hq]

/-! ## What the arrays hold in the end -/

/-- The head and the column within it of a column of an array of all heads. -/
def colHead (j : Fin 2048) : Fin 16 := ⟨j.val / 128, by omega⟩
def colDim (j : Fin 2048) : Fin 128 := ⟨j.val % 128, by omega⟩

omit R in
/-- The results' block indices, and the points at which they are written back. -/
theorem idxOut : ∀ t : Fin cfg0.N, win0_7.index t = ![t.val / 32, 0] ∧ win0_8.index t = ![t.val / 4 % 8, t.val / 32]
    ∧ win0_9.index t = ![t.val / 4 % 8, t.val / 32] ∧ ((cfg0.win 7).flush t = true → t.val % 32 = 31)
    ∧ ((cfg0.win 8).flush t = true → t.val % 4 = 3) ∧ ((cfg0.win 9).flush t = true → t.val % 4 = 3) := by decide +kernel

/-- A key block's results, at the places where the blocks lie in the arrays. -/
theorem dv_place (y : S1024x128.Idx) (i : S8192x2048.Idx) (h0 : (i 0).val = 1024 * (t.val / 4 % 8) + (y 0).val)
    (h1 : (i 1).val = 128 * (t.val / 32) + (y 1).val) : accSum (dvRun m c (t.val / 4)) 3 y
      = (gradV scale (heads x0 (colHead (i 1))) (kvHeads x1 (colHead (i 1))) (heads x3 (colHead (i 1))) (i 0) (colDim (i 1)) : EReal) := by
  have b0 : (y 0).val < 1024 := (y 0).isLt
  have b1 : (y 1).val < 128 := (y 1).isLt
  have ey : y = ValueIdx.ix2 (n0 := 1024) (n1 := 128) (y 0) (y 1) := funext fun a => match a with
    | ⟨0, _⟩ => rfl
    | ⟨1, _⟩ => rfl
  have e0 : i 0 = krow t (y 0) := Fin.ext h0
  have eh : colHead (i 1) = hd t := Fin.ext (by show (i 1).val / 128 = t.val / 32; omega)
  have ed : colDim (i 1) = y 1 := Fin.ext (by show (i 1).val % 128 = (y 1).val; omega)
  rw [eh, ed, e0, ey]
  exact dv_total t R (y 0) (y 1)

theorem dk_place (y : S1024x128.Idx) (i : S8192x2048.Idx) (h0 : (i 0).val = 1024 * (t.val / 4 % 8) + (y 0).val)
    (h1 : (i 1).val = 128 * (t.val / 32) + (y 1).val) : accSum (dkRun m c (t.val / 4)) 3 y
      = (gradK scale (heads x0 (colHead (i 1))) (kvHeads x1 (colHead (i 1))) (kvHeads x2 (colHead (i 1))) (heads x3 (colHead (i 1)))
        (i 0) (colDim (i 1)) : EReal) := by
  have b0 : (y 0).val < 1024 := (y 0).isLt
  have b1 : (y 1).val < 128 := (y 1).isLt
  have ey : y = ValueIdx.ix2 (n0 := 1024) (n1 := 128) (y 0) (y 1) := funext fun a => match a with
    | ⟨0, _⟩ => rfl
    | ⟨1, _⟩ => rfl
  have e0 : i 0 = krow t (y 0) := Fin.ext h0
  have eh : colHead (i 1) = hd t := Fin.ext (by show (i 1).val / 128 = t.val / 32; omega)
  have ed : colDim (i 1) = y 1 := Fin.ext (by show (i 1).val % 128 = (y 1).val; omega)
  rw [eh, ed, e0, ey]
  exact dk_total t R (y 0) (y 1)

/-- A head's transposed gradient of the queries, at the place where the block lies in the array. -/
theorem dq_place (X : Vec Ideal S128x8192 .f32) (hX : DqHolds m c t X) (ht : t.val % 32 = 31) (y : S128x8192.Idx) (i : S2048x8192.Idx)
    (h0 : (i 0).val = 128 * (t.val / 32) + (y 0).val) (h1 : (i 1).val = (y 1).val) : X y
      = (gradQ scale (heads x0 (colHead (i 0))) (kvHeads x1 (colHead (i 0))) (kvHeads x2 (colHead (i 0))) (heads x3 (colHead (i 0)))
        (i 1) (colDim (i 0)) : EReal) := by
  have b0 : (y 0).val < 128 := (y 0).isLt
  have b1 : (y 1).val < 8192 := (y 1).isLt
  have hq := (hX ⟨(y 1).val / 2048, by omega⟩).1 (by show (y 1).val / 2048 ≤ t.val % 4; omega)
  have e1 : i 1 = y 1 := Fin.ext h1
  have eh : colHead (i 0) = hd t := Fin.ext (by show (i 0).val / 128 = t.val / 32; omega)
  have ed : colDim (i 0) = y 0 := Fin.ext (by show (i 0).val % 128 = (y 0).val; omega)
  have e7 : t.val / 4 % 8 = 7 := by omega
  rw [e7] at hq
  rw [eh, ed, e1]
  refine Eq.trans ?_ (dq_total t R ⟨(y 1).val / 2048, by omega⟩ (y 0) ⟨(y 1).val % 2048, by omega⟩ (y 1)
    (by show (y 1).val = 2048 * ((y 1).val / 2048) + (y 1).val % 2048; omega))
  rw [← hq]
  refine congrArg X (funext fun a => Fin.ext ?_)
  match a with
  | ⟨0, _⟩ => rfl
  | ⟨1, _⟩ => show (y 1).val = (y 1).val / 2048 * 2048 + (y 1).val % 2048; omega

variable {r : PUnit × MemSt nD τ sig (Elt Ideal)} (h : RDat.FramePost (cfgs 0) (rdat m) (V m) r)
include h

/-- The array of the gradient of the queries, transposed. -/
theorem dq_array (i : S2048x8192.Idx) : r.2.mem ((c.tc : Thread nD τ).loc main_v42_0) i
      = (gradQ scale (heads x0 (colHead (i 0))) (kvHeads x1 (colHead (i 0))) (kvHeads x2 (colHead (i 0))) (heads x3 (colHead (i 0)))
        (i 1) (colDim (i 0)) : EReal) := by
  obtain ⟨after, hl, ha⟩ := h.exists_exact c
  refine (congrFun (ha 7) i).trans ?_
  refine ((rdat m c).withAfter after).arrAt_forall_of_covers 7 (fun (i : S2048x8192.Idx) v => v
      = (gradQ scale (heads x0 (colHead (i 0))) (kvHeads x1 (colHead (i 0))) (kvHeads x2 (colHead (i 0))) (heads x3 (colHead (i 0)))
        (i 1) (colDim (i 0)) : EReal)) (by decide +kernel) (fun t hf y => ?_) i
  have hR := (dats m 0 c).toRRel_leaves (fgt := fgt) (Rl := Rl m c) (w := 7) rfl (hl 7 t hf)
  obtain ⟨e, -, -, f, -, -⟩ := idxOut t
  blk_simp
  refine dq_place t R (after 7 t) hR (f hf) y _ ?_ ?_
  · blk_simp
    rw [e]
    show t.val / 32 * 128 + _ = _; omega
  · blk_simp
    rw [e]
    show 0 * 8192 + _ = _; omega

/-- The array of the gradient of the keys. -/
theorem dk_array (i : S8192x2048.Idx) : r.2.mem ((c.tc : Thread nD τ).loc main_v42_1) i
      = (gradK scale (heads x0 (colHead (i 1))) (kvHeads x1 (colHead (i 1))) (kvHeads x2 (colHead (i 1))) (heads x3 (colHead (i 1)))
        (i 0) (colDim (i 1)) : EReal) := by
  obtain ⟨after, hl, ha⟩ := h.exists_exact c
  refine (congrFun (ha 8) i).trans ?_
  refine ((rdat m c).withAfter after).arrAt_forall_of_covers 8 (fun (i : S8192x2048.Idx) v => v
      = (gradK scale (heads x0 (colHead (i 1))) (kvHeads x1 (colHead (i 1))) (kvHeads x2 (colHead (i 1))) (heads x3 (colHead (i 1)))
        (i 0) (colDim (i 1)) : EReal)) (by decide +kernel) (fun t hf y => ?_) i
  have hR := (dats m 0 c).toRRel_leaves (fgt := fgt) (Rl := Rl m c) (w := 8) rfl (hl 8 t hf)
  obtain ⟨-, e, -, -, f, -⟩ := idxOut t
  blk_simp
  refine (congrFun (hR (f hf)) y).trans (dk_place t R y _ ?_ ?_)
  · blk_simp
    rw [e]
    show t.val / 4 % 8 * 1024 + _ = _; omega
  · blk_simp
    rw [e]
    show t.val / 32 * 128 + _ = _; omega

/-- The array of the gradient of the values. -/
theorem dv_array (i : S8192x2048.Idx) : r.2.mem ((c.tc : Thread nD τ).loc main_v42_2) i
      = (gradV scale (heads x0 (colHead (i 1))) (kvHeads x1 (colHead (i 1))) (heads x3 (colHead (i 1))) (i 0) (colDim (i 1)) : EReal) := by
  obtain ⟨after, hl, ha⟩ := h.exists_exact c
  refine (congrFun (ha 9) i).trans ?_
  refine ((rdat m c).withAfter after).arrAt_forall_of_covers 9 (fun (i : S8192x2048.Idx) v => v
      = (gradV scale (heads x0 (colHead (i 1))) (kvHeads x1 (colHead (i 1))) (heads x3 (colHead (i 1))) (i 0) (colDim (i 1)) : EReal))
    (by decide +kernel) (fun t hf y => ?_) i
  have hR := (dats m 0 c).toRRel_leaves (fgt := fgt) (Rl := Rl m c) (w := 9) rfl (hl 9 t hf)
  obtain ⟨-, -, e, -, -, f⟩ := idxOut t
  blk_simp
  refine (congrFun (hR (f hf)) y).trans (dv_place t R y _ ?_ ?_)
  · blk_simp
    rw [e]
    show t.val / 4 % 8 * 1024 + _ = _; omega
  · blk_simp
    rw [e]
    show t.val / 32 * 128 + _ = _; omega

end
end Cert.Attention

end
-- ==== Proof.Finite.lean ====
/-
  The precondition read off: where the argument arrays' absolute values lie below infinity they hold real numbers.
-/
module

public import proofs.«01_k».proof.Proof.RefValue
public import proofs.«01_k».proof.Pre_finite
public import Idealize.ShloMosaic.Lib.ReduceAll

@[expose] public section

set_option maxRecDepth 16384

noncomputable section

namespace Cert.Attention

open Idealize.ShloMosaic Idealize.SL.Sem

/-- The bound that the precondition compares with is infinity. -/
theorem ofBits_inf : Ideal.ofBits .f32 0x7F800000#32 = (⊤ : EReal) := by simp [Ideal.ofBits, Ideal.ieee]

/-- A number whose absolute value is below infinity is real. -/
theorem real_of_abs_lt (x : EReal) (h : max x (-x) < ⊤) : x = (x.toReal : EReal) := by
  refine (EReal.coe_toReal ?_ ?_).symm
  · rintro rfl; simp at h
  · rintro rfl; simp at h

/-- A comparison that answers one holds. -/
theorem lt_of_cmp (x y : EReal) (h : Ideal.cmp .olt x y = 1#1) : x < y := by
  by_contra hc
  have : Ideal.cmp .olt x y = 0#1 := by simp [Ideal.cmp, hc]
  rw [this] at h
  exact absurd h (by decide)

/-- The conjunction over a whole array of "the absolute value is below infinity", read at an index. -/
theorem real_of_all {s : Shape} {axes : List (Fin s.rank)} (X : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (j : (⟨0, ![]⟩ : Shape).Idx)
    (h : Host.reduce IntOp.andi (cmpf (F := Ideal) .olt (Host.absf X) (broadcastInDim s ![] hb (constant ⟨0, ![]⟩ .f32 0x7F800000#32)))
      (constantI ⟨0, ![]⟩ 1 1#1) hr hu j = 1#1) (i : s.Idx) : X i = ((X i).toReal : EReal) := by
  haveI : Subsingleton (⟨0, ![]⟩ : Shape).Idx := ⟨fun a b => funext fun k => k.elim0⟩
  have e : Ideal.cmp .olt (max (X i) (-(X i))) (Ideal.ofBits .f32 0x7F800000#32) = 1#1 := Host.reduce_andi_all _ _ hr hu j h i
  have l := lt_of_cmp _ _ e
  rw [ofBits_inf] at l
  exact real_of_abs_lt _ l

/-- A conjunction of two bits that is one. -/
theorem and_split {s : Shape} (a b : IVec s 1) (j : s.Idx) (h : andi a b j = 1#1) : a j = 1#1 ∧ b j = 1#1 := by
  have h' : a j &&& b j = 1#1 := h
  generalize a j = p at h' ⊢
  generalize b j = q at h' ⊢
  revert p q; decide

/-- A matrix under such a conjunction, its entries named by row and column. -/
theorem real_entry {n0 n1 : ℕ} {axes : List (Fin (⟨2, ![n0, n1]⟩ : Shape).rank)} (X : FVec Ideal ⟨2, ![n0, n1]⟩ .f32)
    (hb : (⟨0, ![]⟩ : Shape).BroadcastsInDim ⟨2, ![n0, n1]⟩ (![] : Fin 0 → Fin (⟨2, ![n0, n1]⟩ : Shape).rank))
    (hr : (⟨2, ![n0, n1]⟩ : Shape).ReducesTo axes ⟨0, ![]⟩) (hu : 0 < (⟨0, ![]⟩ : Shape).numel) (j : (⟨0, ![]⟩ : Shape).Idx)
    (h : Host.reduce IntOp.andi (cmpf (F := Ideal) .olt (Host.absf X) (broadcastInDim ⟨2, ![n0, n1]⟩ ![] hb (constant ⟨0, ![]⟩ .f32 0x7F800000#32)))
      (constantI ⟨0, ![]⟩ 1 1#1) hr hu j = 1#1) (i : (⟨2, ![n0, n1]⟩ : Shape).Idx) :
    X i = ((X (ValueIdx.ix2 (i 0) (i 1))).toReal : EReal) :=
  (real_of_all X hb hr hu j h i).trans (congrArg (fun j => ((X j).toReal : EReal))
    (funext fun a => match a with | ⟨0, _⟩ => rfl | ⟨1, _⟩ => rfl))

/-- The same of the columns of the values only, 512 from column 4608. -/
theorem real_columns {axes : List (Fin Cert.Pre_finite.S8192x512.rank)} (X : FVec Ideal Cert.Pre_finite.S8192x9216 .f32)
    (hs : Cert.Pre_finite.S8192x9216.Slices ![0, 4608] Cert.Pre_finite.S8192x512)
    (hb : (⟨0, ![]⟩ : Shape).BroadcastsInDim Cert.Pre_finite.S8192x512 (![] : Fin 0 → Fin Cert.Pre_finite.S8192x512.rank))
    (hr : Cert.Pre_finite.S8192x512.ReducesTo axes ⟨0, ![]⟩) (hu : 0 < (⟨0, ![]⟩ : Shape).numel) (z : (⟨0, ![]⟩ : Shape).Idx)
    (h : Host.reduce IntOp.andi (cmpf (F := Ideal) .olt (Host.absf (extractStridedSlice Cert.Pre_finite.S8192x512 ![0, 4608] X hs))
        (broadcastInDim Cert.Pre_finite.S8192x512 ![] hb (constant ⟨0, ![]⟩ .f32 0x7F800000#32)))
      (constantI ⟨0, ![]⟩ 1 1#1) hr hu z = 1#1) (i : Cert.Pre_finite.S8192x9216.Idx) (j : Fin 512) (hj : (i 1).val = 4608 + j.val) :
    X i = ((X (ValueIdx.ix2 (n0 := 8192) (n1 := 9216) (i 0) ⟨4608 + j.val, by omega⟩)).toReal : EReal) := by
  have l := real_of_all _ _ _ _ _ h (ValueIdx.ix2 (n0 := 8192) (n1 := 512) (i 0) j)
  have e1 : extractStridedSlice Cert.Pre_finite.S8192x512 ![0, 4608] X hs
      (ValueIdx.ix2 (n0 := 8192) (n1 := 512) (i 0) j) = X (ValueIdx.ix2 (n0 := 8192) (n1 := 9216) (i 0) ⟨4608 + j.val, by omega⟩) :=
    congrArg X (funext fun a => Fin.ext (match a with
      | ⟨0, _⟩ => Nat.zero_add _
      | ⟨1, _⟩ => rfl))
  have e2 : i = ValueIdx.ix2 (n0 := 8192) (n1 := 9216) (i 0) ⟨4608 + j.val, by omega⟩ := funext fun a => Fin.ext (match a with
      | ⟨0, _⟩ => rfl
      | ⟨1, _⟩ => hj)
  exact (congrArg X e2).trans (e1.symm.trans (l.trans (congrArg (fun v : EReal => (v.toReal : EReal)) e1)))

/-- The precondition gives the arguments' real numbers. -/
theorem realArgs [Cert.Pre_finite.Facts] (X0 : FVec Ideal Cert.Pre_finite.S8192x2048 .f32) (X1 : FVec Ideal Cert.Pre_finite.S8192x512 .f32)
    (X2 : FVec Ideal Cert.Pre_finite.S8192x9216 .f32) (X3 : FVec Ideal Cert.Pre_finite.S8192x2048 .f32)
    (h : Cert.Pre_finite.fn (F := Ideal) X0 X1 X2 X3 = fun _ => 1#1) :
    RealArgs X0 X1 X2 X3 (fun t j => (X0 (ValueIdx.ix2 (n0 := 8192) (n1 := 2048) t j)).toReal)
      (fun t j => (X1 (ValueIdx.ix2 (n0 := 8192) (n1 := 512) t j)).toReal)
      (fun t j => (X2 (ValueIdx.ix2 (n0 := 8192) (n1 := 9216) t ⟨4608 + j.val, by omega⟩)).toReal)
      (fun t j => (X3 (ValueIdx.ix2 (n0 := 8192) (n1 := 2048) t j)).toReal) := by
  have e := congrFun h ((fun a => a.elim0 : Cert.Pre_finite.S_.Idx))
  obtain ⟨e, h3⟩ := and_split _ _ _ e
  obtain ⟨e, h2⟩ := and_split _ _ _ e
  obtain ⟨h0, h1⟩ := and_split _ _ _ e
  exact ⟨real_entry X0 _ _ _ _ h0, real_entry X1 _ _ _ _ h1, real_columns X2 _ _ _ _ _ h2, real_entry X3 _ _ _ _ h3⟩

end Cert.Attention

end
-- ==== Proof.Dact.lean ====
/-
  The gradient of the hidden rows of the squared-ReLU channel mixer: the cotangent times the second weights transposed,
  times twice the positive part of the hidden rows.
-/
module

public import proofs.«01_k».proof.Proof.Gen.Kernel2Ideal.Value
public import proofs.«01_k».proof.Proof.Gen.Reference2Ideal.Run
public import proofs.«01_k».proof.Proof.Gen.Reference2Ideal.Read
public import proofs.«01_k».proof.Defs
public import Idealize.ShloMosaic.Lib.Pipeline.ValueKit

@[expose] public section

set_option maxRecDepth 16384

noncomputable section

namespace Cert.Dact

open Idealize.ShloMosaic Idealize.ShloMosaic.TcCoe Idealize.SL.Sem Cert.Kernel2Ideal Cert.Kernel2Ideal.Gen

/-- The gradient, written in one term: where the hidden row is positive, the product with twice its positive part. -/
abbrev grad (G W : FVec Ideal S8192x2048 .f32) (H : FVec Ideal S8192x8192 .f32) : FVec Ideal S8192x8192 .bf16 :=
  Cert.Reference2Ideal.Read.val_main_v12 (F := Ideal) G W H

/-- Two times the positive part needs no choice by the sign. -/
theorem choice (x h two : EReal) [Decidable (0 < h)] : (if 0 < h then x * (two * max h 0) else 0) = x * (two * max h 0) := by
  by_cases h0 : (0 : EReal) < h
  · rw [if_pos h0]
  · rw [if_neg h0, max_eq_right (not_lt.mp h0), mul_zero, mul_zero]

variable (m : (ℓ : Loc nD τ sig) → Buf (Elt Ideal) ℓ)

/-- The blocks that a grid point reads and writes. -/
theorem idx : ∀ t : Fin cfg0.N, win0_0.index t = ![t.val / 8, 0] ∧ win0_1.index t = ![0, t.val % 8, 0]
    ∧ win0_2.index t = ![t.val / 8, t.val % 8] ∧ win0_3.index t = ![t.val / 8, t.val % 8] :=
  (by decide +kernel : ∀ t : Fin grid0.N, _)

/-- What a grid point stores is its block of the gradient. -/
theorem point (c : Dev nD) (t : Fin cfg0.N) (y) : k0_pay1 (F := Ideal) (iblk m c 1 t) (iblk m c 0 t) (iblk m c 2 t) y
    = grad (m ((c : Thread nD τ).loc main_arg0)) (m ((c : Thread nD τ).loc main_arg1)) (m ((c : Thread nD τ).loc main_arg2))
        (((cfg0.win 3).blk t).view.emb y) := by
  pointwise [k0_pay1, grad, Cert.Reference2Ideal.Read.val_main_v12, Cert.Reference2Ideal.Read.val_main_v11,
    Cert.Reference2Ideal.Read.val_main_v10, Cert.Reference2Ideal.Read.val_main_v9, Cert.Reference2Ideal.Read.val_main_v8,
    Cert.Reference2Ideal.Read.val_main_v6, Cert.Reference2Ideal.Read.val_main_v5, Cert.Reference2Ideal.Read.val_main_v2,
    Cert.Reference2Ideal.Read.val_main_v1, Cert.Reference2Ideal.Read.val_main_v0, Cert.Reference2Ideal.Read.val_main_call0_v0,
    Cert.Reference2Ideal.Read.val_main_call0_cst, Cert.Reference2Ideal.Read.val_main_cst, Cert.Reference2Ideal.Read.val_main_cst_1, Cert.Reference2Ideal.Read.val_main_cst_2]
  rw [choice]
  blk_point [iblk, V, idx t]
  all_goals (rw [dif_neg (by decide)]; rfl)

/-- The result array after the run. -/
theorem final (c : Dev nD) : (dats m 0 c).arrAt 3 (cfgs 0).N
    = grad (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold outsAt0
  frame_out
  exact point m c t y

attribute [local instance] Cert.Kernel2Ideal.Gen.facts Cert.Reference2Ideal.Gen.facts

/-- Every execution of the reference ends with its arguments unchanged and every semaphore at zero. -/
theorem reference_frame : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The call leaves what the reference leaves: the gradient of the hidden rows. -/
theorem value : Cert.algebraic_Kernel2Ideal_Reference2Ideal := by
  intro m g m' g' _ hagree
  refine ⟨fun c => Cert.Reference2Ideal.Read.val_main_v12 (F := Ideal) (m ((c : Thread nD τ).loc main_arg0)) (m ((c : Thread nD τ).loc main_arg1)) (m ((c : Thread nD τ).loc main_arg2)), ?_, ?_⟩
  · exact (θ_run Cert.Kernel2Ideal.defs _ _).mono (fun r h c => ⟨(h c).1.trans (final m c), (h c).2⟩)
      (Cert.Kernel2Ideal.Value.run_blocks m g)
  · refine (θ_run Cert.Reference2Ideal.defs _ _).mono (fun r h c => ⟨?_, (h c).2⟩) (Cert.Reference2Ideal.Value.run (F := Ideal) m' g')
    rw [(h c).1, Cert.Reference2Ideal.Read.val_main_v12_eq, (hagree c).1, (hagree c).2.1, (hagree c).2.2]

end Cert.Dact

end
-- ==== Proof.Runs.lean ====
/-
  Sums over runs of four grid points: an accumulator that starts anew at every fourth point and to which every point adds its
  contribution, the last point of a run adding its own to what it gives out instead of storing it.
-/
module

public import Idealize.ShloMosaic.Lib.Pipeline.ReadBack
public import Idealize.ShloMosaic.Lib.Pipeline.ValueKit

@[expose] public section

noncomputable section

namespace Cert.Runs

open Idealize.ShloMosaic

variable {N : ℕ} {ι : Type}

/-- The point before a grid point that is not the first. -/
theorem before_lt {n : ℕ} (h : n < N) : n - 1 < N := Nat.lt_of_le_of_lt (Nat.sub_le _ _) h

/-- The sum so far after a grid point: what the accumulator holds; after the last point of a run, what it held and the last
    contribution. -/
def sumAfter (held : (n : ℕ) → n < N → ι → EReal) (part : Fin N → ι → EReal) (n : ℕ) (h : n < N) (j : ι) : EReal :=
  if n % 4 = 3 then held (n - 1) (before_lt h) j + part ⟨n, h⟩ j else held n h j

/-- The last point of a run gives out the sum of the run's four contributions. -/
theorem last_eq_sum (held : (n : ℕ) → n < N → ι → EReal) (part : Fin N → ι → EReal)
    (first : ∀ t : Fin N, t.val % 4 = 0 → ∀ j, held t.val t.isLt j = part t j)
    (next : ∀ t : Fin N, ¬t.val % 4 = 0 → ¬t.val % 4 = 3 → ∀ j, held t.val t.isLt j = held (t.val - 1) (before_lt t.isLt) j + part t j)
    (t : Fin N) (h3 : t.val % 4 = 3) (j : ι) :
    held (t.val - 1) (before_lt t.isLt) j + part t j
      = ∑ s : Fin 4, part ⟨4 * (t.val / 4) + s.val, Pipeline.run_point_lt_of_flush t h3 s⟩ j := by
  have start : ∀ t : Fin N, t.val % 4 = 0 → ∀ j, sumAfter held part t.val t.isLt j = 0 + part t j := fun t h j => by
    rw [sumAfter, if_neg (by omega), first t h, zero_add]
  have step : ∀ t : Fin N, ¬t.val % 4 = 0 → ∀ j,
      sumAfter held part t.val t.isLt j = sumAfter held part (t.val - 1) (before_lt t.isLt) j + part t j := fun t h j => by
    by_cases h' : t.val % 4 = 3
    · rw [sumAfter, sumAfter, if_pos h', if_neg (by omega)]
    · rw [sumAfter, sumAfter, if_neg h', if_neg (by omega), next t h h']
  have here : sumAfter held part t.val t.isLt j = held (t.val - 1) (before_lt t.isLt) j + part t j := by rw [sumAfter, if_pos h3]
  rw [← here, Pipeline.eq_sum_fin_of_reset_step_apply_of_flush (sumAfter held part) 4 (fun _ => 0) part start step t h3, zero_add]

end Cert.Runs

end
-- ==== Proof.Dff2.lean ====
/-
  The gradient of the second weights of the channel mixer: the activations transposed times the cotangent, summed over
  four blocks of rows.
-/
module

public import proofs.«01_k».proof.Proof.Gen.Kernel3Ideal.Value
public import proofs.«01_k».proof.Proof.Gen.Reference3Ideal.Run
public import proofs.«01_k».proof.Proof.Gen.Reference3Ideal.Read
public import proofs.«01_k».proof.Defs
public import Idealize.ShloMosaic.Lib.Pipeline.ValueKit
public import Idealize.ShloMosaic.Lib.Pipeline.ReadBack
public import proofs.«01_k».proof.Proof.Runs

@[expose] public section

set_option maxRecDepth 16384

noncomputable section

namespace Cert.Dff2

open Idealize.ShloMosaic Idealize.ShloMosaic.TcCoe Idealize.SL.Sem Cert.Kernel3Ideal Cert.Kernel3Ideal.Gen

variable (m : (ℓ : Loc nD τ sig) → Buf (Elt Ideal) ℓ)

/-- A point's contribution added to the sum so far, in the scratch. -/
theorem add_part (x0 : FVec Ideal S2048x1024 .bf16) (x1 : FVec Ideal S2048x1024 .f32) (a : FVec Ideal S1024x1024 .f32) (j : S1024x1024.Idx) :
    k0_pay3 (F := Ideal) x0 x1 a j = a j + k0_pay2 (F := Ideal) x0 x1 j := by
  pointwise [k0_pay3, k0_pay2, k0_pay1]

/-- The blocks that a grid point reads and writes. -/
theorem idx : ∀ t : Fin cfg0.N, win0_0.index t = ![t.val % 4, t.val / 8]
    ∧ win0_1.index t = ![t.val % 4, t.val / 4 % 2]
    ∧ win0_2.index t = ![0, t.val / 8, t.val / 4 % 2] :=
  (by decide +kernel : ∀ t : Fin grid0.N, _)

/-- What a grid point contributes to its block of the result. -/
abbrev part (c : Dev nD) (t : Fin cfg0.N) : FVec Ideal S1024x1024 .f32 :=
  k0_pay2 (F := Ideal) (iblk m c 0 t) (iblk m c 1 t)

/-- What the scratch holds and the contribution at the last point of a run of four make up the sum of the run's contributions. -/
theorem sum_of_run (c : Dev nD) (t : Fin cfg0.N) (h3 : t.val % 4 = 3) (j : S1024x1024.Idx) :
    @HAdd.hAdd EReal EReal EReal _ ((outsAt0 m c (t.val - 1) (Cert.Runs.before_lt t.isLt)).2 j) (part m c t j)
      = ∑ s : Fin 4, (part m c ⟨4 * (t.val / 4) + s.val, Pipeline.run_point_lt_of_flush t h3 s⟩ j : EReal) := by
  refine Cert.Runs.last_eq_sum (fun n h => (outsAt0 m c n h).2) (part m c) (fun t h j => ?_) (fun t h h' j => ?_) t h3 j
  · rw [outsAt0_A m c t h (by omega) (by omega)]
    frame_out
  · rw [outsAt0_B m c t h (by omega) h']
    frame_out
    simp only [read_unread_whole]
    exact add_part _ _ _ _

/-- A contribution is a sum over the point's rows. -/
theorem part_at (x0 : FVec Ideal S2048x1024 .bf16) (x1 : FVec Ideal S2048x1024 .f32) (j : S1024x1024.Idx) :
    k0_pay2 (F := Ideal) x0 x1 j = ∑ k : Fin 2048, x0 (ix2 k (j 0)) * x1 (ix2 k (j 1)) := by pointwise [k0_pay2, k0_pay1]

/-- The reference's gradient at an index. -/
theorem ref_at (A : FVec Ideal S8192x8192 .f32) (G : FVec Ideal S8192x2048 .f32) (j : S1x8192x2048.Idx) :
    Cert.Reference3Ideal.Read.val_main_v5 (F := Ideal) A G j = ∑ l : Fin 8192, A (ix2 l (j 1)) * G (ix2 l (j 2)) := by
  pointwise [Cert.Reference3Ideal.Read.val_main_v5, Cert.Reference3Ideal.Read.val_main_v4, Cert.Reference3Ideal.Read.val_main_v3, Cert.Reference3Ideal.Read.val_main_v2]
  exact Finset.sum_congr rfl fun _ _ => mul_comm _ _

/-- What the last point of a run stores. -/
theorem last_part (x0 : FVec Ideal S2048x1024 .bf16) (x1 : FVec Ideal S2048x1024 .f32) (a : FVec Ideal S1024x1024 .f32) (r : Fin 1024) (s : Fin 1024) :
    k0_pay4 (F := Ideal) x0 x1 a (ix3 (n0 := 1) 0 r s) = a (ix2 r s) + k0_pay2 (F := Ideal) x0 x1 (ix2 r s) := by
  pointwise [k0_pay4, k0_pay2, k0_pay1]

/-- The result's block after the last point of a run is the sum over the run. -/
theorem last (c : Dev nD) (t : Fin cfg0.N) (h3 : t.val % 4 = 3) (r : Fin 1024) (s : Fin 1024) :
    (outsAt0 m c t.val t.isLt).1 (ix3 (n0 := 1) 0 r s) = ∑ p : Fin 4, (part m c ⟨4 * (t.val / 4) + p.val, Pipeline.run_point_lt_of_flush t h3 p⟩ (ix2 r s) : EReal) := by
  rw [outsAt0_C m c t (by omega) (by omega) h3]
  frame_out
  simp only [read_unread_whole]
  exact (last_part _ _ _ r s).trans (sum_of_run m c t h3 (ix2 r s))

/-- The gradient after the run. -/
theorem final (c : Dev nD) : (dats m 0 c).arrAt 2 (cfgs 0).N
    = Cert.Reference3Ideal.Read.val_main_v5 (F := Ideal) (m ((c : Thread nD τ).loc main_arg0)) (m ((c : Thread nD τ).loc main_arg1)) := by
  refine (dats m 0 c).arrAt_eq_of_covers 2 _ (by decide +kernel) fun t hf y => ?_
  have h3 := (flush0_2 t).mp hf
  obtain ⟨u, r, s, rfl⟩ : ∃ u r s, y = ix3 (n0 := 1) (n1 := 1024) (n2 := 1024) u r s := ⟨_, _, _, eq_ix3 y⟩
  obtain rfl : u = 0 := Subsingleton.elim _ _
  blk_simp
  rw [after0_2]
  refine (last m c t h3 r s).trans ?_
  rw [ref_at]
  simp only [part, part_at]
  refine Fin.sum_mul_add_congr fun s' k hl => ?_
  blk_point [iblk, V, idx t, idx ⟨_, Pipeline.run_point_lt_of_flush t h3 s'⟩]

attribute [local instance] Cert.Kernel3Ideal.Gen.facts Cert.Reference3Ideal.Gen.facts

/-- Every execution of the reference ends with its arguments unchanged and every semaphore at zero. -/
theorem reference_frame : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- The call leaves what the reference leaves: the gradient. -/
theorem value : Cert.algebraic_Kernel3Ideal_Reference3Ideal := by
  intro m g m' g' _ hagree
  refine ⟨fun c => Cert.Reference3Ideal.Read.val_main_v5 (F := Ideal) (m ((c : Thread nD τ).loc main_arg0)) (m ((c : Thread nD τ).loc main_arg1)), ?_, ?_⟩
  · exact (θ_run Cert.Kernel3Ideal.defs _ _).mono (fun r h c => ⟨(h c).1.trans (final m c), (h c).2⟩)
      (Cert.Kernel3Ideal.Value.run_blocks m g)
  · refine (θ_run Cert.Reference3Ideal.defs _ _).mono (fun r h c => ⟨?_, (h c).2⟩) (Cert.Reference3Ideal.Value.run (F := Ideal) m' g')
    rw [(h c).1, Cert.Reference3Ideal.Read.val_main_v5_eq, (hagree c).1, (hagree c).2]

end Cert.Dff2

end
-- ==== Proof.Dff1.lean ====
/-
  The gradient of the first weights of the channel mixer, shard by shard of their columns: the rows transposed times the
  cotangent, summed over four blocks of rows.
-/
module

public import proofs.«01_k».proof.Proof.Gen.Kernel4Ideal.Value
public import proofs.«01_k».proof.Proof.Gen.Reference4Ideal.Run
public import proofs.«01_k».proof.Proof.Gen.Reference4Ideal.Read
public import proofs.«01_k».proof.Defs
public import Idealize.ShloMosaic.Lib.Pipeline.ValueKit
public import Idealize.ShloMosaic.Lib.Pipeline.ReadBack
public import proofs.«01_k».proof.Proof.Runs

@[expose] public section

set_option maxRecDepth 16384

noncomputable section

namespace Cert.Dff1

open Idealize.ShloMosaic Idealize.ShloMosaic.TcCoe Idealize.SL.Sem Cert.Kernel4Ideal Cert.Kernel4Ideal.Gen

variable (m : (ℓ : Loc nD τ sig) → Buf (Elt Ideal) ℓ)

/-- A point's contribution added to the sum so far, in the scratch. -/
theorem add_part (x0 : FVec Ideal S2048x1024 .bf16) (x1 : FVec Ideal S2048x1024 .bf16) (a : FVec Ideal S1024x1024 .f32) (j : S1024x1024.Idx) :
    k0_pay3 (F := Ideal) x0 x1 a j = a j + k0_pay2 (F := Ideal) x0 x1 j := by
  pointwise [k0_pay3, k0_pay2, k0_pay1]

/-- The blocks that a grid point reads and writes. -/
theorem idx : ∀ t : Fin cfg0.N, win0_0.index t = ![t.val % 4, t.val / 32]
    ∧ win0_1.index t = ![t.val % 4, t.val / 4 % 8]
    ∧ win0_2.index t = ![t.val / 4 % 8, t.val / 32, 0] :=
  (by decide +kernel : ∀ t : Fin grid0.N, _)

/-- What a grid point contributes to its block of the result. -/
abbrev part (c : Dev nD) (t : Fin cfg0.N) : FVec Ideal S1024x1024 .f32 :=
  k0_pay2 (F := Ideal) (iblk m c 0 t) (iblk m c 1 t)

/-- What the scratch holds and the contribution at the last point of a run of four make up the sum of the run's contributions. -/
theorem sum_of_run (c : Dev nD) (t : Fin cfg0.N) (h3 : t.val % 4 = 3) (j : S1024x1024.Idx) :
    @HAdd.hAdd EReal EReal EReal _ ((outsAt0 m c (t.val - 1) (Cert.Runs.before_lt t.isLt)).2 j) (part m c t j)
      = ∑ s : Fin 4, (part m c ⟨4 * (t.val / 4) + s.val, Pipeline.run_point_lt_of_flush t h3 s⟩ j : EReal) := by
  refine Cert.Runs.last_eq_sum (fun n h => (outsAt0 m c n h).2) (part m c) (fun t h j => ?_) (fun t h h' j => ?_) t h3 j
  · rw [outsAt0_A m c t h (by omega) (by omega)]
    frame_out
  · rw [outsAt0_B m c t h (by omega) h']
    frame_out
    simp only [read_unread_whole]
    exact add_part _ _ _ _

/-- A contribution is a sum over the point's rows. -/
theorem part_at (x0 : FVec Ideal S2048x1024 .bf16) (x1 : FVec Ideal S2048x1024 .bf16) (j : S1024x1024.Idx) :
    k0_pay2 (F := Ideal) x0 x1 j = ∑ k : Fin 2048, x0 (ix2 k (j 0)) * x1 (ix2 k (j 1)) := by pointwise [k0_pay2, k0_pay1]

/-- The reference's gradient at an index. -/
theorem ref_at (A : FVec Ideal S8192x2048 .f32) (G : FVec Ideal S8192x8192 .f32) (j : S8x2048x1024.Idx) :
    Cert.Reference4Ideal.Read.val_main_v6 (F := Ideal) A G j
      = ∑ l : Fin 8192, A (ix2 l (j 1)) * G (ix2 l ⟨(j 0 : ℕ) * 1024 + (j 2 : ℕ), by
          have h0 : (j 0 : ℕ) < 8 := (j 0).isLt; have h2 : (j 2 : ℕ) < 1024 := (j 2).isLt; omega⟩) := by
  pointwise [Cert.Reference4Ideal.Read.val_main_v6, Cert.Reference4Ideal.Read.val_main_v5, Cert.Reference4Ideal.Read.val_main_v4, Cert.Reference4Ideal.Read.val_main_v3, Cert.Reference4Ideal.Read.val_main_v2]
  exact Finset.sum_congr rfl fun _ _ => mul_comm _ _

/-- What the last point of a run stores. -/
theorem last_part (x0 : FVec Ideal S2048x1024 .bf16) (x1 : FVec Ideal S2048x1024 .bf16) (a : FVec Ideal S1024x1024 .f32) (r : Fin 1024) (s : Fin 1024) :
    k0_pay4 (F := Ideal) x0 x1 a (ix3 (n0 := 1) 0 r s) = a (ix2 r s) + k0_pay2 (F := Ideal) x0 x1 (ix2 r s) := by
  pointwise [k0_pay4, k0_pay2, k0_pay1]

/-- The result's block after the last point of a run is the sum over the run. -/
theorem last (c : Dev nD) (t : Fin cfg0.N) (h3 : t.val % 4 = 3) (r : Fin 1024) (s : Fin 1024) :
    (outsAt0 m c t.val t.isLt).1 (ix3 (n0 := 1) 0 r s) = ∑ p : Fin 4, (part m c ⟨4 * (t.val / 4) + p.val, Pipeline.run_point_lt_of_flush t h3 p⟩ (ix2 r s) : EReal) := by
  rw [outsAt0_C m c t (by omega) (by omega) h3]
  frame_out
  simp only [read_unread_whole]
  exact (last_part _ _ _ r s).trans (sum_of_run m c t h3 (ix2 r s))

/-- The gradient after the run. -/
theorem final (c : Dev nD) : (dats m 0 c).arrAt 2 (cfgs 0).N
    = Cert.Reference4Ideal.Read.val_main_v6 (F := Ideal) (m ((c : Thread nD τ).loc main_arg0)) (m ((c : Thread nD τ).loc main_arg1)) := by
  refine (dats m 0 c).arrAt_eq_of_covers 2 _ (by decide +kernel) fun t hf y => ?_
  have h3 := (flush0_2 t).mp hf
  obtain ⟨u, r, s, rfl⟩ : ∃ u r s, y = ix3 (n0 := 1) (n1 := 1024) (n2 := 1024) u r s := ⟨_, _, _, eq_ix3 y⟩
  obtain rfl : u = 0 := Subsingleton.elim _ _
  blk_simp
  rw [after0_2]
  refine (last m c t h3 r s).trans ?_
  rw [ref_at]
  simp only [part, part_at]
  refine Fin.sum_mul_add_congr fun s' k hl => ?_
  blk_point [iblk, V, idx t, idx ⟨_, Pipeline.run_point_lt_of_flush t h3 s'⟩]

attribute [local instance] Cert.Kernel4Ideal.Gen.facts Cert.Reference4Ideal.Gen.facts

/-- Every execution of the reference ends with its arguments unchanged and every semaphore at zero. -/
theorem reference_frame : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

/-- The call leaves what the reference leaves: the gradient. -/
theorem value : Cert.algebraic_Kernel4Ideal_Reference4Ideal := by
  intro m g m' g' _ hagree
  refine ⟨fun c => Cert.Reference4Ideal.Read.val_main_v6 (F := Ideal) (m ((c : Thread nD τ).loc main_arg0)) (m ((c : Thread nD τ).loc main_arg1)), ?_, ?_⟩
  · exact (θ_run Cert.Kernel4Ideal.defs _ _).mono (fun r h c => ⟨(h c).1.trans (final m c), (h c).2⟩)
      (Cert.Kernel4Ideal.Value.run_blocks m g)
  · refine (θ_run Cert.Reference4Ideal.defs _ _).mono (fun r h c => ⟨?_, (h c).2⟩) (Cert.Reference4Ideal.Value.run (F := Ideal) m' g')
    rw [(h c).1, Cert.Reference4Ideal.Read.val_main_v6_eq, (hagree c).1, (hagree c).2]

end Cert.Dff1

end
-- ==== Proof.Dh2.lean ====
/-
  The gradient of the channel mixer's input: the cotangent times the first weights transposed, summed over four blocks
  of columns, two column shards of the weights each.
-/
module

public import proofs.«01_k».proof.Proof.Gen.Kernel5Ideal.Value
public import proofs.«01_k».proof.Proof.Gen.Reference5Ideal.Run
public import proofs.«01_k».proof.Proof.Gen.Reference5Ideal.Read
public import proofs.«01_k».proof.Defs
public import Idealize.ShloMosaic.Lib.Pipeline.ValueKit
public import Idealize.ShloMosaic.Lib.Pipeline.ReadBack
public import proofs.«01_k».proof.Proof.Runs

@[expose] public section

set_option maxRecDepth 16384

noncomputable section

namespace Cert.Dh2

open Idealize.ShloMosaic Idealize.ShloMosaic.TcCoe Idealize.SL.Sem Cert.Kernel5Ideal Cert.Kernel5Ideal.Gen

variable (m : (ℓ : Loc nD τ sig) → Buf (Elt Ideal) ℓ)

/-- A point's contribution added to the sum so far, in the scratch. -/
theorem add_part (x0 : FVec Ideal S1x1024x1024 .bf16) (x1 : FVec Ideal S1x1024x1024 .bf16) (x2 : FVec Ideal S1024x2048 .bf16) (a : FVec Ideal S1024x1024 .f32) (j : S1024x1024.Idx) :
    k0_pay3 (F := Ideal) x0 x1 x2 a j = a j + k0_pay2 (F := Ideal) x0 x1 x2 j := by
  pointwise [k0_pay3, k0_pay2, k0_pay1]

/-- The blocks that a grid point reads and writes. -/
theorem idx : ∀ t : Fin cfg0.N, win0_0.index t = ![t.val / 8, t.val % 4]
    ∧ win0_1.index t = ![t.val % 4, t.val / 4 % 2, 0]
    ∧ win0_2.index t = ![t.val / 8, t.val / 4 % 2] :=
  (by decide +kernel : ∀ t : Fin grid0.N, _)

/-- What a grid point contributes to its block of the result. -/
abbrev part (c : Dev nD) (t : Fin cfg0.N) : FVec Ideal S1024x1024 .f32 :=
  k0_pay2 (F := Ideal) (View.ld (iblk m c 1 t) (Rect.unit (s := S2x1024x1024) ![0, 0, 0] S1x1024x1024.size inb_S2x1024x1024_S1x1024x1024_0_0_0)) (View.ld (iblk m c 1 t) (Rect.unit (s := S2x1024x1024) ![1, 0, 0] S1x1024x1024.size inb_S2x1024x1024_S1x1024x1024_1_0_0)) (iblk m c 0 t)

/-- What the scratch holds and the contribution at the last point of a run of four make up the sum of the run's contributions. -/
theorem sum_of_run (c : Dev nD) (t : Fin cfg0.N) (h3 : t.val % 4 = 3) (j : S1024x1024.Idx) :
    @HAdd.hAdd EReal EReal EReal _ ((outsAt0 m c (t.val - 1) (Cert.Runs.before_lt t.isLt)).2 j) (part m c t j)
      = ∑ s : Fin 4, (part m c ⟨4 * (t.val / 4) + s.val, Pipeline.run_point_lt_of_flush t h3 s⟩ j : EReal) := by
  refine Cert.Runs.last_eq_sum (fun n h => (outsAt0 m c n h).2) (part m c) (fun t h j => ?_) (fun t h h' j => ?_) t h3 j
  · rw [outsAt0_A m c t h (by omega) (by omega)]
    frame_out
    rfl
  · rw [outsAt0_B m c t h (by omega) h']
    frame_out
    simp only [read_unread_whole]
    exact add_part _ _ _ _ _

/-- A contribution is a sum over the point's columns, the two shards of the weights side by side. -/
theorem part_at (x0 : FVec Ideal S2x1024x1024 .bf16) (x1 : FVec Ideal S1024x2048 .bf16) (j : S1024x1024.Idx) :
    k0_pay2 (F := Ideal) (View.ld x0 (Rect.unit (s := S2x1024x1024) ![0, 0, 0] S1x1024x1024.size inb_S2x1024x1024_S1x1024x1024_0_0_0))
        (View.ld x0 (Rect.unit (s := S2x1024x1024) ![1, 0, 0] S1x1024x1024.size inb_S2x1024x1024_S1x1024x1024_1_0_0)) x1 j
      = ∑ k : Fin 2048, x1 (ix2 (j 0) k) *
        (if h : (k : ℕ) < 1024 then x0 (ix3 0 (j 1) ⟨k, h⟩) else x0 (ix3 1 (j 1) ⟨k - 1024, by have := k.isLt; omega⟩)) := by
  pointwise [k0_pay2, k0_pay1]

/-- The reference's gradient at an index. -/
theorem ref_at (X : FVec Ideal S8192x8192 .f32) (W : FVec Ideal S2048x8192 .f32) (j : S8192x2048.Idx) :
    Cert.Reference5Ideal.Read.val_main_v2 (F := Ideal) X W j = ∑ l : Fin 8192, X (ix2 (j 0) l) * W (ix2 (j 1) l) := by
  pointwise [Cert.Reference5Ideal.Read.val_main_v2]

/-- What the last point of a run stores. -/
theorem last_part (x0 x1 : FVec Ideal S1x1024x1024 .bf16) (x2 : FVec Ideal S1024x2048 .bf16) (a : FVec Ideal S1024x1024 .f32) (j : S1024x1024.Idx) :
    k0_pay4 (F := Ideal) x0 x1 x2 a j = a j + k0_pay2 (F := Ideal) x0 x1 x2 j := by
  pointwise [k0_pay4, k0_pay2, k0_pay1]

/-- The result's block after the last point of a run is the sum over the run. -/
theorem last (c : Dev nD) (t : Fin cfg0.N) (h3 : t.val % 4 = 3) (j : S1024x1024.Idx) :
    (outsAt0 m c t.val t.isLt).1 j = ∑ p : Fin 4, (part m c ⟨4 * (t.val / 4) + p.val, Pipeline.run_point_lt_of_flush t h3 p⟩ j : EReal) := by
  rw [outsAt0_C m c t (by omega) (by omega) h3]
  frame_out
  simp only [read_unread_whole]
  exact (last_part _ _ _ _ j).trans (sum_of_run m c t h3 j)

/-- The gradient of the left factor after the run. -/
theorem final (c : Dev nD) : (dats m 0 c).arrAt 2 (cfgs 0).N
    = Cert.Reference5Ideal.Read.val_main_v2 (F := Ideal) (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2]
  refine (last m c t h3 y).trans ?_
  rw [ref_at]
  refine (Fin.sum_fin_congr fun s' => part_at _ _ _).trans ?_
  refine Fin.sum_mul_add_congr fun s' k hl => ?_
  blk_point [iblk, V, idx t, idx ⟨_, Pipeline.run_point_lt_of_flush t h3 s'⟩]

attribute [local instance] Cert.Kernel5Ideal.Gen.facts Cert.Reference5Ideal.Gen.facts

/-- Every execution of the reference ends with its arguments unchanged and every semaphore at zero. -/
theorem reference_frame : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

/-- The call leaves what the reference leaves: the gradient of the left factor. -/
theorem value : Cert.algebraic_Kernel5Ideal_Reference5Ideal := by
  intro m g m' g' _ hagree
  refine ⟨fun c => Cert.Reference5Ideal.Read.val_main_v2 (F := Ideal) (m ((c : Thread nD τ).loc main_arg0)) (m ((c : Thread nD τ).loc main_arg1)), ?_, ?_⟩
  · exact (θ_run Cert.Kernel5Ideal.defs _ _).mono (fun r h c => ⟨(h c).1.trans (final m c), (h c).2⟩)
      (Cert.Kernel5Ideal.Value.run_blocks m g)
  · refine (θ_run Cert.Reference5Ideal.defs _ _).mono (fun r h c => ⟨?_, (h c).2⟩) (Cert.Reference5Ideal.Value.run (F := Ideal) m' g')
    rw [(h c).1, Cert.Reference5Ideal.Read.val_main_v2_eq, (hagree c).1, (hagree c).2]

end Cert.Dh2

end
-- ==== Proof.Din.lean ====
/-
  The gradient of the input projection, shard by shard of its columns: the rows transposed times the cotangent, summed
  over four blocks of rows; each block of the result spans two shards.
-/
module

public import proofs.«01_k».proof.Proof.Gen.Kernel6Ideal.Value
public import proofs.«01_k».proof.Proof.Gen.Reference6Ideal.Run
public import proofs.«01_k».proof.Proof.Gen.Reference6Ideal.Read
public import proofs.«01_k».proof.Defs
public import Idealize.ShloMosaic.Lib.Pipeline.ValueKit
public import Idealize.ShloMosaic.Lib.Pipeline.ReadBack
public import proofs.«01_k».proof.Proof.Runs

@[expose] public section

set_option maxRecDepth 16384

noncomputable section

namespace Cert.Din

open Idealize.ShloMosaic Idealize.ShloMosaic.TcCoe Idealize.SL.Sem Cert.Kernel6Ideal Cert.Kernel6Ideal.Gen

variable (m : (ℓ : Loc nD τ sig) → Buf (Elt Ideal) ℓ)

/-- A point's contribution added to the sum so far, in the scratch. -/
theorem add_part (x0 : FVec Ideal S2048x512 .bf16) (x1 : FVec Ideal S2048x2304 .bf16) (a : FVec Ideal S512x2304 .f32) (j : S512x2304.Idx) :
    k0_pay3 (F := Ideal) x0 x1 a j = a j + k0_pay2 (F := Ideal) x0 x1 j := by
  pointwise [k0_pay3, k0_pay2, k0_pay1]

/-- The blocks that a grid point reads and writes. -/
theorem idx : ∀ t : Fin cfg0.N, win0_0.index t = ![t.val % 4, t.val / 16]
    ∧ win0_1.index t = ![t.val % 4, t.val / 4 % 4]
    ∧ win0_2.index t = ![t.val / 4 % 4, t.val / 16, 0] :=
  (by decide +kernel : ∀ t : Fin grid0.N, _)

/-- What a grid point contributes to its block of the result. -/
abbrev part (c : Dev nD) (t : Fin cfg0.N) : FVec Ideal S512x2304 .f32 :=
  k0_pay2 (F := Ideal) (iblk m c 0 t) (iblk m c 1 t)

/-- What the scratch holds and the contribution at the last point of a run of four make up the sum of the run's contributions. -/
theorem sum_of_run (c : Dev nD) (t : Fin cfg0.N) (h3 : t.val % 4 = 3) (j : S512x2304.Idx) :
    @HAdd.hAdd EReal EReal EReal _ ((outsAt0 m c (t.val - 1) (Cert.Runs.before_lt t.isLt)).2 j) (part m c t j)
      = ∑ s : Fin 4, (part m c ⟨4 * (t.val / 4) + s.val, Pipeline.run_point_lt_of_flush t h3 s⟩ j : EReal) := by
  refine Cert.Runs.last_eq_sum (fun n h => (outsAt0 m c n h).2) (part m c) (fun t h j => ?_) (fun t h h' j => ?_) t h3 j
  · rw [outsAt0_A m c t h (by omega) (by omega)]
    frame_out
  · rw [outsAt0_B m c t h (by omega) h']
    frame_out
    simp only [read_unread_whole]
    exact add_part _ _ _ _

/-- A contribution is a sum over the point's rows. -/
theorem part_at (x0 : FVec Ideal S2048x512 .bf16) (x1 : FVec Ideal S2048x2304 .bf16) (j : S512x2304.Idx) :
    k0_pay2 (F := Ideal) x0 x1 j = ∑ k : Fin 2048, x0 (ix2 k (j 0)) * x1 (ix2 k (j 1)) := by pointwise [k0_pay2, k0_pay1]

/-- The reference's gradient at an index. -/
theorem ref_at (A : FVec Ideal S8192x2048 .f32) (G : FVec Ideal S8192x9216 .f32) (j : S8x2048x1152.Idx) :
    Cert.Reference6Ideal.Read.val_main_v6 (F := Ideal) A G j
      = ∑ l : Fin 8192, A (ix2 l (j 1)) * G (ix2 l ⟨(j 0 : ℕ) * 1152 + (j 2 : ℕ), by
          have h0 : (j 0 : ℕ) < 8 := (j 0).isLt; have h2 : (j 2 : ℕ) < 1152 := (j 2).isLt; omega⟩) := by
  pointwise [Cert.Reference6Ideal.Read.val_main_v6, Cert.Reference6Ideal.Read.val_main_v5, Cert.Reference6Ideal.Read.val_main_v4, Cert.Reference6Ideal.Read.val_main_v3, Cert.Reference6Ideal.Read.val_main_v2]
  exact Finset.sum_congr rfl fun _ _ => mul_comm _ _

/-- What the last point of a run has added up. -/
theorem last_part (x0 : FVec Ideal S2048x512 .bf16) (x1 : FVec Ideal S2048x2304 .bf16) (a : FVec Ideal S512x2304 .f32) (j : S512x2304.Idx) :
    k0_pay4 (F := Ideal) x0 x1 a j = a j + k0_pay2 (F := Ideal) x0 x1 j := by
  pointwise [k0_pay4, k0_pay2, k0_pay1]

/-- The result's block after the last point of a run is the sum over the run, its columns as two shards. -/
theorem last (c : Dev nD) (t : Fin cfg0.N) (h3 : t.val % 4 = 3) (y : S2x512x1152.Idx) (j : S512x2304.Idx)
    (hj0 : (j 0 : ℕ) = y 1) (hj1 : (j 1 : ℕ) = 1152 * y 0 + y 2) :
    (outsAt0 m c t.val t.isLt).1 y = ∑ p : Fin 4, (part m c ⟨4 * (t.val / 4) + p.val, Pipeline.run_point_lt_of_flush t h3 p⟩ j : EReal) := by
  rw [outsAt0_C m c t (by omega) (by omega) h3]
  frame_out
  simp only [read_unread_whole]
  refine Eq.trans (b := k0_pay4 (F := Ideal) (iblk m c 0 t) (iblk m c 1 t)
    (outsAt0 m c (t.val - 1) (Cert.Runs.before_lt t.isLt)).2 j) ?_ ((last_part _ _ _ j).trans (sum_of_run m c t h3 j))
  clear h3
  canon_tiles x h
  all_goals (open_payloads; pointwise; blk_ext)

/-- The gradient after the run. -/
theorem final (c : Dev nD) : (dats m 0 c).arrAt 2 (cfgs 0).N
    = Cert.Reference6Ideal.Read.val_main_v6 (F := Ideal) (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2]
  obtain_idx j : S512x2304 := [(y 1 : ℕ), 1152 * (y 0 : ℕ) + (y 2 : ℕ)] with hj
  refine (last m c t h3 y j hj0 hj1).trans ?_
  rw [ref_at]
  simp only [part, part_at]
  refine Fin.sum_mul_add_congr fun s' k hl => ?_
  blk_point [iblk, V, idx t, idx ⟨_, Pipeline.run_point_lt_of_flush t h3 s'⟩]

attribute [local instance] Cert.Kernel6Ideal.Gen.facts Cert.Reference6Ideal.Gen.facts

/-- Every execution of the reference ends with its arguments unchanged and every semaphore at zero. -/
theorem reference_frame : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

/-- The call leaves what the reference leaves: the gradient. -/
theorem value : Cert.algebraic_Kernel6Ideal_Reference6Ideal := by
  intro m g m' g' _ hagree
  refine ⟨fun c => Cert.Reference6Ideal.Read.val_main_v6 (F := Ideal) (m ((c : Thread nD τ).loc main_arg0)) (m ((c : Thread nD τ).loc main_arg1)), ?_, ?_⟩
  · exact (θ_run Cert.Kernel6Ideal.defs _ _).mono (fun r h c => ⟨(h c).1.trans (final m c), (h c).2⟩)
      (Cert.Kernel6Ideal.Value.run_blocks m g)
  · refine (θ_run Cert.Reference6Ideal.defs _ _).mono (fun r h c => ⟨?_, (h c).2⟩) (Cert.Reference6Ideal.Value.run (F := Ideal) m' g')
    rw [(h c).1, Cert.Reference6Ideal.Read.val_main_v6_eq, (hagree c).1, (hagree c).2]

end Cert.Din

end
-- ==== Proof.Dh1.lean ====
/-
  The gradient of the token mixer's input: the cotangent times the input projection's weights transposed, summed over
  four blocks of columns, two column shards of the weights each.
-/
module

public import proofs.«01_k».proof.Proof.Gen.Kernel7Ideal.Value
public import proofs.«01_k».proof.Proof.Gen.Reference7Ideal.Run
public import proofs.«01_k».proof.Proof.Gen.Reference7Ideal.Read
public import proofs.«01_k».proof.Defs
public import Idealize.ShloMosaic.Lib.Pipeline.ValueKit
public import Idealize.ShloMosaic.Lib.Pipeline.ReadBack
public import proofs.«01_k».proof.Proof.Runs

@[expose] public section

set_option maxRecDepth 16384

noncomputable section

namespace Cert.Dh1

open Idealize.ShloMosaic Idealize.ShloMosaic.TcCoe Idealize.SL.Sem Cert.Kernel7Ideal Cert.Kernel7Ideal.Gen

variable (m : (ℓ : Loc nD τ sig) → Buf (Elt Ideal) ℓ)

/-- A point's contribution added to the sum so far, in the scratch. -/
theorem add_part (x0 : FVec Ideal S1x1024x1152 .bf16) (x1 : FVec Ideal S1x1024x1152 .bf16) (x2 : FVec Ideal S1024x2304 .bf16) (a : FVec Ideal S1024x1024 .f32) (j : S1024x1024.Idx) :
    k0_pay3 (F := Ideal) x0 x1 x2 a j = a j + k0_pay2 (F := Ideal) x0 x1 x2 j := by
  pointwise [k0_pay3, k0_pay2, k0_pay1]

/-- The blocks that a grid point reads and writes. -/
theorem idx : ∀ t : Fin cfg0.N, win0_0.index t = ![t.val / 8, t.val % 4]
    ∧ win0_1.index t = ![t.val % 4, t.val / 4 % 2, 0]
    ∧ win0_2.index t = ![t.val / 8, t.val / 4 % 2] :=
  (by decide +kernel : ∀ t : Fin grid0.N, _)

/-- What a grid point contributes to its block of the result. -/
abbrev part (c : Dev nD) (t : Fin cfg0.N) : FVec Ideal S1024x1024 .f32 :=
  k0_pay2 (F := Ideal) (View.ld (iblk m c 1 t) (Rect.unit (s := S2x1024x1152) ![0, 0, 0] S1x1024x1152.size inb_S2x1024x1152_S1x1024x1152_0_0_0)) (View.ld (iblk m c 1 t) (Rect.unit (s := S2x1024x1152) ![1, 0, 0] S1x1024x1152.size inb_S2x1024x1152_S1x1024x1152_1_0_0)) (iblk m c 0 t)

/-- What the scratch holds and the contribution at the last point of a run of four make up the sum of the run's contributions. -/
theorem sum_of_run (c : Dev nD) (t : Fin cfg0.N) (h3 : t.val % 4 = 3) (j : S1024x1024.Idx) :
    @HAdd.hAdd EReal EReal EReal _ ((outsAt0 m c (t.val - 1) (Cert.Runs.before_lt t.isLt)).2 j) (part m c t j)
      = ∑ s : Fin 4, (part m c ⟨4 * (t.val / 4) + s.val, Pipeline.run_point_lt_of_flush t h3 s⟩ j : EReal) := by
  refine Cert.Runs.last_eq_sum (fun n h => (outsAt0 m c n h).2) (part m c) (fun t h j => ?_) (fun t h h' j => ?_) t h3 j
  · rw [outsAt0_A m c t h (by omega) (by omega)]
    frame_out
    rfl
  · rw [outsAt0_B m c t h (by omega) h']
    frame_out
    simp only [read_unread_whole]
    exact add_part _ _ _ _ _

/-- A contribution is a sum over the point's columns, the two shards of the weights side by side. -/
theorem part_at (x0 : FVec Ideal S2x1024x1152 .bf16) (x1 : FVec Ideal S1024x2304 .bf16) (j : S1024x1024.Idx) :
    k0_pay2 (F := Ideal) (View.ld x0 (Rect.unit (s := S2x1024x1152) ![0, 0, 0] S1x1024x1152.size inb_S2x1024x1152_S1x1024x1152_0_0_0))
        (View.ld x0 (Rect.unit (s := S2x1024x1152) ![1, 0, 0] S1x1024x1152.size inb_S2x1024x1152_S1x1024x1152_1_0_0)) x1 j
      = ∑ k : Fin 2304, x1 (ix2 (j 0) k) *
        (if h : (k : ℕ) < 1152 then x0 (ix3 0 (j 1) ⟨k, h⟩) else x0 (ix3 1 (j 1) ⟨k - 1152, by have := k.isLt; omega⟩)) := by
  pointwise [k0_pay2, k0_pay1]

/-- The reference's gradient at an index. -/
theorem ref_at (X : FVec Ideal S8192x9216 .f32) (W : FVec Ideal S2048x9216 .f32) (j : S8192x2048.Idx) :
    Cert.Reference7Ideal.Read.val_main_v2 (F := Ideal) X W j = ∑ l : Fin 9216, X (ix2 (j 0) l) * W (ix2 (j 1) l) := by
  pointwise [Cert.Reference7Ideal.Read.val_main_v2]

/-- What the last point of a run stores. -/
theorem last_part (x0 x1 : FVec Ideal S1x1024x1152 .bf16) (x2 : FVec Ideal S1024x2304 .bf16) (a : FVec Ideal S1024x1024 .f32) (j : S1024x1024.Idx) :
    k0_pay4 (F := Ideal) x0 x1 x2 a j = a j + k0_pay2 (F := Ideal) x0 x1 x2 j := by
  pointwise [k0_pay4, k0_pay2, k0_pay1]

/-- The result's block after the last point of a run is the sum over the run. -/
theorem last (c : Dev nD) (t : Fin cfg0.N) (h3 : t.val % 4 = 3) (j : S1024x1024.Idx) :
    (outsAt0 m c t.val t.isLt).1 j = ∑ p : Fin 4, (part m c ⟨4 * (t.val / 4) + p.val, Pipeline.run_point_lt_of_flush t h3 p⟩ j : EReal) := by
  rw [outsAt0_C m c t (by omega) (by omega) h3]
  frame_out
  simp only [read_unread_whole]
  exact (last_part _ _ _ _ j).trans (sum_of_run m c t h3 j)

/-- The gradient of the left factor after the run. -/
theorem final (c : Dev nD) : (dats m 0 c).arrAt 2 (cfgs 0).N
    = Cert.Reference7Ideal.Read.val_main_v2 (F := Ideal) (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2]
  refine (last m c t h3 y).trans ?_
  rw [ref_at]
  refine (Fin.sum_fin_congr fun s' => part_at _ _ _).trans ?_
  refine Fin.sum_mul_add_congr fun s' k hl => ?_
  blk_point [iblk, V, idx t, idx ⟨_, Pipeline.run_point_lt_of_flush t h3 s'⟩]

attribute [local instance] Cert.Kernel7Ideal.Gen.facts Cert.Reference7Ideal.Gen.facts

/-- Every execution of the reference ends with its arguments unchanged and every semaphore at zero. -/
theorem reference_frame : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

/-- The call leaves what the reference leaves: the gradient of the left factor. -/
theorem value : Cert.algebraic_Kernel7Ideal_Reference7Ideal := by
  intro m g m' g' _ hagree
  refine ⟨fun c => Cert.Reference7Ideal.Read.val_main_v2 (F := Ideal) (m ((c : Thread nD τ).loc main_arg0)) (m ((c : Thread nD τ).loc main_arg1)), ?_, ?_⟩
  · exact (θ_run Cert.Kernel7Ideal.defs _ _).mono (fun r h c => ⟨(h c).1.trans (final m c), (h c).2⟩)
      (Cert.Kernel7Ideal.Value.run_blocks m g)
  · refine (θ_run Cert.Reference7Ideal.defs _ _).mono (fun r h c => ⟨?_, (h c).2⟩) (Cert.Reference7Ideal.Value.run (F := Ideal) m' g')
    rw [(h c).1, Cert.Reference7Ideal.Read.val_main_v2_eq, (hagree c).1, (hagree c).2]

end Cert.Dh1

end
-- ==== Proof.Dmerged.lean ====
/-
  The gradients of the two gates and of the two mixers' outputs, through the gated sum and the output projection.
-/
module

public import proofs.«01_k».proof.Proof.Gen.Kernel8Ideal.Value
public import proofs.«01_k».proof.Proof.Gen.Reference8Ideal.Run
public import proofs.«01_k».proof.Proof.Gen.Reference8Ideal.Read
public import proofs.«01_k».proof.Defs
public import Idealize.ShloMosaic.Lib.Pipeline.ValueKit

@[expose] public section

set_option maxRecDepth 16384

noncomputable section

namespace Cert.Dmerged

open Idealize.ShloMosaic Idealize.ShloMosaic.TcCoe Idealize.SL.Sem Cert.Kernel8Ideal Cert.Kernel8Ideal.Gen

variable (m : (ℓ : Loc nD τ sig) → Buf (Elt Ideal) ℓ)

/-- The blocks that a grid point reads and writes. -/
theorem idx : ∀ t : Fin cfg0.N, win0_0.index t = ![t.val % 16, 0]
    ∧ win0_1.index t = ![0, t.val / 16, 0]
    ∧ win0_2.index t = ![t.val % 16, t.val / 16 + 5]
    ∧ win0_3.index t = ![t.val % 16, t.val / 16 + 7]
    ∧ win0_4.index t = ![t.val % 16, t.val / 16]
    ∧ win0_5.index t = ![t.val % 16, t.val / 16]
    ∧ win0_6.index t = ![t.val % 16, t.val / 16]
    ∧ win0_7.index t = ![t.val % 16, t.val / 16]
    ∧ win0_8.index t = ![t.val % 16, t.val / 16]
    ∧ win0_9.index t = ![t.val % 16, t.val / 16] :=
  (by decide +kernel : ∀ t : Fin grid0.N, _)

/-- The gradient of the convolution's gate after the run: at every grid point the block that is stored is the reference's. -/
theorem final_0 (c : Dev nD) : (dats m 0 c).arrAt 6 (cfgs 0).N
    = Cert.Reference8Ideal.Read.val_main_v31 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  unfold outsAt0
  frame_out
  pointwise [k0_pay4, k0_pay1, k0_pay2, Cert.Reference8Ideal.Read.val_main_v31, Cert.Reference8Ideal.Read.val_main_v30, Cert.Reference8Ideal.Read.val_main_v29, Cert.Reference8Ideal.Read.val_main_v24, Cert.Reference8Ideal.Read.val_main_v10, Cert.Reference8Ideal.Read.val_main_v7, Cert.Reference8Ideal.Read.val_main_v6, Cert.Reference8Ideal.Read.val_main_cst_0, Cert.Reference8Ideal.Read.val_main_v5, Cert.Reference8Ideal.Read.val_main_v4, Cert.Reference8Ideal.Read.val_main_cst, Cert.Reference8Ideal.Read.val_main_v3, Cert.Reference8Ideal.Read.val_main_v2, Cert.Reference8Ideal.Read.val_main_v0, Cert.Reference8Ideal.Read.val_main_v9, Cert.Reference8Ideal.Read.val_main_v8, Cert.Reference8Ideal.Read.val_main_cst_1]
  simp only [Ideal.logistic]
  rw [mul_assoc]
  blk_point [iblk, V, idx t]
  all_goals (rw [dif_neg (by decide)]; rfl)

/-- The gradient of the attention's gate after the run: at every grid point the block that is stored is the reference's. -/
theorem final_1 (c : Dev nD) : (dats m 0 c).arrAt 7 (cfgs 0).N
    = Cert.Reference8Ideal.Read.val_main_v32 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 7 _ (by decide +kernel) fun t _ y => ?_
  blk_simp
  rw [after0_7]
  unfold outsAt0
  frame_out
  pointwise [k0_pay5, k0_pay1, k0_pay3, Cert.Reference8Ideal.Read.val_main_v32, Cert.Reference8Ideal.Read.val_main_v27, Cert.Reference8Ideal.Read.val_main_v26, Cert.Reference8Ideal.Read.val_main_v24, Cert.Reference8Ideal.Read.val_main_v20, Cert.Reference8Ideal.Read.val_main_v17, Cert.Reference8Ideal.Read.val_main_v16, Cert.Reference8Ideal.Read.val_main_cst_3, Cert.Reference8Ideal.Read.val_main_v15, Cert.Reference8Ideal.Read.val_main_v14, Cert.Reference8Ideal.Read.val_main_cst_2, Cert.Reference8Ideal.Read.val_main_v13, Cert.Reference8Ideal.Read.val_main_v12, Cert.Reference8Ideal.Read.val_main_v1, Cert.Reference8Ideal.Read.val_main_v19, Cert.Reference8Ideal.Read.val_main_v18, Cert.Reference8Ideal.Read.val_main_cst_4]
  simp only [Ideal.logistic]
  rw [mul_assoc]
  blk_point [iblk, V, idx t]
  all_goals (rw [dif_neg (by decide)]; rfl)

/-- The gradient of the convolution's output after the run: at every grid point the block that is stored is the reference's. -/
theorem final_2 (c : Dev nD) : (dats m 0 c).arrAt 8 (cfgs 0).N
    = Cert.Reference8Ideal.Read.val_main_v33 (F := Ideal) (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]
  unfold outsAt0
  frame_out
  pointwise [k0_pay6, k0_pay1, k0_pay2, Cert.Reference8Ideal.Read.val_main_v33, Cert.Reference8Ideal.Read.val_main_v28, Cert.Reference8Ideal.Read.val_main_v7, Cert.Reference8Ideal.Read.val_main_v6, Cert.Reference8Ideal.Read.val_main_cst_0, Cert.Reference8Ideal.Read.val_main_v5, Cert.Reference8Ideal.Read.val_main_v4, Cert.Reference8Ideal.Read.val_main_cst, Cert.Reference8Ideal.Read.val_main_v3, Cert.Reference8Ideal.Read.val_main_v2, Cert.Reference8Ideal.Read.val_main_v0, Cert.Reference8Ideal.Read.val_main_v24]
  simp only [Ideal.logistic]
  rw [mul_comm]
  blk_point [iblk, V, idx t]
  all_goals (rw [dif_neg (by decide)]; rfl)

/-- The gradient of the attention's output after the run: at every grid point the block that is stored is the reference's. -/
theorem final_3 (c : Dev nD) : (dats m 0 c).arrAt 9 (cfgs 0).N
    = Cert.Reference8Ideal.Read.val_main_v34 (F := Ideal) (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]
  unfold outsAt0
  frame_out
  pointwise [k0_pay7, k0_pay1, k0_pay3, Cert.Reference8Ideal.Read.val_main_v34, Cert.Reference8Ideal.Read.val_main_v25, Cert.Reference8Ideal.Read.val_main_v17, Cert.Reference8Ideal.Read.val_main_v16, Cert.Reference8Ideal.Read.val_main_cst_3, Cert.Reference8Ideal.Read.val_main_v15, Cert.Reference8Ideal.Read.val_main_v14, Cert.Reference8Ideal.Read.val_main_cst_2, Cert.Reference8Ideal.Read.val_main_v13, Cert.Reference8Ideal.Read.val_main_v12, Cert.Reference8Ideal.Read.val_main_v1, Cert.Reference8Ideal.Read.val_main_v24]
  simp only [Ideal.logistic]
  rw [mul_comm]
  blk_point [iblk, V, idx t]
  all_goals (rw [dif_neg (by decide)]; rfl)

attribute [local instance] Cert.Kernel8Ideal.Gen.facts Cert.Reference8Ideal.Gen.facts

/-- Every execution of the reference ends with its arguments unchanged and every semaphore at zero. -/
theorem reference_frame : Cert.quiescent_Reference8Ideal := fun m g _ =>
  (θ_run Cert.Reference8Ideal.defs _ _).mono (fun r h => ⟨fun c => (h c).2.2.2.2, sem_eq_zero_of_no_sems (by decide) r.2⟩)
    (Cert.Reference8Ideal.Value.run (F := Ideal) m g)

/-- The call leaves what the reference leaves: the four gradients. -/
theorem value : Cert.algebraic_Kernel8Ideal_Reference8Ideal := by
  intro m g m' g' _ hagree
  refine ⟨fun c => Cert.Reference8Ideal.Read.val_main_v31 (F := Ideal) (m ((c : Thread nD τ).loc main_arg0)) (m ((c : Thread nD τ).loc main_arg1)) (m ((c : Thread nD τ).loc main_arg2)) (m ((c : Thread nD τ).loc main_arg3)),
    fun c => Cert.Reference8Ideal.Read.val_main_v32 (F := Ideal) (m ((c : Thread nD τ).loc main_arg0)) (m ((c : Thread nD τ).loc main_arg1)) (m ((c : Thread nD τ).loc main_arg2)) (m ((c : Thread nD τ).loc main_arg4)),
    fun c => Cert.Reference8Ideal.Read.val_main_v33 (F := Ideal) (m ((c : Thread nD τ).loc main_arg0)) (m ((c : Thread nD τ).loc main_arg1)) (m ((c : Thread nD τ).loc main_arg2)),
    fun c => Cert.Reference8Ideal.Read.val_main_v34 (F := Ideal) (m ((c : Thread nD τ).loc main_arg0)) (m ((c : Thread nD τ).loc main_arg1)) (m ((c : Thread nD τ).loc main_arg2)), ?_, ?_⟩
  · exact (θ_run Cert.Kernel8Ideal.defs _ _).mono (fun r h c => ⟨(h c).1.trans (final_0 m c), (h c).2.1.trans (final_1 m c), (h c).2.2.1.trans (final_2 m c), (h c).2.2.2.1.trans (final_3 m c), (h c).2.2.2.2⟩)
      (Cert.Kernel8Ideal.Value.run_blocks m g)
  · refine (θ_run Cert.Reference8Ideal.defs _ _).mono (fun r h c => ⟨?_, ?_, ?_, ?_, (h c).2.2.2.2⟩) (Cert.Reference8Ideal.Value.run (F := Ideal) m' g')
    · rw [(h c).1, Cert.Reference8Ideal.Read.val_main_v31_eq, (hagree c).1, (hagree c).2.1, (hagree c).2.2.1, (hagree c).2.2.2.1]
    · rw [(h c).2.1, Cert.Reference8Ideal.Read.val_main_v32_eq, (hagree c).1, (hagree c).2.1, (hagree c).2.2.1, (hagree c).2.2.2.2]
    · rw [(h c).2.2.1, Cert.Reference8Ideal.Read.val_main_v33_eq, (hagree c).1, (hagree c).2.1, (hagree c).2.2.1]
    · rw [(h c).2.2.2.1, Cert.Reference8Ideal.Read.val_main_v34_eq, (hagree c).1, (hagree c).2.1, (hagree c).2.2.1]

end Cert.Dmerged

end
-- ==== Proof.In.lean ====
/-
  The combined input projection: the normalised rows times the input weights, whose columns come in eight shards; a
  grid point takes two shards side by side.
-/
module

public import proofs.«01_k».proof.Proof.Gen.Kernel9Ideal.Value
public import proofs.«01_k».proof.Proof.Gen.Reference9Ideal.Run
public import proofs.«01_k».proof.Proof.Gen.Reference9Ideal.Read
public import proofs.«01_k».proof.Defs
public import Idealize.ShloMosaic.Lib.Pipeline.ValueKit

@[expose] public section

set_option maxRecDepth 16384

noncomputable section

namespace Cert.In

open Idealize.ShloMosaic Idealize.ShloMosaic.TcCoe Idealize.SL.Sem Cert.Kernel9Ideal Cert.Kernel9Ideal.Gen

variable (m : (ℓ : Loc nD τ sig) → Buf (Elt Ideal) ℓ)

/-- The blocks that a grid point reads and writes. -/
theorem idx : ∀ t : Fin cfg0.N, win0_0.index t = ![t.val % 16, 0]
    ∧ win0_1.index t = ![t.val / 16, 0, 0]
    ∧ win0_2.index t = ![t.val % 16, t.val / 16] :=
  (by decide +kernel : ∀ t : Fin grid0.N, _)

/-- The product after the run: at every grid point the block that is stored is the reference's. -/
theorem final (c : Dev nD) : (dats m 0 c).arrAt 2 (cfgs 0).N
    = Cert.Reference9Ideal.Read.val_main_v0 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  pointwise [k0_pay1, Cert.Reference9Ideal.Read.val_main_v0]
  blk_point [iblk, V, idx t]

attribute [local instance] Cert.Kernel9Ideal.Gen.facts Cert.Reference9Ideal.Gen.facts

/-- Every execution of the reference ends with its arguments unchanged and every semaphore at zero. -/
theorem reference_frame : Cert.quiescent_Reference9Ideal := fun m g _ =>
  (θ_run Cert.Reference9Ideal.defs _ _).mono (fun r h => ⟨fun c => (h c).2, sem_eq_zero_of_no_sems (by decide) r.2⟩)
    (Cert.Reference9Ideal.Value.run (F := Ideal) m g)

/-- The call leaves what the reference leaves: the product. -/
theorem value : Cert.algebraic_Kernel9Ideal_Reference9Ideal := by
  intro m g m' g' _ hagree
  refine ⟨fun c => Cert.Reference9Ideal.Read.val_main_v0 (F := Ideal) (m ((c : Thread nD τ).loc main_arg0)) (m ((c : Thread nD τ).loc main_arg1)), ?_, ?_⟩
  · exact (θ_run Cert.Kernel9Ideal.defs _ _).mono (fun r h c => ⟨(h c).1.trans (final m c), (h c).2⟩)
      (Cert.Kernel9Ideal.Value.run_blocks m g)
  · refine (θ_run Cert.Reference9Ideal.defs _ _).mono (fun r h c => ⟨?_, (h c).2⟩) (Cert.Reference9Ideal.Value.run (F := Ideal) m' g')
    rw [(h c).1, Cert.Reference9Ideal.Read.val_main_v0_eq, (hagree c).1, (hagree c).2]

end Cert.In

end
-- ==== Proof.Ff1.lean ====
/-
  The channel mixer's hidden rows and their squared positive part.
-/
module

public import proofs.«01_k».proof.Proof.Gen.Kernel10Ideal.Value
public import proofs.«01_k».proof.Proof.Gen.Reference10Ideal.Run
public import proofs.«01_k».proof.Proof.Gen.Reference10Ideal.Read
public import proofs.«01_k».proof.Defs
public import Idealize.ShloMosaic.Lib.Pipeline.ValueKit

@[expose] public section

set_option maxRecDepth 16384

noncomputable section

namespace Cert.Ff1

open Idealize.ShloMosaic Idealize.ShloMosaic.TcCoe Idealize.SL.Sem Cert.Kernel10Ideal Cert.Kernel10Ideal.Gen

variable (m : (ℓ : Loc nD τ sig) → Buf (Elt Ideal) ℓ)

/-- The blocks that a grid point reads and writes. -/
theorem idx : ∀ t : Fin cfg0.N, win0_0.index t = ![t.val % 8, 0]
    ∧ win0_1.index t = ![t.val / 8, 0, 0]
    ∧ win0_2.index t = ![t.val % 8, t.val / 8]
    ∧ win0_3.index t = ![t.val % 8, t.val / 8] :=
  (by decide +kernel : ∀ t : Fin grid0.N, _)

/-- The hidden rows after the run: at every grid point the block that is stored is the reference's. -/
theorem final_0 (c : Dev nD) : (dats m 0 c).arrAt 2 (cfgs 0).N
    = Cert.Reference10Ideal.Read.val_main_v0 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  pointwise [k0_pay1, Cert.Reference10Ideal.Read.val_main_v0]
  blk_point [iblk, V, idx t]

/-- The squared positive part after the run: at every grid point the block that is stored is the reference's. -/
theorem final_1 (c : Dev nD) : (dats m 0 c).arrAt 3 (cfgs 0).N
    = Cert.Reference10Ideal.Read.val_main_v3 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  unfold outsAt0
  frame_out
  pointwise [k0_pay2, k0_pay1, Cert.Reference10Ideal.Read.val_main_v3, Cert.Reference10Ideal.Read.val_main_v2, Cert.Reference10Ideal.Read.val_main_v1, Cert.Reference10Ideal.Read.val_main_v0, Cert.Reference10Ideal.Read.val_main_call0_v0, Cert.Reference10Ideal.Read.val_main_call0_cst]
  blk_point [iblk, V, idx t]

attribute [local instance] Cert.Kernel10Ideal.Gen.facts Cert.Reference10Ideal.Gen.facts

/-- Every execution of the reference ends with its arguments unchanged and every semaphore at zero. -/
theorem reference_frame : Cert.quiescent_Reference10Ideal := fun m g _ =>
  (θ_run Cert.Reference10Ideal.defs _ _).mono (fun r h => ⟨fun c => (h c).2.2, sem_eq_zero_of_no_sems (by decide) r.2⟩)
    (Cert.Reference10Ideal.Value.run (F := Ideal) m g)

/-- The call leaves what the reference leaves: the hidden rows and their squared positive part. -/
theorem value : Cert.algebraic_Kernel10Ideal_Reference10Ideal := by
  intro m g m' g' _ hagree
  refine ⟨fun c => Cert.Reference10Ideal.Read.val_main_v0 (F := Ideal) (m ((c : Thread nD τ).loc main_arg0)) (m ((c : Thread nD τ).loc main_arg1)),
    fun c => Cert.Reference10Ideal.Read.val_main_v3 (F := Ideal) (m ((c : Thread nD τ).loc main_arg0)) (m ((c : Thread nD τ).loc main_arg1)), ?_, ?_⟩
  · exact (θ_run Cert.Kernel10Ideal.defs _ _).mono (fun r h c => ⟨(h c).1.trans (final_0 m c), (h c).2.1.trans (final_1 m c), (h c).2.2⟩)
      (Cert.Kernel10Ideal.Value.run_blocks m g)
  · refine (θ_run Cert.Reference10Ideal.defs _ _).mono (fun r h c => ⟨?_, ?_, (h c).2.2⟩) (Cert.Reference10Ideal.Value.run (F := Ideal) m' g')
    · rw [(h c).1, Cert.Reference10Ideal.Read.val_main_v0_eq, (hagree c).1, (hagree c).2]
    · rw [(h c).2.1, Cert.Reference10Ideal.Read.val_main_v3_eq, (hagree c).1, (hagree c).2]

end Cert.Ff1

end
-- ==== Proof.Ff2.lean ====
/-
  The second product of the channel mixer, summed over four blocks of columns of its left factor, with the residual rows
  added.
-/
module

public import proofs.«01_k».proof.Proof.Gen.Kernel11Ideal.Value
public import proofs.«01_k».proof.Proof.Gen.Reference11Ideal.Run
public import proofs.«01_k».proof.Proof.Gen.Reference11Ideal.Read
public import proofs.«01_k».proof.Defs
public import Idealize.ShloMosaic.Lib.Pipeline.ValueKit
public import Idealize.ShloMosaic.Lib.Pipeline.ReadBack
public import proofs.«01_k».proof.Proof.Runs

@[expose] public section

set_option maxRecDepth 16384

noncomputable section

namespace Cert.Ff2

open Idealize.ShloMosaic Idealize.ShloMosaic.TcCoe Idealize.SL.Sem Cert.Kernel11Ideal Cert.Kernel11Ideal.Gen

variable (m : (ℓ : Loc nD τ sig) → Buf (Elt Ideal) ℓ)

/-- A point's contribution added to the sum so far, in the scratch. -/
theorem add_part (x0 : FVec Ideal S1x2048x1024 .bf16) (x1 : FVec Ideal S1024x2048 .bf16) (a : FVec Ideal S1024x1024 .f32) (j : S1024x1024.Idx) :
    k0_pay3 (F := Ideal) x0 x1 a j = a j + k0_pay2 (F := Ideal) x0 x1 j := by
  pointwise [k0_pay3, k0_pay2, k0_pay1]

/-- The blocks that a grid point reads and writes. -/
theorem idx : ∀ t : Fin cfg0.N, win0_0.index t = ![t.val / 8, t.val % 4]
    ∧ win0_1.index t = ![0, t.val % 4, t.val / 4 % 2]
    ∧ win0_2.index t = ![t.val / 8, t.val / 4 % 2]
    ∧ win0_3.index t = ![t.val / 8, t.val / 4 % 2] :=
  (by decide +kernel : ∀ t : Fin grid0.N, _)

/-- What a grid point contributes to its block of the result. -/
abbrev part (c : Dev nD) (t : Fin cfg0.N) : FVec Ideal S1024x1024 .f32 :=
  k0_pay2 (F := Ideal) (iblk m c 1 t) (iblk m c 0 t)

/-- What the scratch holds and the contribution at the last point of a run of four make up the sum of the run's contributions. -/
theorem sum_of_run (c : Dev nD) (t : Fin cfg0.N) (h3 : t.val % 4 = 3) (j : S1024x1024.Idx) :
    @HAdd.hAdd EReal EReal EReal _ ((outsAt0 m c (t.val - 1) (Cert.Runs.before_lt t.isLt)).2 j) (part m c t j)
      = ∑ s : Fin 4, (part m c ⟨4 * (t.val / 4) + s.val, Pipeline.run_point_lt_of_flush t h3 s⟩ j : EReal) := by
  refine Cert.Runs.last_eq_sum (fun n h => (outsAt0 m c n h).2) (part m c) (fun t h j => ?_) (fun t h h' j => ?_) t h3 j
  · rw [outsAt0_A m c t h (by omega) (by omega)]
    frame_out
  · rw [outsAt0_B m c t h (by omega) h']
    frame_out
    simp only [read_unread_whole]
    exact add_part _ _ _ _

/-- A contribution is a sum over the point's columns of the left factor. -/
theorem part_at (x0 : FVec Ideal S1x2048x1024 .bf16) (x1 : FVec Ideal S1024x2048 .bf16) (j : S1024x1024.Idx) :
    k0_pay2 (F := Ideal) x0 x1 j = ∑ k : Fin 2048, x1 (ix2 (j 0) k) * x0 (ix3 0 k (j 1)) := by
  pointwise [k0_pay2, k0_pay1]

/-- The reference's product at an index. -/
theorem ref_at (X : FVec Ideal S8192x8192 .f32) (W : FVec Ideal S8192x2048 .f32) (j : S8192x2048.Idx) :
    Cert.Reference11Ideal.Read.val_main_v0 (F := Ideal) X W j = ∑ l : Fin 8192, X (ix2 (j 0) l) * W (ix2 l (j 1)) := by
  pointwise [Cert.Reference11Ideal.Read.val_main_v0]

/-- What the last point of a run stores: the sum and the residual rows. -/
theorem last_part (x0 : FVec Ideal S1x2048x1024 .bf16) (x1 : FVec Ideal S1024x2048 .bf16) (a b : FVec Ideal S1024x1024 .f32) (j : S1024x1024.Idx) :
    k0_pay4 (F := Ideal) x0 x1 a b j = b j + (a j + k0_pay2 (F := Ideal) x0 x1 j) := by
  refine Eq.trans ?_ (add_comm _ _)
  pointwise [k0_pay4, k0_pay2, k0_pay1]

/-- The result's block after the last point of a run: the residual rows and the sum over the run. -/
theorem last (c : Dev nD) (t : Fin cfg0.N) (h3 : t.val % 4 = 3) (j : S1024x1024.Idx) :
    (outsAt0 m c t.val t.isLt).1 j = @HAdd.hAdd EReal EReal EReal _ (iblk m c 2 t j) (∑ p : Fin 4, (part m c ⟨4 * (t.val / 4) + p.val, Pipeline.run_point_lt_of_flush t h3 p⟩ j : EReal)) := by
  rw [outsAt0_C m c t (by omega) (by omega) h3]
  frame_out
  simp only [read_unread_whole]
  exact (last_part _ _ _ _ j).trans (congrArg (HAdd.hAdd (α := EReal) (β := EReal) (γ := EReal) _) (sum_of_run m c t h3 j))

/-- The sum after the run. -/
theorem final (c : Dev nD) : (dats m 0 c).arrAt 3 (cfgs 0).N
    = Cert.Reference11Ideal.Read.val_main_v1 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have h3 := (flush0_3 t).mp hf
  blk_simp
  rw [after0_3]
  refine (last m c t h3 y).trans ?_
  rw [Cert.Reference11Ideal.Read.val_main_v1_apply]
  refine congrArg₂ (HAdd.hAdd (α := EReal) (β := EReal) (γ := EReal)) ?_ ?_
  · blk_point [iblk, V, idx t]
  rw [ref_at]
  simp only [part, part_at]
  refine Fin.sum_mul_add_congr fun s' k hl => ?_
  blk_point [iblk, V, idx t, idx ⟨_, Pipeline.run_point_lt_of_flush t h3 s'⟩]

attribute [local instance] Cert.Kernel11Ideal.Gen.facts Cert.Reference11Ideal.Gen.facts

/-- Every execution of the reference ends with its arguments unchanged and every semaphore at zero. -/
theorem reference_frame : Cert.quiescent_Reference11Ideal := fun m g _ =>
  (θ_run Cert.Reference11Ideal.defs _ _).mono (fun r h => ⟨fun c => (h c).2, sem_eq_zero_of_no_sems (by decide) r.2⟩)
    (Cert.Reference11Ideal.Value.run (F := Ideal) m g)

/-- The call leaves what the reference leaves: the product with the residual rows added. -/
theorem value : Cert.algebraic_Kernel11Ideal_Reference11Ideal := by
  intro m g m' g' _ hagree
  refine ⟨fun c => Cert.Reference11Ideal.Read.val_main_v1 (F := Ideal) (m ((c : Thread nD τ).loc main_arg0)) (m ((c : Thread nD τ).loc main_arg1)) (m ((c : Thread nD τ).loc main_arg2)), ?_, ?_⟩
  · exact (θ_run Cert.Kernel11Ideal.defs _ _).mono (fun r h c => ⟨(h c).1.trans (final m c), (h c).2⟩)
      (Cert.Kernel11Ideal.Value.run_blocks m g)
  · refine (θ_run Cert.Reference11Ideal.defs _ _).mono (fun r h c => ⟨?_, (h c).2⟩) (Cert.Reference11Ideal.Value.run (F := Ideal) m' g')
    rw [(h c).1, Cert.Reference11Ideal.Read.val_main_v1_eq, (hagree c).1, (hagree c).2.1, (hagree c).2.2]

end Cert.Ff2

end
-- ==== Proof.Do.lean ====
/-
  The gradient of the attention's output rows, and of each row and head its product with the output, summed.
-/
module

public import proofs.«01_k».proof.Proof.Gen.Kernel12Ideal.Value
public import proofs.«01_k».proof.Proof.Gen.Reference12Ideal.Run
public import proofs.«01_k».proof.Proof.Gen.Reference12Ideal.Read
public import proofs.«01_k».proof.Defs
public import Idealize.ShloMosaic.Lib.Pipeline.ValueKit

@[expose] public section

set_option maxRecDepth 16384

noncomputable section

namespace Cert.Do

open Idealize.ShloMosaic Idealize.ShloMosaic.TcCoe Idealize.SL.Sem Cert.Kernel12Ideal Cert.Kernel12Ideal.Gen

/-- The product of the gradient and the output at an index. -/
theorem product_at (x0 : FVec Ideal S1x1024x2048 .bf16) (x1 : FVec Ideal S1024x2048 .bf16) (x2 : FVec Ideal S1024x1024 .bf16) (r s : Fin 1024) :
    k0_pay5 (F := Ideal) x0 x1 x2 (ix2 r s) = (∑ k : Fin 2048, x1 (ix2 r k) * x0 (ix3 0 s k)) * x2 (ix2 r s) := by
  pointwise [k0_pay5, k0_pay3]

/-- The reference's row sums at an index. -/
theorem sums_at (X : FVec Ideal S8192x2048 .f32) (W : FVec Ideal S2048x2048 .f32) (O : FVec Ideal S8192x2048 .f32) (j : S16x8x8192.Idx) :
    Cert.Reference12Ideal.Read.val_main_v10 (F := Ideal) X W O j
      = ∑ l : Fin 128, (∑ k : Fin 2048, X (ix2 (j 2) k) * W (ix2 ⟨(j 0 : ℕ) * 128 + l, by have : (j 0 : ℕ) < 16 := (j 0).isLt; omega⟩ k))
          * O (ix2 (j 2) ⟨(j 0 : ℕ) * 128 + l, by have : (j 0 : ℕ) < 16 := (j 0).isLt; omega⟩) := by
  pointwise [Cert.Reference12Ideal.Read.val_main_v10, Cert.Reference12Ideal.Read.val_main_v9, Cert.Reference12Ideal.Read.val_main_v8, Cert.Reference12Ideal.Read.val_main_v6, Cert.Reference12Ideal.Read.val_main_v5, Cert.Reference12Ideal.Read.val_main_v3, Cert.Reference12Ideal.Read.val_main_v2, Cert.Reference12Ideal.Read.val_main_v4, Cert.Reference12Ideal.Read.val_main_cst_0]

variable (m : (ℓ : Loc nD τ sig) → Buf (Elt Ideal) ℓ)

/-- The blocks that a grid point reads and writes. -/
theorem idx : ∀ t : Fin cfg0.N, win0_0.index t = ![t.val % 8, 0]
    ∧ win0_1.index t = ![0, t.val / 8, 0]
    ∧ win0_2.index t = ![t.val % 8, t.val / 8]
    ∧ win0_3.index t = ![t.val % 8, t.val / 8]
    ∧ win0_4.index t = ![t.val / 8, 0, t.val % 8] :=
  (by decide +kernel : ∀ t : Fin grid0.N, _)

/-- The gradient after the run: at every grid point the block that is stored is the reference's. -/
theorem final_0 (c : Dev nD) : (dats m 0 c).arrAt 3 (cfgs 0).N
    = Cert.Reference12Ideal.Read.val_main_v7 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  unfold outsAt0
  frame_out
  pointwise [k0_pay4, k0_pay3, Cert.Reference12Ideal.Read.val_main_v7, Cert.Reference12Ideal.Read.val_main_v2]
  blk_point [iblk, V, idx t]
  all_goals (rw [dif_neg (by decide)]; rfl)

/-- The weights' block at a grid point is the weights' rows that the point's columns of the result need. -/
theorem weights_at (c : Dev nD) (t : Fin cfg0.N) (s : Fin 1024) (k : Fin 2048) :
    iblk m c 1 t (ix3 0 s k) = m ((c : Thread nD τ).loc main_arg1)
      (ix2 ⟨t.val / 8 * 1024 + s, by have := t.isLt; have : cfg0.N = 16 := rfl; omega⟩ k) := by
  blk_point [iblk, V, idx t]
  all_goals (rw [dif_neg (by decide)]; rfl)

/-- What a grid point stores at a head's eight equal rows: the products of the gradient and the output, summed over the head. -/
theorem stored (c : Dev nD) (t : Fin cfg0.N) (y : S8x8x1024.Idx) :
    (outsAt0 m c t).2 y = ∑ l : Fin 128, k0_pay5 (F := Ideal) (iblk m c 1 t) (iblk m c 0 t) (iblk m c 2 t)
      (ix2 (y 2) ⟨(y 0 : ℕ) * 128 + l, by have : (y 0 : ℕ) < 8 := (y 0).isLt; omega⟩) := by
  unfold outsAt0
  frame_out
  canon_tiles x h
  all_goals
    open_payloads
    pointwise
    refine Fin.sum_fin_congr fun l => ?_
    blk_ext

/-- The row sums after the run: at every grid point the block that is stored is the reference's. -/
theorem final_1 (c : Dev nD) : (dats m 0 c).arrAt 4 (cfgs 0).N
    = Cert.Reference12Ideal.Read.val_main_v10 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  refine (stored m c t y).trans ?_
  refine (Fin.sum_fin_congr fun l => ?_).trans (sums_at _ _ _ _).symm
  refine (product_at _ _ _ _ _).trans ?_
  refine congrArg₂ (HMul.hMul (α := EReal) (β := EReal) (γ := EReal)) (Fin.sum_fin_congr fun k => congrArg₂ (HMul.hMul (α := EReal) (β := EReal) (γ := EReal)) ?_ ?_) ?_
  · blk_ext [iblk, V, idx t]
  · refine (weights_at m c t _ k).trans ?_
    blk_ext [idx t]
  · blk_ext [iblk, V, idx t]

attribute [local instance] Cert.Kernel12Ideal.Gen.facts Cert.Reference12Ideal.Gen.facts

/-- Every execution of the reference ends with its arguments unchanged and every semaphore at zero. -/
theorem reference_frame : Cert.quiescent_Reference12Ideal := fun m g _ =>
  (θ_run Cert.Reference12Ideal.defs _ _).mono (fun r h => ⟨fun c => (h c).2.2, sem_eq_zero_of_no_sems (by decide) r.2⟩)
    (Cert.Reference12Ideal.Value.run (F := Ideal) m g)

/-- The call leaves what the reference leaves: the gradient and the row sums. -/
theorem value : Cert.algebraic_Kernel12Ideal_Reference12Ideal := by
  intro m g m' g' _ hagree
  refine ⟨fun c => Cert.Reference12Ideal.Read.val_main_v7 (F := Ideal) (m ((c : Thread nD τ).loc main_arg0)) (m ((c : Thread nD τ).loc main_arg1)),
    fun c => Cert.Reference12Ideal.Read.val_main_v10 (F := Ideal) (m ((c : Thread nD τ).loc main_arg0)) (m ((c : Thread nD τ).loc main_arg1)) (m ((c : Thread nD τ).loc main_arg2)), ?_, ?_⟩
  · exact (θ_run Cert.Kernel12Ideal.defs _ _).mono (fun r h c => ⟨(h c).1.trans (final_0 m c), (h c).2.1.trans (final_1 m c), (h c).2.2⟩)
      (Cert.Kernel12Ideal.Value.run_blocks m g)
  · refine (θ_run Cert.Reference12Ideal.defs _ _).mono (fun r h c => ⟨?_, ?_, (h c).2.2⟩) (Cert.Reference12Ideal.Value.run (F := Ideal) m' g')
    · rw [(h c).1, Cert.Reference12Ideal.Read.val_main_v7_eq, (hagree c).1, (hagree c).2.1]
    · rw [(h c).2.1, Cert.Reference12Ideal.Read.val_main_v10_eq, (hagree c).1, (hagree c).2.1, (hagree c).2.2]

end Cert.Do

end
-- ==== Proof.AttnProj.lean ====
/-
  The attention's output projection and the gated sum of the two mixers' outputs.
-/
module

public import proofs.«01_k».proof.Proof.Gen.Kernel13Ideal.Value
public import proofs.«01_k».proof.Proof.Gen.Reference13Ideal.Run
public import proofs.«01_k».proof.Proof.Gen.Reference13Ideal.Read
public import proofs.«01_k».proof.Defs
public import Idealize.ShloMosaic.Lib.Pipeline.ValueKit

@[expose] public section

set_option maxRecDepth 16384

noncomputable section

namespace Cert.AttnProj

open Idealize.ShloMosaic Idealize.ShloMosaic.TcCoe Idealize.SL.Sem Cert.Kernel13Ideal Cert.Kernel13Ideal.Gen

variable (m : (ℓ : Loc nD τ sig) → Buf (Elt Ideal) ℓ)

/-- The blocks that a grid point reads and writes. -/
theorem idx : ∀ t : Fin cfg0.N, win0_0.index t = ![t.val % 16, 0]
    ∧ win0_1.index t = ![0, 0, t.val / 16]
    ∧ win0_2.index t = ![t.val % 16, t.val / 16 + 5]
    ∧ win0_3.index t = ![t.val % 16, t.val / 16 + 7]
    ∧ win0_4.index t = ![t.val % 16, t.val / 16]
    ∧ win0_5.index t = ![t.val % 16, t.val / 16]
    ∧ win0_6.index t = ![t.val % 16, t.val / 16] :=
  (by decide +kernel : ∀ t : Fin grid0.N, _)

/-- The projection after the run: at every grid point the block that is stored is the reference's. -/
theorem final_0 (c : Dev nD) : (dats m 0 c).arrAt 5 (cfgs 0).N
    = Cert.Reference13Ideal.Read.val_main_v0 (F := Ideal) (m ((c : Thread nD τ).loc main_arg0)) (m ((c : Thread nD τ).loc main_arg1)) := by
  refine (dats m 0 c).arrAt_eq_of_covers 5 _ (by decide +kernel) fun t _ y => ?_
  blk_simp
  rw [after0_5]
  unfold outsAt0
  frame_out
  pointwise [k0_pay1, Cert.Reference13Ideal.Read.val_main_v0]
  blk_point [iblk, V, idx t]
  all_goals (rw [dif_neg (by decide)]; rfl)

/-- The gated sum after the run: at every grid point the block that is stored is the reference's. -/
theorem final_1 (c : Dev nD) : (dats m 0 c).arrAt 6 (cfgs 0).N
    = Cert.Reference13Ideal.Read.val_main_v18 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  unfold outsAt0
  frame_out
  pointwise [k0_pay2, k0_pay1, Cert.Reference13Ideal.Read.val_main_v18, Cert.Reference13Ideal.Read.val_main_v17, Cert.Reference13Ideal.Read.val_main_v9, Cert.Reference13Ideal.Read.val_main_v8, Cert.Reference13Ideal.Read.val_main_v7, Cert.Reference13Ideal.Read.val_main_cst_0, Cert.Reference13Ideal.Read.val_main_v6, Cert.Reference13Ideal.Read.val_main_v5, Cert.Reference13Ideal.Read.val_main_cst, Cert.Reference13Ideal.Read.val_main_v4, Cert.Reference13Ideal.Read.val_main_v3, Cert.Reference13Ideal.Read.val_main_v1, Cert.Reference13Ideal.Read.val_main_v16, Cert.Reference13Ideal.Read.val_main_v15, Cert.Reference13Ideal.Read.val_main_v14, Cert.Reference13Ideal.Read.val_main_cst_2, Cert.Reference13Ideal.Read.val_main_v13, Cert.Reference13Ideal.Read.val_main_v12, Cert.Reference13Ideal.Read.val_main_cst_1, Cert.Reference13Ideal.Read.val_main_v11, Cert.Reference13Ideal.Read.val_main_v10, Cert.Reference13Ideal.Read.val_main_v2, Cert.Reference13Ideal.Read.val_main_v0]
  simp only [Ideal.logistic]
  blk_point [iblk, V, idx t]
  all_goals (rw [dif_neg (by decide)]; rfl)

attribute [local instance] Cert.Kernel13Ideal.Gen.facts Cert.Reference13Ideal.Gen.facts

/-- Every execution of the reference ends with its arguments unchanged and every semaphore at zero. -/
theorem reference_frame : Cert.quiescent_Reference13Ideal := fun m g _ =>
  (θ_run Cert.Reference13Ideal.defs _ _).mono (fun r h => ⟨fun c => (h c).2.2, sem_eq_zero_of_no_sems (by decide) r.2⟩)
    (Cert.Reference13Ideal.Value.run (F := Ideal) m g)

/-- The call leaves what the reference leaves: the projection and the gated sum. -/
theorem value : Cert.algebraic_Kernel13Ideal_Reference13Ideal := by
  intro m g m' g' _ hagree
  refine ⟨fun c => Cert.Reference13Ideal.Read.val_main_v0 (F := Ideal) (m ((c : Thread nD τ).loc main_arg0)) (m ((c : Thread nD τ).loc main_arg1)),
    fun c => Cert.Reference13Ideal.Read.val_main_v18 (F := Ideal) (m ((c : Thread nD τ).loc main_arg0)) (m ((c : Thread nD τ).loc main_arg1)) (m ((c : Thread nD τ).loc main_arg2)) (m ((c : Thread nD τ).loc main_arg3)), ?_, ?_⟩
  · exact (θ_run Cert.Kernel13Ideal.defs _ _).mono (fun r h c => ⟨(h c).1.trans (final_0 m c), (h c).2.1.trans (final_1 m c), (h c).2.2⟩)
      (Cert.Kernel13Ideal.Value.run_blocks m g)
  · refine (θ_run Cert.Reference13Ideal.defs _ _).mono (fun r h c => ⟨?_, ?_, (h c).2.2⟩) (Cert.Reference13Ideal.Value.run (F := Ideal) m' g')
    · rw [(h c).1, Cert.Reference13Ideal.Read.val_main_v0_eq, (hagree c).1, (hagree c).2.1]
    · rw [(h c).2.1, Cert.Reference13Ideal.Read.val_main_v18_eq, (hagree c).1, (hagree c).2.1, (hagree c).2.2.1, (hagree c).2.2.2]

end Cert.AttnProj

end
-- ==== Proof.Out.lean ====
/-
  The mixers' output projection, added to the residual rows.
-/
module

public import proofs.«01_k».proof.Proof.Gen.Kernel14Ideal.Value
public import proofs.«01_k».proof.Proof.Gen.Reference14Ideal.Run
public import proofs.«01_k».proof.Proof.Gen.Reference14Ideal.Read
public import proofs.«01_k».proof.Defs
public import Idealize.ShloMosaic.Lib.Pipeline.ValueKit

@[expose] public section

set_option maxRecDepth 16384

noncomputable section

namespace Cert.Out

open Idealize.ShloMosaic Idealize.ShloMosaic.TcCoe Idealize.SL.Sem Cert.Kernel14Ideal Cert.Kernel14Ideal.Gen

variable (m : (ℓ : Loc nD τ sig) → Buf (Elt Ideal) ℓ)

/-- The blocks that a grid point reads and writes. -/
theorem idx : ∀ t : Fin cfg0.N, win0_0.index t = ![t.val % 8, 0]
    ∧ win0_1.index t = ![0, 0, t.val / 8]
    ∧ win0_2.index t = ![t.val % 8, t.val / 8]
    ∧ win0_3.index t = ![t.val % 8, t.val / 8] :=
  (by decide +kernel : ∀ t : Fin grid0.N, _)

/-- The sum after the run: at every grid point the block that is stored is the reference's. -/
theorem final (c : Dev nD) : (dats m 0 c).arrAt 3 (cfgs 0).N
    = Cert.Reference14Ideal.Read.val_main_v1 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold outsAt0
  frame_out
  pointwise [k0_pay1, Cert.Reference14Ideal.Read.val_main_v1, Cert.Reference14Ideal.Read.val_main_v0]
  blk_point [iblk, V, idx t]
  all_goals (rw [dif_neg (by decide)]; rfl)

attribute [local instance] Cert.Kernel14Ideal.Gen.facts Cert.Reference14Ideal.Gen.facts

/-- Every execution of the reference ends with its arguments unchanged and every semaphore at zero. -/
theorem reference_frame : Cert.quiescent_Reference14Ideal := fun m g _ =>
  (θ_run Cert.Reference14Ideal.defs _ _).mono (fun r h => ⟨fun c => (h c).2, sem_eq_zero_of_no_sems (by decide) r.2⟩)
    (Cert.Reference14Ideal.Value.run (F := Ideal) m g)

/-- The call leaves what the reference leaves. -/
theorem value : Cert.algebraic_Kernel14Ideal_Reference14Ideal := by
  intro m g m' g' _ hagree
  refine ⟨fun c => Cert.Reference14Ideal.Read.val_main_v1 (F := Ideal) (m ((c : Thread nD τ).loc main_arg0)) (m ((c : Thread nD τ).loc main_arg1)) (m ((c : Thread nD τ).loc main_arg2)), ?_, ?_⟩
  · exact (θ_run Cert.Kernel14Ideal.defs _ _).mono (fun r h c => ⟨(h c).1.trans (final m c), (h c).2⟩)
      (Cert.Kernel14Ideal.Value.run_blocks m g)
  · refine (θ_run Cert.Reference14Ideal.defs _ _).mono (fun r h c => ⟨?_, (h c).2⟩) (Cert.Reference14Ideal.Value.run (F := Ideal) m' g')
    rw [(h c).1, Cert.Reference14Ideal.Read.val_main_v1_eq, (hagree c).1, (hagree c).2.1, (hagree c).2.2]

end Cert.Out

end
-- ==== Proof.Dout.lean ====
/-
  The gradient of the output projection: the merged rows transposed times the cotangent, summed over four blocks of rows.
-/
module

public import proofs.«01_k».proof.Proof.Gen.Kernel15Ideal.Value
public import proofs.«01_k».proof.Proof.Gen.Reference15Ideal.Run
public import proofs.«01_k».proof.Proof.Gen.Reference15Ideal.Read
public import proofs.«01_k».proof.Defs
public import Idealize.ShloMosaic.Lib.Pipeline.ValueKit
public import Idealize.ShloMosaic.Lib.Pipeline.ReadBack
public import proofs.«01_k».proof.Proof.Runs

@[expose] public section

set_option maxRecDepth 16384

noncomputable section

namespace Cert.Dout

open Idealize.ShloMosaic Idealize.ShloMosaic.TcCoe Idealize.SL.Sem Cert.Kernel15Ideal Cert.Kernel15Ideal.Gen

variable (m : (ℓ : Loc nD τ sig) → Buf (Elt Ideal) ℓ)

/-- A point's contribution added to the sum so far, in the scratch. -/
theorem add_part (x0 : FVec Ideal S2048x1024 .bf16) (x1 : FVec Ideal S2048x1024 .f32) (a : FVec Ideal S1024x1024 .f32) (j : S1024x1024.Idx) :
    k0_pay3 (F := Ideal) x0 x1 a j = a j + k0_pay2 (F := Ideal) x0 x1 j := by
  pointwise [k0_pay3, k0_pay2, k0_pay1]

/-- The blocks that a grid point reads and writes. -/
theorem idx : ∀ t : Fin cfg0.N, win0_0.index t = ![t.val % 4, t.val / 8]
    ∧ win0_1.index t = ![t.val % 4, t.val / 4 % 2]
    ∧ win0_2.index t = ![0, t.val / 8, t.val / 4 % 2] :=
  (by decide +kernel : ∀ t : Fin grid0.N, _)

/-- What a grid point contributes to its block of the result. -/
abbrev part (c : Dev nD) (t : Fin cfg0.N) : FVec Ideal S1024x1024 .f32 :=
  k0_pay2 (F := Ideal) (iblk m c 0 t) (iblk m c 1 t)

/-- What the scratch holds and the contribution at the last point of a run of four make up the sum of the run's contributions. -/
theorem sum_of_run (c : Dev nD) (t : Fin cfg0.N) (h3 : t.val % 4 = 3) (j : S1024x1024.Idx) :
    @HAdd.hAdd EReal EReal EReal _ ((outsAt0 m c (t.val - 1) (Cert.Runs.before_lt t.isLt)).2 j) (part m c t j)
      = ∑ s : Fin 4, (part m c ⟨4 * (t.val / 4) + s.val, Pipeline.run_point_lt_of_flush t h3 s⟩ j : EReal) := by
  refine Cert.Runs.last_eq_sum (fun n h => (outsAt0 m c n h).2) (part m c) (fun t h j => ?_) (fun t h h' j => ?_) t h3 j
  · rw [outsAt0_A m c t h (by omega) (by omega)]
    frame_out
  · rw [outsAt0_B m c t h (by omega) h']
    frame_out
    simp only [read_unread_whole]
    exact add_part _ _ _ _

/-- A contribution is a sum over the point's rows. -/
theorem part_at (x0 : FVec Ideal S2048x1024 .bf16) (x1 : FVec Ideal S2048x1024 .f32) (j : S1024x1024.Idx) :
    k0_pay2 (F := Ideal) x0 x1 j = ∑ k : Fin 2048, x0 (ix2 k (j 0)) * x1 (ix2 k (j 1)) := by pointwise [k0_pay2, k0_pay1]

/-- The reference's gradient at an index. -/
theorem ref_at (A : FVec Ideal S8192x2048 .f32) (G : FVec Ideal S8192x2048 .f32) (j : S1x2048x2048.Idx) :
    Cert.Reference15Ideal.Read.val_main_v5 (F := Ideal) A G j = ∑ l : Fin 8192, A (ix2 l (j 1)) * G (ix2 l (j 2)) := by
  pointwise [Cert.Reference15Ideal.Read.val_main_v5, Cert.Reference15Ideal.Read.val_main_v4, Cert.Reference15Ideal.Read.val_main_v3, Cert.Reference15Ideal.Read.val_main_v2]
  exact Finset.sum_congr rfl fun _ _ => mul_comm _ _

/-- What the last point of a run stores. -/
theorem last_part (x0 : FVec Ideal S2048x1024 .bf16) (x1 : FVec Ideal S2048x1024 .f32) (a : FVec Ideal S1024x1024 .f32) (r : Fin 1024) (s : Fin 1024) :
    k0_pay4 (F := Ideal) x0 x1 a (ix3 (n0 := 1) 0 r s) = a (ix2 r s) + k0_pay2 (F := Ideal) x0 x1 (ix2 r s) := by
  pointwise [k0_pay4, k0_pay2, k0_pay1]

/-- The result's block after the last point of a run is the sum over the run. -/
theorem last (c : Dev nD) (t : Fin cfg0.N) (h3 : t.val % 4 = 3) (r : Fin 1024) (s : Fin 1024) :
    (outsAt0 m c t.val t.isLt).1 (ix3 (n0 := 1) 0 r s) = ∑ p : Fin 4, (part m c ⟨4 * (t.val / 4) + p.val, Pipeline.run_point_lt_of_flush t h3 p⟩ (ix2 r s) : EReal) := by
  rw [outsAt0_C m c t (by omega) (by omega) h3]
  frame_out
  simp only [read_unread_whole]
  exact (last_part _ _ _ r s).trans (sum_of_run m c t h3 (ix2 r s))

/-- The gradient after the run. -/
theorem final (c : Dev nD) : (dats m 0 c).arrAt 2 (cfgs 0).N
    = Cert.Reference15Ideal.Read.val_main_v5 (F := Ideal) (m ((c : Thread nD τ).loc main_arg0)) (m ((c : Thread nD τ).loc main_arg1)) := by
  refine (dats m 0 c).arrAt_eq_of_covers 2 _ (by decide +kernel) fun t hf y => ?_
  have h3 := (flush0_2 t).mp hf
  obtain ⟨u, r, s, rfl⟩ : ∃ u r s, y = ix3 (n0 := 1) (n1 := 1024) (n2 := 1024) u r s := ⟨_, _, _, eq_ix3 y⟩
  obtain rfl : u = 0 := Subsingleton.elim _ _
  blk_simp
  rw [after0_2]
  refine (last m c t h3 r s).trans ?_
  rw [ref_at]
  simp only [part, part_at]
  refine Fin.sum_mul_add_congr fun s' k hl => ?_
  blk_point [iblk, V, idx t, idx ⟨_, Pipeline.run_point_lt_of_flush t h3 s'⟩]

attribute [local instance] Cert.Kernel15Ideal.Gen.facts Cert.Reference15Ideal.Gen.facts

/-- Every execution of the reference ends with its arguments unchanged and every semaphore at zero. -/
theorem reference_frame : Cert.quiescent_Reference15Ideal := fun m g _ =>
  (θ_run Cert.Reference15Ideal.defs _ _).mono (fun r h => ⟨fun c => (h c).2, sem_eq_zero_of_no_sems (by decide) r.2⟩)
    (Cert.Reference15Ideal.Value.run (F := Ideal) m g)

/-- The call leaves what the reference leaves: the gradient. -/
theorem value : Cert.algebraic_Kernel15Ideal_Reference15Ideal := by
  intro m g m' g' _ hagree
  refine ⟨fun c => Cert.Reference15Ideal.Read.val_main_v5 (F := Ideal) (m ((c : Thread nD τ).loc main_arg0)) (m ((c : Thread nD τ).loc main_arg1)), ?_, ?_⟩
  · exact (θ_run Cert.Kernel15Ideal.defs _ _).mono (fun r h c => ⟨(h c).1.trans (final m c), (h c).2⟩)
      (Cert.Kernel15Ideal.Value.run_blocks m g)
  · refine (θ_run Cert.Reference15Ideal.defs _ _).mono (fun r h c => ⟨?_, (h c).2⟩) (Cert.Reference15Ideal.Value.run (F := Ideal) m' g')
    rw [(h c).1, Cert.Reference15Ideal.Read.val_main_v5_eq, (hagree c).1, (hagree c).2]

end Cert.Dout

end
-- ==== Proof.DattnProj.lean ====
/-
  The gradient of the attention's output projection: the attention's output transposed times the cotangent, summed over
  four blocks of rows. The gradient of the per-layer gate's weights is the same call.
-/
module

public import proofs.«01_k».proof.Proof.Gen.Kernel16Ideal.Value
public import proofs.«01_k».proof.Proof.Gen.Reference16Ideal.Run
public import proofs.«01_k».proof.Proof.Gen.Reference16Ideal.Read
public import proofs.«01_k».proof.Defs
public import Idealize.ShloMosaic.Lib.Pipeline.ValueKit
public import Idealize.ShloMosaic.Lib.Pipeline.ReadBack
public import proofs.«01_k».proof.Proof.Runs

@[expose] public section

set_option maxRecDepth 16384

noncomputable section

namespace Cert.DattnProj

open Idealize.ShloMosaic Idealize.ShloMosaic.TcCoe Idealize.SL.Sem Cert.Kernel16Ideal Cert.Kernel16Ideal.Gen

variable (m : (ℓ : Loc nD τ sig) → Buf (Elt Ideal) ℓ)

/-- A point's contribution added to the sum so far, in the scratch. -/
theorem add_part (x0 : FVec Ideal S2048x1024 .bf16) (x1 : FVec Ideal S2048x1024 .bf16) (a : FVec Ideal S1024x1024 .f32) (j : S1024x1024.Idx) :
    k0_pay3 (F := Ideal) x0 x1 a j = a j + k0_pay2 (F := Ideal) x0 x1 j := by
  pointwise [k0_pay3, k0_pay2, k0_pay1]

/-- The blocks that a grid point reads and writes. -/
theorem idx : ∀ t : Fin cfg0.N, win0_0.index t = ![t.val % 4, t.val / 8]
    ∧ win0_1.index t = ![t.val % 4, t.val / 4 % 2]
    ∧ win0_2.index t = ![0, t.val / 8, t.val / 4 % 2] :=
  (by decide +kernel : ∀ t : Fin grid0.N, _)

/-- What a grid point contributes to its block of the result. -/
abbrev part (c : Dev nD) (t : Fin cfg0.N) : FVec Ideal S1024x1024 .f32 :=
  k0_pay2 (F := Ideal) (iblk m c 0 t) (iblk m c 1 t)

/-- What the scratch holds and the contribution at the last point of a run of four make up the sum of the run's contributions. -/
theorem sum_of_run (c : Dev nD) (t : Fin cfg0.N) (h3 : t.val % 4 = 3) (j : S1024x1024.Idx) :
    @HAdd.hAdd EReal EReal EReal _ ((outsAt0 m c (t.val - 1) (Cert.Runs.before_lt t.isLt)).2 j) (part m c t j)
      = ∑ s : Fin 4, (part m c ⟨4 * (t.val / 4) + s.val, Pipeline.run_point_lt_of_flush t h3 s⟩ j : EReal) := by
  refine Cert.Runs.last_eq_sum (fun n h => (outsAt0 m c n h).2) (part m c) (fun t h j => ?_) (fun t h h' j => ?_) t h3 j
  · rw [outsAt0_A m c t h (by omega) (by omega)]
    frame_out
  · rw [outsAt0_B m c t h (by omega) h']
    frame_out
    simp only [read_unread_whole]
    exact add_part _ _ _ _

/-- A contribution is a sum over the point's rows. -/
theorem part_at (x0 : FVec Ideal S2048x1024 .bf16) (x1 : FVec Ideal S2048x1024 .bf16) (j : S1024x1024.Idx) :
    k0_pay2 (F := Ideal) x0 x1 j = ∑ k : Fin 2048, x0 (ix2 k (j 0)) * x1 (ix2 k (j 1)) := by pointwise [k0_pay2, k0_pay1]

/-- The reference's gradient at an index. -/
theorem ref_at (A : FVec Ideal S8192x2048 .f32) (G : FVec Ideal S8192x2048 .f32) (j : S1x2048x2048.Idx) :
    Cert.Reference16Ideal.Read.val_main_v5 (F := Ideal) A G j = ∑ l : Fin 8192, A (ix2 l (j 1)) * G (ix2 l (j 2)) := by
  pointwise [Cert.Reference16Ideal.Read.val_main_v5, Cert.Reference16Ideal.Read.val_main_v4, Cert.Reference16Ideal.Read.val_main_v3, Cert.Reference16Ideal.Read.val_main_v2]
  exact Finset.sum_congr rfl fun _ _ => mul_comm _ _

/-- What the last point of a run stores. -/
theorem last_part (x0 : FVec Ideal S2048x1024 .bf16) (x1 : FVec Ideal S2048x1024 .bf16) (a : FVec Ideal S1024x1024 .f32) (r : Fin 1024) (s : Fin 1024) :
    k0_pay4 (F := Ideal) x0 x1 a (ix3 (n0 := 1) 0 r s) = a (ix2 r s) + k0_pay2 (F := Ideal) x0 x1 (ix2 r s) := by
  pointwise [k0_pay4, k0_pay2, k0_pay1]

/-- The result's block after the last point of a run is the sum over the run. -/
theorem last (c : Dev nD) (t : Fin cfg0.N) (h3 : t.val % 4 = 3) (r : Fin 1024) (s : Fin 1024) :
    (outsAt0 m c t.val t.isLt).1 (ix3 (n0 := 1) 0 r s) = ∑ p : Fin 4, (part m c ⟨4 * (t.val / 4) + p.val, Pipeline.run_point_lt_of_flush t h3 p⟩ (ix2 r s) : EReal) := by
  rw [outsAt0_C m c t (by omega) (by omega) h3]
  frame_out
  simp only [read_unread_whole]
  exact (last_part _ _ _ r s).trans (sum_of_run m c t h3 (ix2 r s))

/-- The gradient after the run. -/
theorem final (c : Dev nD) : (dats m 0 c).arrAt 2 (cfgs 0).N
    = Cert.Reference16Ideal.Read.val_main_v5 (F := Ideal) (m ((c : Thread nD τ).loc main_arg0)) (m ((c : Thread nD τ).loc main_arg1)) := by
  refine (dats m 0 c).arrAt_eq_of_covers 2 _ (by decide +kernel) fun t hf y => ?_
  have h3 := (flush0_2 t).mp hf
  obtain ⟨u, r, s, rfl⟩ : ∃ u r s, y = ix3 (n0 := 1) (n1 := 1024) (n2 := 1024) u r s := ⟨_, _, _, eq_ix3 y⟩
  obtain rfl : u = 0 := Subsingleton.elim _ _
  blk_simp
  rw [after0_2]
  refine (last m c t h3 r s).trans ?_
  rw [ref_at]
  simp only [part, part_at]
  refine Fin.sum_mul_add_congr fun s' k hl => ?_
  blk_point [iblk, V, idx t, idx ⟨_, Pipeline.run_point_lt_of_flush t h3 s'⟩]

attribute [local instance] Cert.Kernel16Ideal.Gen.facts Cert.Reference16Ideal.Gen.facts

/-- Every execution of the reference ends with its arguments unchanged and every semaphore at zero. -/
theorem reference_frame : Cert.quiescent_Reference16Ideal := fun m g _ =>
  (θ_run Cert.Reference16Ideal.defs _ _).mono (fun r h => ⟨fun c => (h c).2, sem_eq_zero_of_no_sems (by decide) r.2⟩)
    (Cert.Reference16Ideal.Value.run (F := Ideal) m g)

/-- The call leaves what the reference leaves: the gradient. -/
theorem value : Cert.algebraic_Kernel16Ideal_Reference16Ideal := by
  intro m g m' g' _ hagree
  refine ⟨fun c => Cert.Reference16Ideal.Read.val_main_v5 (F := Ideal) (m ((c : Thread nD τ).loc main_arg0)) (m ((c : Thread nD τ).loc main_arg1)), ?_, ?_⟩
  · exact (θ_run Cert.Kernel16Ideal.defs _ _).mono (fun r h c => ⟨(h c).1.trans (final m c), (h c).2⟩)
      (Cert.Kernel16Ideal.Value.run_blocks m g)
  · refine (θ_run Cert.Reference16Ideal.defs _ _).mono (fun r h c => ⟨?_, (h c).2⟩) (Cert.Reference16Ideal.Value.run (F := Ideal) m' g')
    rw [(h c).1, Cert.Reference16Ideal.Read.val_main_v5_eq, (hagree c).1, (hagree c).2]

end Cert.DattnProj

end
-- ==== Proof.Dhp.lean ====
/-
  The gradient of the rows under the per-layer gate: the cotangent times the gate's weights transposed.
-/
module

public import proofs.«01_k».proof.Proof.Gen.Kernel17Ideal.Value
public import proofs.«01_k».proof.Proof.Gen.Reference17Ideal.Run
public import proofs.«01_k».proof.Proof.Gen.Reference17Ideal.Read
public import proofs.«01_k».proof.Defs
public import Idealize.ShloMosaic.Lib.Pipeline.ValueKit

@[expose] public section

set_option maxRecDepth 16384

noncomputable section

namespace Cert.Dhp

open Idealize.ShloMosaic Idealize.ShloMosaic.TcCoe Idealize.SL.Sem Cert.Kernel17Ideal Cert.Kernel17Ideal.Gen

variable (m : (ℓ : Loc nD τ sig) → Buf (Elt Ideal) ℓ)

/-- The blocks that a grid point reads and writes. -/
theorem idx : ∀ t : Fin cfg0.N, win0_0.index t = ![t.val % 8, 0]
    ∧ win0_1.index t = ![0, t.val / 8, 0]
    ∧ win0_2.index t = ![t.val % 8, t.val / 8] :=
  (by decide +kernel : ∀ t : Fin grid0.N, _)

/-- The gradient after the run: at every grid point the block that is stored is the reference's. -/
theorem final (c : Dev nD) : (dats m 0 c).arrAt 2 (cfgs 0).N
    = Cert.Reference17Ideal.Read.val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  pointwise [k0_pay1, Cert.Reference17Ideal.Read.val_main_v2, Cert.Reference17Ideal.Read.val_main_v1, Cert.Reference17Ideal.Read.val_main_v0]
  blk_point [iblk, V, idx t]
  all_goals (rw [dif_neg (by decide)]; rfl)

attribute [local instance] Cert.Kernel17Ideal.Gen.facts Cert.Reference17Ideal.Gen.facts

/-- Every execution of the reference ends with its arguments unchanged and every semaphore at zero. -/
theorem reference_frame : Cert.quiescent_Reference17Ideal := fun m g _ =>
  (θ_run Cert.Reference17Ideal.defs _ _).mono (fun r h => ⟨fun c => (h c).2, sem_eq_zero_of_no_sems (by decide) r.2⟩)
    (Cert.Reference17Ideal.Value.run (F := Ideal) m g)

/-- The call leaves what the reference leaves: the gradient of the left factor. -/
theorem value : Cert.algebraic_Kernel17Ideal_Reference17Ideal := by
  intro m g m' g' _ hagree
  refine ⟨fun c => Cert.Reference17Ideal.Read.val_main_v2 (F := Ideal) (m ((c : Thread nD τ).loc main_arg0)) (m ((c : Thread nD τ).loc main_arg1)), ?_, ?_⟩
  · exact (θ_run Cert.Kernel17Ideal.defs _ _).mono (fun r h c => ⟨(h c).1.trans (final m c), (h c).2⟩)
      (Cert.Kernel17Ideal.Value.run_blocks m g)
  · refine (θ_run Cert.Reference17Ideal.defs _ _).mono (fun r h c => ⟨?_, (h c).2⟩) (Cert.Reference17Ideal.Value.run (F := Ideal) m' g')
    rw [(h c).1, Cert.Reference17Ideal.Read.val_main_v2_eq, (hagree c).1, (hagree c).2]

end Cert.Dhp

end
-- ==== Proof.PleGate.lean ====
/-
  The per-layer gate's product: the normalised rows times the gate's weights.
-/
module

public import proofs.«01_k».proof.Proof.Gen.Kernel18Ideal.Value
public import proofs.«01_k».proof.Proof.Gen.Reference18Ideal.Run
public import proofs.«01_k».proof.Proof.Gen.Reference18Ideal.Read
public import proofs.«01_k».proof.Defs
public import Idealize.ShloMosaic.Lib.Pipeline.ValueKit

@[expose] public section

set_option maxRecDepth 16384

noncomputable section

namespace Cert.PleGate

open Idealize.ShloMosaic Idealize.ShloMosaic.TcCoe Idealize.SL.Sem Cert.Kernel18Ideal Cert.Kernel18Ideal.Gen

variable (m : (ℓ : Loc nD τ sig) → Buf (Elt Ideal) ℓ)

/-- The blocks that a grid point reads and writes. -/
theorem idx : ∀ t : Fin cfg0.N, win0_0.index t = ![t.val % 8, 0]
    ∧ win0_1.index t = ![0, 0, t.val / 8]
    ∧ win0_2.index t = ![t.val % 8, t.val / 8] :=
  (by decide +kernel : ∀ t : Fin grid0.N, _)

/-- The product after the run: at every grid point the block that is stored is the reference's. -/
theorem final (c : Dev nD) : (dats m 0 c).arrAt 2 (cfgs 0).N
    = Cert.Reference18Ideal.Read.val_main_v0 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  pointwise [k0_pay1, Cert.Reference18Ideal.Read.val_main_v0]
  blk_point [iblk, V, idx t]
  all_goals (rw [dif_neg (by decide)]; rfl)

attribute [local instance] Cert.Kernel18Ideal.Gen.facts Cert.Reference18Ideal.Gen.facts

/-- Every execution of the reference ends with its arguments unchanged and every semaphore at zero. -/
theorem reference_frame : Cert.quiescent_Reference18Ideal := fun m g _ =>
  (θ_run Cert.Reference18Ideal.defs _ _).mono (fun r h => ⟨fun c => (h c).2, sem_eq_zero_of_no_sems (by decide) r.2⟩)
    (Cert.Reference18Ideal.Value.run (F := Ideal) m g)

/-- The call leaves what the reference leaves: the product. -/
theorem value : Cert.algebraic_Kernel18Ideal_Reference18Ideal := by
  intro m g m' g' _ hagree
  refine ⟨fun c => Cert.Reference18Ideal.Read.val_main_v0 (F := Ideal) (m ((c : Thread nD τ).loc main_arg0)) (m ((c : Thread nD τ).loc main_arg1)), ?_, ?_⟩
  · exact (θ_run Cert.Kernel18Ideal.defs _ _).mono (fun r h c => ⟨(h c).1.trans (final m c), (h c).2⟩)
      (Cert.Kernel18Ideal.Value.run_blocks m g)
  · refine (θ_run Cert.Reference18Ideal.defs _ _).mono (fun r h c => ⟨?_, (h c).2⟩) (Cert.Reference18Ideal.Value.run (F := Ideal) m' g')
    rw [(h c).1, Cert.Reference18Ideal.Read.val_main_v0_eq, (hagree c).1, (hagree c).2]

end Cert.PleGate

end
-- ==== Proof.DconvProj.lean ====
/-
  The gradient of the convolution's output projection, shard by shard of its columns: the rows transposed times the
  cotangent, summed over four blocks of rows.
-/
module

public import proofs.«01_k».proof.Proof.Gen.Kernel19Ideal.Value
public import proofs.«01_k».proof.Proof.Gen.Reference19Ideal.Run
public import proofs.«01_k».proof.Proof.Gen.Reference19Ideal.Read
public import proofs.«01_k».proof.Defs
public import Idealize.ShloMosaic.Lib.Pipeline.ValueKit
public import Idealize.ShloMosaic.Lib.Pipeline.ReadBack
public import proofs.«01_k».proof.Proof.Runs

@[expose] public section

set_option maxRecDepth 16384

noncomputable section

namespace Cert.DconvProj

open Idealize.ShloMosaic Idealize.ShloMosaic.TcCoe Idealize.SL.Sem Cert.Kernel19Ideal Cert.Kernel19Ideal.Gen

variable (m : (ℓ : Loc nD τ sig) → Buf (Elt Ideal) ℓ)

/-- A point's contribution added to the sum so far, in the scratch. -/
theorem add_part (x0 : FVec Ideal S2048x1024 .bf16) (x1 : FVec Ideal S2048x256 .bf16) (a : FVec Ideal S1024x256 .f32) (j : S1024x256.Idx) :
    k0_pay3 (F := Ideal) x0 x1 a j = a j + k0_pay2 (F := Ideal) x0 x1 j := by
  pointwise [k0_pay3, k0_pay2, k0_pay1]

/-- The blocks that a grid point reads and writes. -/
theorem idx : ∀ t : Fin cfg0.N, win0_0.index t = ![t.val % 4, 0]
    ∧ win0_1.index t = ![t.val % 4, t.val / 4]
    ∧ win0_2.index t = ![t.val / 4, 0, 0] :=
  (by decide +kernel : ∀ t : Fin grid0.N, _)

/-- What a grid point contributes to its block of the result. -/
abbrev part (c : Dev nD) (t : Fin cfg0.N) : FVec Ideal S1024x256 .f32 :=
  k0_pay2 (F := Ideal) (iblk m c 0 t) (iblk m c 1 t)

/-- What the scratch holds and the contribution at the last point of a run of four make up the sum of the run's contributions. -/
theorem sum_of_run (c : Dev nD) (t : Fin cfg0.N) (h3 : t.val % 4 = 3) (j : S1024x256.Idx) :
    @HAdd.hAdd EReal EReal EReal _ ((outsAt0 m c (t.val - 1) (Cert.Runs.before_lt t.isLt)).2 j) (part m c t j)
      = ∑ s : Fin 4, (part m c ⟨4 * (t.val / 4) + s.val, Pipeline.run_point_lt_of_flush t h3 s⟩ j : EReal) := by
  refine Cert.Runs.last_eq_sum (fun n h => (outsAt0 m c n h).2) (part m c) (fun t h j => ?_) (fun t h h' j => ?_) t h3 j
  · rw [outsAt0_A m c t h (by omega) (by omega)]
    frame_out
  · rw [outsAt0_B m c t h (by omega) h']
    frame_out
    simp only [read_unread_whole]
    exact add_part _ _ _ _

/-- A contribution is a sum over the point's rows. -/
theorem part_at (x0 : FVec Ideal S2048x1024 .bf16) (x1 : FVec Ideal S2048x256 .bf16) (j : S1024x256.Idx) :
    k0_pay2 (F := Ideal) x0 x1 j = ∑ k : Fin 2048, x0 (ix2 k (j 0)) * x1 (ix2 k (j 1)) := by pointwise [k0_pay2, k0_pay1]

/-- The reference's gradient at an index. -/
theorem ref_at (A : FVec Ideal S8192x1024 .f32) (G : FVec Ideal S8192x2048 .f32) (j : S8x1024x256.Idx) :
    Cert.Reference19Ideal.Read.val_main_v6 (F := Ideal) A G j
      = ∑ l : Fin 8192, A (ix2 l (j 1)) * G (ix2 l ⟨(j 0 : ℕ) * 256 + (j 2 : ℕ), by
          have h0 : (j 0 : ℕ) < 8 := (j 0).isLt; have h2 : (j 2 : ℕ) < 256 := (j 2).isLt; omega⟩) := by
  pointwise [Cert.Reference19Ideal.Read.val_main_v6, Cert.Reference19Ideal.Read.val_main_v5, Cert.Reference19Ideal.Read.val_main_v4, Cert.Reference19Ideal.Read.val_main_v3, Cert.Reference19Ideal.Read.val_main_v2]
  exact Finset.sum_congr rfl fun _ _ => mul_comm _ _

/-- What the last point of a run stores. -/
theorem last_part (x0 : FVec Ideal S2048x1024 .bf16) (x1 : FVec Ideal S2048x256 .bf16) (a : FVec Ideal S1024x256 .f32) (r : Fin 1024) (s : Fin 256) :
    k0_pay4 (F := Ideal) x0 x1 a (ix3 (n0 := 1) 0 r s) = a (ix2 r s) + k0_pay2 (F := Ideal) x0 x1 (ix2 r s) := by
  pointwise [k0_pay4, k0_pay2, k0_pay1]

/-- The result's block after the last point of a run is the sum over the run. -/
theorem last (c : Dev nD) (t : Fin cfg0.N) (h3 : t.val % 4 = 3) (r : Fin 1024) (s : Fin 256) :
    (outsAt0 m c t.val t.isLt).1 (ix3 (n0 := 1) 0 r s) = ∑ p : Fin 4, (part m c ⟨4 * (t.val / 4) + p.val, Pipeline.run_point_lt_of_flush t h3 p⟩ (ix2 r s) : EReal) := by
  rw [outsAt0_C m c t (by omega) (by omega) h3]
  frame_out
  simp only [read_unread_whole]
  exact (last_part _ _ _ r s).trans (sum_of_run m c t h3 (ix2 r s))

/-- The gradient after the run. -/
theorem final (c : Dev nD) : (dats m 0 c).arrAt 2 (cfgs 0).N
    = Cert.Reference19Ideal.Read.val_main_v6 (F := Ideal) (m ((c : Thread nD τ).loc main_arg0)) (m ((c : Thread nD τ).loc main_arg1)) := by
  refine (dats m 0 c).arrAt_eq_of_covers 2 _ (by decide +kernel) fun t hf y => ?_
  have h3 := (flush0_2 t).mp hf
  obtain ⟨u, r, s, rfl⟩ : ∃ u r s, y = ix3 (n0 := 1) (n1 := 1024) (n2 := 256) u r s := ⟨_, _, _, eq_ix3 y⟩
  obtain rfl : u = 0 := Subsingleton.elim _ _
  blk_simp
  rw [after0_2]
  refine (last m c t h3 r s).trans ?_
  rw [ref_at]
  simp only [part, part_at]
  refine Fin.sum_mul_add_congr fun s' k hl => ?_
  blk_point [iblk, V, idx t, idx ⟨_, Pipeline.run_point_lt_of_flush t h3 s'⟩]

attribute [local instance] Cert.Kernel19Ideal.Gen.facts Cert.Reference19Ideal.Gen.facts

/-- Every execution of the reference ends with its arguments unchanged and every semaphore at zero. -/
theorem reference_frame : Cert.quiescent_Reference19Ideal := fun m g _ =>
  (θ_run Cert.Reference19Ideal.defs _ _).mono (fun r h => ⟨fun c => (h c).2, sem_eq_zero_of_no_sems (by decide) r.2⟩)
    (Cert.Reference19Ideal.Value.run (F := Ideal) m g)

/-- The call leaves what the reference leaves: the gradient. -/
theorem value : Cert.algebraic_Kernel19Ideal_Reference19Ideal := by
  intro m g m' g' _ hagree
  refine ⟨fun c => Cert.Reference19Ideal.Read.val_main_v6 (F := Ideal) (m ((c : Thread nD τ).loc main_arg0)) (m ((c : Thread nD τ).loc main_arg1)), ?_, ?_⟩
  · exact (θ_run Cert.Kernel19Ideal.defs _ _).mono (fun r h c => ⟨(h c).1.trans (final m c), (h c).2⟩)
      (Cert.Kernel19Ideal.Value.run_blocks m g)
  · refine (θ_run Cert.Reference19Ideal.defs _ _).mono (fun r h c => ⟨?_, (h c).2⟩) (Cert.Reference19Ideal.Value.run (F := Ideal) m' g')
    rw [(h c).1, Cert.Reference19Ideal.Read.val_main_v6_eq, (hagree c).1, (hagree c).2]

end Cert.DconvProj

end
-- ==== Proof.Dsc.lean ====
/-
  The gradient of the convolution's output rows: the cotangent times the projection's weights transposed, the eight
  column shards of the weights side by side.
-/
module

public import proofs.«01_k».proof.Proof.Gen.Kernel20Ideal.Value
public import proofs.«01_k».proof.Proof.Gen.Reference20Ideal.Run
public import proofs.«01_k».proof.Proof.Gen.Reference20Ideal.Read
public import proofs.«01_k».proof.Defs
public import Idealize.ShloMosaic.Lib.Pipeline.ValueKit

@[expose] public section

set_option maxRecDepth 16384

noncomputable section

namespace Cert.Dsc

open Idealize.ShloMosaic Idealize.ShloMosaic.TcCoe Idealize.SL.Sem Cert.Kernel20Ideal Cert.Kernel20Ideal.Gen

/-- Reading eight shards of 256 columns side by side at a column is reading the column's shard at its offset. -/
theorem shards (f : Fin 8 → Fin 256 → EReal) (k : Fin 2048) :
    (if h : (k : ℕ) < 256 then f 0 ⟨(k : ℕ), h⟩ else
      if h : (k : ℕ) - 256 < 256 then f 1 ⟨(k : ℕ) - 256, h⟩ else
      if h : (k : ℕ) - 256 - 256 < 256 then f 2 ⟨(k : ℕ) - 256 - 256, h⟩ else
      if h : (k : ℕ) - 256 - 256 - 256 < 256 then f 3 ⟨(k : ℕ) - 256 - 256 - 256, h⟩ else
      if h : (k : ℕ) - 256 - 256 - 256 - 256 < 256 then f 4 ⟨(k : ℕ) - 256 - 256 - 256 - 256, h⟩ else
      if h : (k : ℕ) - 256 - 256 - 256 - 256 - 256 < 256 then f 5 ⟨(k : ℕ) - 256 - 256 - 256 - 256 - 256, h⟩ else
      if h : (k : ℕ) - 256 - 256 - 256 - 256 - 256 - 256 < 256 then f 6 ⟨(k : ℕ) - 256 - 256 - 256 - 256 - 256 - 256, h⟩ else
      f 7 ⟨(k : ℕ) - 256 - 256 - 256 - 256 - 256 - 256 - 256, by have := k.isLt; omega⟩)
      = f ⟨k / 256, by have := k.isLt; omega⟩ ⟨k % 256, Nat.mod_lt _ (by decide)⟩ := by
  have hk := k.isLt
  have key : ∀ (a b : Fin 8) (p q : Fin 256), (a : ℕ) = b → (p : ℕ) = q → f a p = f b q := fun a b p q ha hp => by
    rw [Fin.ext ha, Fin.ext hp]
  split_ifs
  all_goals
    refine key _ _ _ _ ?_ ?_
    · simp only [Fin.isValue, Fin.val_zero, Fin.val_one, Fin.val_ofNat]
      omega
    · show (_ : ℕ) = (k : ℕ) % 256
      dsimp only; omega

variable (m : (ℓ : Loc nD τ sig) → Buf (Elt Ideal) ℓ)

/-- The blocks that a grid point reads and writes. -/
theorem idx : ∀ t : Fin cfg0.N, win0_0.index t = ![t.val, 0]
    ∧ win0_1.index t = ![0, 0, 0]
    ∧ win0_2.index t = ![t.val, 0] :=
  (by decide +kernel : ∀ t : Fin grid0.N, _)

/-- The gradient after the run: at every grid point the block that is stored is the reference's. -/
theorem final (c : Dev nD) : (dats m 0 c).arrAt 2 (cfgs 0).N
    = Cert.Reference20Ideal.Read.val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  pointwise [k0_pay1, Cert.Reference20Ideal.Read.val_main_v2, Cert.Reference20Ideal.Read.val_main_v1, Cert.Reference20Ideal.Read.val_main_v0]
  refine Fin.sum_fin_congr fun k => ?_
  refine (congrArg (HMul.hMul (α := EReal) (β := EReal) (γ := EReal) _) (shards (fun j l => iblk m c 1 t (ix3 j (y 1) l)) k)).trans ?_
  blk_point [iblk, V, idx t]

attribute [local instance] Cert.Kernel20Ideal.Gen.facts Cert.Reference20Ideal.Gen.facts

/-- Every execution of the reference ends with its arguments unchanged and every semaphore at zero. -/
theorem reference_frame : Cert.quiescent_Reference20Ideal := fun m g _ =>
  (θ_run Cert.Reference20Ideal.defs _ _).mono (fun r h => ⟨fun c => (h c).2, sem_eq_zero_of_no_sems (by decide) r.2⟩)
    (Cert.Reference20Ideal.Value.run (F := Ideal) m g)

/-- The call leaves what the reference leaves: the gradient of the left factor. -/
theorem value : Cert.algebraic_Kernel20Ideal_Reference20Ideal := by
  intro m g m' g' _ hagree
  refine ⟨fun c => Cert.Reference20Ideal.Read.val_main_v2 (F := Ideal) (m ((c : Thread nD τ).loc main_arg0)) (m ((c : Thread nD τ).loc main_arg1)), ?_, ?_⟩
  · exact (θ_run Cert.Kernel20Ideal.defs _ _).mono (fun r h c => ⟨(h c).1.trans (final m c), (h c).2⟩)
      (Cert.Kernel20Ideal.Value.run_blocks m g)
  · refine (θ_run Cert.Reference20Ideal.defs _ _).mono (fun r h c => ⟨?_, (h c).2⟩) (Cert.Reference20Ideal.Value.run (F := Ideal) m' g')
    rw [(h c).1, Cert.Reference20Ideal.Read.val_main_v2_eq, (hagree c).1, (hagree c).2]

end Cert.Dsc

end
-- ==== Proof.ConvProj.lean ====
/-
  The convolution's output projection, shard by shard of the weights' columns.
-/
module

public import proofs.«01_k».proof.Proof.Gen.Kernel21Ideal.Value
public import proofs.«01_k».proof.Proof.Gen.Reference21Ideal.Run
public import proofs.«01_k».proof.Proof.Gen.Reference21Ideal.Read
public import proofs.«01_k».proof.Defs
public import Idealize.ShloMosaic.Lib.Pipeline.ValueKit

@[expose] public section

set_option maxRecDepth 16384

noncomputable section

namespace Cert.ConvProj

open Idealize.ShloMosaic Idealize.ShloMosaic.TcCoe Idealize.SL.Sem Cert.Kernel21Ideal Cert.Kernel21Ideal.Gen

variable (m : (ℓ : Loc nD τ sig) → Buf (Elt Ideal) ℓ)

/-- The blocks that a grid point reads and writes. -/
theorem idx : ∀ t : Fin cfg0.N, win0_0.index t = ![t.val / 8, 0]
    ∧ win0_1.index t = ![t.val % 8, 0, 0]
    ∧ win0_2.index t = ![t.val / 8, t.val % 8] :=
  (by decide +kernel : ∀ t : Fin grid0.N, _)

/-- The product after the run: at every grid point the block that is stored is the reference's. -/
theorem final (c : Dev nD) : (dats m 0 c).arrAt 2 (cfgs 0).N
    = Cert.Reference21Ideal.Read.val_main_v0 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  pointwise [k0_pay1, Cert.Reference21Ideal.Read.val_main_v0]
  blk_point [iblk, V, idx t]

attribute [local instance] Cert.Kernel21Ideal.Gen.facts Cert.Reference21Ideal.Gen.facts

/-- Every execution of the reference ends with its arguments unchanged and every semaphore at zero. -/
theorem reference_frame : Cert.quiescent_Reference21Ideal := fun m g _ =>
  (θ_run Cert.Reference21Ideal.defs _ _).mono (fun r h => ⟨fun c => (h c).2, sem_eq_zero_of_no_sems (by decide) r.2⟩)
    (Cert.Reference21Ideal.Value.run (F := Ideal) m g)

/-- The call leaves what the reference leaves: the product. -/
theorem value : Cert.algebraic_Kernel21Ideal_Reference21Ideal := by
  intro m g m' g' _ hagree
  refine ⟨fun c => Cert.Reference21Ideal.Read.val_main_v0 (F := Ideal) (m ((c : Thread nD τ).loc main_arg0)) (m ((c : Thread nD τ).loc main_arg1)), ?_, ?_⟩
  · exact (θ_run Cert.Kernel21Ideal.defs _ _).mono (fun r h c => ⟨(h c).1.trans (final m c), (h c).2⟩)
      (Cert.Kernel21Ideal.Value.run_blocks m g)
  · refine (θ_run Cert.Reference21Ideal.defs _ _).mono (fun r h c => ⟨?_, (h c).2⟩) (Cert.Reference21Ideal.Value.run (F := Ideal) m' g')
    rw [(h c).1, Cert.Reference21Ideal.Read.val_main_v0_eq, (hagree c).1, (hagree c).2]

end Cert.ConvProj

end
-- ==== Proof.DpleProj.lean ====
/-
  The gradient of the per-layer embedding's projection, shard by shard of its columns: the rows transposed times the
  cotangent, summed over four blocks of rows.
-/
module

public import proofs.«01_k».proof.Proof.Gen.Kernel22Ideal.Value
public import proofs.«01_k».proof.Proof.Gen.Reference22Ideal.Run
public import proofs.«01_k».proof.Proof.Gen.Reference22Ideal.Read
public import proofs.«01_k».proof.Defs
public import Idealize.ShloMosaic.Lib.Pipeline.ValueKit
public import Idealize.ShloMosaic.Lib.Pipeline.ReadBack
public import proofs.«01_k».proof.Proof.Runs

@[expose] public section

set_option maxRecDepth 16384

noncomputable section

namespace Cert.DpleProj

open Idealize.ShloMosaic Idealize.ShloMosaic.TcCoe Idealize.SL.Sem Cert.Kernel22Ideal Cert.Kernel22Ideal.Gen

variable (m : (ℓ : Loc nD τ sig) → Buf (Elt Ideal) ℓ)

/-- A point's contribution added to the sum so far, in the scratch. -/
theorem add_part (x0 : FVec Ideal S2048x256 .f32) (x1 : FVec Ideal S2048x256 .bf16) (a : FVec Ideal S256x256 .f32) (j : S256x256.Idx) :
    k0_pay3 (F := Ideal) x0 x1 a j = a j + k0_pay2 (F := Ideal) x0 x1 j := by
  pointwise [k0_pay3, k0_pay2, k0_pay1]

/-- The blocks that a grid point reads and writes. -/
theorem idx : ∀ t : Fin cfg0.N, win0_0.index t = ![t.val % 4, 0]
    ∧ win0_1.index t = ![t.val % 4, t.val / 4]
    ∧ win0_2.index t = ![t.val / 4, 0, 0] :=
  (by decide +kernel : ∀ t : Fin grid0.N, _)

/-- What a grid point contributes to its block of the result. -/
abbrev part (c : Dev nD) (t : Fin cfg0.N) : FVec Ideal S256x256 .f32 :=
  k0_pay2 (F := Ideal) (iblk m c 0 t) (iblk m c 1 t)

/-- What the scratch holds and the contribution at the last point of a run of four make up the sum of the run's contributions. -/
theorem sum_of_run (c : Dev nD) (t : Fin cfg0.N) (h3 : t.val % 4 = 3) (j : S256x256.Idx) :
    @HAdd.hAdd EReal EReal EReal _ ((outsAt0 m c (t.val - 1) (Cert.Runs.before_lt t.isLt)).2 j) (part m c t j)
      = ∑ s : Fin 4, (part m c ⟨4 * (t.val / 4) + s.val, Pipeline.run_point_lt_of_flush t h3 s⟩ j : EReal) := by
  refine Cert.Runs.last_eq_sum (fun n h => (outsAt0 m c n h).2) (part m c) (fun t h j => ?_) (fun t h h' j => ?_) t h3 j
  · rw [outsAt0_A m c t h (by omega) (by omega)]
    frame_out
  · rw [outsAt0_B m c t h (by omega) h']
    frame_out
    simp only [read_unread_whole]
    exact add_part _ _ _ _

/-- A contribution is a sum over the point's rows. -/
theorem part_at (x0 : FVec Ideal S2048x256 .f32) (x1 : FVec Ideal S2048x256 .bf16) (j : S256x256.Idx) :
    k0_pay2 (F := Ideal) x0 x1 j = ∑ k : Fin 2048, x0 (ix2 k (j 0)) * x1 (ix2 k (j 1)) := by pointwise [k0_pay2, k0_pay1]

/-- The reference's gradient at an index. -/
theorem ref_at (A : FVec Ideal S8192x256 .f32) (G : FVec Ideal S8192x2048 .f32) (j : S8x256x256.Idx) :
    Cert.Reference22Ideal.Read.val_main_v6 (F := Ideal) A G j
      = ∑ l : Fin 8192, A (ix2 l (j 1)) * G (ix2 l ⟨(j 0 : ℕ) * 256 + (j 2 : ℕ), by
          have h0 : (j 0 : ℕ) < 8 := (j 0).isLt; have h2 : (j 2 : ℕ) < 256 := (j 2).isLt; omega⟩) := by
  pointwise [Cert.Reference22Ideal.Read.val_main_v6, Cert.Reference22Ideal.Read.val_main_v5, Cert.Reference22Ideal.Read.val_main_v4, Cert.Reference22Ideal.Read.val_main_v3, Cert.Reference22Ideal.Read.val_main_v2]
  exact Finset.sum_congr rfl fun _ _ => mul_comm _ _

/-- What the last point of a run stores. -/
theorem last_part (x0 : FVec Ideal S2048x256 .f32) (x1 : FVec Ideal S2048x256 .bf16) (a : FVec Ideal S256x256 .f32) (r : Fin 256) (s : Fin 256) :
    k0_pay4 (F := Ideal) x0 x1 a (ix3 (n0 := 1) 0 r s) = a (ix2 r s) + k0_pay2 (F := Ideal) x0 x1 (ix2 r s) := by
  pointwise [k0_pay4, k0_pay2, k0_pay1]

/-- The result's block after the last point of a run is the sum over the run. -/
theorem last (c : Dev nD) (t : Fin cfg0.N) (h3 : t.val % 4 = 3) (r : Fin 256) (s : Fin 256) :
    (outsAt0 m c t.val t.isLt).1 (ix3 (n0 := 1) 0 r s) = ∑ p : Fin 4, (part m c ⟨4 * (t.val / 4) + p.val, Pipeline.run_point_lt_of_flush t h3 p⟩ (ix2 r s) : EReal) := by
  rw [outsAt0_C m c t (by omega) (by omega) h3]
  frame_out
  simp only [read_unread_whole]
  exact (last_part _ _ _ r s).trans (sum_of_run m c t h3 (ix2 r s))

/-- The gradient after the run. -/
theorem final (c : Dev nD) : (dats m 0 c).arrAt 2 (cfgs 0).N
    = Cert.Reference22Ideal.Read.val_main_v6 (F := Ideal) (m ((c : Thread nD τ).loc main_arg0)) (m ((c : Thread nD τ).loc main_arg1)) := by
  refine (dats m 0 c).arrAt_eq_of_covers 2 _ (by decide +kernel) fun t hf y => ?_
  have h3 := (flush0_2 t).mp hf
  obtain ⟨u, r, s, rfl⟩ : ∃ u r s, y = ix3 (n0 := 1) (n1 := 256) (n2 := 256) u r s := ⟨_, _, _, eq_ix3 y⟩
  obtain rfl : u = 0 := Subsingleton.elim _ _
  blk_simp
  rw [after0_2]
  refine (last m c t h3 r s).trans ?_
  rw [ref_at]
  simp only [part, part_at]
  refine Fin.sum_mul_add_congr fun s' k hl => ?_
  blk_point [iblk, V, idx t, idx ⟨_, Pipeline.run_point_lt_of_flush t h3 s'⟩]

attribute [local instance] Cert.Kernel22Ideal.Gen.facts Cert.Reference22Ideal.Gen.facts

/-- Every execution of the reference ends with its arguments unchanged and every semaphore at zero. -/
theorem reference_frame : Cert.quiescent_Reference22Ideal := fun m g _ =>
  (θ_run Cert.Reference22Ideal.defs _ _).mono (fun r h => ⟨fun c => (h c).2, sem_eq_zero_of_no_sems (by decide) r.2⟩)
    (Cert.Reference22Ideal.Value.run (F := Ideal) m g)

/-- The call leaves what the reference leaves: the gradient. -/
theorem value : Cert.algebraic_Kernel22Ideal_Reference22Ideal := by
  intro m g m' g' _ hagree
  refine ⟨fun c => Cert.Reference22Ideal.Read.val_main_v6 (F := Ideal) (m ((c : Thread nD τ).loc main_arg0)) (m ((c : Thread nD τ).loc main_arg1)), ?_, ?_⟩
  · exact (θ_run Cert.Kernel22Ideal.defs _ _).mono (fun r h c => ⟨(h c).1.trans (final m c), (h c).2⟩)
      (Cert.Kernel22Ideal.Value.run_blocks m g)
  · refine (θ_run Cert.Reference22Ideal.defs _ _).mono (fun r h c => ⟨?_, (h c).2⟩) (Cert.Reference22Ideal.Value.run (F := Ideal) m' g')
    rw [(h c).1, Cert.Reference22Ideal.Read.val_main_v6_eq, (hagree c).1, (hagree c).2]

end Cert.DpleProj

end
-- ==== Proof.PleProj.lean ====
/-
  The projection of the per-layer embedding, shard by shard of the weights' columns.
-/
module

public import proofs.«01_k».proof.Proof.Gen.Kernel23Ideal.Value
public import proofs.«01_k».proof.Proof.Gen.Reference23Ideal.Run
public import proofs.«01_k».proof.Proof.Gen.Reference23Ideal.Read
public import proofs.«01_k».proof.Defs
public import Idealize.ShloMosaic.Lib.Pipeline.ValueKit

@[expose] public section

set_option maxRecDepth 16384

noncomputable section

namespace Cert.PleProj

open Idealize.ShloMosaic Idealize.ShloMosaic.TcCoe Idealize.SL.Sem Cert.Kernel23Ideal Cert.Kernel23Ideal.Gen

variable (m : (ℓ : Loc nD τ sig) → Buf (Elt Ideal) ℓ)

/-- The blocks that a grid point reads and writes. -/
theorem idx : ∀ t : Fin cfg0.N, win0_0.index t = ![t.val / 8, 0]
    ∧ win0_1.index t = ![t.val % 8, 0, 0]
    ∧ win0_2.index t = ![t.val / 8, t.val % 8] :=
  (by decide +kernel : ∀ t : Fin grid0.N, _)

/-- The product after the run: at every grid point the block that is stored is the reference's. -/
theorem final (c : Dev nD) : (dats m 0 c).arrAt 2 (cfgs 0).N
    = Cert.Reference23Ideal.Read.val_main_v0 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  pointwise [k0_pay1, Cert.Reference23Ideal.Read.val_main_v0]
  blk_point [iblk, V, idx t]

attribute [local instance] Cert.Kernel23Ideal.Gen.facts Cert.Reference23Ideal.Gen.facts

/-- Every execution of the reference ends with its arguments unchanged and every semaphore at zero. -/
theorem reference_frame : Cert.quiescent_Reference23Ideal := fun m g _ =>
  (θ_run Cert.Reference23Ideal.defs _ _).mono (fun r h => ⟨fun c => (h c).2, sem_eq_zero_of_no_sems (by decide) r.2⟩)
    (Cert.Reference23Ideal.Value.run (F := Ideal) m g)

/-- The call leaves what the reference leaves: the product. -/
theorem value : Cert.algebraic_Kernel23Ideal_Reference23Ideal := by
  intro m g m' g' _ hagree
  refine ⟨fun c => Cert.Reference23Ideal.Read.val_main_v0 (F := Ideal) (m ((c : Thread nD τ).loc main_arg0)) (m ((c : Thread nD τ).loc main_arg1)), ?_, ?_⟩
  · exact (θ_run Cert.Kernel23Ideal.defs _ _).mono (fun r h c => ⟨(h c).1.trans (final m c), (h c).2⟩)
      (Cert.Kernel23Ideal.Value.run_blocks m g)
  · refine (θ_run Cert.Reference23Ideal.defs _ _).mono (fun r h c => ⟨?_, (h c).2⟩) (Cert.Reference23Ideal.Value.run (F := Ideal) m' g')
    rw [(h c).1, Cert.Reference23Ideal.Read.val_main_v0_eq, (hagree c).1, (hagree c).2]

end Cert.PleProj

end
-- ==== Proof.OnlineSoftmax.lean ====
/-
  Softmax taken block by block, over the real numbers: sums of base-two exponentials shifted by a running number that
  changes from block to block, and what their quotient and their logarithm come to at the end of a row.
-/
module

public import proofs.«01_k».proof.Proof.Spec
public import Idealize.ShloMosaic.Lib.Pipeline.ValueKit

@[expose] public section

noncomputable section

namespace Cert.Attention

open scoped BigOperators

/-- The key row that is the `i`-th of block `p`. -/
def keyAt (p : ℕ) (i : Fin 1024) : Fin 8192 := ⟨(p * 1024 + i.val) % 8192, Nat.mod_lt _ (by norm_num)⟩

/-- The weighted sum over the first `n` blocks of a row's exponentials, shifted by `μ`. -/
def partialSum (σ w : Fin 8192 → ℝ) (n : ℕ) (μ : ℝ) : ℝ :=
  ∑ p ∈ Finset.range n, ∑ i, w (keyAt p i) * (2 : ℝ) ^ (σ (keyAt p i) - μ)

/-- One block more, the shift changing from `μ` to `ν`. -/
theorem partialSum_succ (σ w : Fin 8192 → ℝ) (n : ℕ) (μ ν : ℝ) :
    (2 : ℝ) ^ (μ - ν) * partialSum σ w n μ + ∑ i, w (keyAt n i) * (2 : ℝ) ^ (σ (keyAt n i) - ν) = partialSum σ w (n + 1) ν := by
  rw [partialSum, partialSum, Finset.sum_range_succ, Finset.mul_sum]
  refine congrArg (· + _) (Finset.sum_congr rfl fun p _ => ?_)
  rw [Finset.mul_sum]
  refine Finset.sum_congr rfl fun i _ => ?_
  rw [mul_left_comm, ← Real.rpow_add (by norm_num)]
  ring_nf

/-- All eight blocks are the whole row. -/
theorem partialSum_eight (σ w : Fin 8192 → ℝ) (μ : ℝ) :
    partialSum σ w 8 μ = ∑ s, w s * (2 : ℝ) ^ (σ s - μ) := by
  rw [partialSum, Finset.sum_range]
  refine Fin.sum_mul_add_congr fun p i hl => ?_
  have e : keyAt p.val i = ⟨p.val * 1024 + i.val, hl⟩ := Fin.ext (Nat.mod_eq_of_lt hl)
  rw [e]

variable (σ : ℝ) (q k v : Fin 8192 → Fin 128 → ℝ)

/-- A row's score in base two, the queries carrying `σ / log 2`. -/
def score2 (t s : Fin 8192) : ℝ := ∑ d, k s d * (q t d * (σ / Real.log 2))

theorem two_rpow_score (t s : Fin 8192) (μ : ℝ) :
    (2 : ℝ) ^ (score2 σ q k t s - μ) = Real.exp (score σ q k t s) * (2 : ℝ) ^ (-μ) := by
  have h2 : Real.log 2 ≠ 0 := (Real.log_pos (by norm_num)).ne'
  have hs : score2 σ q k t s = score σ q k t s / Real.log 2 := by
    rw [score2, score, Finset.sum_mul, Finset.sum_div]
    exact Finset.sum_congr rfl fun d _ => by ring
  rw [hs, sub_eq_add_neg, Real.rpow_add (by norm_num), Real.rpow_def_of_pos (by norm_num : (0 : ℝ) < 2),
    show Real.log 2 * (score σ q k t s / Real.log 2) = score σ q k t s by field_simp]

/-- The sum of a row's shifted base-two exponentials. -/
theorem sum_two_rpow (t : Fin 8192) (μ : ℝ) :
    ∑ s, 1 * (2 : ℝ) ^ (score2 σ q k t s - μ) = total σ q k t * (2 : ℝ) ^ (-μ) := by
  rw [total, Finset.sum_mul]
  exact Finset.sum_congr rfl fun s _ => by rw [one_mul, two_rpow_score]

theorem sum_two_rpow_pos (t : Fin 8192) (μ : ℝ) : 0 < ∑ s, 1 * (2 : ℝ) ^ (score2 σ q k t s - μ) := by
  rw [sum_two_rpow]
  exact mul_pos (total_pos σ q k t) (Real.rpow_pos_of_pos (by norm_num) _)

/-- The quotient of the weighted sum by the plain one is the attention's output, whatever the shift. -/
theorem quotient_two_rpow (t : Fin 8192) (d : Fin 128) (μ : ℝ) :
    (∑ s, v s d * (2 : ℝ) ^ (score2 σ q k t s - μ)) / (∑ s, 1 * (2 : ℝ) ^ (score2 σ q k t s - μ)) = ∑ s, v s d * prob σ q k t s := by
  rw [sum_two_rpow, Finset.sum_div]
  refine Finset.sum_congr rfl fun s _ => ?_
  rw [two_rpow_score, prob]
  have := (total_pos σ q k t).ne'
  have := (Real.rpow_pos_of_pos (by norm_num : (0 : ℝ) < 2) (-μ)).ne'
  field_simp

/-- The shift and the logarithm of the plain sum make up the row's log-sum, whatever the shifts of the two. -/
theorem log_two_rpow (t : Fin 8192) (μ m : ℝ) :
    μ + Real.log (∑ s, 1 * (2 : ℝ) ^ (score2 σ q k t s - μ)) * (Real.log 2)⁻¹
      = (m + Real.log (∑ s, Real.exp (score σ q k t s - m))) / Real.log 2 := by
  have h2 : Real.log 2 ≠ 0 := (Real.log_pos (by norm_num)).ne'
  have ht := (total_pos σ q k t).ne'
  rw [sum_two_rpow, sum_shift, Real.log_mul ht (Real.rpow_pos_of_pos (by norm_num) _).ne', Real.log_div ht (Real.exp_pos m).ne',
    Real.log_exp, Real.log_rpow (by norm_num)]
  field_simp
  ring

end Cert.Attention

end
-- ==== Proof.FlashStep.lean ====
/-
  What one grid point of the attention's forward call computes, element by element, when the blocks it reads hold real
  numbers.
-/
module

public import proofs.«01_k».proof.Proof.Gen.Kernel24Ideal.Value
public import proofs.«01_k».proof.Proof.RefValue
public import proofs.«01_k».proof.Proof.OnlineSoftmax
public import Idealize.ShloMosaic.Lib.Pipeline.ValueKit
public import Idealize.ShloMosaic.Lib.Pipeline.ReadBack

@[expose] public section

set_option maxRecDepth 16384

noncomputable section

namespace Cert.FlashFwd

open Idealize.ShloMosaic Idealize.ShloMosaic.TcCoe Idealize.SL.Sem Cert.Kernel24Ideal Cert.Kernel24Ideal.Gen Cert.Attention

theorem pay5_at (y1 : FVec Ideal S1024x128 .bf16) (y0 : FVec Ideal S2048x128 .bf16) (i : Fin 1024) (r : Fin 2048) :
    k0_pay5 (F := Ideal) y1 y0 (ix2 i r) = ∑ d : Fin 128, y1 (ix2 i d) * y0 (ix2 r d) := by
  pointwise [k0_pay5]

/-- A real number and finitely many real numbers have a real number as their greatest. -/
theorem max_fold_real {ι : Type} (S : Finset ι) (f : ι → EReal) (hf : ∀ i, ∃ r : ℝ, f i = r) (b : ℝ) :
    ∃ r : ℝ, max (b : EReal) (S.fold max ⊥ f) = r := by
  classical
  induction S using Finset.induction_on with
  | empty => exact ⟨b, by rw [Finset.fold_empty, max_bot_right]⟩
  | insert i S hi ih =>
    obtain ⟨x, hx⟩ := ih
    obtain ⟨y, hy⟩ := hf i
    exact ⟨max y x, by rw [Finset.fold_insert hi, max_left_comm, hx, hy]; exact (EReal.coe_strictMono.monotone.map_max).symm⟩

theorem max_row_at (x : FVec Ideal S1x2048 .f32) (y : FVec Ideal S2048 .f32) (r : Fin 2048) :
    maximumf x (shapeCast S1x2048 y shapeCasts_S2048_S1x2048) (ix2 0 r) = max (x (ix2 0 r)) (y (ix1 r)) := by
  pointwise

theorem col_max_real (y : FVec Ideal S1024x2048 .f32) (hy : ∀ i, ∃ s : ℝ, y i = s) (hφ : FKind.Formats .f32)
    (hacc : (0xFF800000#32 : BitVec 32) = FKind.maximumf.neutral .f32 hφ) (j : S2048.Idx) (μ : ℝ) :
    ∃ ν : ℝ, max (μ : EReal) (multiReduction (F := Ideal) .maximumf [0] S2048 y 0xFF800000#32 reduces_S1024x2048_S2048 hφ hacc j) = ν := by
  rw [Ideal.multiReduction_maximumf_single]
  exact (congrArg (fun b : EReal => ∃ ν : ℝ, max (μ : EReal) (Finset.univ.fold max b _) = ν) ofBits_neg_inf).mpr
    (max_fold_real _ _ (fun k => hy _) μ)

/-- The new shift of a row: some real number. -/
theorem pay6_real (y1 : FVec Ideal S1024x128 .bf16) (y0 : FVec Ideal S2048x128 .bf16) (x : FVec Ideal S1x2048 .f32)
    (hs : ∀ i, ∃ s : ℝ, k0_pay5 (F := Ideal) y1 y0 i = s) (r : Fin 2048) (μ : ℝ) (hx : x (ix2 0 r) = μ) :
    ∃ ν : ℝ, k0_pay6 (F := Ideal) y1 y0 x (ix2 0 r) = ν := by
  obtain ⟨ν, hν⟩ := col_max_real (k0_pay5 (F := Ideal) y1 y0) hs (.inl rfl) rfl (ix1 r) μ
  refine ⟨ν, (max_row_at x _ r).trans ?_⟩
  rw [hx]
  exact hν

theorem pay7_at (y1 : FVec Ideal S1024x128 .bf16) (y0 : FVec Ideal S2048x128 .bf16) (x : FVec Ideal S1x2048 .f32)
    (a : FVec Ideal S144x2048 .f32) (y2 : FVec Ideal S144x1024 .bf16) (e : Fin 144) (r : Fin 2048) :
    k0_pay7 (F := Ideal) y1 y0 x a y2 (ix2 e r)
      = Ideal.exp2 (x (ix2 0 r) - k0_pay6 (F := Ideal) y1 y0 x (ix2 0 r)) * a (ix2 e r)
        + ∑ i : Fin 1024, y2 (ix2 e i) * Ideal.exp2 (k0_pay5 (F := Ideal) y1 y0 (ix2 i r) - k0_pay6 (F := Ideal) y1 y0 x (ix2 0 r)) := by
  pointwise [k0_pay7]
  rfl

theorem pay1_at (l : FVec Ideal S1x2048 .f32) (a : FVec Ideal S128x2048 .f32) (r : Fin 2048) (d : Fin 128) :
    k0_pay1 (F := Ideal) l a (ix2 r d) = Ideal.div (a (ix2 d r)) (l (ix2 0 r)) := by
  pointwise [k0_pay1]

theorem pay2_at (l x : FVec Ideal S1x2048 .f32) (i : Fin 8) (r : Fin 2048) :
    k0_pay2 (F := Ideal) l x (ix3 0 i r) = x (ix2 0 r) + Ideal.log (l (ix2 0 r)) * ((Real.log 2)⁻¹ : ℝ) := by
  pointwise [k0_pay2]
  exact congrArg (fun v : EReal => x (ix2 0 r) + Ideal.log (l (ix2 0 r)) * v) (IdealRules.named_const.ideal_named_scalar _ _ _ _ rfl)

theorem pay3_at (r : Fin 2048) : k0_pay3 (F := Ideal) (ix2 0 r) = Ideal.ofBits .f32 0xF149F2CA#32 := by
  pointwise [k0_pay3]

theorem pay4_at (e : Fin 144) (r : Fin 2048) : k0_pay4 (F := Ideal) (ix2 e r) = 0 := by
  pointwise [k0_pay4]

/-- The blocks of a grid point hold these real numbers. -/
structure RealBlocks (y0 : FVec Ideal S2048x128 .bf16) (y1 : FVec Ideal S1024x128 .bf16) (y2 : FVec Ideal S144x1024 .bf16)
    (a : Fin 2048 → Fin 128 → ℝ) (b : Fin 1024 → Fin 128 → ℝ) (w : Fin 144 → Fin 1024 → ℝ) : Prop where
  q : ∀ r d, y0 (ix2 r d) = (a r d : EReal)
  k : ∀ i d, y1 (ix2 i d) = (b i d : EReal)
  v : ∀ e i, y2 (ix2 e i) = (w e i : EReal)

section
variable {y0 : FVec Ideal S2048x128 .bf16} {y1 : FVec Ideal S1024x128 .bf16} {y2 : FVec Ideal S144x1024 .bf16}
  {a : Fin 2048 → Fin 128 → ℝ} {b : Fin 1024 → Fin 128 → ℝ} {w : Fin 144 → Fin 1024 → ℝ} (B : RealBlocks y0 y1 y2 a b w)
include B

theorem score_at (i : Fin 1024) (r : Fin 2048) :
    k0_pay5 (F := Ideal) y1 y0 (ix2 i r) = ((∑ d, b i d * a r d : ℝ) : EReal) := by
  rw [pay5_at, ← coe_sum]
  exact Finset.sum_congr rfl fun d _ => by rw [B.k, B.q, EReal.coe_mul]

/-- A grid point's step: the shift becomes some real number, and the sums are scaled to it and get the block's own added. -/
theorem step (x : FVec Ideal S1x2048 .f32) (A : FVec Ideal S144x2048 .f32) (μ : Fin 2048 → ℝ) (α : Fin 144 → Fin 2048 → ℝ)
    (hx : ∀ r, x (ix2 0 r) = (μ r : EReal)) (hA : ∀ e r, A (ix2 e r) = (α e r : EReal)) :
    ∃ ν : Fin 2048 → ℝ, (∀ r, k0_pay6 (F := Ideal) y1 y0 x (ix2 0 r) = (ν r : EReal)) ∧
      ∀ e r, k0_pay7 (F := Ideal) y1 y0 x A y2 (ix2 e r)
        = (((2 : ℝ) ^ (μ r - ν r) * α e r + ∑ i, w e i * (2 : ℝ) ^ (∑ d, b i d * a r d - ν r) : ℝ) : EReal) := by
  have h6 : ∀ r, ∃ ν : ℝ, k0_pay6 (F := Ideal) y1 y0 x (ix2 0 r) = ν := fun r =>
    pay6_real y1 y0 x (fun i => ⟨_, (congrArg _ (eq_ix2 i)).trans (score_at B (i 0) (i 1))⟩) r (μ r) (hx r)
  choose ν hν using h6
  refine ⟨ν, hν, fun e r => ?_⟩
  rw [pay7_at, hν, hx, hA, EReal.coe_add, EReal.coe_mul, ← coe_sum, ← EReal.coe_sub, Ideal.exp2_coe]
  refine congrArg (HAdd.hAdd (α := EReal) (β := EReal) (γ := EReal) _) (Finset.sum_congr rfl fun i _ => ?_)
  rw [score_at B, B.v, ← EReal.coe_sub, Ideal.exp2_coe, EReal.coe_mul]
  rfl

end

end Cert.FlashFwd

end
-- ==== Proof.FlashFwd.lean ====
/-
  The attention's forward call: over a query block's eight grid points the key blocks' exponentials are added up under a
  running shift, and the last point leaves the attention's output and the rows' log-sums in base two.
-/
module

public import proofs.«01_k».proof.Proof.FlashStep
public import proofs.«01_k».proof.Proof.Gen.Reference24Ideal.Run
public import proofs.«01_k».proof.Proof.Gen.Reference24Ideal.Read
public import proofs.«01_k».proof.Proof.Finite
public import proofs.«01_k».proof.Proof.Blocks
public import proofs.«01_k».proof.Pre_finite24
public import proofs.«01_k».proof.Proof.Gen.Pre_finite24
public import proofs.«01_k».proof.Defs

@[expose] public section

set_option maxRecDepth 16384

noncomputable section

namespace Cert.FlashFwd

open Idealize.ShloMosaic Idealize.ShloMosaic.TcCoe Idealize.SL.Sem Cert.Kernel24Ideal Cert.Kernel24Ideal.Gen
open Cert.Attention (RealArgs heads kvHeads scale keyAt partialSum partialSum_succ partialSum_eight score2 prob)

/-- The blocks that a grid point reads and writes: query block `t / 8 % 4`, key block `t % 8`, head `t / 32`. -/
theorem idx : ∀ t : Fin cfg0.N, win0_0.index t = ![t.val / 8 % 4, t.val / 32] ∧ win0_1.index t = ![t.val % 8, t.val / 128]
    ∧ win0_2.index t = ![t.val / 128, t.val % 8] ∧ win0_3.index t = ![t.val / 8 % 4, t.val / 32]
    ∧ win0_4.index t = ![t.val / 32, 0, t.val / 8 % 4] :=
  (by decide +kernel : ∀ t : Fin grid0.N, _)

theorem lt512 (t : Fin cfg0.N) : t.val < 512 := t.isLt

/-- A point's head. -/
def hd (t : Fin cfg0.N) : Fin 16 := ⟨t.val / 32, by have := lt512 t; omega⟩
/-- A row of a point's query block. -/
def qrow (t : Fin cfg0.N) (r : Fin 2048) : Fin 8192 := ⟨2048 * (t.val / 8 % 4) + r.val, by omega⟩

/-- What the block of values and ones holds in row `e` for key row `s`. -/
def vals (v : Fin 8192 → Fin 128 → ℝ) (e : Fin 144) (s : Fin 8192) : ℝ := if h : e.val < 128 then v s ⟨e.val, h⟩ else 1

/-- The block of values and ones, read where it holds values and where it holds ones. -/
theorem vals_lt (v : Fin 8192 → Fin 128 → ℝ) (d : Fin 128) : vals v ⟨d.val, by omega⟩ = fun s => v s d :=
  funext fun _ => dif_pos d.isLt
theorem vals_one (v : Fin 8192 → Fin 128 → ℝ) : vals v 128 = fun _ => 1 := funext fun _ => dif_neg (by decide)

section Entry
variable (m : (ℓ : Loc nD τ sig) → Buf (Elt Ideal) ℓ) (c : Dev nD)

abbrev argQ : S8192x2048.Idx → EReal := m ((c.tc : Thread nD τ).loc main_arg0)
abbrev argK : S8192x512.Idx → EReal := m ((c.tc : Thread nD τ).loc main_arg1)
abbrev argZ : S8192x9216.Idx → EReal := m ((c.tc : Thread nD τ).loc main_arg2)

theorem V_v4 : V m c main_v4 = fun i => argQ m c i
    * Ideal.div (Ideal.ofBits .f32 0x3DB504F3#32) (Ideal.log (Ideal.ofBits .f32 0x40000000#32)) := by
  entry_read
  rfl

theorem V_v12 : V m c main_v12 = argK m c := by
  entry_read
  rfl

/-- The values' columns, transposed, each head's followed by sixteen rows of ones. -/
def valsOnes (Z : FVec Ideal S8192x9216 .f32) : FVec Ideal S576x8192 .bf16 :=
  shapeCast S576x8192 (concatenate S4x144x8192 1 [⟨S4x128x8192, shapeCast S4x128x8192 (truncf .bf16
      (transpose S512x8192 [1, 0] (extractStridedSlice S8192x512 ![0, 4608] Z slices_S8192x9216_S8192x512_0_4608) transposes_S8192x512_S512x8192_1_0)
      bitsLt_bf16_f32) shapeCasts_S512x8192_S4x128x8192⟩,
    ⟨S4x16x8192, broadcastInDim S4x16x8192 ![] bcast_S_S4x16x8192 (constant (F := Ideal) S_ .bf16 0x3F80#16)⟩]
    concatenates_S4x128x8192_S4x16x8192_S4x144x8192_d1) shapeCasts_S4x144x8192_S576x8192

theorem V_v11 : V m c main_v11 = valsOnes (argZ m c) := by
  entry_read
  rfl

theorem valsOnes_at (Z : FVec Ideal S8192x9216 .f32) (e : Fin 576) (s : Fin 8192) :
    valsOnes Z (ix2 e s) = if h : e.val % 144 < 128 then Z (ix2 s ⟨4608 + (e.val / 144 * 128 + e.val % 144), by omega⟩) else 1 := by
  pointwise [valsOnes]

end Entry

section
variable (m : (ℓ : Loc nD τ sig) → Buf (Elt Ideal) ℓ) (c : Dev nD) (t : Fin cfg0.N)

theorem b0 (y : S2048x128.Idx) (i : S8192x2048.Idx) (h0 : (i 0).val = 2048 * (t.val / 8 % 4) + (y 0).val) (h1 : (i 1).val = 128 * (t.val / 32) + (y 1).val) :
    iblk m c 0 t y = V m c main_v4 i := by blk_ext [iblk, idx t]

theorem b1 (y : S1024x128.Idx) (i : S8192x512.Idx) (h0 : (i 0).val = 1024 * (t.val % 8) + (y 0).val) (h1 : (i 1).val = 128 * (t.val / 128) + (y 1).val) :
    iblk m c 1 t y = V m c main_v12 i := by blk_ext [iblk, idx t]

theorem b2 (y : S144x1024.Idx) (i : S576x8192.Idx) (h0 : (i 0).val = 144 * (t.val / 128) + (y 0).val) (h1 : (i 1).val = 1024 * (t.val % 8) + (y 1).val) :
    iblk m c 2 t y = V m c main_v11 i := by blk_ext [iblk, idx t]

/-- The key row that a grid point's key block holds at `i`. -/
abbrev krow (i : Fin 1024) : Fin 8192 := keyAt (t.val % 8) i

theorem krow_val (i : Fin 1024) : (krow t i).val = 1024 * (t.val % 8) + i.val := by
  show (t.val % 8 * 1024 + i.val) % 8192 = _
  omega

theorem rect_row (p : FVec Ideal S144x2048 .f32) (r : Fin 2048) :
    (View.whole cc0_scratch1).readCov [(⟨Rect.unit (s := S144x2048) ![0, 0] S144x2048.size inb_S144x2048_S144x2048_0_0, p⟩ : View.Piece (Elt Ideal) S144x2048 (.f32))]
      (Rect.unit (s := S144x2048) ![128, 0] S1x2048.size inb_S144x2048_S1x2048_128_0).toLoadRect (ix2 (n0 := 1) (n1 := 2048) 0 r) = p (ix2 128 r) := by
  have e := congrFun (View.canon_cons_unit_lit' (Val := Elt Ideal) (S := S144x2048) (e := .f32) inb_S144x2048_S144x2048_0_0 p [] (by decide))
  refine (congrFun (View.readCov_eq_canon' _ _ _) _).trans ((e _).trans ?_)
  exact congrArg p (funext fun a => Fin.ext (match a with | ⟨0, _⟩ => rfl | ⟨1, _⟩ => by show 0 + 1 * r.val = r.val; omega))

theorem rect_rows (p : FVec Ideal S144x2048 .f32) (d : Fin 128) (r : Fin 2048) :
    (View.whole cc0_scratch1).readCov [(⟨Rect.unit (s := S144x2048) ![0, 0] S144x2048.size inb_S144x2048_S144x2048_0_0, p⟩ : View.Piece (Elt Ideal) S144x2048 (.f32))]
      (Rect.unit (s := S144x2048) ![0, 0] S128x2048.size inb_S144x2048_S128x2048_0_0).toLoadRect (ix2 (n0 := 128) (n1 := 2048) d r) = p (ix2 ⟨d.val, by omega⟩ r) := by
  have e := congrFun (View.canon_cons_unit_lit' (Val := Elt Ideal) (S := S144x2048) (e := .f32) inb_S144x2048_S144x2048_0_0 p [] (by decide))
  refine (congrFun (View.readCov_eq_canon' _ _ _) _).trans ((e _).trans ?_)
  exact congrArg p (funext fun a => Fin.ext (match a with
    | ⟨0, _⟩ => by show 0 + 1 * d.val = d.val; omega
    | ⟨1, _⟩ => by show 0 + 1 * r.val = r.val; omega))

/-- The running shift's first value. -/
theorem start_real : ∃ b : ℝ, Ideal.ofBits .f32 0xF149F2CA#32 = (b : EReal) := by
  refine ⟨-(13234890 * 2 ^ 76), ?_⟩
  simp [Ideal.ofBits, Ideal.ieee]

end

section Steps
variable (m : (ℓ : Loc nD τ sig) → Buf (Elt Ideal) ℓ) (c : Dev nD) {x0 : Fin 8192 → Fin 2048 → ℝ} {x1 x2 : Fin 8192 → Fin 512 → ℝ}
  (R : RealArgs (argQ m c) (argK m c) (argZ m c) (argQ m c) x0 x1 x2 x0)
include R

/-- The three blocks of a grid point hold real numbers. -/
theorem blocks (t : Fin cfg0.N) : RealBlocks (iblk m c 0 t) (iblk m c 1 t) (iblk m c 2 t)
    (fun r d => heads x0 (hd t) (qrow t r) d * (scale / Real.log 2)) (fun i d => kvHeads x1 (hd t) (krow t i) d)
    (fun e i => vals (kvHeads x2 (hd t)) e (krow t i)) := by
  have ht := lt512 t
  refine ⟨fun r d => ?_, fun i d => ?_, fun e i => ?_⟩
  · rw [b0 m c t (ix2 r d) (ix2 (qrow t r) ⟨128 * (t.val / 32) + d.val, by omega⟩) rfl rfl, V_v4]
    show argQ m c _ * Ideal.div _ (Ideal.log _) = _
    rw [R.q, Cert.Attention.ofBits_scale, Cert.Attention.ofBits_two, Cert.Attention.log_real 2 (by norm_num),
      Cert.Attention.div_real _ _ Cert.Attention.log_two_ne, EReal.coe_mul]
    rfl
  · rw [b1 m c t (ix2 i d) (ix2 (krow t i) ⟨128 * (t.val / 128) + d.val, by omega⟩) (krow_val t i) rfl, V_v12, R.k]
    refine congrArg (fun j => (x1 (krow t i) j : EReal)) (Fin.ext ?_)
    show 128 * (t.val / 128) + d.val = 128 * (t.val / 32 / 4) + d.val
    omega
  · rw [b2 m c t (ix2 e i) (ix2 ⟨144 * (t.val / 128) + e.val, by omega⟩ (krow t i)) rfl (krow_val t i), V_v11, valsOnes_at, vals]
    have he : (144 * (t.val / 128) + e.val) % 144 = e.val := by omega
    have hq : (144 * (t.val / 128) + e.val) / 144 = t.val / 128 := by omega
    by_cases h : e.val < 128
    · rw [dif_pos h, dif_pos (by show (144 * (t.val / 128) + e.val) % 144 < 128; omega)]
      refine R.v _ ⟨128 * (t.val / 32 / 4) + e.val, by omega⟩ ?_
      show 4608 + ((144 * (t.val / 128) + e.val) / 144 * 128 + (144 * (t.val / 128) + e.val) % 144) = 4608 + (128 * (t.val / 32 / 4) + e.val)
      omega
    · rw [dif_neg h, dif_neg (by show ¬(144 * (t.val / 128) + e.val) % 144 < 128; omega)]
      rfl

/-- One grid point: from the sums over the key blocks before, under some shifts, to the sums over this one too. -/
theorem next (t : Fin cfg0.N) (x : FVec Ideal S1x2048 .f32) (A : FVec Ideal S144x2048 .f32) (μ : Fin 2048 → ℝ)
    (hx : ∀ r, x (ix2 0 r) = (μ r : EReal))
    (hA : ∀ e r, A (ix2 e r) = (partialSum (score2 scale (heads x0 (hd t)) (kvHeads x1 (hd t)) (qrow t r))
      (vals (kvHeads x2 (hd t)) e) (t.val % 8) (μ r) : EReal)) :
    ∃ ν : Fin 2048 → ℝ, (∀ r, k0_pay8 (F := Ideal) (iblk m c 1 t) (iblk m c 0 t) x (ix2 0 r) = (ν r : EReal)) ∧
      ∀ e r, k0_pay7 (F := Ideal) (iblk m c 1 t) (iblk m c 0 t) x A (iblk m c 2 t) (ix2 e r)
        = (partialSum (score2 scale (heads x0 (hd t)) (kvHeads x1 (hd t)) (qrow t r))
          (vals (kvHeads x2 (hd t)) e) (t.val % 8 + 1) (ν r) : EReal) := by
  obtain ⟨ν, h6, h7⟩ := step (blocks m c R t) x A μ _ hx hA
  refine ⟨ν, fun r => ?_, fun e r => ?_⟩
  · rw [k0_pay8, shapeCast_self]
    exact h6 r
  · rw [h7, ← partialSum_succ _ _ _ (μ r)]
    rfl

/-- What a grid point leaves in the two scratch buffers: real shifts, and the sums under them over the key blocks so far. -/
def Holds (x0 : Fin 8192 → Fin 2048 → ℝ) (x1 x2 : Fin 8192 → Fin 512 → ℝ) (t : Fin cfg0.N)
    (x : FVec Ideal S1x2048 .f32) (A : FVec Ideal S144x2048 .f32) : Prop :=
  ∃ ν : Fin 2048 → ℝ, (∀ r, x (ix2 0 r) = (ν r : EReal)) ∧
    ∀ e r, A (ix2 e r) = (partialSum (score2 scale (heads x0 (hd t)) (kvHeads x1 (hd t)) (qrow t r))
      (vals (kvHeads x2 (hd t)) e) (t.val % 8 + 1) (ν r) : EReal)

/-- A query block's first point, from the buffers' start. -/
theorem first (t : Fin cfg0.N) (h : t.val % 8 = 0) :
    Holds x0 x1 x2 t (k0_pay8 (F := Ideal) (iblk m c 1 t) (iblk m c 0 t) (k0_pay3 (F := Ideal)))
      (k0_pay7 (F := Ideal) (iblk m c 1 t) (iblk m c 0 t) (k0_pay3 (F := Ideal)) (k0_pay4 (F := Ideal)) (iblk m c 2 t)) := by
  obtain ⟨b, hb⟩ := start_real
  refine next m c R t _ _ (fun _ => b) (fun r => (pay3_at r).trans hb) fun e r => ?_
  rw [pay4_at, h, partialSum, Finset.sum_range_zero]
  rfl

/-- A later point, from what the point before left. -/
theorem later (s t : Fin cfg0.N) (hs : s.val + 1 = t.val) (h : ¬t.val % 8 = 0) (x : FVec Ideal S1x2048 .f32) (A : FVec Ideal S144x2048 .f32)
    (H : Holds x0 x1 x2 s x A) : Holds x0 x1 x2 t (k0_pay8 (F := Ideal) (iblk m c 1 t) (iblk m c 0 t) x)
      (k0_pay7 (F := Ideal) (iblk m c 1 t) (iblk m c 0 t) x A (iblk m c 2 t)) := by
  obtain ⟨μ, hx, hA⟩ := H
  have eh : hd s = hd t := Fin.ext (by show s.val / 32 = t.val / 32; omega)
  have eq : ∀ r, qrow s r = qrow t r := fun r => Fin.ext (by
    show 2048 * (s.val / 8 % 4) + r.val = 2048 * (t.val / 8 % 4) + r.val; omega)
  have en : s.val % 8 + 1 = t.val % 8 := by omega
  refine next m c R t x A μ hx fun e r => ?_
  rw [hA, eh, eq, en]

/-- Every grid point leaves the sums so far in the scratch buffers. -/
theorem holds : ∀ (n : ℕ) (hn : n < cfg0.N), Holds x0 x1 x2 ⟨n, hn⟩ (outsAt0 m c n hn).2.2.1 (outsAt0 m c n hn).2.2.2 := by
  intro n
  induction n with
  | zero =>
    intro hn
    have e : ∀ h : 0 < cfg0.N, (outsAt0 m c 0 h) = (outsAt0 m c (⟨0, hn⟩ : Fin cfg0.N).val (⟨0, hn⟩ : Fin cfg0.N).isLt) := fun _ => rfl
    rw [e, outsAt0_A m c ⟨0, hn⟩ rfl (Nat.zero_ne_add_one 6)]
    frame_out
    exact first m c R ⟨0, hn⟩ rfl
  | succ n ih =>
    intro hn
    have H := ih (by omega)
    have e : ∀ h : n + 1 < cfg0.N, (outsAt0 m c (n + 1) h) = (outsAt0 m c (⟨n + 1, hn⟩ : Fin cfg0.N).val (⟨n + 1, hn⟩ : Fin cfg0.N).isLt) := fun _ => rfl
    by_cases h0 : (n + 1) % 8 = 0
    · rw [e, outsAt0_A m c ⟨n + 1, hn⟩ h0 (by show ¬(n + 1) % 8 = 7; omega)]
      frame_out
      exact first m c R ⟨n + 1, hn⟩ h0
    · by_cases h1 : (n + 1) % 8 = 7
      · rw [e, outsAt0_C m c ⟨n + 1, hn⟩ h0 h1]
        frame_out
        simp only [read_unread_whole]
        exact later m c R ⟨n, by omega⟩ ⟨n + 1, hn⟩ rfl h0 _ _ H
      · rw [e, outsAt0_B m c ⟨n + 1, hn⟩ h0 h1]
        frame_out
        simp only [read_unread_whole]
        exact later m c R ⟨n, by omega⟩ ⟨n + 1, hn⟩ rfl h0 _ _ H

/-- What a query block's last point stores: the attention's output, and the rows' log-sums. -/
theorem stored (t : Fin cfg0.N) (h1 : t.val % 8 = 7) :
    (∀ r d, (outsAt0 m c t.val t.isLt).1 (ix2 r d) = ((∑ s, kvHeads x2 (hd t) s d
      * prob scale (heads x0 (hd t)) (kvHeads x1 (hd t)) (qrow t r) s : ℝ) : EReal))
    ∧ ∀ u r, (outsAt0 m c t.val t.isLt).2.1 (ix3 0 u r) = (Cert.Attention.lseR R (hd t) (qrow t r) : EReal) := by
  obtain ⟨ν, h8, h7⟩ := holds m c R t.val t.isLt
  have en : t.val % 8 + 1 = 8 := by omega
  simp only [en, partialSum_eight] at h7
  have hl : ∀ r, _ := fun r => (h7 128 r).trans (congrArg (fun w : Fin 8192 → ℝ => ((∑ s, w s
    * (2 : ℝ) ^ (score2 scale (heads x0 (hd t)) (kvHeads x1 (hd t)) (qrow t r) s - ν r) : ℝ) : EReal)) (vals_one _))
  have hv : ∀ r d, _ := fun r (d : Fin 128) => (h7 ⟨d.val, by omega⟩ r).trans (congrArg (fun w : Fin 8192 → ℝ => ((∑ s, w s
    * (2 : ℝ) ^ (score2 scale (heads x0 (hd t)) (kvHeads x1 (hd t)) (qrow t r) s - ν r) : ℝ) : EReal)) (vals_lt _ d))
  have h0 : ¬t.val % 8 = 0 := by omega
  rw [outsAt0_C m c t h0 h1] at h8 hl hv ⊢
  clear h7
  revert h8 hl hv
  frame_out
  intro hv hl h8
  refine ⟨fun r d => ?_, fun u r => ?_⟩
  · rw [pay1_at, rect_row, rect_rows]
    refine (congrArg₂ Ideal.div (hv r d) (hl r)).trans ?_
    rw [Cert.Attention.div_real _ _ (Cert.Attention.sum_two_rpow_pos _ _ _ _ _).ne', Cert.Attention.quotient_two_rpow]
  · rw [pay2_at, rect_row]
    refine (congrArg₂ (fun a b : EReal => a + Ideal.log b * ((Real.log 2)⁻¹ : ℝ)) (h8 r) (hl r)).trans ?_
    show _ + Ideal.log _ * _ = _
    rw [Cert.Attention.log_real _ (Cert.Attention.sum_two_rpow_pos _ _ _ _ _), ← EReal.coe_mul, ← EReal.coe_add, Cert.Attention.lseR]
    exact congrArg _ (Cert.Attention.log_two_rpow _ _ _ _ _ _)

end Steps

section Reference
variable (X0 : S8192x2048.Idx → EReal) (X1 : S8192x512.Idx → EReal) (X2 : S8192x9216.Idx → EReal)

open Cert.Reference24Ideal.Read in
theorem out_at (t : Fin 8192) (j : Fin 2048) : val_main_v38 (F := Ideal) X0 X1 X2 (ix2 t j)
    = ∑ s : Fin 8192, Cert.ReferenceIdeal.Read.val_main_v7 (F := Ideal) X2 (ix3 s ⟨j.val / 128, by omega⟩ ⟨j.val % 128, by omega⟩)
      * Cert.ReferenceIdeal.Read.val_main_v35 (F := Ideal) X0 X1 (ix3 ⟨j.val / 128, by omega⟩ t s) := by
  have e : val_main_v38 (F := Ideal) X0 X1 X2 (ix2 t j)
      = ∑ s : Fin 8192, val_main_v7 (F := Ideal) X2 (ix3 s ⟨j.val / 128, by omega⟩ ⟨j.val % 128, by omega⟩)
        * val_main_v35 (F := Ideal) X0 X1 (ix3 ⟨j.val / 128, by omega⟩ t s) := by
    pointwise [val_main_v38, val_main_v37, val_main_v36]
  exact e

open Cert.Reference24Ideal.Read in
theorem logs_at (h : Fin 16) (u : Fin 8) (t : Fin 8192) : val_main_v40 (F := Ideal) X0 X1 (ix3 h u t)
    = Cert.Attention.lse X0 X1 (ix2 h t) := by
  have e : val_main_v40 (F := Ideal) X0 X1 (ix3 h u t) = val_main_v21 (F := Ideal) X0 X1 (ix2 h t) := by
    pointwise [val_main_v40, val_main_v39]
  exact e

end Reference

section Final
variable (m : (ℓ : Loc nD τ sig) → Buf (Elt Ideal) ℓ) (c : Dev nD) {x0 : Fin 8192 → Fin 2048 → ℝ} {x1 x2 : Fin 8192 → Fin 512 → ℝ}
  (R : RealArgs (argQ m c) (argK m c) (argZ m c) (argQ m c) x0 x1 x2 x0)
include R

theorem out_place (t : Fin cfg0.N) (h1 : t.val % 8 = 7) (y : S2048x128.Idx) (i : S8192x2048.Idx)
    (e0 : (i 0).val = 2048 * (t.val / 8 % 4) + (y 0).val) (e1 : (i 1).val = 128 * (t.val / 32) + (y 1).val) :
    (outsAt0 m c t.val t.isLt).1 y = Cert.Reference24Ideal.Read.val_main_v38 (F := Ideal) (argQ m c) (argK m c) (argZ m c) i := by
  have ht := lt512 t
  obtain ⟨r, d, rfl⟩ : ∃ r d, y = ix2 (n0 := 2048) (n1 := 128) r d := ⟨_, _, eq_ix2 y⟩
  have ei : i = ix2 (n0 := 8192) (n1 := 2048) (qrow t r) ⟨128 * (t.val / 32) + d.val, by omega⟩ :=
    funext fun a => Fin.ext (match a with | ⟨0, _⟩ => e0 | ⟨1, _⟩ => e1)
  rw [(stored m c R t h1).1, ei, out_at, ← Cert.Attention.coe_sum]
  refine Finset.sum_congr rfl fun s _ => ?_
  rw [Cert.Attention.v7_at R, Cert.Attention.v35_at R, EReal.coe_mul]
  have eh : (⟨(128 * (t.val / 32) + d.val) / 128, by omega⟩ : Fin 16) = hd t := Fin.ext (by
    show (128 * (t.val / 32) + d.val) / 128 = t.val / 32; omega)
  have ed : (⟨(128 * (t.val / 32) + d.val) % 128, by omega⟩ : Fin 128) = d := Fin.ext (by
    show (128 * (t.val / 32) + d.val) % 128 = d.val; omega)
  show _ = (kvHeads x2 ⟨(128 * (t.val / 32) + d.val) / 128, _⟩ s ⟨(128 * (t.val / 32) + d.val) % 128, _⟩ : EReal)
    * (prob scale (heads x0 ⟨(128 * (t.val / 32) + d.val) / 128, _⟩) (kvHeads x1 ⟨(128 * (t.val / 32) + d.val) / 128, _⟩) (qrow t r) s : EReal)
  rw [eh, ed]

theorem logs_place (t : Fin cfg0.N) (h1 : t.val % 8 = 7) (y : S1x8x2048.Idx) (i : S16x8x8192.Idx)
    (e0 : (i 0).val = t.val / 32) (e2 : (i 2).val = 2048 * (t.val / 8 % 4) + (y 2).val) :
    (outsAt0 m c t.val t.isLt).2.1 y = Cert.Reference24Ideal.Read.val_main_v40 (F := Ideal) (argQ m c) (argK m c) i := by
  obtain ⟨u0, u, r, rfl⟩ : ∃ u0 u r, y = ix3 (n0 := 1) (n1 := 8) (n2 := 2048) u0 u r := ⟨_, _, _, eq_ix3 y⟩
  obtain rfl : u0 = 0 := Subsingleton.elim _ _
  obtain ⟨k, ei⟩ : ∃ k, i = ix3 (n0 := 16) (n1 := 8) (n2 := 8192) (hd t) k (qrow t r) :=
    ⟨i 1, funext fun a => Fin.ext (match a with | ⟨0, _⟩ => e0 | ⟨1, _⟩ => rfl | ⟨2, _⟩ => e2)⟩
  rw [(stored m c R t h1).2, ei, logs_at]
  exact (Cert.Attention.lse_at R _ _).symm

/-- The array of the output. -/
theorem final_o : (dats m 0 c).arrAt 3 cfg0.N
    = Cert.Reference24Ideal.Read.val_main_v38 (F := Ideal) (argQ m c) (argK m c) (argZ m c) := by
  refine (dats m 0 c).arrAt_eq_of_covers 3 _ (by decide +kernel) fun t hf y => ?_
  obtain ⟨-, -, -, e, -⟩ := idx t
  blk_simp
  rw [after0_3]
  refine out_place m c R t ((flush0_3 t).mp hf) y _ ?_ ?_
  · blk_simp
    rw [e]
    show t.val / 8 % 4 * 2048 + _ = _; omega
  · blk_simp
    rw [e]
    show t.val / 32 * 128 + _ = _; omega

/-- The array of the log-sums. -/
theorem final_logs : (dats m 0 c).arrAt 4 cfg0.N
    = Cert.Reference24Ideal.Read.val_main_v40 (F := Ideal) (argQ m c) (argK m c) := by
  refine (dats m 0 c).arrAt_eq_of_covers 4 _ (by decide +kernel) fun t hf y => ?_
  obtain ⟨-, -, -, -, e⟩ := idx t
  have hy : (y 0).val < 1 := (y 0).isLt
  blk_simp
  rw [after0_4]
  refine logs_place m c R t ((flush0_4 t).mp hf) y _ ?_ ?_
  · blk_simp
    rw [e]
    rfl
  · blk_simp
    rw [e]
    show t.val / 8 % 4 * 2048 + _ = _; omega

end Final

/-- The precondition gives the arguments' real numbers. -/
theorem realArgs [Cert.Pre_finite24.Facts] (X0 : FVec Ideal Cert.Pre_finite24.S8192x2048 .f32)
    (X1 : FVec Ideal Cert.Pre_finite24.S8192x512 .f32) (X2 : FVec Ideal Cert.Pre_finite24.S8192x9216 .f32)
    (h : Cert.Pre_finite24.fn (F := Ideal) X0 X1 X2 = fun _ => 1#1) :
    RealArgs X0 X1 X2 X0 (fun t j => (X0 (ix2 (n0 := 8192) (n1 := 2048) t j)).toReal)
      (fun t j => (X1 (ix2 (n0 := 8192) (n1 := 512) t j)).toReal)
      (fun t j => (X2 (ix2 (n0 := 8192) (n1 := 9216) t ⟨4608 + j.val, by omega⟩)).toReal)
      (fun t j => (X0 (ix2 (n0 := 8192) (n1 := 2048) t j)).toReal) := by
  have e := congrFun h ((fun a => a.elim0 : Cert.Pre_finite24.S_.Idx))
  obtain ⟨e, h2⟩ := Cert.Attention.and_split _ _ _ e
  obtain ⟨h0, h1⟩ := Cert.Attention.and_split _ _ _ e
  exact ⟨Cert.Attention.real_entry X0 _ _ _ _ h0, Cert.Attention.real_entry X1 _ _ _ _ h1,
    Cert.Attention.real_columns X2 _ _ _ _ _ h2, Cert.Attention.real_entry X0 _ _ _ _ h0⟩

attribute [local instance] Cert.Kernel24Ideal.Gen.facts Cert.Reference24Ideal.Gen.facts Cert.Pre_finite24.Gen.facts

/-- Every execution of the reference ends with its arguments unchanged and every semaphore at zero. -/
theorem reference_frame : Cert.quiescent_Reference24Ideal := fun m g _ =>
  (θ_run Cert.Reference24Ideal.defs _ _).mono (fun r h => ⟨fun c => (h c).2.2, sem_eq_zero_of_no_sems (by decide) r.2⟩)
    (Cert.Reference24Ideal.Value.run (F := Ideal) m g)

/-- The call leaves what the reference leaves: the output and the log-sums. -/
theorem value : Cert.algebraic_Kernel24Ideal_Reference24Ideal_pre_finite24 := by
  intro m g m' g' hpre hagree
  refine ⟨fun c => Cert.Reference24Ideal.Read.val_main_v38 (F := Ideal) (argQ m c) (argK m c) (argZ m c),
    fun c => Cert.Reference24Ideal.Read.val_main_v40 (F := Ideal) (argQ m c) (argK m c), ?_, ?_⟩
  · exact (θ_run Cert.Kernel24Ideal.defs _ _).mono (fun r h c => ⟨(h c).1.trans (final_o m c (realArgs _ _ _ (hpre c))),
      (h c).2.1.trans (final_logs m c (realArgs _ _ _ (hpre c))), (h c).2.2⟩) (Cert.Kernel24Ideal.Value.run_blocks m g)
  · refine (θ_run Cert.Reference24Ideal.defs _ _).mono (fun r h c => ⟨?_, ?_, (h c).2.2⟩) (Cert.Reference24Ideal.Value.run (F := Ideal) m' g')
    · rw [(h c).1, Cert.Reference24Ideal.Read.val_main_v38_eq, (hagree c).1, (hagree c).2.1, (hagree c).2.2]
    · rw [(h c).2.1, Cert.Reference24Ideal.Read.val_main_v40_eq, (hagree c).1, (hagree c).2.1]

end Cert.FlashFwd

end
-- ==== Proof.RmsBwd.lean ====
/-
  The derivative of the root-mean-square norm: for each row its gradient with the residual's cotangent added, and the gradient
  of the gain, summed over the rows of each place in eight.
-/
module

public import proofs.«01_k».proof.Proof.Gen.Kernel25Ideal.Value
public import proofs.«01_k».proof.Proof.Gen.Reference25Ideal.Run
public import proofs.«01_k».proof.Proof.Gen.Reference25Ideal.Read
public import proofs.«01_k».proof.Defs
public import proofs.«01_k».proof.Proof.Runs
public import Idealize.ShloMosaic.PureOps.Ideal.Laws

@[expose] public section

set_option maxRecDepth 16384

noncomputable section

namespace Cert.RmsBwd
open Idealize.ShloMosaic Idealize.ShloMosaic.TcCoe Idealize.SL.Sem Cert.Kernel25Ideal Cert.Kernel25Ideal.Gen

/-! ## Arithmetic -/

/-- The number of columns. -/
theorem columns : Ideal.ofBits .f32 0x45000000#32 = ((2048 : ℝ) : EReal) := by
  simp [Ideal.ofBits, Ideal.ieee]
  rw [← EReal.coe_mul]
  norm_num

/-- The factor of the derivative of the inverse square root. -/
theorem minus_half : Ideal.ofBits .f32 0xBF000000#32 = ((-(1 / 2) : ℝ) : EReal) := by
  simp [Ideal.ofBits, Ideal.ieee]
  rw [← EReal.coe_mul]
  norm_num

/-- The number added under the root is positive. -/
theorem eps_pos : ∃ e : ℝ, 0 < e ∧ Ideal.ofBits .f32 0x358637BD#32 = (e : EReal) := by
  refine ⟨8796093 * (2 ^ 43)⁻¹, by positivity, ?_⟩
  simp [Ideal.ofBits, Ideal.ieee]

/-- A number divided by the number of columns. -/
theorem div_columns (a : EReal) : Ideal.div a (Ideal.ofBits .f32 0x45000000#32) = a * ((2048⁻¹ : ℝ) : EReal) := by
  rw [columns, Ideal.div, if_neg (by norm_num), EReal.coe_inv]

/-- A square is not negative. -/
theorem square_nonneg (a : EReal) : 0 ≤ a * a := by
  induction a with
  | bot => simp
  | top => simp
  | coe a => rw [← EReal.coe_mul]; exact_mod_cast mul_self_nonneg a

/-- The mean of a row's squares and the number added to it. -/
def meanSquare (sq : EReal) : EReal := Ideal.div sq (Ideal.ofBits .f32 0x45000000#32) + Ideal.ofBits .f32 0x358637BD#32

/-- The derivative's quotient is the third power of the inverse root. -/
theorem cube (sq : EReal) (h : 0 ≤ sq) : Ideal.div (Ideal.rsqrt (meanSquare sq)) (meanSquare sq)
    = Ideal.rsqrt (meanSquare sq) * Ideal.rsqrt (meanSquare sq) * Ideal.rsqrt (meanSquare sq) := by
  obtain ⟨e, he, h'⟩ := eps_pos
  rw [meanSquare, div_columns, h']
  induction sq with
  | bot => simp at h
  | top =>
    rw [EReal.top_mul_coe_of_pos (by norm_num), EReal.top_add_coe]
    have hr : Ideal.rsqrt ⊤ = 0 := rfl
    rw [hr, Ideal.div, if_neg (by simp), zero_mul, zero_mul, zero_mul]
  | coe a =>
    have ha : 0 ≤ a := by exact_mod_cast h
    rw [← EReal.coe_mul, ← EReal.coe_add]
    generalize hu : a * 2048⁻¹ + e = u
    have hp : 0 < u := by rw [← hu]; positivity
    have hr : Ideal.rsqrt (u : EReal) = (((Real.sqrt u)⁻¹ : ℝ) : EReal) := by
      show (if u < 0 then (⊥ : EReal) else if u = 0 then ⊤ else _) = _
      rw [if_neg hp.not_gt, if_neg hp.ne']
    rw [hr, Ideal.div, if_neg (by exact_mod_cast hp.ne'), ← EReal.coe_inv, ← EReal.coe_mul, ← EReal.coe_mul, ← EReal.coe_mul]
    refine congrArg _ ?_
    have hs := Real.mul_self_sqrt hp.le
    have hn := (Real.sqrt_pos.mpr hp).ne'
    nth_rewrite 2 [← hs]
    rw [mul_inv, mul_assoc]

/-- Twice minus a half of a number, added. -/
theorem halves (a : EReal) : a * ((-(1 / 2) : ℝ) : EReal) + a * ((-(1 / 2) : ℝ) : EReal) = -a := by
  induction a with
  | bot => rw [EReal.bot_mul_coe_of_neg (by norm_num)]; rfl
  | top => rw [EReal.top_mul_coe_of_neg (by norm_num)]; rfl
  | coe a => rw [← EReal.coe_mul, ← EReal.coe_add, ← EReal.coe_neg]; congr 1; ring

/-- The two ways to write the row's correction: the reference's two halves and the kernel's difference. -/
theorem correction (x a S q : EReal) : a + x * Ideal.div (S * (((-(1 / 2) : ℝ) : EReal) * q)) (Ideal.ofBits .f32 0x45000000#32)
      + Ideal.div (S * (((-(1 / 2) : ℝ) : EReal) * q)) (Ideal.ofBits .f32 0x45000000#32) * x
    = a - x * q * Ideal.div S (Ideal.ofBits .f32 0x45000000#32) := by
  have e : x * Ideal.div (S * (((-(1 / 2) : ℝ) : EReal) * q)) (Ideal.ofBits .f32 0x45000000#32)
      = x * q * Ideal.div S (Ideal.ofBits .f32 0x45000000#32) * ((-(1 / 2) : ℝ) : EReal) := by
    rw [div_columns, div_columns]; ac_rfl
  rw [mul_comm _ x, e, add_assoc, halves, sub_eq_add_neg]

/-! ## One row -/

/-- A row's inverse root. -/
def invRoot (x : Fin 2048 → EReal) : EReal := Ideal.rsqrt (meanSquare (∑ k, x k * x k))

/-- A row's gradient, from the row, the gain, the cotangent of the normed row and that of the residual. -/
def rowGrad (x g d e : Fin 2048 → EReal) (s : Fin 2048) : EReal :=
  e s + invRoot x * (d s * g s) - x s * (invRoot x * invRoot x * invRoot x)
    * Ideal.div (∑ k, x k * (d k * g k)) (Ideal.ofBits .f32 0x45000000#32)

/-- A row's share of the gain's gradient. -/
def gainGrad (x d : Fin 2048 → EReal) (s : Fin 2048) : EReal := d s * x s * invRoot x

/-- What the body stores for the rows. -/
theorem rows_at (x : FVec Ideal S512x2048 .f32) (g : FVec Ideal S1x2048 .f32) (d e : FVec Ideal S512x2048 .f32) (r : Fin 512) (s : Fin 2048) :
    k0_pay3 (F := Ideal) x g d e (ix2 r s)
      = rowGrad (fun k => x (ix2 r k)) (fun k => g (ix2 0 k)) (fun k => d (ix2 r k)) (fun k => e (ix2 r k)) s := by
  pointwise [k0_pay3, k0_pay2]
  rfl

/-- What a grid point contributes to the gain's gradient. -/
theorem gain_at (x d : FVec Ideal S512x2048 .f32) (r : Fin 8) (s : Fin 2048) :
    k0_pay4 (F := Ideal) x d (ix2 r s)
      = ∑ l : Fin 64, gainGrad (fun k => x (ix2 ⟨l.val * 8 + r.val, by omega⟩ k)) (fun k => d (ix2 ⟨l.val * 8 + r.val, by omega⟩ k)) s := by
  pointwise [k0_pay4, k0_pay2]
  rfl

/-- A contribution added to the sum so far. -/
theorem add_at (p a : FVec Ideal S8x2048 .f32) (j : S8x2048.Idx) : k0_pay1 (F := Ideal) p a j = a j + p j := by
  pointwise [k0_pay1]

section
open Cert.Reference25Ideal.Read

/-- The reference's gradient of a row. -/
theorem ref_rows_at (x : FVec Ideal S8192x2048 .f32) (g : FVec Ideal S1x2048 .f32) (d e : FVec Ideal S8192x2048 .f32) (r : Fin 8192) (s : Fin 2048) :
    val_main_v31 (F := Ideal) x g d e (ix2 r s)
      = rowGrad (fun k => x (ix2 r k)) (fun k => g (ix2 0 k)) (fun k => d (ix2 r k)) (fun k => e (ix2 r k)) s := by
  pointwise [val_main_v31, val_main_v30, val_main_v29, val_main_v28, val_main_v27, val_main_v26, val_main_v25, val_main_v24, val_main_v23, val_main_v22, val_main_v21, val_main_v20, val_main_v19, val_main_v18, val_main_v17, val_main_v16, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5]
  rw [Fin.sum_univ_one, minus_half, correction]
  exact congrArg₂ (fun a b : EReal => a - x (ix2 r s) * b * Ideal.div (∑ k, x (ix2 r k) * (d (ix2 r k) * g (ix2 0 k))) (Ideal.ofBits .f32 0x45000000#32))
    (congrArg (_ + ·) (mul_comm _ _)) (cube _ (Finset.sum_nonneg fun k _ => square_nonneg _))

/-- The reference's gradient of the gain. -/
theorem ref_gain_at (x d : FVec Ideal S8192x2048 .f32) (r : Fin 8) (s : Fin 2048) :
    val_main_v33 (F := Ideal) x d (ix2 r s)
      = ∑ l : Fin 1024, gainGrad (fun k => x (ix2 ⟨l.val * 8 + r.val, by omega⟩ k)) (fun k => d (ix2 ⟨l.val * 8 + r.val, by omega⟩ k)) s := by
  pointwise [val_main_v33, val_main_v32, val_main_v15, val_main_v13, val_main_v12, val_main_v8, val_main_v7, val_main_v6, val_main_v5, val_main_v4, val_main_v3, val_main_v2, val_main_v1, val_main_cst, val_main_cst_0, val_main_cst_1, val_main_cst_6]
  refine Finset.sum_congr rfl fun l _ => ?_
  exact (mul_comm _ _).trans (mul_assoc _ _ _).symm

end

/-! ## The run -/

variable (m : (ℓ : Loc nD τ sig) → Buf (Elt Ideal) ℓ)

/-- The blocks that a grid point reads and writes. -/
theorem idx : ∀ t : Fin cfg0.N, win0_0.index t = ![t.val, 0] ∧ win0_1.index t = ![0, 0]
    ∧ win0_2.index t = ![t.val, 0] ∧ win0_3.index t = ![t.val, 0]
    ∧ win0_4.index t = ![t.val, 0] ∧ win0_5.index t = ![0, 0] :=
  (by decide +kernel : ∀ t : Fin grid0.N, _)

theorem lt16 (t : Fin cfg0.N) : t.val < 16 := t.isLt

/-- A row of a point's block. -/
def row (t : Fin cfg0.N) (r : Fin 512) : Fin 8192 := ⟨t.val * 512 + r.val, by have := lt16 t; omega⟩

section
variable (c : Dev nD) (t : Fin cfg0.N) (r : Fin 512) (k : Fin 2048)

theorem b0 : iblk m c 0 t (ix2 r k) = m ((c : Thread nD τ).loc main_arg0) (ix2 (row t r) k) := by blk_ext [iblk, V, idx t, row]
theorem b1 : iblk m c 1 t (ix2 0 k) = m ((c : Thread nD τ).loc main_arg1) (ix2 0 k) := by blk_ext [iblk, V, idx t]
theorem b2 : iblk m c 2 t (ix2 r k) = m ((c : Thread nD τ).loc main_arg2) (ix2 (row t r) k) := by blk_ext [iblk, V, idx t, row]
theorem b3 : iblk m c 3 t (ix2 r k) = m ((c : Thread nD τ).loc main_arg3) (ix2 (row t r) k) := by blk_ext [iblk, V, idx t, row]

end

/-- What every grid point stores for its rows. -/
theorem stored (c : Dev nD) (t : Fin cfg0.N) :
    (outsAt0 m c t.val t.isLt).1 = k0_pay3 (F := Ideal) (iblk m c 0 t) (iblk m c 1 t) (iblk m c 2 t) (iblk m c 3 t) := by
  by_cases h : t.val % 16 = 0
  · rw [outsAt0_A m c t h (by have := lt16 t; omega)]
    frame_out
  · rw [outsAt0_B m c t h (by omega)]
    frame_out

/-- The rows' gradients after the run. -/
theorem final_rows (c : Dev nD) : (dats m 0 c).arrAt 4 (cfgs 0).N
    = Cert.Reference25Ideal.Read.val_main_v31 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  obtain ⟨r, s, rfl⟩ : ∃ r s, y = ix2 (n0 := 512) (n1 := 2048) r s := ⟨_, _, eq_ix2 y⟩
  blk_simp
  rw [after0_4, stored]
  refine (rows_at _ _ _ _ r s).trans ?_
  simp only [b0, b1, b2, b3]
  refine (ref_rows_at (m ((c : Thread nD τ).loc main_arg0)) (m ((c : Thread nD τ).loc main_arg1))
    (m ((c : Thread nD τ).loc main_arg2)) (m ((c : Thread nD τ).loc main_arg3)) (row t r) s).symm.trans ?_
  blk_ext [idx t, row]

/-- What a grid point contributes to the gain's gradient. -/
abbrev part (c : Dev nD) (t : Fin cfg0.N) : FVec Ideal S8x2048 .f32 := k0_pay4 (F := Ideal) (iblk m c 0 t) (iblk m c 2 t)

/-- The gain's gradient after the last point is the sum of the points' contributions. -/
theorem sum_of_run (c : Dev nD) (t : Fin cfg0.N) (h : t.val % 16 = 15) (j : S8x2048.Idx) :
    (outsAt0 m c t.val t.isLt).2 j
      = ∑ p : Fin 16, (part m c ⟨16 * (t.val / 16) + p.val, Pipeline.run_point_lt_of_flush t h p⟩ j : EReal) := by
  have e := Pipeline.eq_sum_fin_of_reset_step_apply_of_flush (fun n h => (outsAt0 m c n h).2) 16 (fun _ => (0 : EReal)) (part m c)
    (fun t h j => ?_) (fun t h j => ?_) t h j
  · exact e.trans (zero_add _)
  · rw [outsAt0_A m c t h (by have := lt16 t; omega)]
    frame_out
    exact (zero_add _).symm
  · rw [outsAt0_B m c t h (by omega)]
    frame_out
    exact add_at _ _ _

/-- The gain's gradient after the run. -/
theorem final_gain (c : Dev nD) : (dats m 0 c).arrAt 5 (cfgs 0).N
    = Cert.Reference25Ideal.Read.val_main_v33 (F := Ideal) (m ((c : Thread nD τ).loc main_arg0)) (m ((c : Thread nD τ).loc main_arg2)) := by
  refine (dats m 0 c).arrAt_eq_of_covers 5 _ (by decide +kernel) fun t hf y => ?_
  have h := (flush0_5 t).mp hf
  have ht := lt16 t
  obtain ⟨r, s, rfl⟩ : ∃ r s, y = ix2 (n0 := 8) (n1 := 2048) r s := ⟨_, _, eq_ix2 y⟩
  blk_simp
  rw [after0_5]
  refine (sum_of_run m c t (by omega) (ix2 r s)).trans ?_
  simp only [part, gain_at, b0, b2]
  refine Eq.trans ?_ ((ref_gain_at (m ((c : Thread nD τ).loc main_arg0)) (m ((c : Thread nD τ).loc main_arg2)) r s).symm.trans ?_)
  · refine Fin.sum_mul_add_congr fun p k hl => ?_
    have e : row ⟨16 * (t.val / 16) + p.val, Pipeline.run_point_lt_of_flush t (by omega) p⟩ ⟨k.val * 8 + r.val, by omega⟩
        = ⟨(p.val * 64 + k.val) * 8 + r.val, by omega⟩ := Fin.ext (by simp only [row]; omega)
    rw [e]
  · blk_ext [idx t]

attribute [local instance] Cert.Kernel25Ideal.Gen.facts Cert.Reference25Ideal.Gen.facts

/-- Every execution of the reference ends with its arguments unchanged and every semaphore at zero. -/
theorem reference_frame : Cert.quiescent_Reference25Ideal := fun m g _ =>
  (θ_run Cert.Reference25Ideal.defs _ _).mono (fun r h => ⟨fun c => (h c).2.2, sem_eq_zero_of_no_sems (by decide) r.2⟩)
    (Cert.Reference25Ideal.Value.run (F := Ideal) m g)

/-- The call leaves what the reference leaves: the rows' gradients and the gain's. -/
theorem value : Cert.algebraic_Kernel25Ideal_Reference25Ideal := by
  intro m g m' g' _ hagree
  refine ⟨fun c => Cert.Reference25Ideal.Read.val_main_v31 (F := Ideal) (m ((c : Thread nD τ).loc main_arg0)) (m ((c : Thread nD τ).loc main_arg1)) (m ((c : Thread nD τ).loc main_arg2)) (m ((c : Thread nD τ).loc main_arg3)),
    fun c => Cert.Reference25Ideal.Read.val_main_v33 (F := Ideal) (m ((c : Thread nD τ).loc main_arg0)) (m ((c : Thread nD τ).loc main_arg2)), ?_, ?_⟩
  · exact (θ_run Cert.Kernel25Ideal.defs _ _).mono (fun r h c => ⟨(h c).1.trans (final_rows m c), (h c).2.1.trans (final_gain m c), (h c).2.2⟩)
      (Cert.Kernel25Ideal.Value.run_blocks m g)
  · refine (θ_run Cert.Reference25Ideal.defs _ _).mono (fun r h c => ⟨?_, ?_, (h c).2.2⟩) (Cert.Reference25Ideal.Value.run (F := Ideal) m' g')
    · rw [(h c).1, Cert.Reference25Ideal.Read.val_main_v31_eq, (hagree c).1, (hagree c).2.1, (hagree c).2.2.1, (hagree c).2.2.2]
    · rw [(h c).2.1, Cert.Reference25Ideal.Read.val_main_v33_eq, (hagree c).1, (hagree c).2.2.1]

end Cert.RmsBwd

end
-- ==== Proof.Adamw.lean ====
/-
  The optimiser's update, as the kernel's calls and the references both compute it: one entry's, an array's entry by entry, and
  the sum over the devices that the gradient is.
-/
module

public import Idealize.ShloMosaic.Lib.Pipeline.ReadBack
public import Idealize.ShloMosaic.Lib.Pipeline.ValueKit

@[expose] public section

noncomputable section

namespace Cert.Adamw
open Idealize.ShloMosaic

/-- The new first moment, of the gradient and the old moment. -/
def newM (g m : EReal) : EReal := Ideal.ofBits .f32 0x3F666666#32 * m + Ideal.ofBits .f32 0x3DCCCCCD#32 * g

/-- The new second moment, of the gradient and the old moment. -/
def newV (g v : EReal) : EReal := Ideal.ofBits .f32 0x3F7FBE77#32 * v + Ideal.ofBits .f32 0x3A83126F#32 * (g * g)

/-- The weight's change, of the gradient, the weight and the old moments. -/
def delta (g w m v : EReal) : EReal :=
  Ideal.ofBits .f32 0xBA83126F#32
    * (Ideal.div (Ideal.div (newM g m) (Ideal.ofBits .f32 0x3F26BD02#32))
        (Ideal.sqrt (Ideal.div (newV g v) (Ideal.ofBits .f32 0x3C231ACC#32)) + Ideal.ofBits .f32 0x322BCC77#32)
      + Ideal.ofBits .f32 0x3C23D70A#32 * w)

/-! ## Arrays -/

variable {s s' : Shape}

/-- The new first moments. -/
def newMs (g m : FVec Ideal s .f32) : FVec Ideal s .f32 := fun i => newM (g i) (m i)

/-- The new second moments. -/
def newVs (g v : FVec Ideal s .f32) : FVec Ideal s .f32 := fun i => newV (g i) (v i)

/-- The weights' changes. -/
def deltas (g w m v : FVec Ideal s .f32) : FVec Ideal s .f32 := fun i => delta (g i) (w i) (m i) (v i)

/-- An entry of a block of the new first moments is the whole array's, if the block's gradient and moment are. -/
theorem newMs_at {g m : FVec Ideal s .f32} {g' m' : FVec Ideal s' .f32} {i : s.Idx} {j : s'.Idx} (hg : g i = g' j) (hm : m i = m' j) :
    newMs g m i = newMs g' m' j := congrArg₂ newM hg hm

theorem newVs_at {g v : FVec Ideal s .f32} {g' v' : FVec Ideal s' .f32} {i : s.Idx} {j : s'.Idx} (hg : g i = g' j) (hv : v i = v' j) :
    newVs g v i = newVs g' v' j := congrArg₂ newV hg hv

theorem deltas_at {g w m v : FVec Ideal s .f32} {g' w' m' v' : FVec Ideal s' .f32} {i : s.Idx} {j : s'.Idx}
    (hg : g i = g' j) (hw : w i = w' j) (hm : m i = m' j) (hv : v i = v' j) : deltas g w m v i = deltas g' w' m' v' j := by
  show delta (g i) (w i) (m i) (v i) = delta (g' j) (w' j) (m' j) (v' j)
  rw [hg, hw, hm, hv]

/-- Eight blocks added one after the other. -/
def sum8 (a0 a1 a2 a3 a4 a5 a6 a7 : FVec Ideal s .bf16) : FVec Ideal s .f32 :=
  fun i => a0 i + a1 i + a2 i + a3 i + a4 i + a5 i + a6 i + a7 i

/-- The sum over the devices, entry by entry. -/
def total {e : FTy} {n w : ℕ} (a : FVec Ideal ⟨3, ![8, n, w]⟩ e) : FVec Ideal ⟨2, ![n, w]⟩ .f32 :=
  fun i => ∑ d, (a (ix3 d (i 0) (i 1)) : EReal)

/-- The sum over the devices and over the rows that each of them hands in: one row. -/
def total2 {w : ℕ} (a : FVec Ideal ⟨3, ![8, 8, w]⟩ .f32) : FVec Ideal ⟨2, ![1, w]⟩ .f32 := fun i => ∑ r, ∑ d, a (ix3 d r (i 1))

theorem total2_eq {w : ℕ} (a : FVec Ideal ⟨3, ![8, 8, w]⟩ .f32) (k : Fin w) :
    (∑ r, (a (ix3 0 r k) + a (ix3 1 r k) + a (ix3 2 r k) + a (ix3 3 r k) + a (ix3 4 r k) + a (ix3 5 r k) + a (ix3 6 r k) + a (ix3 7 r k)) : EReal)
      = ∑ r, ∑ d, (a (ix3 d r k) : EReal) :=
  Finset.sum_congr rfl fun r _ => (Fin.sum_univ_eight fun d => (a (ix3 d r k) : EReal)).symm

/-- The devices' gradients stand one below the other: row `d * n + r` of the stack is row `r` of device `d`'s. -/
theorem stack_apply {N n w : ℕ} (a : FVec Ideal ⟨3, ![8, n, w]⟩ .bf16) (h : (⟨3, ![8, n, w]⟩ : Shape).ShapeCasts ⟨2, ![N, w]⟩)
    (d : Fin 8) (r : Fin n) (k : Fin w) (i : Fin N) (hi : i.val = d.val * n + r.val) :
    shapeCast ⟨2, ![N, w]⟩ a h (ix2 i k) = a (ix3 d r k) := by
  refine shapeCast_apply a h _ _ ?_
  rw [Shape.rowMajor_val_three, Shape.rowMajor_val_two]
  show (d.val * n + r.val) * w + k.val = i.val * w + k.val
  rw [hi]

/-- The eight blocks' sum at an entry is the sum over the devices, if each block's entry is its device's. -/
theorem sum8_at {n w : ℕ} {a0 a1 a2 a3 a4 a5 a6 a7 : FVec Ideal s .bf16} {a : FVec Ideal ⟨3, ![8, n, w]⟩ .bf16} {i : s.Idx}
    {r : Fin n} {k : Fin w} (h0 : a0 i = a (ix3 0 r k)) (h1 : a1 i = a (ix3 1 r k)) (h2 : a2 i = a (ix3 2 r k))
    (h3 : a3 i = a (ix3 3 r k)) (h4 : a4 i = a (ix3 4 r k)) (h5 : a5 i = a (ix3 5 r k)) (h6 : a6 i = a (ix3 6 r k))
    (h7 : a7 i = a (ix3 7 r k)) : sum8 a0 a1 a2 a3 a4 a5 a6 a7 i = total a (ix2 r k) := by
  show (a0 i + a1 i + a2 i + a3 i + a4 i + a5 i + a6 i + a7 i : EReal) = ∑ d, (a (ix3 d r k) : EReal)
  rw [Fin.sum_univ_eight, h0, h1, h2, h3, h4, h5, h6, h7]

end Cert.Adamw

end
-- ==== Proof.AdamwIn.lean ====
/-
  The optimiser's update of `w_in`: the gradient summed over the devices that it comes from, and the update by it.
-/
module

public import proofs.«01_k».proof.Proof.Gen.Kernel26Ideal.Value
public import proofs.«01_k».proof.Proof.Gen.Reference26Ideal.Run
public import proofs.«01_k».proof.Proof.Gen.Reference26Ideal.Read
public import proofs.«01_k».proof.Defs
public import proofs.«01_k».proof.Proof.Adamw

@[expose] public section

set_option maxRecDepth 16384

noncomputable section

namespace Cert.AdamwIn
open Idealize.ShloMosaic Idealize.ShloMosaic.TcCoe Idealize.SL.Sem Cert.Kernel26Ideal Cert.Kernel26Ideal.Gen
open Cert.Adamw Cert.Reference26Ideal.Read

variable (m : (ℓ : Loc nD τ sig) → Buf (Elt Ideal) ℓ) (c : Dev nD) (t : Fin cfg0.N) (r : Fin 128) (k : Fin 1152)

/-- What the call is given, and the gradient: its sum over the devices. -/
abbrev A : FVec Ideal S8x2048x1152 .bf16 := m ((c : Thread nD τ).loc main_arg0)
abbrev W : FVec Ideal S2048x1152 .f32 := m ((c : Thread nD τ).loc main_arg1)
abbrev M : FVec Ideal S2048x1152 .f32 := m ((c : Thread nD τ).loc main_arg2)
abbrev V' : FVec Ideal S2048x1152 .f32 := m ((c : Thread nD τ).loc main_arg3)

theorem ref_grad (a : FVec Ideal S8x2048x1152 .bf16) : val_main_v1 (F := Ideal) a = total a := by
  funext i
  obtain ⟨r, k, rfl⟩ : ∃ r k, i = ix2 (n0 := 2048) (n1 := 1152) r k := ⟨_, _, eq_ix2 i⟩
  show val_main_v1 (F := Ideal) a (ix2 r k) = ∑ d, a (ix3 d r k)
  pointwise [val_main_v1, val_main_v0, val_main_cst]

theorem ref_newM (a : FVec Ideal S8x2048x1152 .bf16) (p : FVec Ideal S2048x1152 .f32) : val_main_v6 (F := Ideal) a p = newMs (total a) p :=
  ref_grad a ▸ rfl
theorem ref_newV (a : FVec Ideal S8x2048x1152 .bf16) (v : FVec Ideal S2048x1152 .f32) : val_main_v12 (F := Ideal) a v = newVs (total a) v :=
  ref_grad a ▸ rfl
theorem ref_delta (a : FVec Ideal S8x2048x1152 .bf16) (w p v : FVec Ideal S2048x1152 .f32) :
    val_main_v25 (F := Ideal) a w p v = deltas (total a) w p v := ref_grad a ▸ rfl

/-- The blocks that a grid point reads and writes. -/
theorem idx : ∀ t : Fin cfg0.N, win0_0.index t = ![t.val, 0] ∧ win0_1.index t = ![16 + t.val, 0]
    ∧ win0_2.index t = ![32 + t.val, 0] ∧ win0_3.index t = ![48 + t.val, 0]
    ∧ win0_4.index t = ![64 + t.val, 0] ∧ win0_5.index t = ![80 + t.val, 0]
    ∧ win0_6.index t = ![96 + t.val, 0] ∧ win0_7.index t = ![112 + t.val, 0]
    ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0] :=
  (by decide +kernel : ∀ t : Fin grid0.N, _)

/-- A row of a point's block. -/
def row : Fin 2048 := ⟨t.val * 128 + r.val, by have : t.val < 16 := t.isLt; omega⟩

/-- An entry of a block is device `d`'s, if it stands in the stack where device `d`'s stands. -/
theorem share (d : Fin 8) {x : EReal} (h : ∀ i : Fin 16384, i.val = d.val * 2048 + (row t r).val → x = V m c main_v0 (ix2 i k)) :
    x = A m c (ix3 d (row t r) k) := by
  have e : V m c main_v0 = shapeCast S16384x1152 (A m c) shapeCasts_S8x2048x1152_S16384x1152 := by
    entry_read
    rfl
  refine (h ⟨d.val * 2048 + (row t r).val, by have := (row t r).isLt; omega⟩ rfl).trans ?_
  rw [e]
  exact stack_apply _ _ d (row t r) k _ rfl

theorem ld_whole {e : EltTy} (x : S128x1152.Idx → Elt Ideal e) : View.ld x r0_0 = x := View.ld_unit_lit _ x (by decide)

/-- The sum of the eight blocks at an entry. -/
theorem grad_at : k0_pay6 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (ix2 r k)
    = total (A m c) (ix2 (row t r) k) := by
  have e (a0 a1 a2 a3 a4 a5 a6 a7 : FVec Ideal S128x1152 .bf16) :
      k0_pay4 (F := Ideal) a0 a1 a2 a3 a4 a5 a6 a7 = sum8 a0 a1 a2 a3 a4 a5 a6 a7 := by
    funext y
    pointwise [k0_pay4, sum8]
  rw [k0_pay6, e]
  simp only [ld_whole]
  refine sum8_at (share m c t r k 0 ?_) (share m c t r k 1 ?_) (share m c t r k 2 ?_) (share m c t r k 3 ?_)
    (share m c t r k 4 ?_) (share m c t r k 5 ?_) (share m c t r k 6 ?_) (share m c t r k 7 ?_) <;>
  · intro i hi
    simp only [row] at hi
    blk_ext [iblk, idx t, hi]

theorem w_at : iblk m c 8 t (ix2 r k) = W m c (ix2 (row t r) k) := by blk_ext [iblk, V, idx t, row]
theorem m_at : iblk m c 9 t (ix2 r k) = M m c (ix2 (row t r) k) := by blk_ext [iblk, V, idx t, row]
theorem v_at : iblk m c 10 t (ix2 r k) = V' m c (ix2 (row t r) k) := by blk_ext [iblk, V, idx t, row]

theorem final_grad : (dats m 0 c).arrAt 11 (cfgs 0).N = total (A m c) := by
  refine (dats m 0 c).arrAt_eq_of_covers 11 _ (by decide +kernel) fun t _ y => ?_
  obtain ⟨r, s, rfl⟩ : ∃ r s, y = ix2 (n0 := 128) (n1 := 1152) r s := ⟨_, _, eq_ix2 y⟩
  blk_simp
  rw [after0_11]
  frame_out
  refine (grad_at m c t r s).trans ?_
  blk_ext [idx t, row]

theorem final_delta : (dats m 0 c).arrAt 12 (cfgs 0).N = deltas (total (A m c)) (W m c) (M m c) (V' m c) := by
  refine (dats m 0 c).arrAt_eq_of_covers 12 _ (by decide +kernel) fun t _ y => ?_
  obtain ⟨r, s, rfl⟩ : ∃ r s, y = ix2 (n0 := 128) (n1 := 1152) r s := ⟨_, _, eq_ix2 y⟩
  blk_simp
  rw [after0_12]
  frame_out
  refine (deltas_at (grad_at m c t r s) (w_at m c t r s) (m_at m c t r s) (v_at m c t r s)).trans ?_
  blk_ext [idx t, row]

theorem final_newM : (dats m 0 c).arrAt 13 (cfgs 0).N = newMs (total (A m c)) (M m c) := by
  refine (dats m 0 c).arrAt_eq_of_covers 13 _ (by decide +kernel) fun t _ y => ?_
  obtain ⟨r, s, rfl⟩ : ∃ r s, y = ix2 (n0 := 128) (n1 := 1152) r s := ⟨_, _, eq_ix2 y⟩
  blk_simp
  rw [after0_13]
  frame_out
  refine (newMs_at (grad_at m c t r s) (m_at m c t r s)).trans ?_
  blk_ext [idx t, row]

theorem final_newV : (dats m 0 c).arrAt 14 (cfgs 0).N = newVs (total (A m c)) (V' m c) := by
  refine (dats m 0 c).arrAt_eq_of_covers 14 _ (by decide +kernel) fun t _ y => ?_
  obtain ⟨r, s, rfl⟩ : ∃ r s, y = ix2 (n0 := 128) (n1 := 1152) r s := ⟨_, _, eq_ix2 y⟩
  blk_simp
  rw [after0_14]
  frame_out
  refine (newVs_at (grad_at m c t r s) (v_at m c t r s)).trans ?_
  blk_ext [idx t, row]

attribute [local instance] Cert.Kernel26Ideal.Gen.facts Cert.Reference26Ideal.Gen.facts

/-- Every execution of the reference ends with its arguments unchanged and every semaphore at zero. -/
theorem reference_frame : Cert.quiescent_Reference26Ideal := fun m g _ =>
  (θ_run Cert.Reference26Ideal.defs _ _).mono (fun r h => ⟨fun c => (h c).2.2.2.2, sem_eq_zero_of_no_sems (by decide) r.2⟩)
    (Cert.Reference26Ideal.Value.run (F := Ideal) m g)

/-- The call leaves what the reference leaves: the gradient, the weight's change and the two moments. -/
theorem value : Cert.algebraic_Kernel26Ideal_Reference26Ideal := by
  intro m g m' g' _ hagree
  refine ⟨fun c => total (A m c), fun c => deltas (total (A m c)) (W m c) (M m c) (V' m c), fun c => newMs (total (A m c)) (M m c),
    fun c => newVs (total (A m c)) (V' m c), ?_, ?_⟩
  · exact (θ_run Cert.Kernel26Ideal.defs _ _).mono (fun r h c => ⟨(h c).1.trans (final_grad m c), (h c).2.1.trans (final_delta m c),
        (h c).2.2.1.trans (final_newM m c), (h c).2.2.2.1.trans (final_newV m c), (h c).2.2.2.2⟩)
      (Cert.Kernel26Ideal.Value.run_blocks m g)
  · refine (θ_run Cert.Reference26Ideal.defs _ _).mono (fun r h c => ⟨?_, ?_, ?_, ?_, (h c).2.2.2.2⟩) (Cert.Reference26Ideal.Value.run (F := Ideal) m' g')
    · rw [(h c).1, val_main_v1_eq, (hagree c).1, ref_grad]
    · rw [(h c).2.1, val_main_v25_eq, (hagree c).1, (hagree c).2.1, (hagree c).2.2.1, (hagree c).2.2.2, ref_delta]
    · rw [(h c).2.2.1, val_main_v6_eq, (hagree c).1, (hagree c).2.2.1, ref_newM]
    · rw [(h c).2.2.2.1, val_main_v12_eq, (hagree c).1, (hagree c).2.2.2, ref_newV]

end Cert.AdamwIn

end
-- ==== Proof.AdamwOut.lean ====
/-
  The optimiser's update of `w_out`, and of the two weights of its shape, `w_attn_proj` and `w_ple_gate`: two grid points, each
  with 128 rows.
-/
module

public import proofs.«01_k».proof.Proof.Gen.Kernel27Ideal.Value
public import proofs.«01_k».proof.Proof.Gen.Reference27Ideal.Run
public import proofs.«01_k».proof.Proof.Gen.Reference27Ideal.Read
public import proofs.«01_k».proof.Defs
public import proofs.«01_k».proof.Proof.Adamw

@[expose] public section

set_option maxRecDepth 16384

noncomputable section

namespace Cert.AdamwOut
open Idealize.ShloMosaic Idealize.ShloMosaic.TcCoe Idealize.SL.Sem Cert.Kernel27Ideal Cert.Kernel27Ideal.Gen
open Cert.Adamw Cert.Reference27Ideal.Read

variable (m : (ℓ : Loc nD τ sig) → Buf (Elt Ideal) ℓ) (c : Dev nD) (t : Fin cfg0.N) (r : Fin 128) (k : Fin 2048)

abbrev A : FVec Ideal S8x256x2048 .bf16 := m ((c : Thread nD τ).loc main_arg0)
abbrev W : FVec Ideal S256x2048 .f32 := m ((c : Thread nD τ).loc main_arg1)
abbrev M : FVec Ideal S256x2048 .f32 := m ((c : Thread nD τ).loc main_arg2)
abbrev V' : FVec Ideal S256x2048 .f32 := m ((c : Thread nD τ).loc main_arg3)

/-! ## The reference -/

section
variable (a : FVec Ideal S8x256x2048 .bf16) (w p v : FVec Ideal S256x2048 .f32)

theorem ref_grad : val_main_v1 (F := Ideal) a = total a := by
  funext i
  obtain ⟨r, k, rfl⟩ : ∃ r k, i = ix2 (n0 := 256) (n1 := 2048) r k := ⟨_, _, eq_ix2 i⟩
  show val_main_v1 (F := Ideal) a (ix2 r k) = ∑ d, a (ix3 d r k)
  pointwise [val_main_v1, val_main_v0, val_main_cst]

theorem ref_newM : val_main_v6 (F := Ideal) a p = newMs (total a) p := ref_grad a ▸ rfl
theorem ref_newV : val_main_v12 (F := Ideal) a v = newVs (total a) v := ref_grad a ▸ rfl
theorem ref_delta : val_main_v25 (F := Ideal) a w p v = deltas (total a) w p v := ref_grad a ▸ rfl

end

/-! ## The call -/

/-- Block `2 * d + t` of the stack is the point's block of device `d`'s gradient. -/
theorem idx : ∀ t : Fin cfg0.N, win0_0.index t = ![t.val, 0] ∧ win0_1.index t = ![2 + t.val, 0]
    ∧ win0_2.index t = ![4 + t.val, 0] ∧ win0_3.index t = ![6 + t.val, 0]
    ∧ win0_4.index t = ![8 + t.val, 0] ∧ win0_5.index t = ![10 + t.val, 0]
    ∧ win0_6.index t = ![12 + t.val, 0] ∧ win0_7.index t = ![14 + t.val, 0]
    ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0] :=
  (by decide +kernel : ∀ t : Fin grid0.N, _)

/-- A row of a point's block. -/
def row : Fin 256 := ⟨t.val * 128 + r.val, by have : t.val < 2 := t.isLt; omega⟩

theorem share (d : Fin 8) {x : EReal} (h : ∀ i : Fin 2048, i.val = d.val * 256 + (row t r).val → x = V m c main_v0 (ix2 i k)) :
    x = A m c (ix3 d (row t r) k) := by
  have e : V m c main_v0 = shapeCast S2048x2048 (A m c) shapeCasts_S8x256x2048_S2048x2048 := by
    entry_read
    rfl
  refine (h ⟨d.val * 256 + (row t r).val, by have := (row t r).isLt; omega⟩ rfl).trans ?_
  rw [e]
  exact stack_apply _ _ d (row t r) k _ rfl

theorem ld_whole {e : EltTy} (x : S128x2048.Idx → Elt Ideal e) : View.ld x r0_0 = x := View.ld_unit_lit _ x (by decide)

theorem sum_eq (a0 a1 a2 a3 a4 a5 a6 a7 : FVec Ideal S128x2048 .bf16) :
    k0_pay4 (F := Ideal) a0 a1 a2 a3 a4 a5 a6 a7 = sum8 a0 a1 a2 a3 a4 a5 a6 a7 := by
  funext y
  pointwise [k0_pay4, sum8]

theorem grad_at : k0_pay6 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (ix2 r k)
    = total (A m c) (ix2 (row t r) k) := by
  rw [k0_pay6, sum_eq]
  simp only [ld_whole]
  refine sum8_at (share m c t r k 0 ?_) (share m c t r k 1 ?_) (share m c t r k 2 ?_) (share m c t r k 3 ?_)
    (share m c t r k 4 ?_) (share m c t r k 5 ?_) (share m c t r k 6 ?_) (share m c t r k 7 ?_) <;>
  · intro i hi
    simp only [row] at hi
    blk_ext [iblk, idx t, hi]

theorem w_at : iblk m c 8 t (ix2 r k) = W m c (ix2 (row t r) k) := by blk_ext [iblk, V, idx t, row]
theorem m_at : iblk m c 9 t (ix2 r k) = M m c (ix2 (row t r) k) := by blk_ext [iblk, V, idx t, row]
theorem v_at : iblk m c 10 t (ix2 r k) = V' m c (ix2 (row t r) k) := by blk_ext [iblk, V, idx t, row]

theorem final_grad : (dats m 0 c).arrAt 11 (cfgs 0).N = total (A m c) := by
  refine (dats m 0 c).arrAt_eq_of_covers 11 _ (by decide +kernel) fun t _ y => ?_
  obtain ⟨r, s, rfl⟩ : ∃ r s, y = ix2 (n0 := 128) (n1 := 2048) r s := ⟨_, _, eq_ix2 y⟩
  blk_simp
  rw [after0_11]
  frame_out
  refine (grad_at m c t r s).trans ?_
  blk_ext [idx t, row]

theorem final_delta : (dats m 0 c).arrAt 12 (cfgs 0).N = deltas (total (A m c)) (W m c) (M m c) (V' m c) := by
  refine (dats m 0 c).arrAt_eq_of_covers 12 _ (by decide +kernel) fun t _ y => ?_
  obtain ⟨r, s, rfl⟩ : ∃ r s, y = ix2 (n0 := 128) (n1 := 2048) r s := ⟨_, _, eq_ix2 y⟩
  blk_simp
  rw [after0_12]
  frame_out
  refine (deltas_at (grad_at m c t r s) (w_at m c t r s) (m_at m c t r s) (v_at m c t r s)).trans ?_
  blk_ext [idx t, row]

theorem final_newM : (dats m 0 c).arrAt 13 (cfgs 0).N = newMs (total (A m c)) (M m c) := by
  refine (dats m 0 c).arrAt_eq_of_covers 13 _ (by decide +kernel) fun t _ y => ?_
  obtain ⟨r, s, rfl⟩ : ∃ r s, y = ix2 (n0 := 128) (n1 := 2048) r s := ⟨_, _, eq_ix2 y⟩
  blk_simp
  rw [after0_13]
  frame_out
  refine (newMs_at (grad_at m c t r s) (m_at m c t r s)).trans ?_
  blk_ext [idx t, row]

theorem final_newV : (dats m 0 c).arrAt 14 (cfgs 0).N = newVs (total (A m c)) (V' m c) := by
  refine (dats m 0 c).arrAt_eq_of_covers 14 _ (by decide +kernel) fun t _ y => ?_
  obtain ⟨r, s, rfl⟩ : ∃ r s, y = ix2 (n0 := 128) (n1 := 2048) r s := ⟨_, _, eq_ix2 y⟩
  blk_simp
  rw [after0_14]
  frame_out
  refine (newVs_at (grad_at m c t r s) (v_at m c t r s)).trans ?_
  blk_ext [idx t, row]

attribute [local instance] Cert.Kernel27Ideal.Gen.facts Cert.Reference27Ideal.Gen.facts

/-- Every execution of the reference ends with its arguments unchanged and every semaphore at zero. -/
theorem reference_frame : Cert.quiescent_Reference27Ideal := fun m g _ =>
  (θ_run Cert.Reference27Ideal.defs _ _).mono (fun r h => ⟨fun c => (h c).2.2.2.2, sem_eq_zero_of_no_sems (by decide) r.2⟩)
    (Cert.Reference27Ideal.Value.run (F := Ideal) m g)

/-- The call leaves what the reference leaves: the gradient, the weight's change and the two moments. -/
theorem value : Cert.algebraic_Kernel27Ideal_Reference27Ideal := by
  intro m g m' g' _ hagree
  refine ⟨fun c => total (A m c), fun c => deltas (total (A m c)) (W m c) (M m c) (V' m c), fun c => newMs (total (A m c)) (M m c),
    fun c => newVs (total (A m c)) (V' m c), ?_, ?_⟩
  · exact (θ_run Cert.Kernel27Ideal.defs _ _).mono (fun r h c => ⟨(h c).1.trans (final_grad m c), (h c).2.1.trans (final_delta m c),
        (h c).2.2.1.trans (final_newM m c), (h c).2.2.2.1.trans (final_newV m c), (h c).2.2.2.2⟩)
      (Cert.Kernel27Ideal.Value.run_blocks m g)
  · refine (θ_run Cert.Reference27Ideal.defs _ _).mono (fun r h c => ⟨?_, ?_, ?_, ?_, (h c).2.2.2.2⟩) (Cert.Reference27Ideal.Value.run (F := Ideal) m' g')
    · rw [(h c).1, val_main_v1_eq, (hagree c).1, ref_grad]
    · rw [(h c).2.1, val_main_v25_eq, (hagree c).1, (hagree c).2.1, (hagree c).2.2.1, (hagree c).2.2.2, ref_delta]
    · rw [(h c).2.2.1, val_main_v6_eq, (hagree c).1, (hagree c).2.2.1, ref_newM]
    · rw [(h c).2.2.2.1, val_main_v12_eq, (hagree c).1, (hagree c).2.2.2, ref_newV]

end Cert.AdamwOut

end
-- ==== Proof.AdamwFf1.lean ====
/-
  The optimiser's update of `w_ff1`: eight grid points, each with 256 rows.
-/
module

public import proofs.«01_k».proof.Proof.Gen.Kernel28Ideal.Value
public import proofs.«01_k».proof.Proof.Gen.Reference28Ideal.Run
public import proofs.«01_k».proof.Proof.Gen.Reference28Ideal.Read
public import proofs.«01_k».proof.Defs
public import proofs.«01_k».proof.Proof.Adamw

@[expose] public section

set_option maxRecDepth 16384

noncomputable section

namespace Cert.AdamwFf1
open Idealize.ShloMosaic Idealize.ShloMosaic.TcCoe Idealize.SL.Sem Cert.Kernel28Ideal Cert.Kernel28Ideal.Gen
open Cert.Adamw Cert.Reference28Ideal.Read

variable (m : (ℓ : Loc nD τ sig) → Buf (Elt Ideal) ℓ) (c : Dev nD) (t : Fin cfg0.N) (r : Fin 256) (k : Fin 1024)

abbrev A : FVec Ideal S8x2048x1024 .bf16 := m ((c : Thread nD τ).loc main_arg0)
abbrev W : FVec Ideal S2048x1024 .f32 := m ((c : Thread nD τ).loc main_arg1)
abbrev M : FVec Ideal S2048x1024 .f32 := m ((c : Thread nD τ).loc main_arg2)
abbrev V' : FVec Ideal S2048x1024 .f32 := m ((c : Thread nD τ).loc main_arg3)

/-! ## The reference -/

section
variable (a : FVec Ideal S8x2048x1024 .bf16) (w p v : FVec Ideal S2048x1024 .f32)

theorem ref_grad : val_main_v1 (F := Ideal) a = total a := by
  funext i
  obtain ⟨r, k, rfl⟩ : ∃ r k, i = ix2 (n0 := 2048) (n1 := 1024) r k := ⟨_, _, eq_ix2 i⟩
  show val_main_v1 (F := Ideal) a (ix2 r k) = ∑ d, a (ix3 d r k)
  pointwise [val_main_v1, val_main_v0, val_main_cst]

theorem ref_newM : val_main_v6 (F := Ideal) a p = newMs (total a) p := ref_grad a ▸ rfl
theorem ref_newV : val_main_v12 (F := Ideal) a v = newVs (total a) v := ref_grad a ▸ rfl
theorem ref_delta : val_main_v25 (F := Ideal) a w p v = deltas (total a) w p v := ref_grad a ▸ rfl

end

/-! ## The call -/

/-- Block `8 * d + t` of the stack is the point's block of device `d`'s gradient. -/
theorem idx : ∀ t : Fin cfg0.N, win0_0.index t = ![t.val, 0] ∧ win0_1.index t = ![8 + t.val, 0]
    ∧ win0_2.index t = ![16 + t.val, 0] ∧ win0_3.index t = ![24 + t.val, 0]
    ∧ win0_4.index t = ![32 + t.val, 0] ∧ win0_5.index t = ![40 + t.val, 0]
    ∧ win0_6.index t = ![48 + t.val, 0] ∧ win0_7.index t = ![56 + t.val, 0]
    ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0] :=
  (by decide +kernel : ∀ t : Fin grid0.N, _)

/-- A row of a point's block. -/
def row : Fin 2048 := ⟨t.val * 256 + r.val, by have : t.val < 8 := t.isLt; omega⟩

theorem share (d : Fin 8) {x : EReal} (h : ∀ i : Fin 16384, i.val = d.val * 2048 + (row t r).val → x = V m c main_v0 (ix2 i k)) :
    x = A m c (ix3 d (row t r) k) := by
  have e : V m c main_v0 = shapeCast S16384x1024 (A m c) shapeCasts_S8x2048x1024_S16384x1024 := by
    entry_read
    rfl
  refine (h ⟨d.val * 2048 + (row t r).val, by have := (row t r).isLt; omega⟩ rfl).trans ?_
  rw [e]
  exact stack_apply _ _ d (row t r) k _ rfl

theorem ld_whole {e : EltTy} (x : S256x1024.Idx → Elt Ideal e) : View.ld x r0_0 = x := View.ld_unit_lit _ x (by decide)

theorem sum_eq (a0 a1 a2 a3 a4 a5 a6 a7 : FVec Ideal S256x1024 .bf16) :
    k0_pay4 (F := Ideal) a0 a1 a2 a3 a4 a5 a6 a7 = sum8 a0 a1 a2 a3 a4 a5 a6 a7 := by
  funext y
  pointwise [k0_pay4, sum8]

theorem grad_at : k0_pay6 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (ix2 r k)
    = total (A m c) (ix2 (row t r) k) := by
  rw [k0_pay6, sum_eq]
  simp only [ld_whole]
  refine sum8_at (share m c t r k 0 ?_) (share m c t r k 1 ?_) (share m c t r k 2 ?_) (share m c t r k 3 ?_)
    (share m c t r k 4 ?_) (share m c t r k 5 ?_) (share m c t r k 6 ?_) (share m c t r k 7 ?_) <;>
  · intro i hi
    simp only [row] at hi
    blk_ext [iblk, idx t, hi]

theorem w_at : iblk m c 8 t (ix2 r k) = W m c (ix2 (row t r) k) := by blk_ext [iblk, V, idx t, row]
theorem m_at : iblk m c 9 t (ix2 r k) = M m c (ix2 (row t r) k) := by blk_ext [iblk, V, idx t, row]
theorem v_at : iblk m c 10 t (ix2 r k) = V' m c (ix2 (row t r) k) := by blk_ext [iblk, V, idx t, row]

theorem final_grad : (dats m 0 c).arrAt 11 (cfgs 0).N = total (A m c) := by
  refine (dats m 0 c).arrAt_eq_of_covers 11 _ (by decide +kernel) fun t _ y => ?_
  obtain ⟨r, s, rfl⟩ : ∃ r s, y = ix2 (n0 := 256) (n1 := 1024) r s := ⟨_, _, eq_ix2 y⟩
  blk_simp
  rw [after0_11]
  frame_out
  refine (grad_at m c t r s).trans ?_
  blk_ext [idx t, row]

theorem final_delta : (dats m 0 c).arrAt 12 (cfgs 0).N = deltas (total (A m c)) (W m c) (M m c) (V' m c) := by
  refine (dats m 0 c).arrAt_eq_of_covers 12 _ (by decide +kernel) fun t _ y => ?_
  obtain ⟨r, s, rfl⟩ : ∃ r s, y = ix2 (n0 := 256) (n1 := 1024) r s := ⟨_, _, eq_ix2 y⟩
  blk_simp
  rw [after0_12]
  frame_out
  refine (deltas_at (grad_at m c t r s) (w_at m c t r s) (m_at m c t r s) (v_at m c t r s)).trans ?_
  blk_ext [idx t, row]

theorem final_newM : (dats m 0 c).arrAt 13 (cfgs 0).N = newMs (total (A m c)) (M m c) := by
  refine (dats m 0 c).arrAt_eq_of_covers 13 _ (by decide +kernel) fun t _ y => ?_
  obtain ⟨r, s, rfl⟩ : ∃ r s, y = ix2 (n0 := 256) (n1 := 1024) r s := ⟨_, _, eq_ix2 y⟩
  blk_simp
  rw [after0_13]
  frame_out
  refine (newMs_at (grad_at m c t r s) (m_at m c t r s)).trans ?_
  blk_ext [idx t, row]

theorem final_newV : (dats m 0 c).arrAt 14 (cfgs 0).N = newVs (total (A m c)) (V' m c) := by
  refine (dats m 0 c).arrAt_eq_of_covers 14 _ (by decide +kernel) fun t _ y => ?_
  obtain ⟨r, s, rfl⟩ : ∃ r s, y = ix2 (n0 := 256) (n1 := 1024) r s := ⟨_, _, eq_ix2 y⟩
  blk_simp
  rw [after0_14]
  frame_out
  refine (newVs_at (grad_at m c t r s) (v_at m c t r s)).trans ?_
  blk_ext [idx t, row]

attribute [local instance] Cert.Kernel28Ideal.Gen.facts Cert.Reference28Ideal.Gen.facts

/-- Every execution of the reference ends with its arguments unchanged and every semaphore at zero. -/
theorem reference_frame : Cert.quiescent_Reference28Ideal := fun m g _ =>
  (θ_run Cert.Reference28Ideal.defs _ _).mono (fun r h => ⟨fun c => (h c).2.2.2.2, sem_eq_zero_of_no_sems (by decide) r.2⟩)
    (Cert.Reference28Ideal.Value.run (F := Ideal) m g)

/-- The call leaves what the reference leaves: the gradient, the weight's change and the two moments. -/
theorem value : Cert.algebraic_Kernel28Ideal_Reference28Ideal := by
  intro m g m' g' _ hagree
  refine ⟨fun c => total (A m c), fun c => deltas (total (A m c)) (W m c) (M m c) (V' m c), fun c => newMs (total (A m c)) (M m c),
    fun c => newVs (total (A m c)) (V' m c), ?_, ?_⟩
  · exact (θ_run Cert.Kernel28Ideal.defs _ _).mono (fun r h c => ⟨(h c).1.trans (final_grad m c), (h c).2.1.trans (final_delta m c),
        (h c).2.2.1.trans (final_newM m c), (h c).2.2.2.1.trans (final_newV m c), (h c).2.2.2.2⟩)
      (Cert.Kernel28Ideal.Value.run_blocks m g)
  · refine (θ_run Cert.Reference28Ideal.defs _ _).mono (fun r h c => ⟨?_, ?_, ?_, ?_, (h c).2.2.2.2⟩) (Cert.Reference28Ideal.Value.run (F := Ideal) m' g')
    · rw [(h c).1, val_main_v1_eq, (hagree c).1, ref_grad]
    · rw [(h c).2.1, val_main_v25_eq, (hagree c).1, (hagree c).2.1, (hagree c).2.2.1, (hagree c).2.2.2, ref_delta]
    · rw [(h c).2.2.1, val_main_v6_eq, (hagree c).1, (hagree c).2.2.1, ref_newM]
    · rw [(h c).2.2.2.1, val_main_v12_eq, (hagree c).1, (hagree c).2.2.2, ref_newV]

end Cert.AdamwFf1

end
-- ==== Proof.AdamwFf2.lean ====
/-
  The optimiser's update of `w_ff2`: eight grid points, each with 128 rows.
-/
module

public import proofs.«01_k».proof.Proof.Gen.Kernel29Ideal.Value
public import proofs.«01_k».proof.Proof.Gen.Reference29Ideal.Run
public import proofs.«01_k».proof.Proof.Gen.Reference29Ideal.Read
public import proofs.«01_k».proof.Defs
public import proofs.«01_k».proof.Proof.Adamw

@[expose] public section

set_option maxRecDepth 16384

noncomputable section

namespace Cert.AdamwFf2
open Idealize.ShloMosaic Idealize.ShloMosaic.TcCoe Idealize.SL.Sem Cert.Kernel29Ideal Cert.Kernel29Ideal.Gen
open Cert.Adamw Cert.Reference29Ideal.Read

variable (m : (ℓ : Loc nD τ sig) → Buf (Elt Ideal) ℓ) (c : Dev nD) (t : Fin cfg0.N) (r : Fin 128) (k : Fin 2048)

abbrev A : FVec Ideal S8x1024x2048 .bf16 := m ((c : Thread nD τ).loc main_arg0)
abbrev W : FVec Ideal S1024x2048 .f32 := m ((c : Thread nD τ).loc main_arg1)
abbrev M : FVec Ideal S1024x2048 .f32 := m ((c : Thread nD τ).loc main_arg2)
abbrev V' : FVec Ideal S1024x2048 .f32 := m ((c : Thread nD τ).loc main_arg3)

/-! ## The reference -/

section
variable (a : FVec Ideal S8x1024x2048 .bf16) (w p v : FVec Ideal S1024x2048 .f32)

theorem ref_grad : val_main_v1 (F := Ideal) a = total a := by
  funext i
  obtain ⟨r, k, rfl⟩ : ∃ r k, i = ix2 (n0 := 1024) (n1 := 2048) r k := ⟨_, _, eq_ix2 i⟩
  show val_main_v1 (F := Ideal) a (ix2 r k) = ∑ d, a (ix3 d r k)
  pointwise [val_main_v1, val_main_v0, val_main_cst]

theorem ref_newM : val_main_v6 (F := Ideal) a p = newMs (total a) p := ref_grad a ▸ rfl
theorem ref_newV : val_main_v12 (F := Ideal) a v = newVs (total a) v := ref_grad a ▸ rfl
theorem ref_delta : val_main_v25 (F := Ideal) a w p v = deltas (total a) w p v := ref_grad a ▸ rfl

end

/-! ## The call -/

/-- Block `8 * d + t` of the stack is the point's block of device `d`'s gradient. -/
theorem idx : ∀ t : Fin cfg0.N, win0_0.index t = ![t.val, 0] ∧ win0_1.index t = ![8 + t.val, 0]
    ∧ win0_2.index t = ![16 + t.val, 0] ∧ win0_3.index t = ![24 + t.val, 0]
    ∧ win0_4.index t = ![32 + t.val, 0] ∧ win0_5.index t = ![40 + t.val, 0]
    ∧ win0_6.index t = ![48 + t.val, 0] ∧ win0_7.index t = ![56 + t.val, 0]
    ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0] :=
  (by decide +kernel : ∀ t : Fin grid0.N, _)

/-- A row of a point's block. -/
def row : Fin 1024 := ⟨t.val * 128 + r.val, by have : t.val < 8 := t.isLt; omega⟩

theorem share (d : Fin 8) {x : EReal} (h : ∀ i : Fin 8192, i.val = d.val * 1024 + (row t r).val → x = V m c main_v0 (ix2 i k)) :
    x = A m c (ix3 d (row t r) k) := by
  have e : V m c main_v0 = shapeCast S8192x2048 (A m c) shapeCasts_S8x1024x2048_S8192x2048 := by
    entry_read
    rfl
  refine (h ⟨d.val * 1024 + (row t r).val, by have := (row t r).isLt; omega⟩ rfl).trans ?_
  rw [e]
  exact stack_apply _ _ d (row t r) k _ rfl

theorem ld_whole {e : EltTy} (x : S128x2048.Idx → Elt Ideal e) : View.ld x r0_0 = x := View.ld_unit_lit _ x (by decide)

theorem sum_eq (a0 a1 a2 a3 a4 a5 a6 a7 : FVec Ideal S128x2048 .bf16) :
    k0_pay4 (F := Ideal) a0 a1 a2 a3 a4 a5 a6 a7 = sum8 a0 a1 a2 a3 a4 a5 a6 a7 := by
  funext y
  pointwise [k0_pay4, sum8]

theorem grad_at : k0_pay6 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (ix2 r k)
    = total (A m c) (ix2 (row t r) k) := by
  rw [k0_pay6, sum_eq]
  simp only [ld_whole]
  refine sum8_at (share m c t r k 0 ?_) (share m c t r k 1 ?_) (share m c t r k 2 ?_) (share m c t r k 3 ?_)
    (share m c t r k 4 ?_) (share m c t r k 5 ?_) (share m c t r k 6 ?_) (share m c t r k 7 ?_) <;>
  · intro i hi
    simp only [row] at hi
    blk_ext [iblk, idx t, hi]

theorem w_at : iblk m c 8 t (ix2 r k) = W m c (ix2 (row t r) k) := by blk_ext [iblk, V, idx t, row]
theorem m_at : iblk m c 9 t (ix2 r k) = M m c (ix2 (row t r) k) := by blk_ext [iblk, V, idx t, row]
theorem v_at : iblk m c 10 t (ix2 r k) = V' m c (ix2 (row t r) k) := by blk_ext [iblk, V, idx t, row]

theorem final_grad : (dats m 0 c).arrAt 11 (cfgs 0).N = total (A m c) := by
  refine (dats m 0 c).arrAt_eq_of_covers 11 _ (by decide +kernel) fun t _ y => ?_
  obtain ⟨r, s, rfl⟩ : ∃ r s, y = ix2 (n0 := 128) (n1 := 2048) r s := ⟨_, _, eq_ix2 y⟩
  blk_simp
  rw [after0_11]
  frame_out
  refine (grad_at m c t r s).trans ?_
  blk_ext [idx t, row]

theorem final_delta : (dats m 0 c).arrAt 12 (cfgs 0).N = deltas (total (A m c)) (W m c) (M m c) (V' m c) := by
  refine (dats m 0 c).arrAt_eq_of_covers 12 _ (by decide +kernel) fun t _ y => ?_
  obtain ⟨r, s, rfl⟩ : ∃ r s, y = ix2 (n0 := 128) (n1 := 2048) r s := ⟨_, _, eq_ix2 y⟩
  blk_simp
  rw [after0_12]
  frame_out
  refine (deltas_at (grad_at m c t r s) (w_at m c t r s) (m_at m c t r s) (v_at m c t r s)).trans ?_
  blk_ext [idx t, row]

theorem final_newM : (dats m 0 c).arrAt 13 (cfgs 0).N = newMs (total (A m c)) (M m c) := by
  refine (dats m 0 c).arrAt_eq_of_covers 13 _ (by decide +kernel) fun t _ y => ?_
  obtain ⟨r, s, rfl⟩ : ∃ r s, y = ix2 (n0 := 128) (n1 := 2048) r s := ⟨_, _, eq_ix2 y⟩
  blk_simp
  rw [after0_13]
  frame_out
  refine (newMs_at (grad_at m c t r s) (m_at m c t r s)).trans ?_
  blk_ext [idx t, row]

theorem final_newV : (dats m 0 c).arrAt 14 (cfgs 0).N = newVs (total (A m c)) (V' m c) := by
  refine (dats m 0 c).arrAt_eq_of_covers 14 _ (by decide +kernel) fun t _ y => ?_
  obtain ⟨r, s, rfl⟩ : ∃ r s, y = ix2 (n0 := 128) (n1 := 2048) r s := ⟨_, _, eq_ix2 y⟩
  blk_simp
  rw [after0_14]
  frame_out
  refine (newVs_at (grad_at m c t r s) (v_at m c t r s)).trans ?_
  blk_ext [idx t, row]

attribute [local instance] Cert.Kernel29Ideal.Gen.facts Cert.Reference29Ideal.Gen.facts

/-- Every execution of the reference ends with its arguments unchanged and every semaphore at zero. -/
theorem reference_frame : Cert.quiescent_Reference29Ideal := fun m g _ =>
  (θ_run Cert.Reference29Ideal.defs _ _).mono (fun r h => ⟨fun c => (h c).2.2.2.2, sem_eq_zero_of_no_sems (by decide) r.2⟩)
    (Cert.Reference29Ideal.Value.run (F := Ideal) m g)

/-- The call leaves what the reference leaves: the gradient, the weight's change and the two moments. -/
theorem value : Cert.algebraic_Kernel29Ideal_Reference29Ideal := by
  intro m g m' g' _ hagree
  refine ⟨fun c => total (A m c), fun c => deltas (total (A m c)) (W m c) (M m c) (V' m c), fun c => newMs (total (A m c)) (M m c),
    fun c => newVs (total (A m c)) (V' m c), ?_, ?_⟩
  · exact (θ_run Cert.Kernel29Ideal.defs _ _).mono (fun r h c => ⟨(h c).1.trans (final_grad m c), (h c).2.1.trans (final_delta m c),
        (h c).2.2.1.trans (final_newM m c), (h c).2.2.2.1.trans (final_newV m c), (h c).2.2.2.2⟩)
      (Cert.Kernel29Ideal.Value.run_blocks m g)
  · refine (θ_run Cert.Reference29Ideal.defs _ _).mono (fun r h c => ⟨?_, ?_, ?_, ?_, (h c).2.2.2.2⟩) (Cert.Reference29Ideal.Value.run (F := Ideal) m' g')
    · rw [(h c).1, val_main_v1_eq, (hagree c).1, ref_grad]
    · rw [(h c).2.1, val_main_v25_eq, (hagree c).1, (hagree c).2.1, (hagree c).2.2.1, (hagree c).2.2.2, ref_delta]
    · rw [(h c).2.2.1, val_main_v6_eq, (hagree c).1, (hagree c).2.2.1, ref_newM]
    · rw [(h c).2.2.2.1, val_main_v12_eq, (hagree c).1, (hagree c).2.2.2, ref_newV]

end Cert.AdamwFf2

end
-- ==== Proof.AdamwConvProj.lean ====
/-
  The optimiser's update of `w_conv_proj`: one grid point, with all the rows.
-/
module

public import proofs.«01_k».proof.Proof.Gen.Kernel30Ideal.Value
public import proofs.«01_k».proof.Proof.Gen.Reference30Ideal.Run
public import proofs.«01_k».proof.Proof.Gen.Reference30Ideal.Read
public import proofs.«01_k».proof.Defs
public import proofs.«01_k».proof.Proof.Adamw

@[expose] public section

set_option maxRecDepth 16384

noncomputable section

namespace Cert.AdamwConvProj
open Idealize.ShloMosaic Idealize.ShloMosaic.TcCoe Idealize.SL.Sem Cert.Kernel30Ideal Cert.Kernel30Ideal.Gen
open Cert.Adamw Cert.Reference30Ideal.Read

variable (m : (ℓ : Loc nD τ sig) → Buf (Elt Ideal) ℓ) (c : Dev nD) (t : Fin cfg0.N) (r : Fin 1024) (k : Fin 256)

abbrev A : FVec Ideal S8x1024x256 .bf16 := m ((c : Thread nD τ).loc main_arg0)
abbrev W : FVec Ideal S1024x256 .f32 := m ((c : Thread nD τ).loc main_arg1)
abbrev M : FVec Ideal S1024x256 .f32 := m ((c : Thread nD τ).loc main_arg2)
abbrev V' : FVec Ideal S1024x256 .f32 := m ((c : Thread nD τ).loc main_arg3)

/-! ## The reference -/

section
variable (a : FVec Ideal S8x1024x256 .bf16) (w p v : FVec Ideal S1024x256 .f32)

theorem ref_grad : val_main_v1 (F := Ideal) a = total a := by
  funext i
  obtain ⟨r, k, rfl⟩ : ∃ r k, i = ix2 (n0 := 1024) (n1 := 256) r k := ⟨_, _, eq_ix2 i⟩
  show val_main_v1 (F := Ideal) a (ix2 r k) = ∑ d, a (ix3 d r k)
  pointwise [val_main_v1, val_main_v0, val_main_cst]

theorem ref_newM : val_main_v6 (F := Ideal) a p = newMs (total a) p := ref_grad a ▸ rfl
theorem ref_newV : val_main_v12 (F := Ideal) a v = newVs (total a) v := ref_grad a ▸ rfl
theorem ref_delta : val_main_v25 (F := Ideal) a w p v = deltas (total a) w p v := ref_grad a ▸ rfl

end

/-! ## The call -/

/-- Block `d` of the stack is device `d`'s gradient. -/
theorem idx : ∀ t : Fin cfg0.N, win0_0.index t = ![0, 0] ∧ win0_1.index t = ![1, 0] ∧ win0_2.index t = ![2, 0]
    ∧ win0_3.index t = ![3, 0] ∧ win0_4.index t = ![4, 0] ∧ win0_5.index t = ![5, 0] ∧ win0_6.index t = ![6, 0]
    ∧ win0_7.index t = ![7, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0] :=
  (by decide +kernel : ∀ t : Fin grid0.N, _)

theorem share (d : Fin 8) {x : EReal} (h : ∀ i : Fin 8192, i.val = d.val * 1024 + r.val → x = V m c main_v0 (ix2 i k)) :
    x = A m c (ix3 d r k) := by
  have e : V m c main_v0 = shapeCast S8192x256 (A m c) shapeCasts_S8x1024x256_S8192x256 := by
    entry_read
    rfl
  refine (h ⟨d.val * 1024 + r.val, by omega⟩ rfl).trans ?_
  rw [e]
  exact stack_apply _ _ d r k _ rfl

theorem ld_whole {e : EltTy} (x : S1024x256.Idx → Elt Ideal e) : View.ld x r0_0 = x := View.ld_unit_lit _ x (by decide)

theorem sum_eq (a0 a1 a2 a3 a4 a5 a6 a7 : FVec Ideal S1024x256 .bf16) :
    k0_pay4 (F := Ideal) a0 a1 a2 a3 a4 a5 a6 a7 = sum8 a0 a1 a2 a3 a4 a5 a6 a7 := by
  funext y
  pointwise [k0_pay4, sum8]

theorem grad_at : k0_pay6 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (ix2 r k)
    = total (A m c) (ix2 r k) := by
  rw [k0_pay6, sum_eq]
  simp only [ld_whole]
  refine sum8_at (share m c r k 0 ?_) (share m c r k 1 ?_) (share m c r k 2 ?_) (share m c r k 3 ?_)
    (share m c r k 4 ?_) (share m c r k 5 ?_) (share m c r k 6 ?_) (share m c r k 7 ?_) <;>
  · intro i hi
    blk_ext [iblk, idx t, hi]

theorem w_at : iblk m c 8 t (ix2 r k) = W m c (ix2 r k) := by blk_ext [iblk, V, idx t]
theorem m_at : iblk m c 9 t (ix2 r k) = M m c (ix2 r k) := by blk_ext [iblk, V, idx t]
theorem v_at : iblk m c 10 t (ix2 r k) = V' m c (ix2 r k) := by blk_ext [iblk, V, idx t]

theorem final_grad : (dats m 0 c).arrAt 11 (cfgs 0).N = total (A m c) := by
  refine (dats m 0 c).arrAt_eq_of_covers 11 _ (by decide +kernel) fun t _ y => ?_
  obtain ⟨r, s, rfl⟩ : ∃ r s, y = ix2 (n0 := 1024) (n1 := 256) r s := ⟨_, _, eq_ix2 y⟩
  blk_simp
  rw [after0_11]
  frame_out
  refine (grad_at m c t r s).trans ?_
  blk_ext [idx t]

theorem final_delta : (dats m 0 c).arrAt 12 (cfgs 0).N = deltas (total (A m c)) (W m c) (M m c) (V' m c) := by
  refine (dats m 0 c).arrAt_eq_of_covers 12 _ (by decide +kernel) fun t _ y => ?_
  obtain ⟨r, s, rfl⟩ : ∃ r s, y = ix2 (n0 := 1024) (n1 := 256) r s := ⟨_, _, eq_ix2 y⟩
  blk_simp
  rw [after0_12]
  frame_out
  refine (deltas_at (grad_at m c t r s) (w_at m c t r s) (m_at m c t r s) (v_at m c t r s)).trans ?_
  blk_ext [idx t]

theorem final_newM : (dats m 0 c).arrAt 13 (cfgs 0).N = newMs (total (A m c)) (M m c) := by
  refine (dats m 0 c).arrAt_eq_of_covers 13 _ (by decide +kernel) fun t _ y => ?_
  obtain ⟨r, s, rfl⟩ : ∃ r s, y = ix2 (n0 := 1024) (n1 := 256) r s := ⟨_, _, eq_ix2 y⟩
  blk_simp
  rw [after0_13]
  frame_out
  refine (newMs_at (grad_at m c t r s) (m_at m c t r s)).trans ?_
  blk_ext [idx t]

theorem final_newV : (dats m 0 c).arrAt 14 (cfgs 0).N = newVs (total (A m c)) (V' m c) := by
  refine (dats m 0 c).arrAt_eq_of_covers 14 _ (by decide +kernel) fun t _ y => ?_
  obtain ⟨r, s, rfl⟩ : ∃ r s, y = ix2 (n0 := 1024) (n1 := 256) r s := ⟨_, _, eq_ix2 y⟩
  blk_simp
  rw [after0_14]
  frame_out
  refine (newVs_at (grad_at m c t r s) (v_at m c t r s)).trans ?_
  blk_ext [idx t]

attribute [local instance] Cert.Kernel30Ideal.Gen.facts Cert.Reference30Ideal.Gen.facts

/-- Every execution of the reference ends with its arguments unchanged and every semaphore at zero. -/
theorem reference_frame : Cert.quiescent_Reference30Ideal := fun m g _ =>
  (θ_run Cert.Reference30Ideal.defs _ _).mono (fun r h => ⟨fun c => (h c).2.2.2.2, sem_eq_zero_of_no_sems (by decide) r.2⟩)
    (Cert.Reference30Ideal.Value.run (F := Ideal) m g)

/-- The call leaves what the reference leaves: the gradient, the weight's change and the two moments. -/
theorem value : Cert.algebraic_Kernel30Ideal_Reference30Ideal := by
  intro m g m' g' _ hagree
  refine ⟨fun c => total (A m c), fun c => deltas (total (A m c)) (W m c) (M m c) (V' m c), fun c => newMs (total (A m c)) (M m c),
    fun c => newVs (total (A m c)) (V' m c), ?_, ?_⟩
  · exact (θ_run Cert.Kernel30Ideal.defs _ _).mono (fun r h c => ⟨(h c).1.trans (final_grad m c), (h c).2.1.trans (final_delta m c),
        (h c).2.2.1.trans (final_newM m c), (h c).2.2.2.1.trans (final_newV m c), (h c).2.2.2.2⟩)
      (Cert.Kernel30Ideal.Value.run_blocks m g)
  · refine (θ_run Cert.Reference30Ideal.defs _ _).mono (fun r h c => ⟨?_, ?_, ?_, ?_, (h c).2.2.2.2⟩) (Cert.Reference30Ideal.Value.run (F := Ideal) m' g')
    · rw [(h c).1, val_main_v1_eq, (hagree c).1, ref_grad]
    · rw [(h c).2.1, val_main_v25_eq, (hagree c).1, (hagree c).2.1, (hagree c).2.2.1, (hagree c).2.2.2, ref_delta]
    · rw [(h c).2.2.1, val_main_v6_eq, (hagree c).1, (hagree c).2.2.1, ref_newM]
    · rw [(h c).2.2.2.1, val_main_v12_eq, (hagree c).1, (hagree c).2.2.2, ref_newV]

end Cert.AdamwConvProj

end
-- ==== Proof.AdamwPleProj.lean ====
/-
  The optimiser's update of `w_ple_proj`: one grid point, with all the rows.
-/
module

public import proofs.«01_k».proof.Proof.Gen.Kernel31Ideal.Value
public import proofs.«01_k».proof.Proof.Gen.Reference31Ideal.Run
public import proofs.«01_k».proof.Proof.Gen.Reference31Ideal.Read
public import proofs.«01_k».proof.Defs
public import proofs.«01_k».proof.Proof.Adamw

@[expose] public section

set_option maxRecDepth 16384

noncomputable section

namespace Cert.AdamwPleProj
open Idealize.ShloMosaic Idealize.ShloMosaic.TcCoe Idealize.SL.Sem Cert.Kernel31Ideal Cert.Kernel31Ideal.Gen
open Cert.Adamw Cert.Reference31Ideal.Read

variable (m : (ℓ : Loc nD τ sig) → Buf (Elt Ideal) ℓ) (c : Dev nD) (t : Fin cfg0.N) (r k : Fin 256)

abbrev A : FVec Ideal S8x256x256 .bf16 := m ((c : Thread nD τ).loc main_arg0)
abbrev W : FVec Ideal S256x256 .f32 := m ((c : Thread nD τ).loc main_arg1)
abbrev M : FVec Ideal S256x256 .f32 := m ((c : Thread nD τ).loc main_arg2)
abbrev V' : FVec Ideal S256x256 .f32 := m ((c : Thread nD τ).loc main_arg3)

/-! ## The reference -/

section
variable (a : FVec Ideal S8x256x256 .bf16) (w p v : FVec Ideal S256x256 .f32)

theorem ref_grad : val_main_v1 (F := Ideal) a = total a := by
  funext i
  obtain ⟨r, k, rfl⟩ : ∃ r k, i = ix2 (n0 := 256) (n1 := 256) r k := ⟨_, _, eq_ix2 i⟩
  show val_main_v1 (F := Ideal) a (ix2 r k) = ∑ d, a (ix3 d r k)
  pointwise [val_main_v1, val_main_v0, val_main_cst]

theorem ref_newM : val_main_v6 (F := Ideal) a p = newMs (total a) p := ref_grad a ▸ rfl
theorem ref_newV : val_main_v12 (F := Ideal) a v = newVs (total a) v := ref_grad a ▸ rfl
theorem ref_delta : val_main_v25 (F := Ideal) a w p v = deltas (total a) w p v := ref_grad a ▸ rfl

end

/-! ## The call -/

/-- Block `d` of the stack is device `d`'s gradient. -/
theorem idx : ∀ t : Fin cfg0.N, win0_0.index t = ![0, 0] ∧ win0_1.index t = ![1, 0] ∧ win0_2.index t = ![2, 0]
    ∧ win0_3.index t = ![3, 0] ∧ win0_4.index t = ![4, 0] ∧ win0_5.index t = ![5, 0] ∧ win0_6.index t = ![6, 0]
    ∧ win0_7.index t = ![7, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0] :=
  (by decide +kernel : ∀ t : Fin grid0.N, _)

theorem share (d : Fin 8) {x : EReal} (h : ∀ i : Fin 2048, i.val = d.val * 256 + r.val → x = V m c main_v0 (ix2 i k)) :
    x = A m c (ix3 d r k) := by
  have e : V m c main_v0 = shapeCast S2048x256 (A m c) shapeCasts_S8x256x256_S2048x256 := by
    entry_read
    rfl
  refine (h ⟨d.val * 256 + r.val, by omega⟩ rfl).trans ?_
  rw [e]
  exact stack_apply _ _ d r k _ rfl

theorem ld_whole {e : EltTy} (x : S256x256.Idx → Elt Ideal e) : View.ld x r0_0 = x := View.ld_unit_lit _ x (by decide)

theorem sum_eq (a0 a1 a2 a3 a4 a5 a6 a7 : FVec Ideal S256x256 .bf16) :
    k0_pay4 (F := Ideal) a0 a1 a2 a3 a4 a5 a6 a7 = sum8 a0 a1 a2 a3 a4 a5 a6 a7 := by
  funext y
  pointwise [k0_pay4, sum8]

theorem grad_at : k0_pay6 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (ix2 r k)
    = total (A m c) (ix2 r k) := by
  rw [k0_pay6, sum_eq]
  simp only [ld_whole]
  refine sum8_at (share m c r k 0 ?_) (share m c r k 1 ?_) (share m c r k 2 ?_) (share m c r k 3 ?_)
    (share m c r k 4 ?_) (share m c r k 5 ?_) (share m c r k 6 ?_) (share m c r k 7 ?_) <;>
  · intro i hi
    blk_ext [iblk, idx t, hi]

theorem w_at : iblk m c 8 t (ix2 r k) = W m c (ix2 r k) := by blk_ext [iblk, V, idx t]
theorem m_at : iblk m c 9 t (ix2 r k) = M m c (ix2 r k) := by blk_ext [iblk, V, idx t]
theorem v_at : iblk m c 10 t (ix2 r k) = V' m c (ix2 r k) := by blk_ext [iblk, V, idx t]

theorem final_grad : (dats m 0 c).arrAt 11 (cfgs 0).N = total (A m c) := by
  refine (dats m 0 c).arrAt_eq_of_covers 11 _ (by decide +kernel) fun t _ y => ?_
  obtain ⟨r, s, rfl⟩ : ∃ r s, y = ix2 (n0 := 256) (n1 := 256) r s := ⟨_, _, eq_ix2 y⟩
  blk_simp
  rw [after0_11]
  frame_out
  refine (grad_at m c t r s).trans ?_
  blk_ext [idx t]

theorem final_delta : (dats m 0 c).arrAt 12 (cfgs 0).N = deltas (total (A m c)) (W m c) (M m c) (V' m c) := by
  refine (dats m 0 c).arrAt_eq_of_covers 12 _ (by decide +kernel) fun t _ y => ?_
  obtain ⟨r, s, rfl⟩ : ∃ r s, y = ix2 (n0 := 256) (n1 := 256) r s := ⟨_, _, eq_ix2 y⟩
  blk_simp
  rw [after0_12]
  frame_out
  refine (deltas_at (grad_at m c t r s) (w_at m c t r s) (m_at m c t r s) (v_at m c t r s)).trans ?_
  blk_ext [idx t]

theorem final_newM : (dats m 0 c).arrAt 13 (cfgs 0).N = newMs (total (A m c)) (M m c) := by
  refine (dats m 0 c).arrAt_eq_of_covers 13 _ (by decide +kernel) fun t _ y => ?_
  obtain ⟨r, s, rfl⟩ : ∃ r s, y = ix2 (n0 := 256) (n1 := 256) r s := ⟨_, _, eq_ix2 y⟩
  blk_simp
  rw [after0_13]
  frame_out
  refine (newMs_at (grad_at m c t r s) (m_at m c t r s)).trans ?_
  blk_ext [idx t]

theorem final_newV : (dats m 0 c).arrAt 14 (cfgs 0).N = newVs (total (A m c)) (V' m c) := by
  refine (dats m 0 c).arrAt_eq_of_covers 14 _ (by decide +kernel) fun t _ y => ?_
  obtain ⟨r, s, rfl⟩ : ∃ r s, y = ix2 (n0 := 256) (n1 := 256) r s := ⟨_, _, eq_ix2 y⟩
  blk_simp
  rw [after0_14]
  frame_out
  refine (newVs_at (grad_at m c t r s) (v_at m c t r s)).trans ?_
  blk_ext [idx t]

attribute [local instance] Cert.Kernel31Ideal.Gen.facts Cert.Reference31Ideal.Gen.facts

/-- Every execution of the reference ends with its arguments unchanged and every semaphore at zero. -/
theorem reference_frame : Cert.quiescent_Reference31Ideal := fun m g _ =>
  (θ_run Cert.Reference31Ideal.defs _ _).mono (fun r h => ⟨fun c => (h c).2.2.2.2, sem_eq_zero_of_no_sems (by decide) r.2⟩)
    (Cert.Reference31Ideal.Value.run (F := Ideal) m g)

/-- The call leaves what the reference leaves: the gradient, the weight's change and the two moments. -/
theorem value : Cert.algebraic_Kernel31Ideal_Reference31Ideal := by
  intro m g m' g' _ hagree
  refine ⟨fun c => total (A m c), fun c => deltas (total (A m c)) (W m c) (M m c) (V' m c), fun c => newMs (total (A m c)) (M m c),
    fun c => newVs (total (A m c)) (V' m c), ?_, ?_⟩
  · exact (θ_run Cert.Kernel31Ideal.defs _ _).mono (fun r h c => ⟨(h c).1.trans (final_grad m c), (h c).2.1.trans (final_delta m c),
        (h c).2.2.1.trans (final_newM m c), (h c).2.2.2.1.trans (final_newV m c), (h c).2.2.2.2⟩)
      (Cert.Kernel31Ideal.Value.run_blocks m g)
  · refine (θ_run Cert.Reference31Ideal.defs _ _).mono (fun r h c => ⟨?_, ?_, ?_, ?_, (h c).2.2.2.2⟩) (Cert.Reference31Ideal.Value.run (F := Ideal) m' g')
    · rw [(h c).1, val_main_v1_eq, (hagree c).1, ref_grad]
    · rw [(h c).2.1, val_main_v25_eq, (hagree c).1, (hagree c).2.1, (hagree c).2.2.1, (hagree c).2.2.2, ref_delta]
    · rw [(h c).2.2.1, val_main_v6_eq, (hagree c).1, (hagree c).2.2.1, ref_newM]
    · rw [(h c).2.2.2.1, val_main_v12_eq, (hagree c).1, (hagree c).2.2.2, ref_newV]

end Cert.AdamwPleProj

end
-- ==== Proof.AdamwNorm.lean ====
/-
  The optimiser's update of the four norm gains (`norm_mix`, `norm_ffn`, `norm_ple`, `norm_final`): the gradient is the sum over
  the devices, and over the eight rows that each of them hands in.
-/
module

public import proofs.«01_k».proof.Proof.Gen.Kernel32Ideal.Value
public import proofs.«01_k».proof.Proof.Gen.Reference32Ideal.Run
public import proofs.«01_k».proof.Proof.Gen.Reference32Ideal.Read
public import proofs.«01_k».proof.Defs
public import proofs.«01_k».proof.Proof.Adamw

@[expose] public section

set_option maxRecDepth 16384

noncomputable section

namespace Cert.AdamwNorm
open Idealize.ShloMosaic Idealize.ShloMosaic.TcCoe Idealize.SL.Sem Cert.Kernel32Ideal Cert.Kernel32Ideal.Gen Cert.Kernel32Ideal.Value
open Cert.Adamw Cert.Reference32Ideal.Read

variable (a : FVec Ideal S8x8x2048 .f32) (w p v : FVec Ideal S1x2048 .f32)

theorem ref_grad : val_main_v2 (F := Ideal) a = total2 a := by
  funext i
  obtain ⟨r, k, rfl⟩ : ∃ r k, i = ix2 (n0 := 1) (n1 := 2048) r k := ⟨_, _, eq_ix2 i⟩
  show val_main_v2 (F := Ideal) a (ix2 r k) = ∑ x, ∑ d, a (ix3 d x k)
  pointwise [val_main_v2, val_main_v1, val_main_v0, val_main_cst, val_main_cst_0]

theorem grad_eq : G4 (F := Ideal) a w p v = total2 a := by
  funext i
  obtain ⟨r, k, rfl⟩ : ∃ r k, i = ix2 (n0 := 1) (n1 := 2048) r k := ⟨_, _, eq_ix2 i⟩
  show k0_pay5 (F := Ideal) a w p v (ix2 r k) = ∑ x, ∑ d, a (ix3 d x k)
  pointwise [k0_pay5, k0_pay4]
  exact total2_eq a k

theorem delta_eq : G5 (F := Ideal) a w p v = deltas (total2 a) w p v := grad_eq a w p v ▸ rfl
theorem newM_eq : G6 (F := Ideal) a w p v = newMs (total2 a) p := grad_eq a w p v ▸ rfl
theorem newV_eq : G7 (F := Ideal) a w p v = newVs (total2 a) v := grad_eq a w p v ▸ rfl

theorem ref_newM : val_main_v7 (F := Ideal) a p = newMs (total2 a) p := ref_grad a ▸ rfl
theorem ref_newV : val_main_v13 (F := Ideal) a v = newVs (total2 a) v := ref_grad a ▸ rfl
theorem ref_delta : val_main_v26 (F := Ideal) a w p v = deltas (total2 a) w p v := ref_grad a ▸ rfl

attribute [local instance] Cert.Kernel32Ideal.Gen.facts Cert.Reference32Ideal.Gen.facts

/-- Every execution of the reference ends with its arguments unchanged and every semaphore at zero. -/
theorem reference_frame : Cert.quiescent_Reference32Ideal := fun m g _ =>
  (θ_run Cert.Reference32Ideal.defs _ _).mono (fun r h => ⟨fun c => (h c).2.2.2.2, sem_eq_zero_of_no_sems (by decide) r.2⟩)
    (Cert.Reference32Ideal.Value.run (F := Ideal) m g)

/-- The call leaves what the reference leaves: the gradient, the weight's change and the two moments. -/
theorem value : Cert.algebraic_Kernel32Ideal_Reference32Ideal := by
  intro m g m' g' _ hagree
  refine ⟨fun c => total2 (m ((c : Thread nD τ).loc main_arg0)),
    fun c => deltas (total2 (m ((c : Thread nD τ).loc main_arg0))) (m ((c : Thread nD τ).loc main_arg1)) (m ((c : Thread nD τ).loc main_arg2)) (m ((c : Thread nD τ).loc main_arg3)),
    fun c => newMs (total2 (m ((c : Thread nD τ).loc main_arg0))) (m ((c : Thread nD τ).loc main_arg2)),
    fun c => newVs (total2 (m ((c : Thread nD τ).loc main_arg0))) (m ((c : Thread nD τ).loc main_arg3)), ?_, ?_⟩
  · exact (θ_run Cert.Kernel32Ideal.defs _ _).mono (fun r h c => ⟨(h c).1.trans (grad_eq _ _ _ _), (h c).2.1.trans (delta_eq _ _ _ _),
        (h c).2.2.1.trans (newM_eq _ _ _ _), (h c).2.2.2.1.trans (newV_eq _ _ _ _), (h c).2.2.2.2⟩)
      (Cert.Kernel32Ideal.Value.run m g)
  · refine (θ_run Cert.Reference32Ideal.defs _ _).mono (fun r h c => ⟨?_, ?_, ?_, ?_, (h c).2.2.2.2⟩) (Cert.Reference32Ideal.Value.run (F := Ideal) m' g')
    · rw [(h c).1, val_main_v2_eq, (hagree c).1, ref_grad]
    · rw [(h c).2.1, val_main_v26_eq, (hagree c).1, (hagree c).2.1, (hagree c).2.2.1, (hagree c).2.2.2, ref_delta]
    · rw [(h c).2.2.1, val_main_v7_eq, (hagree c).1, (hagree c).2.2.1, ref_newM]
    · rw [(h c).2.2.2.1, val_main_v13_eq, (hagree c).1, (hagree c).2.2.2, ref_newV]

end Cert.AdamwNorm

end
-- ==== Proof.AdamwLn.lean ====
/-
  The optimiser's update of the convolution's layer norm, `conv_ln_g` and `conv_ln_b`: the gradient is the sum over the devices,
  and over the eight rows that each of them hands in.
-/
module

public import proofs.«01_k».proof.Proof.Gen.Kernel33Ideal.Value
public import proofs.«01_k».proof.Proof.Gen.Reference33Ideal.Run
public import proofs.«01_k».proof.Proof.Gen.Reference33Ideal.Read
public import proofs.«01_k».proof.Defs
public import proofs.«01_k».proof.Proof.Adamw

@[expose] public section

set_option maxRecDepth 16384

noncomputable section

namespace Cert.AdamwLn
open Idealize.ShloMosaic Idealize.ShloMosaic.TcCoe Idealize.SL.Sem Cert.Kernel33Ideal Cert.Kernel33Ideal.Gen Cert.Kernel33Ideal.Value
open Cert.Adamw Cert.Reference33Ideal.Read

variable (a : FVec Ideal S8x8x1024 .f32) (w p v : FVec Ideal S1x1024 .f32)

theorem grad_eq : G4 (F := Ideal) a w p v = total2 a := by
  funext i
  obtain ⟨r, k, rfl⟩ : ∃ r k, i = ix2 (n0 := 1) (n1 := 1024) r k := ⟨_, _, eq_ix2 i⟩
  show k0_pay5 (F := Ideal) a w p v (ix2 r k) = ∑ x, ∑ d, a (ix3 d x k)
  pointwise [k0_pay5, k0_pay4]
  exact total2_eq a k

theorem delta_eq : G5 (F := Ideal) a w p v = deltas (total2 a) w p v := grad_eq a w p v ▸ rfl
theorem newM_eq : G6 (F := Ideal) a w p v = newMs (total2 a) p := grad_eq a w p v ▸ rfl
theorem newV_eq : G7 (F := Ideal) a w p v = newVs (total2 a) v := grad_eq a w p v ▸ rfl

theorem ref_grad : val_main_v2 (F := Ideal) a = total2 a := by
  funext i
  obtain ⟨r, k, rfl⟩ : ∃ r k, i = ix2 (n0 := 1) (n1 := 1024) r k := ⟨_, _, eq_ix2 i⟩
  show val_main_v2 (F := Ideal) a (ix2 r k) = ∑ x, ∑ d, a (ix3 d x k)
  pointwise [val_main_v2, val_main_v1, val_main_v0, val_main_cst, val_main_cst_0]

theorem ref_newM : val_main_v7 (F := Ideal) a p = newMs (total2 a) p := ref_grad a ▸ rfl
theorem ref_newV : val_main_v13 (F := Ideal) a v = newVs (total2 a) v := ref_grad a ▸ rfl
theorem ref_delta : val_main_v26 (F := Ideal) a w p v = deltas (total2 a) w p v := ref_grad a ▸ rfl

attribute [local instance] Cert.Kernel33Ideal.Gen.facts Cert.Reference33Ideal.Gen.facts

/-- Every execution of the reference ends with its arguments unchanged and every semaphore at zero. -/
theorem reference_frame : Cert.quiescent_Reference33Ideal := fun m g _ =>
  (θ_run Cert.Reference33Ideal.defs _ _).mono (fun r h => ⟨fun c => (h c).2.2.2.2, sem_eq_zero_of_no_sems (by decide) r.2⟩)
    (Cert.Reference33Ideal.Value.run (F := Ideal) m g)

/-- The call leaves what the reference leaves: the gradient, the weight's change and the two moments. -/
theorem value : Cert.algebraic_Kernel33Ideal_Reference33Ideal := by
  intro m g m' g' _ hagree
  refine ⟨fun c => total2 (m ((c : Thread nD τ).loc main_arg0)),
    fun c => deltas (total2 (m ((c : Thread nD τ).loc main_arg0))) (m ((c : Thread nD τ).loc main_arg1)) (m ((c : Thread nD τ).loc main_arg2)) (m ((c : Thread nD τ).loc main_arg3)),
    fun c => newMs (total2 (m ((c : Thread nD τ).loc main_arg0))) (m ((c : Thread nD τ).loc main_arg2)),
    fun c => newVs (total2 (m ((c : Thread nD τ).loc main_arg0))) (m ((c : Thread nD τ).loc main_arg3)), ?_, ?_⟩
  · exact (θ_run Cert.Kernel33Ideal.defs _ _).mono (fun r h c => ⟨(h c).1.trans (grad_eq _ _ _ _), (h c).2.1.trans (delta_eq _ _ _ _),
        (h c).2.2.1.trans (newM_eq _ _ _ _), (h c).2.2.2.1.trans (newV_eq _ _ _ _), (h c).2.2.2.2⟩)
      (Cert.Kernel33Ideal.Value.run m g)
  · refine (θ_run Cert.Reference33Ideal.defs _ _).mono (fun r h c => ⟨?_, ?_, ?_, ?_, (h c).2.2.2.2⟩) (Cert.Reference33Ideal.Value.run (F := Ideal) m' g')
    · rw [(h c).1, val_main_v2_eq, (hagree c).1, ref_grad]
    · rw [(h c).2.1, val_main_v26_eq, (hagree c).1, (hagree c).2.1, (hagree c).2.2.1, (hagree c).2.2.2, ref_delta]
    · rw [(h c).2.2.1, val_main_v7_eq, (hagree c).1, (hagree c).2.2.1, ref_newM]
    · rw [(h c).2.2.2.1, val_main_v13_eq, (hagree c).1, (hagree c).2.2.2, ref_newV]

end Cert.AdamwLn

end
-- ==== Proof.AdamwHeadNorm.lean ====
/-
  The optimiser's update of the heads' norm gains, `q_norm` and `k_norm`: the gradient is the sum over the devices, and over the
  eight rows that each of them hands in.
-/
module

public import proofs.«01_k».proof.Proof.Gen.Kernel34Ideal.Value
public import proofs.«01_k».proof.Proof.Gen.Reference34Ideal.Run
public import proofs.«01_k».proof.Proof.Gen.Reference34Ideal.Read
public import proofs.«01_k».proof.Defs
public import proofs.«01_k».proof.Proof.Adamw

@[expose] public section

set_option maxRecDepth 16384

noncomputable section

namespace Cert.AdamwHeadNorm
open Idealize.ShloMosaic Idealize.ShloMosaic.TcCoe Idealize.SL.Sem Cert.Kernel34Ideal Cert.Kernel34Ideal.Gen Cert.Kernel34Ideal.Value
open Cert.Adamw Cert.Reference34Ideal.Read

variable (a : FVec Ideal S8x8x128 .f32) (w p v : FVec Ideal S1x128 .f32)

theorem grad_eq : G4 (F := Ideal) a w p v = total2 a := by
  funext i
  obtain ⟨r, k, rfl⟩ : ∃ r k, i = ix2 (n0 := 1) (n1 := 128) r k := ⟨_, _, eq_ix2 i⟩
  show k0_pay5 (F := Ideal) a w p v (ix2 r k) = ∑ x, ∑ d, a (ix3 d x k)
  pointwise [k0_pay5, k0_pay4]
  exact total2_eq a k

theorem delta_eq : G5 (F := Ideal) a w p v = deltas (total2 a) w p v := grad_eq a w p v ▸ rfl
theorem newM_eq : G6 (F := Ideal) a w p v = newMs (total2 a) p := grad_eq a w p v ▸ rfl
theorem newV_eq : G7 (F := Ideal) a w p v = newVs (total2 a) v := grad_eq a w p v ▸ rfl

theorem ref_grad : val_main_v2 (F := Ideal) a = total2 a := by
  funext i
  obtain ⟨r, k, rfl⟩ : ∃ r k, i = ix2 (n0 := 1) (n1 := 128) r k := ⟨_, _, eq_ix2 i⟩
  show val_main_v2 (F := Ideal) a (ix2 r k) = ∑ x, ∑ d, a (ix3 d x k)
  pointwise [val_main_v2, val_main_v1, val_main_v0, val_main_cst, val_main_cst_0]

theorem ref_newM : val_main_v7 (F := Ideal) a p = newMs (total2 a) p := ref_grad a ▸ rfl
theorem ref_newV : val_main_v13 (F := Ideal) a v = newVs (total2 a) v := ref_grad a ▸ rfl
theorem ref_delta : val_main_v26 (F := Ideal) a w p v = deltas (total2 a) w p v := ref_grad a ▸ rfl

attribute [local instance] Cert.Kernel34Ideal.Gen.facts Cert.Reference34Ideal.Gen.facts

/-- Every execution of the reference ends with its arguments unchanged and every semaphore at zero. -/
theorem reference_frame : Cert.quiescent_Reference34Ideal := fun m g _ =>
  (θ_run Cert.Reference34Ideal.defs _ _).mono (fun r h => ⟨fun c => (h c).2.2.2.2, sem_eq_zero_of_no_sems (by decide) r.2⟩)
    (Cert.Reference34Ideal.Value.run (F := Ideal) m g)

/-- The call leaves what the reference leaves: the gradient, the weight's change and the two moments. -/
theorem value : Cert.algebraic_Kernel34Ideal_Reference34Ideal := by
  intro m g m' g' _ hagree
  refine ⟨fun c => total2 (m ((c : Thread nD τ).loc main_arg0)),
    fun c => deltas (total2 (m ((c : Thread nD τ).loc main_arg0))) (m ((c : Thread nD τ).loc main_arg1)) (m ((c : Thread nD τ).loc main_arg2)) (m ((c : Thread nD τ).loc main_arg3)),
    fun c => newMs (total2 (m ((c : Thread nD τ).loc main_arg0))) (m ((c : Thread nD τ).loc main_arg2)),
    fun c => newVs (total2 (m ((c : Thread nD τ).loc main_arg0))) (m ((c : Thread nD τ).loc main_arg3)), ?_, ?_⟩
  · exact (θ_run Cert.Kernel34Ideal.defs _ _).mono (fun r h c => ⟨(h c).1.trans (grad_eq _ _ _ _), (h c).2.1.trans (delta_eq _ _ _ _),
        (h c).2.2.1.trans (newM_eq _ _ _ _), (h c).2.2.2.1.trans (newV_eq _ _ _ _), (h c).2.2.2.2⟩)
      (Cert.Kernel34Ideal.Value.run m g)
  · refine (θ_run Cert.Reference34Ideal.defs _ _).mono (fun r h c => ⟨?_, ?_, ?_, ?_, (h c).2.2.2.2⟩) (Cert.Reference34Ideal.Value.run (F := Ideal) m' g')
    · rw [(h c).1, val_main_v2_eq, (hagree c).1, ref_grad]
    · rw [(h c).2.1, val_main_v26_eq, (hagree c).1, (hagree c).2.1, (hagree c).2.2.1, (hagree c).2.2.2, ref_delta]
    · rw [(h c).2.2.1, val_main_v7_eq, (hagree c).1, (hagree c).2.2.1, ref_newM]
    · rw [(h c).2.2.2.1, val_main_v13_eq, (hagree c).1, (hagree c).2.2.2, ref_newV]

end Cert.AdamwHeadNorm

end
-- ==== Proof.AdamwDw.lean ====
/-
  The optimiser's update of the convolution's weight `w_dw`, in the 32 rows to which its 31 are filled up: the gradient is the
  sum over the devices.
-/
module

public import proofs.«01_k».proof.Proof.Gen.Kernel35Ideal.Value
public import proofs.«01_k».proof.Proof.Gen.Reference35Ideal.Run
public import proofs.«01_k».proof.Proof.Gen.Reference35Ideal.Read
public import proofs.«01_k».proof.Defs
public import proofs.«01_k».proof.Proof.Adamw

@[expose] public section

set_option maxRecDepth 16384

noncomputable section

namespace Cert.AdamwDw
open Idealize.ShloMosaic Idealize.ShloMosaic.TcCoe Idealize.SL.Sem Cert.Kernel35Ideal Cert.Kernel35Ideal.Gen Cert.Kernel35Ideal.Value
open Cert.Adamw Cert.Reference35Ideal.Read

variable (a : FVec Ideal S8x32x128 .f32) (w p v : FVec Ideal S32x128 .f32)

theorem ref_grad : val_main_v0 (F := Ideal) a = total a := by
  funext i
  obtain ⟨r, k, rfl⟩ : ∃ r k, i = ix2 (n0 := 32) (n1 := 128) r k := ⟨_, _, eq_ix2 i⟩
  show val_main_v0 (F := Ideal) a (ix2 r k) = ∑ d, a (ix3 d r k)
  pointwise [val_main_v0, val_main_cst]

theorem grad_eq : G4 (F := Ideal) a w p v = total a := by
  funext i
  obtain ⟨r, k, rfl⟩ : ∃ r k, i = ix2 (n0 := 32) (n1 := 128) r k := ⟨_, _, eq_ix2 i⟩
  show k0_pay6 (F := Ideal) a w p v (ix2 r k) = ∑ d, a (ix3 d r k)
  pointwise [k0_pay6, k0_pay4]
  exact (Fin.sum_univ_eight fun d => a (ix3 d r k)).symm

theorem ld_whole (x : S32x128.Idx → Elt Ideal .f32) : View.ld x r0_8 = x := View.ld_unit_lit _ x (by decide)

theorem moment_eq : k0_pay7 (F := Ideal) a w p v = k0_pay5 (F := Ideal) p := congrArg k0_pay5 (ld_whole p)

theorem delta_eq : G5 (F := Ideal) a w p v = deltas (total a) w p v := by
  rw [← grad_eq a w p v, G5, moment_eq]
  rfl

theorem newM_eq : G6 (F := Ideal) a w p v = newMs (total a) p := by
  rw [← grad_eq a w p v, G6, moment_eq]
  rfl

theorem newV_eq : G7 (F := Ideal) a w p v = newVs (total a) v := grad_eq a w p v ▸ rfl

theorem ref_newM : val_main_v5 (F := Ideal) a p = newMs (total a) p := ref_grad a ▸ rfl
theorem ref_newV : val_main_v11 (F := Ideal) a v = newVs (total a) v := ref_grad a ▸ rfl
theorem ref_delta : val_main_v24 (F := Ideal) a w p v = deltas (total a) w p v := ref_grad a ▸ rfl

attribute [local instance] Cert.Kernel35Ideal.Gen.facts Cert.Reference35Ideal.Gen.facts

/-- Every execution of the reference ends with its arguments unchanged and every semaphore at zero. -/
theorem reference_frame : Cert.quiescent_Reference35Ideal := fun m g _ =>
  (θ_run Cert.Reference35Ideal.defs _ _).mono (fun r h => ⟨fun c => (h c).2.2.2.2, sem_eq_zero_of_no_sems (by decide) r.2⟩)
    (Cert.Reference35Ideal.Value.run (F := Ideal) m g)

/-- The call leaves what the reference leaves: the gradient, the weight's change and the two moments. -/
theorem value : Cert.algebraic_Kernel35Ideal_Reference35Ideal := by
  intro m g m' g' _ hagree
  refine ⟨fun c => total (e := .f32) (m ((c : Thread nD τ).loc main_arg0)),
    fun c => deltas (total (e := .f32) (m ((c : Thread nD τ).loc main_arg0))) (m ((c : Thread nD τ).loc main_arg1)) (m ((c : Thread nD τ).loc main_arg2)) (m ((c : Thread nD τ).loc main_arg3)),
    fun c => newMs (total (e := .f32) (m ((c : Thread nD τ).loc main_arg0))) (m ((c : Thread nD τ).loc main_arg2)),
    fun c => newVs (total (e := .f32) (m ((c : Thread nD τ).loc main_arg0))) (m ((c : Thread nD τ).loc main_arg3)), ?_, ?_⟩
  · exact (θ_run Cert.Kernel35Ideal.defs _ _).mono (fun r h c => ⟨(h c).1.trans (grad_eq _ _ _ _), (h c).2.1.trans (delta_eq _ _ _ _),
        (h c).2.2.1.trans (newM_eq _ _ _ _), (h c).2.2.2.1.trans (newV_eq _ _ _ _), (h c).2.2.2.2⟩)
      (Cert.Kernel35Ideal.Value.run m g)
  · refine (θ_run Cert.Reference35Ideal.defs _ _).mono (fun r h c => ⟨?_, ?_, ?_, ?_, (h c).2.2.2.2⟩) (Cert.Reference35Ideal.Value.run (F := Ideal) m' g')
    · rw [(h c).1, val_main_v0_eq, (hagree c).1, ref_grad]
    · rw [(h c).2.1, val_main_v24_eq, (hagree c).1, (hagree c).2.1, (hagree c).2.2.1, (hagree c).2.2.2, ref_delta]
    · rw [(h c).2.2.1, val_main_v5_eq, (hagree c).1, (hagree c).2.2.1, ref_newM]
    · rw [(h c).2.2.2.1, val_main_v11_eq, (hagree c).1, (hagree c).2.2.2, ref_newV]

end Cert.AdamwDw

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.Run
public import proofs.«01_k».proof.Proof.Value
public import proofs.«01_k».proof.Proof.Finite
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import Idealize.ShloMosaic.Adequacy
public import Idealize.ShloMosaic.Init
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Pre_finite24
public import proofs.«01_k».proof.Proof.Dact
public import proofs.«01_k».proof.Proof.Dff2
public import proofs.«01_k».proof.Proof.Dff1
public import proofs.«01_k».proof.Proof.Dh2
public import proofs.«01_k».proof.Proof.Din
public import proofs.«01_k».proof.Proof.Dh1
public import proofs.«01_k».proof.Proof.Dmerged
public import proofs.«01_k».proof.Proof.In
public import proofs.«01_k».proof.Proof.Ff1
public import proofs.«01_k».proof.Proof.Ff2
public import proofs.«01_k».proof.Proof.Do
public import proofs.«01_k».proof.Proof.AttnProj
public import proofs.«01_k».proof.Proof.Out
public import proofs.«01_k».proof.Proof.Dout
public import proofs.«01_k».proof.Proof.DattnProj
public import proofs.«01_k».proof.Proof.Dhp
public import proofs.«01_k».proof.Proof.PleGate
public import proofs.«01_k».proof.Proof.DconvProj
public import proofs.«01_k».proof.Proof.Dsc
public import proofs.«01_k».proof.Proof.ConvProj
public import proofs.«01_k».proof.Proof.DpleProj
public import proofs.«01_k».proof.Proof.PleProj
public import proofs.«01_k».proof.Proof.FlashFwd
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.Gen.Kernel30
public import proofs.«01_k».proof.Proof.Gen.Kernel30.Frame
public import proofs.«01_k».proof.Proof.Gen.Kernel30Ideal
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.Gen.Kernel31
public import proofs.«01_k».proof.Proof.Gen.Kernel31.Frame
public import proofs.«01_k».proof.Proof.Gen.Kernel31Ideal
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.Gen.Kernel32
public import proofs.«01_k».proof.Proof.Gen.Kernel32.Frame
public import proofs.«01_k».proof.Proof.Gen.Kernel32Ideal
public import proofs.«01_k».proof.Proof.Gen.Kernel32Ideal.Value
public import proofs.«01_k».proof.Proof.Gen.Reference32Ideal
public import proofs.«01_k».proof.Proof.Gen.Reference32Ideal.Run
public import proofs.«01_k».proof.Proof.Gen.Reference32Ideal.Read
public import proofs.«01_k».proof.Proof.Gen.Kernel33
public import proofs.«01_k».proof.Proof.Gen.Kernel33.Frame
public import proofs.«01_k».proof.Proof.Gen.Kernel33Ideal
public import proofs.«01_k».proof.Proof.Gen.Kernel33Ideal.Value
public import proofs.«01_k».proof.Proof.Gen.Reference33Ideal
public import proofs.«01_k».proof.Proof.Gen.Reference33Ideal.Run
public import proofs.«01_k».proof.Proof.Gen.Reference33Ideal.Read
public import proofs.«01_k».proof.Proof.Gen.Kernel34
public import proofs.«01_k».proof.Proof.Gen.Kernel34.Frame
public import proofs.«01_k».proof.Proof.Gen.Kernel34Ideal
public import proofs.«01_k».proof.Proof.Gen.Kernel34Ideal.Value
public import proofs.«01_k».proof.Proof.Gen.Reference34Ideal
public import proofs.«01_k».proof.Proof.Gen.Reference34Ideal.Run
public import proofs.«01_k».proof.Proof.Gen.Reference34Ideal.Read
public import proofs.«01_k».proof.Proof.Gen.Kernel35
public import proofs.«01_k».proof.Proof.Gen.Kernel35.Frame
public import proofs.«01_k».proof.Proof.Gen.Kernel35Ideal
public import proofs.«01_k».proof.Proof.Gen.Kernel35Ideal.Value
public import proofs.«01_k».proof.Proof.Gen.Reference35Ideal
public import proofs.«01_k».proof.Proof.Gen.Reference35Ideal.Run
public import proofs.«01_k».proof.Proof.Gen.Reference35Ideal.Read
public import proofs.«01_k».proof.Proof.RmsBwd
public import proofs.«01_k».proof.Proof.AdamwIn
public import proofs.«01_k».proof.Proof.AdamwOut
public import proofs.«01_k».proof.Proof.AdamwFf1
public import proofs.«01_k».proof.Proof.AdamwFf2
public import proofs.«01_k».proof.Proof.AdamwConvProj
public import proofs.«01_k».proof.Proof.AdamwPleProj
public import proofs.«01_k».proof.Proof.AdamwNorm
public import proofs.«01_k».proof.Proof.AdamwLn
public import proofs.«01_k».proof.Proof.AdamwHeadNorm
public import proofs.«01_k».proof.Proof.AdamwDw

@[expose] public section

noncomputable section

namespace Cert.Proof

open Idealize.ShloMosaic Idealize.SL.Sem Cert.Kernel

/-- Every execution of the reference ends with its arguments unchanged and every semaphore at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2.2.2, sem_eq_zero_of_no_sems (by decide) r.2⟩)
    (Cert.ReferenceIdeal.Value.run (F := Ideal) m g)

attribute [local instance] Cert.Kernel.Gen.facts Cert.KernelIdeal.Gen.facts Cert.ReferenceIdeal.Gen.facts Cert.Pre_finite.Gen.facts

/-- A column of an array of all heads from its head and its column there. -/
theorem split_at (j : Fin 2048) : j.val = 128 * (Cert.Attention.colHead j).val + (Cert.Attention.colDim j).val := (Nat.div_add_mod _ _).symm

open Cert.Attention in
/-- From finite arguments the kernel leaves what the reference leaves: the gradients of the queries, keys and values. -/
theorem algebraic : Cert.algebraic_KernelIdeal_ReferenceIdeal_pre_finite := by
  intro m g m' g' hpre hagree
  have R := fun c => realArgs _ _ _ _ (hpre c)
  refine ⟨fun c => Cert.ReferenceIdeal.Read.val_main_v65 (F := Ideal) (argQ m c) (argK m c) (argZ m c) (argG m c),
    fun c => Cert.ReferenceIdeal.Read.val_main_v66 (F := Ideal) (argQ m c) (argK m c) (argZ m c) (argG m c),
    fun c => Cert.ReferenceIdeal.Read.val_main_v67 (F := Ideal) (argQ m c) (argK m c) (argG m c), ?_, ?_⟩
  · refine (θ_run Cert.KernelIdeal.defs _ _).mono (fun r h c => ⟨?_, ?_, ?_, ?_⟩)
      (θ_run_and (Cert.KernelIdeal.Own.run_main (F := Ideal) m g) (Cert.KernelIdeal.Own.frame (F := Ideal) m g))
    · exact funext fun i => (dq_array (R c) h.1.1 i).trans (v65_at (R c) i _ _ (split_at (i 0))).symm
    · exact funext fun i => (dk_array (R c) h.1.1 i).trans (v66_at (R c) i _ _ (split_at (i 1))).symm
    · exact funext fun i => (dv_array (R c) h.1.1 i).trans (v67_at (R c) i _ _ (split_at (i 1))).symm
    · exact h.2.1 c
  · refine (θ_run Cert.ReferenceIdeal.defs _ _).mono (fun r h c => ⟨?_, ?_, ?_, (h c).2.2.2⟩) (Cert.ReferenceIdeal.Value.run (F := Ideal) m' g')
    · rw [(h c).1, Cert.ReferenceIdeal.Read.val_main_v65_eq m' c, (hagree c).1, (hagree c).2.1, (hagree c).2.2.1, (hagree c).2.2.2]
    · rw [(h c).2.1, Cert.ReferenceIdeal.Read.val_main_v66_eq m' c, (hagree c).1, (hagree c).2.1, (hagree c).2.2.1, (hagree c).2.2.2]
    · rw [(h c).2.2.1, Cert.ReferenceIdeal.Read.val_main_v67_eq, (hagree c).1, (hagree c).2.1, (hagree c).2.2.2]

/-- Everything that is claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Kernel33.Gen.facts, Cert.Kernel33Ideal.Gen.facts, Cert.Reference33Ideal.Gen.facts,
  Cert.Kernel34.Gen.facts, Cert.Kernel34Ideal.Gen.facts, Cert.Reference34Ideal.Gen.facts,
  Cert.Kernel35.Gen.facts, Cert.Kernel35Ideal.Gen.facts, Cert.Reference35Ideal.Gen.facts,
  Cert.Pre_finite.Gen.facts, Cert.Pre_finite24.Gen.facts,
  fun m g _ => Cert.Kernel.Own.frame m g, fun m g _ => Cert.KernelIdeal.Own.frame m g, fun m g _ => Cert.KernelIdeal.Own.frame m g,
  fun m g _ => reference_frame m g, fun m g _ => reference_frame m g,
  fun m g _ => Cert.Kernel2.Gen.frame m g, fun m g _ => Cert.Kernel2Ideal.Gen.frame m g, Cert.Dact.reference_frame,
  fun m g _ => Cert.Kernel3.Gen.frame m g, fun m g _ => Cert.Kernel3Ideal.Gen.frame m g, Cert.Dff2.reference_frame,
  fun m g _ => Cert.Kernel4.Gen.frame m g, fun m g _ => Cert.Kernel4Ideal.Gen.frame m g, Cert.Dff1.reference_frame,
  fun m g _ => Cert.Kernel5.Gen.frame m g, fun m g _ => Cert.Kernel5Ideal.Gen.frame m g, Cert.Dh2.reference_frame,
  fun m g _ => Cert.Kernel6.Gen.frame m g, fun m g _ => Cert.Kernel6Ideal.Gen.frame m g, Cert.Din.reference_frame,
  fun m g _ => Cert.Kernel7.Gen.frame m g, fun m g _ => Cert.Kernel7Ideal.Gen.frame m g, Cert.Dh1.reference_frame,
  fun m g _ => Cert.Kernel8.Gen.frame m g, fun m g _ => Cert.Kernel8Ideal.Gen.frame m g, Cert.Dmerged.reference_frame,
  fun m g _ => Cert.Kernel9.Gen.frame m g, fun m g _ => Cert.Kernel9Ideal.Gen.frame m g, Cert.In.reference_frame,
  fun m g _ => Cert.Kernel10.Gen.frame m g, fun m g _ => Cert.Kernel10Ideal.Gen.frame m g, Cert.Ff1.reference_frame,
  fun m g _ => Cert.Kernel11.Gen.frame m g, fun m g _ => Cert.Kernel11Ideal.Gen.frame m g, Cert.Ff2.reference_frame,
  fun m g _ => Cert.Kernel12.Gen.frame m g, fun m g _ => Cert.Kernel12Ideal.Gen.frame m g, Cert.Do.reference_frame,
  fun m g _ => Cert.Kernel13.Gen.frame m g, fun m g _ => Cert.Kernel13Ideal.Gen.frame m g, Cert.AttnProj.reference_frame,
  fun m g _ => Cert.Kernel14.Gen.frame m g, fun m g _ => Cert.Kernel14Ideal.Gen.frame m g, Cert.Out.reference_frame,
  fun m g _ => Cert.Kernel15.Gen.frame m g, fun m g _ => Cert.Kernel15Ideal.Gen.frame m g, Cert.Dout.reference_frame,
  fun m g _ => Cert.Kernel16.Gen.frame m g, fun m g _ => Cert.Kernel16Ideal.Gen.frame m g, Cert.DattnProj.reference_frame,
  fun m g _ => Cert.Kernel17.Gen.frame m g, fun m g _ => Cert.Kernel17Ideal.Gen.frame m g, Cert.Dhp.reference_frame,
  fun m g _ => Cert.Kernel18.Gen.frame m g, fun m g _ => Cert.Kernel18Ideal.Gen.frame m g, Cert.PleGate.reference_frame,
  fun m g _ => Cert.Kernel19.Gen.frame m g, fun m g _ => Cert.Kernel19Ideal.Gen.frame m g, Cert.DconvProj.reference_frame,
  fun m g _ => Cert.Kernel20.Gen.frame m g, fun m g _ => Cert.Kernel20Ideal.Gen.frame m g, Cert.Dsc.reference_frame,
  fun m g _ => Cert.Kernel21.Gen.frame m g, fun m g _ => Cert.Kernel21Ideal.Gen.frame m g, Cert.ConvProj.reference_frame,
  fun m g _ => Cert.Kernel22.Gen.frame m g, fun m g _ => Cert.Kernel22Ideal.Gen.frame m g, Cert.DpleProj.reference_frame,
  fun m g _ => Cert.Kernel23.Gen.frame m g, fun m g _ => Cert.Kernel23Ideal.Gen.frame m g, Cert.PleProj.reference_frame,
  fun m g _ => Cert.Kernel24.Gen.frame m g, fun m g _ => Cert.Kernel24Ideal.Gen.frame m g, fun m g _ => Cert.Kernel24Ideal.Gen.frame m g,
  Cert.FlashFwd.reference_frame, fun m g _ => Cert.FlashFwd.reference_frame m g trivial,
  fun m g _ => Cert.Kernel25.Gen.frame m g, fun m g _ => Cert.Kernel25Ideal.Gen.frame m g, Cert.RmsBwd.reference_frame,
  fun m g _ => Cert.Kernel26.Gen.frame m g, fun m g _ => Cert.Kernel26Ideal.Gen.frame m g, Cert.AdamwIn.reference_frame,
  fun m g _ => Cert.Kernel27.Gen.frame m g, fun m g _ => Cert.Kernel27Ideal.Gen.frame m g, Cert.AdamwOut.reference_frame,
  fun m g _ => Cert.Kernel28.Gen.frame m g, fun m g _ => Cert.Kernel28Ideal.Gen.frame m g, Cert.AdamwFf1.reference_frame,
  fun m g _ => Cert.Kernel29.Gen.frame m g, fun m g _ => Cert.Kernel29Ideal.Gen.frame m g, Cert.AdamwFf2.reference_frame,
  fun m g _ => Cert.Kernel30.Gen.frame m g, fun m g _ => Cert.Kernel30Ideal.Gen.frame m g, Cert.AdamwConvProj.reference_frame,
  fun m g _ => Cert.Kernel31.Gen.frame m g, fun m g _ => Cert.Kernel31Ideal.Gen.frame m g, Cert.AdamwPleProj.reference_frame,
  fun m g _ => Cert.Kernel32.Gen.frame m g, fun m g _ => Cert.Kernel32Ideal.Gen.frame m g, Cert.AdamwNorm.reference_frame,
  fun m g _ => Cert.Kernel33.Gen.frame m g, fun m g _ => Cert.Kernel33Ideal.Gen.frame m g, Cert.AdamwLn.reference_frame,
  fun m g _ => Cert.Kernel34.Gen.frame m g, fun m g _ => Cert.Kernel34Ideal.Gen.frame m g, Cert.AdamwHeadNorm.reference_frame,
  fun m g _ => Cert.Kernel35.Gen.frame m g, fun m g _ => Cert.Kernel35Ideal.Gen.frame m g, Cert.AdamwDw.reference_frame,
  IdealRules.named_const.statement Cert.KernelIdeal.κ "ln2" .f32 0x3F317218#32 _ rfl, algebraic,
  trivial, Cert.Dact.value,
  trivial, Cert.Dff2.value,
  trivial, Cert.Dff1.value,
  trivial, Cert.Dh2.value,
  trivial, Cert.Din.value,
  trivial, Cert.Dh1.value,
  trivial, Cert.Dmerged.value,
  trivial, Cert.In.value,
  trivial, Cert.Ff1.value,
  trivial, Cert.Ff2.value,
  trivial, Cert.Do.value,
  trivial, Cert.AttnProj.value,
  trivial, Cert.Out.value,
  trivial, Cert.Dout.value,
  trivial, Cert.DattnProj.value,
  trivial, Cert.Dhp.value,
  trivial, Cert.PleGate.value,
  trivial, Cert.DconvProj.value,
  trivial, Cert.Dsc.value,
  trivial, Cert.ConvProj.value,
  trivial, Cert.DpleProj.value,
  trivial, Cert.PleProj.value,
  IdealRules.named_const.statement Cert.Kernel24Ideal.κ "log2e" .f32 0x3FB8AA3B#32 _ rfl, Cert.FlashFwd.value,
  trivial, Cert.RmsBwd.value,
  trivial, Cert.AdamwIn.value,
  trivial, Cert.AdamwOut.value,
  trivial, Cert.AdamwFf1.value,
  trivial, Cert.AdamwFf2.value,
  trivial, Cert.AdamwConvProj.value,
  trivial, Cert.AdamwPleProj.value,
  trivial, Cert.AdamwNorm.value,
  trivial, Cert.AdamwLn.value,
  trivial, Cert.AdamwHeadNorm.value,
  trivial, Cert.AdamwDw.value⟩

end Cert.Proof

end
